-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)) (v4 : (c : Dev Cert.Kernel2Ideal.nD) → Buf (Elt Ideal) ((c.tc : Thread Cert.Kernel2Ideal.nD Cert.Kernel2Ideal.τ).loc Cert.Kernel2Ideal.main_v11_4)) (v5 : (c : Dev Cert.Kernel2Ideal.nD) → Buf (Elt Ideal) ((c.tc : Thread Cert.Kernel2Ideal.nD Cert.Kernel2Ideal.τ).loc Cert.Kernel2Ideal.main_v11_5)) (v6 : (c : Dev Cert.Kernel2Ideal.nD) → Buf (Elt Ideal) ((c.tc : Thread Cert.Kernel2Ideal.nD Cert.Kernel2Ideal.τ).loc Cert.Kernel2Ideal.main_v11_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_v11_4) = v4 c
          ∧ r.2.mem ((c.tc : Thread Cert.Kernel2Ideal.nD Cert.Kernel2Ideal.τ).loc Cert.Kernel2Ideal.main_v11_5) = v5 c
          ∧ r.2.mem ((c.tc : Thread Cert.Kernel2Ideal.nD Cert.Kernel2Ideal.τ).loc Cert.Kernel2Ideal.main_v11_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v17) = v2 c
          ∧ r.2.mem ((c.tc : Thread Cert.Reference2Ideal.nD Cert.Reference2Ideal.τ).loc Cert.Reference2Ideal.main_v18) = v3 c
          ∧ r.2.mem ((c.tc : Thread Cert.Reference2Ideal.nD Cert.Reference2Ideal.τ).loc Cert.Reference2Ideal.main_v28) = v4 c
          ∧ r.2.mem ((c.tc : Thread Cert.Reference2Ideal.nD Cert.Reference2Ideal.τ).loc Cert.Reference2Ideal.main_v29) = v5 c
          ∧ r.2.mem ((c.tc : Thread Cert.Reference2Ideal.nD Cert.Reference2Ideal.τ).loc Cert.Reference2Ideal.main_v25) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v23)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  IdealRules.named_const.Statement Cert.Kernel4Ideal.κ "inv_qk_dim" .f32 0x3BAAAAAB#32 ((1 / 192 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v53_0)) (v1 : (c : Dev Cert.Kernel4Ideal.nD) → Buf (Elt Ideal) ((c.tc : Thread Cert.Kernel4Ideal.nD Cert.Kernel4Ideal.τ).loc Cert.Kernel4Ideal.main_v53_1)) (v2 : (c : Dev Cert.Kernel4Ideal.nD) → Buf (Elt Ideal) ((c.tc : Thread Cert.Kernel4Ideal.nD Cert.Kernel4Ideal.τ).loc Cert.Kernel4Ideal.main_v53_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v53_0) = v0 c
          ∧ r.2.mem ((c.tc : Thread Cert.Kernel4Ideal.nD Cert.Kernel4Ideal.τ).loc Cert.Kernel4Ideal.main_v53_1) = v1 c
          ∧ r.2.mem ((c.tc : Thread Cert.Kernel4Ideal.nD Cert.Kernel4Ideal.τ).loc Cert.Kernel4Ideal.main_v53_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v119) = v0 c
          ∧ r.2.mem ((c.tc : Thread Cert.Reference4Ideal.nD Cert.Reference4Ideal.τ).loc Cert.Reference4Ideal.main_v121) = v1 c
          ∧ r.2.mem ((c.tc : Thread Cert.Reference4Ideal.nD Cert.Reference4Ideal.τ).loc Cert.Reference4Ideal.main_v122) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x8192x8x192 : Shape := ⟨4, ![4, 8192, 8, 192]⟩
abbrev S4x8192x8x128 : Shape := ⟨4, ![4, 8192, 8, 128]⟩
abbrev S_ : Shape := ⟨0, ![]⟩

class Facts : Prop where
  bcast_S_S4x8192x8x192 : S_.BroadcastsInDim S4x8192x8x192 (![] : Fin 0 → Fin S4x8192x8x192.rank)

variable [Facts]

def fn {F : FTy → Type} [FloatOps F] (main_arg0 : FVec F S4x8192x8x192 .f32) (main_arg1 : FVec F S4x8192x8x192 .f32) (main_arg2 : FVec F S4x8192x8x128 .f32) : IVec S4x8192x8x192 1 :=
  let main_v0 : FVec F S4x8192x8x192 .f32 := Host.absf main_arg0
  let main_cst : FVec F S_ .f32 := constant S_ .f32 0x7F800000#32
  let main_v1 : FVec F S4x8192x8x192 .f32 := broadcastInDim S4x8192x8x192 ![] bcast_S_S4x8192x8x192 main_cst
  let main_v2 : IVec S4x8192x8x192 1 := cmpf .olt main_v0 main_v1
  let main_v3 : FVec F S4x8192x8x192 .f32 := Host.absf main_arg1
  let main_cst_0 : FVec F S_ .f32 := constant S_ .f32 0x7F800000#32
  let main_v4 : FVec F S4x8192x8x192 .f32 := broadcastInDim S4x8192x8x192 ![] bcast_S_S4x8192x8x192 main_cst_0
  let main_v5 : IVec S4x8192x8x192 1 := cmpf .olt main_v3 main_v4
  let main_v6 : IVec S4x8192x8x192 1 := andi main_v2 main_v5
  main_v6
-- ==== Pre_finite2.lean ====
abbrev S4x8192x1024 : Shape := ⟨3, ![4, 8192, 1024]⟩
abbrev S1024 : Shape := ⟨1, ![1024]⟩
abbrev S1024x4672 : Shape := ⟨2, ![1024, 4672]⟩
abbrev S_ : Shape := ⟨0, ![]⟩
abbrev S1024x32 : Shape := ⟨2, ![1024, 32]⟩

class Facts : Prop where
  bcast_S_S1024 : S_.BroadcastsInDim S1024 (![] : Fin 0 → Fin S1024.rank)
  slices_S1024x4672_S1024x32_0_2592 : S1024x4672.Slices ![0, 2592] S1024x32
  bcast_S_S1024x32 : S_.BroadcastsInDim S1024x32 (![] : Fin 0 → Fin S1024x32.rank)

variable [Facts]

def fn {F : FTy → Type} [FloatOps F] (main_arg0 : FVec F S4x8192x1024 .f32) (main_arg1 : FVec F S1024 .f32) (main_arg2 : FVec F S1024x4672 .f32) : IVec S1024 1 × IVec S1024x32 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x32 .f32 := (extractStridedSlice S1024x32 ![0, 2592] · slices_S1024x4672_S1024x32_0_2592) main_arg2
  let main_v4 : FVec F S1024x32 .f32 := Host.absf main_v3
  let main_cst_0 : FVec F S_ .f32 := constant S_ .f32 0x7F800000#32
  let main_v5 : FVec F S1024x32 .f32 := broadcastInDim S1024x32 ![] bcast_S_S1024x32 main_cst_0
  let main_v6 : IVec S1024x32 1 := cmpf .olt main_v4 main_v5
  (main_v2, main_v6)
-- ==== Kernel.lean ====
abbrev S4x8192x8x192 : Shape := ⟨4, ![4, 8192, 8, 192]⟩
abbrev S4x8192x8x128 : Shape := ⟨4, ![4, 8192, 8, 128]⟩
abbrev S_ : Shape := ⟨0, ![]⟩
abbrev S4x8x192x8192 : Shape := ⟨4, ![4, 8, 192, 8192]⟩
abbrev S4x8x8192x192 : Shape := ⟨4, ![4, 8, 8192, 192]⟩
abbrev S4x16x512x8x128 : Shape := ⟨5, ![4, 16, 512, 8, 128]⟩
abbrev S4x8x16x128x512 : Shape := ⟨5, ![4, 8, 16, 128, 512]⟩
abbrev S4x8x16x1x512 : Shape := ⟨5, ![4, 8, 16, 1, 512]⟩
abbrev S4x8x16x15x512 : Shape := ⟨5, ![4, 8, 16, 15, 512]⟩
abbrev S4x8x16x144x512 : Shape := ⟨5, ![4, 8, 16, 144, 512]⟩
abbrev S4x8192x1024 : Shape := ⟨3, ![4, 8192, 1024]⟩
abbrev S1x1x192x2048 : Shape := ⟨4, ![1, 1, 192, 2048]⟩
abbrev S1x1x8192x192 : Shape := ⟨4, ![1, 1, 8192, 192]⟩
abbrev S1x1x16x144x512 : Shape := ⟨5, ![1, 1, 16, 144, 512]⟩
abbrev S1x2048x128 : Shape := ⟨3, ![1, 2048, 128]⟩
abbrev S1x2048 : Shape := ⟨2, ![1, 2048]⟩
abbrev S144x2048 : Shape := ⟨2, ![144, 2048]⟩
abbrev S1x1x512x192 : Shape := ⟨4, ![1, 1, 512, 192]⟩
abbrev S512x192 : Shape := ⟨2, ![512, 192]⟩
abbrev S1x1x192x512 : Shape := ⟨4, ![1, 1, 192, 512]⟩
abbrev S192x512 : Shape := ⟨2, ![192, 512]⟩
abbrev S512x512 : Shape := ⟨2, ![512, 512]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S1x512 : Shape := ⟨2, ![1, 512]⟩
abbrev S512 : Shape := ⟨1, ![512]⟩
abbrev S144x512 : Shape := ⟨2, ![144, 512]⟩
abbrev S1x1x1x144x512 : Shape := ⟨5, ![1, 1, 1, 144, 512]⟩
abbrev S128x2048 : Shape := ⟨2, ![128, 2048]⟩
abbrev S2048x128 : Shape := ⟨2, ![2048, 128]⟩

abbrev nBuf : Space → Nat
  | .hbm => 25
  | .vmem => 10
  | .smem => 0
  | _ => 0

abbrev bufTy : (tb : Table) → Fin (tcTables nBuf tb) → BufTy
  | .hbm, ⟨0, _⟩ => ⟨S4x8192x8x192, .f32⟩
  | .hbm, ⟨1, _⟩ => ⟨S4x8192x8x192, .f32⟩
  | .hbm, ⟨2, _⟩ => ⟨S4x8192x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x8x192, .f32⟩
  | .hbm, ⟨11, _⟩ => ⟨S4x8192x8x192, .f32⟩
  | .hbm, ⟨12, _⟩ => ⟨S4x8x192x8192, .f32⟩
  | .hbm, ⟨13, _⟩ => ⟨S4x8x192x8192, .bf16⟩
  | .hbm, ⟨14, _⟩ => ⟨S4x8x8192x192, .f32⟩
  | .hbm, ⟨15, _⟩ => ⟨S4x8x8192x192, .bf16⟩
  | .hbm, ⟨16, _⟩ => ⟨S4x16x512x8x128, .f32⟩
  | .hbm, ⟨17, _⟩ => ⟨S4x8x16x128x512, .f32⟩
  | .hbm, ⟨18, _⟩ => ⟨S4x8x16x128x512, .bf16⟩
  | .hbm, ⟨19, _⟩ => ⟨S_, .bf16⟩
  | .hbm, ⟨20, _⟩ => ⟨S4x8x16x1x512, .bf16⟩
  | .hbm, ⟨21, _⟩ => ⟨S_, .bf16⟩
  | .hbm, ⟨22, _⟩ => ⟨S4x8x16x15x512, .bf16⟩
  | .hbm, ⟨23, _⟩ => ⟨S4x8x16x144x512, .bf16⟩
  | .hbm, ⟨24, _⟩ => ⟨S4x8192x1024, .bf16⟩
  | .local _ .vmem, ⟨0, _⟩ => ⟨S1x1x192x2048, .bf16⟩
  | .local _ .vmem, ⟨1, _⟩ => ⟨S1x1x192x2048, .bf16⟩
  | .local _ .vmem, ⟨2, _⟩ => ⟨S1x1x8192x192, .bf16⟩
  | .local _ .vmem, ⟨3, _⟩ => ⟨S1x1x8192x192, .bf16⟩
  | .local _ .vmem, ⟨4, _⟩ => ⟨S1x1x16x144x512, .bf16⟩
  | .local _ .vmem, ⟨5, _⟩ => ⟨S1x1x16x144x512, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048, .f32⟩
  | .local _ .vmem, ⟨9, _⟩ => ⟨S144x2048, .f32⟩
  | _, _ => ⟨S4x8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

@[reducible] def k0_t1_loop (i : grid0.Coords) : Scf.Loop 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_12 : BitVec 32 := 1#32
  ⟨c0_i32_10, v30, c1_i32_12⟩
def k0_mult1 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_262 : BitVec 32 := 4#32
  let v578 : BitVec 32 := Scalar.muli arg9 c4_i32_262
  let c0_i32_263 : BitVec 32 := 0#32
  let v579 : BitVec 32 := Scalar.addi v578 c0_i32_263
  let c512_i32_294 : BitVec 32 := 512#32
  let v610 : BitVec 32 := Scalar.muli v579 c512_i32_294
  v610
def k0_off1 (i : grid0.Coords) (k0_t1 : Fin (k0_t1_loop i).trips) (c0_i32_263 : BitVec 32) : Fin 4 → Nat :=
  let c0_295 : Index := 0#32
  let c0_296 : Index := 0#32
  let c0_i32_10 : BitVec 32 := 0#32
  let c1_i32_12 : BitVec 32 := 1#32
  let arg9 : BitVec 32 := Scf.iv c0_i32_10 c1_i32_12 k0_t1
  let c4_i32_262 : BitVec 32 := 4#32
  let v578 : BitVec 32 := Scalar.muli arg9 c4_i32_262
  let v579 : BitVec 32 := Scalar.addi v578 c0_i32_263
  let c512_i32_294 : BitVec 32 := 512#32
  let v610 : BitVec 32 := Scalar.muli v579 c512_i32_294
  let v611 : BitVec 32 := v610
  let v612 : Index := Scalar.indexCast v611
  let c0_297 : Index := 0#32
  ![0, 0, v612.toNat, 0]
def k0_mult2 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_264 : BitVec 32 := 4#32
  let v580 : BitVec 32 := Scalar.muli arg9 c4_i32_264
  let c0_i32_265 : BitVec 32 := 0#32
  let v581 : BitVec 32 := Scalar.addi v580 c0_i32_265
  let c512_i32_303 : BitVec 32 := 512#32
  let v618 : BitVec 32 := Scalar.muli v581 c512_i32_303
  v618
def k0_mult3 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_266 : BitVec 32 := 4#32
  let v582 : BitVec 32 := Scalar.muli arg9 c4_i32_266
  let c0_i32_267 : BitVec 32 := 0#32
  let v583 : BitVec 32 := Scalar.addi v582 c0_i32_267
  let c512_i32_312 : BitVec 32 := 512#32
  let v626 : BitVec 32 := Scalar.muli v583 c512_i32_312
  v626
def k0_mult4 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_268 : BitVec 32 := 4#32
  let v584 : BitVec 32 := Scalar.muli arg9 c4_i32_268
  let c0_i32_269 : BitVec 32 := 0#32
  let v585 : BitVec 32 := Scalar.addi v584 c0_i32_269
  let c512_i32_321 : BitVec 32 := 512#32
  let v634 : BitVec 32 := Scalar.muli v585 c512_i32_321
  v634
def k0_off2 (i : grid0.Coords) (k0_t1 : Fin (k0_t1_loop i).trips) (c0_i32_263 : BitVec 32) : Fin 5 → Nat :=
  let c0_337 : Index := 0#32
  let c0_338 : Index := 0#32
  let c0_i32_10 : BitVec 32 := 0#32
  let c1_i32_12 : BitVec 32 := 1#32
  let arg9 : BitVec 32 := Scf.iv c0_i32_10 c1_i32_12 k0_t1
  let c4_i32_262 : BitVec 32 := 4#32
  let v578 : BitVec 32 := Scalar.muli arg9 c4_i32_262
  let v579 : BitVec 32 := Scalar.addi v578 c0_i32_263
  let v676 : Index := Scalar.indexCast v579
  let c0_339 : Index := 0#32
  let c0_340 : Index := 0#32
  ![0, 0, v676.toNat, 0, 0]
def k0_mult5 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_270 : BitVec 32 := 4#32
  let v586 : BitVec 32 := Scalar.muli arg9 c4_i32_270
  let c1_i32_271 : BitVec 32 := 1#32
  let v587 : BitVec 32 := Scalar.addi v586 c1_i32_271
  let c512_i32_344 : BitVec 32 := 512#32
  let v684 : BitVec 32 := Scalar.muli v587 c512_i32_344
  v684
def k0_mult6 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_272 : BitVec 32 := 4#32
  let v588 : BitVec 32 := Scalar.muli arg9 c4_i32_272
  let c1_i32_273 : BitVec 32 := 1#32
  let v589 : BitVec 32 := Scalar.addi v588 c1_i32_273
  let c512_i32_367 : BitVec 32 := 512#32
  let v734 : BitVec 32 := Scalar.muli v589 c512_i32_367
  v734
def k0_mult7 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_274 : BitVec 32 := 4#32
  let v590 : BitVec 32 := Scalar.muli arg9 c4_i32_274
  let c1_i32_275 : BitVec 32 := 1#32
  let v591 : BitVec 32 := Scalar.addi v590 c1_i32_275
  let c512_i32_390 : BitVec 32 := 512#32
  let v784 : BitVec 32 := Scalar.muli v591 c512_i32_390
  v784
def k0_mult8 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_276 : BitVec 32 := 4#32
  let v592 : BitVec 32 := Scalar.muli arg9 c4_i32_276
  let c1_i32_277 : BitVec 32 := 1#32
  let v593 : BitVec 32 := Scalar.addi v592 c1_i32_277
  let c512_i32_413 : BitVec 32 := 512#32
  let v834 : BitVec 32 := Scalar.muli v593 c512_i32_413
  v834
def k0_mult9 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_278 : BitVec 32 := 4#32
  let v594 : BitVec 32 := Scalar.muli arg9 c4_i32_278
  let c2_i32_279 : BitVec 32 := 2#32
  let v595 : BitVec 32 := Scalar.addi v594 c2_i32_279
  let c512_i32_436 : BitVec 32 := 512#32
  let v884 : BitVec 32 := Scalar.muli v595 c512_i32_436
  v884
def k0_mult10 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_280 : BitVec 32 := 4#32
  let v596 : BitVec 32 := Scalar.muli arg9 c4_i32_280
  let c2_i32_281 : BitVec 32 := 2#32
  let v597 : BitVec 32 := Scalar.addi v596 c2_i32_281
  let c512_i32_459 : BitVec 32 := 512#32
  let v934 : BitVec 32 := Scalar.muli v597 c512_i32_459
  v934
def k0_mult11 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_282 : BitVec 32 := 4#32
  let v598 : BitVec 32 := Scalar.muli arg9 c4_i32_282
  let c2_i32_283 : BitVec 32 := 2#32
  let v599 : BitVec 32 := Scalar.addi v598 c2_i32_283
  let c512_i32_482 : BitVec 32 := 512#32
  let v984 : BitVec 32 := Scalar.muli v599 c512_i32_482
  v984
def k0_mult12 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_284 : BitVec 32 := 4#32
  let v600 : BitVec 32 := Scalar.muli arg9 c4_i32_284
  let c2_i32_285 : BitVec 32 := 2#32
  let v601 : BitVec 32 := Scalar.addi v600 c2_i32_285
  let c512_i32_505 : BitVec 32 := 512#32
  let v1034 : BitVec 32 := Scalar.muli v601 c512_i32_505
  v1034
def k0_mult13 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_286 : BitVec 32 := 4#32
  let v602 : BitVec 32 := Scalar.muli arg9 c4_i32_286
  let c3_i32_287 : BitVec 32 := 3#32
  let v603 : BitVec 32 := Scalar.addi v602 c3_i32_287
  let c512_i32_528 : BitVec 32 := 512#32
  let v1084 : BitVec 32 := Scalar.muli v603 c512_i32_528
  v1084
def k0_mult14 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_288 : BitVec 32 := 4#32
  let v604 : BitVec 32 := Scalar.muli arg9 c4_i32_288
  let c3_i32_289 : BitVec 32 := 3#32
  let v605 : BitVec 32 := Scalar.addi v604 c3_i32_289
  let c512_i32_551 : BitVec 32 := 512#32
  let v1134 : BitVec 32 := Scalar.muli v605 c512_i32_551
  v1134
def k0_mult15 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_290 : BitVec 32 := 4#32
  let v606 : BitVec 32 := Scalar.muli arg9 c4_i32_290
  let c3_i32_291 : BitVec 32 := 3#32
  let v607 : BitVec 32 := Scalar.addi v606 c3_i32_291
  let c512_i32_574 : BitVec 32 := 512#32
  let v1184 : BitVec 32 := Scalar.muli v607 c512_i32_574
  v1184
def k0_mult16 (i : grid0.Coords) (k0_t1 : Fin (k0_t1_loop i).trips) : BitVec 32 :=
  let c0_i32_10 : BitVec 32 := 0#32
  let c1_i32_12 : BitVec 32 := 1#32
  let arg9 : BitVec 32 := Scf.iv c0_i32_10 c1_i32_12 k0_t1
  let c4_i32_292 : BitVec 32 := 4#32
  let v608 : BitVec 32 := Scalar.muli arg9 c4_i32_292
  let c3_i32_293 : BitVec 32 := 3#32
  let v609 : BitVec 32 := Scalar.addi v608 c3_i32_293
  let c512_i32_597 : BitVec 32 := 512#32
  let v1234 : BitVec 32 := Scalar.muli v609 c512_i32_597
  v1234
@[reducible] def k0_t2_loop (i : grid0.Coords) : Scf.Loop 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let v27 : BitVec 32 := Scalar.addi c0_i32_10 v26
  let c1_i32_13 : BitVec 32 := 1#32
  ⟨v30, v27, c1_i32_13⟩
def k0_mult17 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_262 : BitVec 32 := 4#32
  let v578 : BitVec 32 := Scalar.muli arg9 c4_i32_262
  let c0_i32_263 : BitVec 32 := 0#32
  let v579 : BitVec 32 := Scalar.addi v578 c0_i32_263
  let c512_i32_294 : BitVec 32 := 512#32
  let v610 : BitVec 32 := Scalar.muli v579 c512_i32_294
  v610
def k0_off3 (i : grid0.Coords) (k0_t2 : Fin (k0_t2_loop i).trips) (c0_i32_263 : BitVec 32) : Fin 4 → Nat :=
  let c0_295 : Index := 0#32
  let c0_296 : Index := 0#32
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_262 : BitVec 32 := 4#32
  let v578 : BitVec 32 := Scalar.muli arg9 c4_i32_262
  let v579 : BitVec 32 := Scalar.addi v578 c0_i32_263
  let c512_i32_294 : BitVec 32 := 512#32
  let v610 : BitVec 32 := Scalar.muli v579 c512_i32_294
  let v611 : BitVec 32 := v610
  let v612 : Index := Scalar.indexCast v611
  let c0_297 : Index := 0#32
  ![0, 0, v612.toNat, 0]
def k0_mult18 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_264 : BitVec 32 := 4#32
  let v580 : BitVec 32 := Scalar.muli arg9 c4_i32_264
  let c0_i32_265 : BitVec 32 := 0#32
  let v581 : BitVec 32 := Scalar.addi v580 c0_i32_265
  let c512_i32_303 : BitVec 32 := 512#32
  let v618 : BitVec 32 := Scalar.muli v581 c512_i32_303
  v618
def k0_mult19 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_266 : BitVec 32 := 4#32
  let v582 : BitVec 32 := Scalar.muli arg9 c4_i32_266
  let c0_i32_267 : BitVec 32 := 0#32
  let v583 : BitVec 32 := Scalar.addi v582 c0_i32_267
  let c512_i32_312 : BitVec 32 := 512#32
  let v626 : BitVec 32 := Scalar.muli v583 c512_i32_312
  v626
def k0_mult20 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_268 : BitVec 32 := 4#32
  let v584 : BitVec 32 := Scalar.muli arg9 c4_i32_268
  let c0_i32_269 : BitVec 32 := 0#32
  let v585 : BitVec 32 := Scalar.addi v584 c0_i32_269
  let c512_i32_321 : BitVec 32 := 512#32
  let v634 : BitVec 32 := Scalar.muli v585 c512_i32_321
  v634
def k0_off4 (i : grid0.Coords) (k0_t2 : Fin (k0_t2_loop i).trips) (c0_i32_263 : BitVec 32) : Fin 5 → Nat :=
  let c0_337 : Index := 0#32
  let c0_338 : Index := 0#32
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_262 : BitVec 32 := 4#32
  let v578 : BitVec 32 := Scalar.muli arg9 c4_i32_262
  let v579 : BitVec 32 := Scalar.addi v578 c0_i32_263
  let v676 : Index := Scalar.indexCast v579
  let c0_339 : Index := 0#32
  let c0_340 : Index := 0#32
  ![0, 0, v676.toNat, 0, 0]
def k0_mult21 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_270 : BitVec 32 := 4#32
  let v586 : BitVec 32 := Scalar.muli arg9 c4_i32_270
  let c1_i32_271 : BitVec 32 := 1#32
  let v587 : BitVec 32 := Scalar.addi v586 c1_i32_271
  let c512_i32_344 : BitVec 32 := 512#32
  let v684 : BitVec 32 := Scalar.muli v587 c512_i32_344
  v684
def k0_mult22 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_272 : BitVec 32 := 4#32
  let v588 : BitVec 32 := Scalar.muli arg9 c4_i32_272
  let c1_i32_273 : BitVec 32 := 1#32
  let v589 : BitVec 32 := Scalar.addi v588 c1_i32_273
  let c512_i32_367 : BitVec 32 := 512#32
  let v734 : BitVec 32 := Scalar.muli v589 c512_i32_367
  v734
def k0_mult23 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_274 : BitVec 32 := 4#32
  let v590 : BitVec 32 := Scalar.muli arg9 c4_i32_274
  let c1_i32_275 : BitVec 32 := 1#32
  let v591 : BitVec 32 := Scalar.addi v590 c1_i32_275
  let c512_i32_390 : BitVec 32 := 512#32
  let v784 : BitVec 32 := Scalar.muli v591 c512_i32_390
  v784
def k0_mult24 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_276 : BitVec 32 := 4#32
  let v592 : BitVec 32 := Scalar.muli arg9 c4_i32_276
  let c1_i32_277 : BitVec 32 := 1#32
  let v593 : BitVec 32 := Scalar.addi v592 c1_i32_277
  let c512_i32_413 : BitVec 32 := 512#32
  let v834 : BitVec 32 := Scalar.muli v593 c512_i32_413
  v834
def k0_mult25 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_278 : BitVec 32 := 4#32
  let v594 : BitVec 32 := Scalar.muli arg9 c4_i32_278
  let c2_i32_279 : BitVec 32 := 2#32
  let v595 : BitVec 32 := Scalar.addi v594 c2_i32_279
  let c512_i32_436 : BitVec 32 := 512#32
  let v884 : BitVec 32 := Scalar.muli v595 c512_i32_436
  v884
def k0_mult26 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_280 : BitVec 32 := 4#32
  let v596 : BitVec 32 := Scalar.muli arg9 c4_i32_280
  let c2_i32_281 : BitVec 32 := 2#32
  let v597 : BitVec 32 := Scalar.addi v596 c2_i32_281
  let c512_i32_459 : BitVec 32 := 512#32
  let v934 : BitVec 32 := Scalar.muli v597 c512_i32_459
  v934
def k0_mult27 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_282 : BitVec 32 := 4#32
  let v598 : BitVec 32 := Scalar.muli arg9 c4_i32_282
  let c2_i32_283 : BitVec 32 := 2#32
  let v599 : BitVec 32 := Scalar.addi v598 c2_i32_283
  let c512_i32_482 : BitVec 32 := 512#32
  let v984 : BitVec 32 := Scalar.muli v599 c512_i32_482
  v984
def k0_mult28 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_284 : BitVec 32 := 4#32
  let v600 : BitVec 32 := Scalar.muli arg9 c4_i32_284
  let c2_i32_285 : BitVec 32 := 2#32
  let v601 : BitVec 32 := Scalar.addi v600 c2_i32_285
  let c512_i32_505 : BitVec 32 := 512#32
  let v1034 : BitVec 32 := Scalar.muli v601 c512_i32_505
  v1034
def k0_mult29 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_286 : BitVec 32 := 4#32
  let v602 : BitVec 32 := Scalar.muli arg9 c4_i32_286
  let c3_i32_287 : BitVec 32 := 3#32
  let v603 : BitVec 32 := Scalar.addi v602 c3_i32_287
  let c512_i32_528 : BitVec 32 := 512#32
  let v1084 : BitVec 32 := Scalar.muli v603 c512_i32_528
  v1084
def k0_mult30 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_288 : BitVec 32 := 4#32
  let v604 : BitVec 32 := Scalar.muli arg9 c4_i32_288
  let c3_i32_289 : BitVec 32 := 3#32
  let v605 : BitVec 32 := Scalar.addi v604 c3_i32_289
  let c512_i32_551 : BitVec 32 := 512#32
  let v1134 : BitVec 32 := Scalar.muli v605 c512_i32_551
  v1134
def k0_mult31 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_290 : BitVec 32 := 4#32
  let v606 : BitVec 32 := Scalar.muli arg9 c4_i32_290
  let c3_i32_291 : BitVec 32 := 3#32
  let v607 : BitVec 32 := Scalar.addi v606 c3_i32_291
  let c512_i32_574 : BitVec 32 := 512#32
  let v1184 : BitVec 32 := Scalar.muli v607 c512_i32_574
  v1184
def k0_mult32 (i : grid0.Coords) (k0_t2 : Fin (k0_t2_loop i).trips) : BitVec 32 :=
  let c0_i32_10 : BitVec 32 := 0#32
  let arg2 : BitVec 32 := BitVec.ofNat 32 (i 2).val
  let c4_i32 : BitVec 32 := 4#32
  let v0 : BitVec 32 := Scalar.muli arg2 c4_i32
  let c0_i32 : BitVec 32 := 0#32
  let v10 : BitVec 1 := Scalar.cmpi .sgt v0 c0_i32
  let v11 : BitVec 32 := Scalar.extui v10
  let c0_i32_5 : BitVec 32 := 0#32
  let v12 : BitVec 1 := Scalar.cmpi .slt v0 c0_i32_5
  let v13 : BitVec 32 := Scalar.extui v12
  let v14 : BitVec 32 := Scalar.subi v11 v13
  let c4_i32_4 : BitVec 32 := 4#32
  let c0_i32_6 : BitVec 32 := 0#32
  let v15 : BitVec 1 := Scalar.cmpi .sgt c4_i32_4 c0_i32_6
  let v16 : BitVec 32 := Scalar.extui v15
  let c0_i32_7 : BitVec 32 := 0#32
  let v17 : BitVec 1 := Scalar.cmpi .slt c4_i32_4 c0_i32_7
  let v18 : BitVec 32 := Scalar.extui v17
  let v19 : BitVec 32 := Scalar.subi v16 v18
  let v20 : BitVec 1 := Scalar.cmpi .ne v14 v19
  let v21 : BitVec 32 := Scalar.remsi v0 c4_i32_4
  let c0_i32_8 : BitVec 32 := 0#32
  let v22 : BitVec 1 := Scalar.cmpi .ne v21 c0_i32_8
  let v23 : BitVec 1 := Scalar.andi v20 v22
  let v9 : BitVec 32 := Scalar.divsi v0 c4_i32_4
  let c1_i32 : BitVec 32 := 1#32
  let v24 : BitVec 32 := Scalar.subi v9 c1_i32
  let v25 : BitVec 32 := Scalar.select v23 v24 v9
  let v26 : BitVec 32 := Scalar.subi v25 c0_i32_10
  let c1_i32_11 : BitVec 32 := 1#32
  let v28 : BitVec 32 := Scalar.divsi v26 c1_i32_11
  let v29 : BitVec 32 := Scalar.muli v28 c1_i32_11
  let v30 : BitVec 32 := Scalar.addi c0_i32_10 v29
  let c1_i32_13 : BitVec 32 := 1#32
  let arg9 : BitVec 32 := Scf.iv v30 c1_i32_13 k0_t2
  let c4_i32_292 : BitVec 32 := 4#32
  let v608 : BitVec 32 := Scalar.muli arg9 c4_i32_292
  let c3_i32_293 : BitVec 32 := 3#32
  let v609 : BitVec 32 := Scalar.addi v608 c3_i32_293
  let c512_i32_597 : BitVec 32 := 512#32
  let v1234 : BitVec 32 := Scalar.muli v609 c512_i32_597
  v1234
def k0_mult33 (i : grid0.Coords) : BitVec 32 :=
  let arg2 : BitVec 32 := BitVec.ofNat 32 (i 2).val
  let c4_i32 : BitVec 32 := 4#32
  let v0 : BitVec 32 := Scalar.muli arg2 c4_i32
  let c0_i32_14 : BitVec 32 := 0#32
  let v31 : BitVec 32 := Scalar.addi v0 c0_i32_14
  let c512_i32 : BitVec 32 := 512#32
  let v41 : BitVec 32 := Scalar.muli v31 c512_i32
  v41
def k0_off5 (i : grid0.Coords) (c0_i32_14 : BitVec 32) : Fin 4 → Nat :=
  let c0_22 : Index := 0#32
  let c0_23 : Index := 0#32
  let arg2 : BitVec 32 := BitVec.ofNat 32 (i 2).val
  let c4_i32 : BitVec 32 := 4#32
  let v0 : BitVec 32 := Scalar.muli arg2 c4_i32
  let v31 : BitVec 32 := Scalar.addi v0 c0_i32_14
  let c512_i32 : BitVec 32 := 512#32
  let v41 : BitVec 32 := Scalar.muli v31 c512_i32
  let v42 : BitVec 32 := v41
  let v43 : Index := Scalar.indexCast v42
  let c0_24 : Index := 0#32
  ![0, 0, v43.toNat, 0]
def k0_mult34 (i : grid0.Coords) : BitVec 32 :=
  let arg2 : BitVec 32 := BitVec.ofNat 32 (i 2).val
  let c4_i32 : BitVec 32 := 4#32
  let v0 : BitVec 32 := Scalar.muli arg2 c4_i32
  let c0_i32_15 : BitVec 32 := 0#32
  let v32 : BitVec 32 := Scalar.addi v0 c0_i32_15
  let c512_i32_32 : BitVec 32 := 512#32
  let v56 : BitVec 32 := Scalar.muli v32 c512_i32_32
  v56
def k0_mult35 (i : grid0.Coords) : BitVec 32 :=
  let arg2 : BitVec 32 := BitVec.ofNat 32 (i 2).val
  let c4_i32 : BitVec 32 := 4#32
  let v0 : BitVec 32 := Scalar.muli arg2 c4_i32
  let c0_i32_16 : BitVec 32 := 0#32
  let v33 : BitVec 32 := Scalar.addi v0 c0_i32_16
  let c512_i32_40 : BitVec 32 := 512#32
  let v64 : BitVec 32 := Scalar.muli v33 c512_i32_40
  v64
def k0_mult36 (i : grid0.Coords) : BitVec 32 :=
  let arg2 : BitVec 32 := BitVec.ofNat 32 (i 2).val
  let c4_i32 : BitVec 32 := 4#32
  let v0 : BitVec 32 := Scalar.muli arg2 c4_i32
  let c0_i32_17 : BitVec 32 := 0#32
  let v34 : BitVec 32 := Scalar.addi v0 c0_i32_17
  let c512_i32_48 : BitVec 32 := 512#32
  let v72 : BitVec 32 := Scalar.muli v34 c512_i32_48
  v72
def k0_off6 (i : grid0.Coords) (c0_i32_14 : BitVec 32) : Fin 5 → Nat :=
  let c0_63 : Index := 0#32
  let c0_64 : Index := 0#32
  let arg2 : BitVec 32 := BitVec.ofNat 32 (i 2).val
  let c4_i32 : BitVec 32 := 4#32
  let v0 : BitVec 32 := Scalar.muli arg2 c4_i32
  let v31 : BitVec 32 := Scalar.addi v0 c0_i32_14
  let v114 : Index := Scalar.indexCast v31
  let c0_65 : Index := 0#32
  let c0_66 : Index := 0#32
  ![0, 0, v114.toNat, 0, 0]
def k0_mult37 (i : grid0.Coords) : BitVec 32 :=
  let arg2 : BitVec 32 := BitVec.ofNat 32 (i 2).val
  let c4_i32 : BitVec 32 := 4#32
  let v0 : BitVec 32 := Scalar.muli arg2 c4_i32
  let c1_i32_18 : BitVec 32 := 1#32
  let v35 : BitVec 32 := Scalar.addi v0 c1_i32_18
  let c512_i32_70 : BitVec 32 := 512#32
  let v122 : BitVec 32 := Scalar.muli v35 c512_i32_70
  v122
def k0_mult38 (i : grid0.Coords) : BitVec 32 :=
  let arg2 : BitVec 32 := BitVec.ofNat 32 (i 2).val
  let c4_i32 : BitVec 32 := 4#32
  let v0 : BitVec 32 := Scalar.muli arg2 c4_i32
  let c1_i32_19 : BitVec 32 := 1#32
  let v36 : BitVec 32 := Scalar.addi v0 c1_i32_19
  let c512_i32_95 : BitVec 32 := 512#32
  let v179 : BitVec 32 := Scalar.muli v36 c512_i32_95
  v179
def k0_mult39 (i : grid0.Coords) : BitVec 32 :=
  let arg2 : BitVec 32 := BitVec.ofNat 32 (i 2).val
  let c4_i32 : BitVec 32 := 4#32
  let v0 : BitVec 32 := Scalar.muli arg2 c4_i32
  let c1_i32_20 : BitVec 32 := 1#32
  let v37 : BitVec 32 := Scalar.addi v0 c1_i32_20
  let c512_i32_118 : BitVec 32 := 512#32
  let v229 : BitVec 32 := Scalar.muli v37 c512_i32_118
  v229
def k0_mult40 (i : grid0.Coords) : BitVec 32 :=
  let arg2 : BitVec 32 := BitVec.ofNat 32 (i 2).val
  let c4_i32 : BitVec 32 := 4#32
  let v0 : BitVec 32 := Scalar.muli arg2 c4_i32
  let c2_i32 : BitVec 32 := 2#32
  let v38 : BitVec 32 := Scalar.addi v0 c2_i32
  let c512_i32_141 : BitVec 32 := 512#32
  let v279 : BitVec 32 := Scalar.muli v38 c512_i32_141
  v279
def k0_mult41 (i : grid0.Coords) : BitVec 32 :=
  let arg2 : BitVec 32 := BitVec.ofNat 32 (i 2).val
  let c4_i32 : BitVec 32 := 4#32
  let v0 : BitVec 32 := Scalar.muli arg2 c4_i32
  let c2_i32_21 : BitVec 32 := 2#32
  let v39 : BitVec 32 := Scalar.addi v0 c2_i32_21
  let c512_i32_166 : BitVec 32 := 512#32
  let v336 : BitVec 32 := Scalar.muli v39 c512_i32_166
  v336
def k0_mult42 (i : grid0.Coords) : BitVec 32 :=
  let arg2 : BitVec 32 := BitVec.ofNat 32 (i 2).val
  let c4_i32 : BitVec 32 := 4#32
  let v0 : BitVec 32 := Scalar.muli arg2 c4_i32
  let c3_i32 : BitVec 32 := 3#32
  let v40 : BitVec 32 := Scalar.addi v0 c3_i32
  let c512_i32_189 : BitVec 32 := 512#32
  let v386 : BitVec 32 := Scalar.muli v40 c512_i32_189
  v386
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x192x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8192x8x192 : Shape := ⟨4, ![4, 8192, 8, 192]⟩
abbrev S4x8192x8x128 : Shape := ⟨4, ![4, 8192, 8, 128]⟩
abbrev S4x8x8192x8192 : Shape := ⟨4, ![4, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x8x128x8192 : Shape := ⟨4, ![4, 8, 128, 8192]⟩
abbrev S4x8192x1024 : Shape := ⟨3, ![4, 8192, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x8192x8x192, .f32⟩
  | .hbm, ⟨1, _⟩ => ⟨S4x8192x8x192, .f32⟩
  | .hbm, ⟨2, _⟩ => ⟨S4x8192x8x128, .f32⟩
  | .hbm, ⟨3, _⟩ => ⟨S4x8x8192x8192, .f32⟩
  | .hbm, ⟨4, _⟩ => ⟨S_, .f32⟩
  | .hbm, ⟨5, _⟩ => ⟨S_, .f32⟩
  | .hbm, ⟨6, _⟩ => ⟨S4x8x8192x8192, .f32⟩
  | .hbm, ⟨7, _⟩ => ⟨S4x8x8192x8192, .f32⟩
  | .hbm, ⟨8, _⟩ => ⟨S8192, .i32⟩
  | .hbm, ⟨9, _⟩ => ⟨S1x8192, .i32⟩
  | .hbm, ⟨10, _⟩ => ⟨S8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S4x8x8192x8192, .i1⟩
  | .hbm, ⟨18, _⟩ => ⟨S4x8x8192x8192, .f32⟩
  | .hbm, ⟨19, _⟩ => ⟨S4x8x8192x8192, .f32⟩
  | .hbm, ⟨20, _⟩ => ⟨S_, .f32⟩
  | .hbm, ⟨21, _⟩ => ⟨S4x8x8192, .f32⟩
  | .hbm, ⟨22, _⟩ => ⟨S_, .f32⟩
  | .hbm, ⟨23, _⟩ => ⟨S4x8x8192, .f32⟩
  | .hbm, ⟨24, _⟩ => ⟨S4x8x8192, .f32⟩
  | .hbm, ⟨25, _⟩ => ⟨S4x8x8192x1, .f32⟩
  | .hbm, ⟨26, _⟩ => ⟨S4x8x8192x8192, .f32⟩
  | .hbm, ⟨27, _⟩ => ⟨S4x8x8192x8192, .f32⟩
  | .hbm, ⟨28, _⟩ => ⟨S4x8x8192x8192, .f32⟩
  | .hbm, ⟨29, _⟩ => ⟨S_, .f32⟩
  | .hbm, ⟨30, _⟩ => ⟨S4x8x8192, .f32⟩
  | .hbm, ⟨31, _⟩ => ⟨S4x8x8192x1, .f32⟩
  | .hbm, ⟨32, _⟩ => ⟨S4x8x8192x8192, .f32⟩
  | .hbm, ⟨33, _⟩ => ⟨S4x8x8192x8192, .f32⟩
  | .hbm, ⟨34, _⟩ => ⟨S4x8x128x8192, .f32⟩
  | .hbm, ⟨35, _⟩ => ⟨S4x8192x8x128, .f32⟩
  | .hbm, ⟨36, _⟩ => ⟨S4x8192x1024, .f32⟩
  | .hbm, ⟨37, _⟩ => ⟨S4x8192x1024, .bf16⟩
  | _, _ => ⟨S4x8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x4672 : Shape := ⟨2, ![1024, 4672]⟩
abbrev S1024x64 : Shape := ⟨2, ![1024, 64]⟩
abbrev S1024x32 : Shape := ⟨2, ![1024, 32]⟩
abbrev S1024x2560 : Shape := ⟨2, ![1024, 2560]⟩
abbrev S1024x2048 : Shape := ⟨2, ![1024, 2048]⟩
abbrev S1024x4736 : Shape := ⟨2, ![1024, 4736]⟩
abbrev S32768x1024 : Shape := ⟨2, ![32768, 1024]⟩
abbrev S1x1024 : Shape := ⟨2, ![1, 1024]⟩
abbrev S32768x256 : Shape := ⟨2, ![32768, 256]⟩
abbrev S32768x128 : Shape := ⟨2, ![32768, 128]⟩
abbrev S256x1024 : Shape := ⟨2, ![256, 1024]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1024x1024 : Shape := ⟨2, ![1024, 1024]⟩
abbrev S1024x256 : Shape := ⟨2, ![1024, 256]⟩
abbrev S1024x128 : Shape := ⟨2, ![1024, 128]⟩

abbrev nBuf : Space → Nat
  | .hbm => 21
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4672, .f32⟩
  | .hbm, ⟨3, _⟩ => ⟨S1024x64, .f32⟩
  | .hbm, ⟨4, _⟩ => ⟨S1024x32, .f32⟩
  | .hbm, ⟨5, _⟩ => ⟨S1024x32, .f32⟩
  | .hbm, ⟨6, _⟩ => ⟨S1024x32, .f32⟩
  | .hbm, ⟨7, _⟩ => ⟨S1024x64, .f32⟩
  | .hbm, ⟨8, _⟩ => ⟨S1024x2560, .f32⟩
  | .hbm, ⟨9, _⟩ => ⟨S1024x2048, .f32⟩
  | .hbm, ⟨10, _⟩ => ⟨S1024x4736, .f32⟩
  | .hbm, ⟨11, _⟩ => ⟨S1024x4736, .bf16⟩
  | .hbm, ⟨12, _⟩ => ⟨S32768x1024, .f32⟩
  | .hbm, ⟨13, _⟩ => ⟨S1x1024, .f32⟩
  | .hbm, ⟨14, _⟩ => ⟨S32768x1024, .bf16⟩
  | .hbm, ⟨15, _⟩ => ⟨S32768x1024, .bf16⟩
  | .hbm, ⟨16, _⟩ => ⟨S32768x256, .f32⟩
  | .hbm, ⟨17, _⟩ => ⟨S32768x256, .f32⟩
  | .hbm, ⟨18, _⟩ => ⟨S32768x1024, .bf16⟩
  | .hbm, ⟨19, _⟩ => ⟨S32768x1024, .bf16⟩
  | .hbm, ⟨20, _⟩ => ⟨S32768x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4736, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x128, .f32⟩
  | .local _ .vmem, ⟨17, _⟩ => ⟨S256x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev main_v11_2 : Ref sig .tc := ⟨.hbm, 16, rfl⟩
abbrev main_v11_3 : Ref sig .tc := ⟨.hbm, 17, rfl⟩
abbrev main_v11_4 : Ref sig .tc := ⟨.hbm, 18, rfl⟩
abbrev main_v11_5 : Ref sig .tc := ⟨.hbm, 19, rfl⟩
abbrev main_v11_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4x8192x1024 : Shape := ⟨3, ![4, 8192, 1024]⟩
abbrev S1024 : Shape := ⟨1, ![1024]⟩
abbrev S1024x4672 : Shape := ⟨2, ![1024, 4672]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4672 : Shape := ⟨3, ![4, 8192, 4672]⟩
abbrev S32768x4672 : Shape := ⟨2, ![32768, 4672]⟩
abbrev S32768x1024 : Shape := ⟨2, ![32768, 1024]⟩
abbrev S32768x256 : Shape := ⟨2, ![32768, 256]⟩
abbrev S32768x64 : Shape := ⟨2, ![32768, 64]⟩
abbrev S32768x32 : Shape := ⟨2, ![32768, 32]⟩
abbrev S32768x128 : Shape := ⟨2, ![32768, 128]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x4672, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x4672, .f32⟩
  | .hbm, ⟨20, _⟩ => ⟨S32768x4672, .f32⟩
  | .hbm, ⟨21, _⟩ => ⟨S32768x1024, .f32⟩
  | .hbm, ⟨22, _⟩ => ⟨S32768x1024, .f32⟩
  | .hbm, ⟨23, _⟩ => ⟨S32768x256, .f32⟩
  | .hbm, ⟨24, _⟩ => ⟨S32768x256, .f32⟩
  | .hbm, ⟨25, _⟩ => ⟨S32768x64, .f32⟩
  | .hbm, ⟨26, _⟩ => ⟨S32768x1024, .f32⟩
  | .hbm, ⟨27, _⟩ => ⟨S32768x1024, .f32⟩
  | .hbm, ⟨28, _⟩ => ⟨S32768x32, .f32⟩
  | .hbm, ⟨29, _⟩ => ⟨S32768x32, .f32⟩
  | .hbm, ⟨30, _⟩ => ⟨S32768x32, .f32⟩
  | .hbm, ⟨31, _⟩ => ⟨S32768x128, .f32⟩
  | .hbm, ⟨32, _⟩ => ⟨S32768x1024, .bf16⟩
  | .hbm, ⟨33, _⟩ => ⟨S32768x1024, .bf16⟩
  | .hbm, ⟨34, _⟩ => ⟨S32768x1024, .bf16⟩
  | .hbm, ⟨35, _⟩ => ⟨S32768x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩
abbrev S1024x56 : Shape := ⟨2, ![1024, 56]⟩
abbrev S1024x128 : Shape := ⟨2, ![1024, 128]⟩
abbrev S56 : Shape := ⟨1, ![56]⟩
abbrev S128 : Shape := ⟨1, ![128]⟩
abbrev S1x128 : Shape := ⟨2, ![1, 128]⟩
abbrev S32768x1024 : Shape := ⟨2, ![32768, 1024]⟩
abbrev S1x1024 : Shape := ⟨2, ![1, 1024]⟩
abbrev S1024x256 : Shape := ⟨2, ![1024, 256]⟩
abbrev S524288x128 : Shape := ⟨2, ![524288, 128]⟩
abbrev S32768x128 : Shape := ⟨2, ![32768, 128]⟩
abbrev S8x128 : Shape := ⟨2, ![8, 128]⟩
abbrev S256x1024 : Shape := ⟨2, ![256, 1024]⟩
abbrev S4096x128 : Shape := ⟨2, ![4096, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S32768x16x128 : Shape := ⟨3, ![32768, 16, 128]⟩
abbrev S32768x8x128 : Shape := ⟨3, ![32768, 8, 128]⟩

abbrev nBuf : Space → Nat
  | .hbm => 39
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x8, .f32⟩
  | .hbm, ⟨8, _⟩ => ⟨S8, .f32⟩
  | .hbm, ⟨9, _⟩ => ⟨S1024x64, .f32⟩
  | .hbm, ⟨10, _⟩ => ⟨S64, .f32⟩
  | .hbm, ⟨11, _⟩ => ⟨S_, .f32⟩
  | .hbm, ⟨12, _⟩ => ⟨S1024x56, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S_, .f32⟩
  | .hbm, ⟨19, _⟩ => ⟨S56, .f32⟩
  | .hbm, ⟨20, _⟩ => ⟨S128, .f32⟩
  | .hbm, ⟨21, _⟩ => ⟨S1x128, .f32⟩
  | .hbm, ⟨22, _⟩ => ⟨S32768x1024, .f32⟩
  | .hbm, ⟨23, _⟩ => ⟨S32768x1024, .bf16⟩
  | .hbm, ⟨24, _⟩ => ⟨S32768x1024, .f32⟩
  | .hbm, ⟨25, _⟩ => ⟨S32768x1024, .bf16⟩
  | .hbm, ⟨26, _⟩ => ⟨S32768x1024, .f32⟩
  | .hbm, ⟨27, _⟩ => ⟨S32768x1024, .bf16⟩
  | .hbm, ⟨28, _⟩ => ⟨S32768x1024, .f32⟩
  | .hbm, ⟨29, _⟩ => ⟨S1024x1024, .bf16⟩
  | .hbm, ⟨30, _⟩ => ⟨S1024x1024, .bf16⟩
  | .hbm, ⟨31, _⟩ => ⟨S1x1024, .f32⟩
  | .hbm, ⟨32, _⟩ => ⟨S1024x256, .bf16⟩
  | .hbm, ⟨33, _⟩ => ⟨S524288x128, .f32⟩
  | .hbm, ⟨34, _⟩ => ⟨S32768x128, .f32⟩
  | .hbm, ⟨35, _⟩ => ⟨S8x128, .f32⟩
  | .hbm, ⟨36, _⟩ => ⟨S32768x16x128, .f32⟩
  | .hbm, ⟨37, _⟩ => ⟨S32768x8x128, .f32⟩
  | .hbm, ⟨38, _⟩ => ⟨S4x8192x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x256, .bf16⟩
  | .local _ .vmem, ⟨12, _⟩ => ⟨S1x128, .f32⟩
  | .local _ .vmem, ⟨13, _⟩ => ⟨S4096x128, .f32⟩
  | .local _ .vmem, ⟨14, _⟩ => ⟨S4096x128, .f32⟩
  | .local _ .vmem, ⟨15, _⟩ => ⟨S256x128, .f32⟩
  | .local _ .vmem, ⟨16, _⟩ => ⟨S256x128, .f32⟩
  | .local _ .vmem, ⟨17, _⟩ => ⟨S8x128, .f32⟩
  | .local _ .vmem, ⟨18, _⟩ => ⟨S8x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S4x8192x1024 : Shape := ⟨3, ![4, 8192, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S1024x64 : Shape := ⟨2, ![1024, 64]⟩
abbrev S64 : Shape := ⟨1, ![64]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x8, .f32⟩
  | .hbm, ⟨8, _⟩ => ⟨S8, .f32⟩
  | .hbm, ⟨9, _⟩ => ⟨S1024x64, .f32⟩
  | .hbm, ⟨10, _⟩ => ⟨S64, .f32⟩
  | .hbm, ⟨11, _⟩ => ⟨S4x8192x1024, .f32⟩
  | .hbm, ⟨12, _⟩ => ⟨S4x8192x1024, .f32⟩
  | .hbm, ⟨13, _⟩ => ⟨S_, .f32⟩
  | .hbm, ⟨14, _⟩ => ⟨S4x8192x1024, .f32⟩
  | .hbm, ⟨15, _⟩ => ⟨S4x8192x1024, .f32⟩
  | .hbm, ⟨16, _⟩ => ⟨S_, .f32⟩
  | .hbm, ⟨17, _⟩ => ⟨S4x8192x1024, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== Kernel4.lean ====
abbrev S4x8192x256 : Shape := ⟨3, ![4, 8192, 256]⟩
abbrev S4x8192x64 : Shape := ⟨3, ![4, 8192, 64]⟩
abbrev S4x8192 : Shape := ⟨2, ![4, 8192]⟩
abbrev S256 : Shape := ⟨1, ![256]⟩
abbrev S256x1536 : Shape := ⟨2, ![256, 1536]⟩
abbrev S256x2048 : Shape := ⟨2, ![256, 2048]⟩
abbrev S192 : Shape := ⟨1, ![192]⟩
abbrev S256x8x192 : Shape := ⟨3, ![256, 8, 192]⟩
abbrev S8x192x256 : Shape := ⟨3, ![8, 192, 256]⟩
abbrev S8x32x256 : Shape := ⟨3, ![8, 32, 256]⟩
abbrev S8x64x256 : Shape := ⟨3, ![8, 64, 256]⟩
abbrev S256x8x256 : Shape := ⟨3, ![256, 8, 256]⟩
abbrev S8x256x256 : Shape := ⟨3, ![8, 256, 256]⟩
abbrev S8x256x128 : Shape := ⟨3, ![8, 256, 128]⟩
abbrev S8x128x256 : Shape := ⟨3, ![8, 128, 256]⟩
abbrev S64 : Shape := ⟨1, ![64]⟩
abbrev S32 : Shape := ⟨1, ![32]⟩
abbrev S_ : Shape := ⟨0, ![]⟩
abbrev S1x256 : Shape := ⟨2, ![1, 256]⟩
abbrev S128 : Shape := ⟨1, ![128]⟩
abbrev S128x1 : Shape := ⟨2, ![128, 1]⟩
abbrev S64x1 : Shape := ⟨2, ![64, 1]⟩
abbrev S1x128 : Shape := ⟨2, ![1, 128]⟩
abbrev S1x64 : Shape := ⟨2, ![1, 64]⟩
abbrev S4x8192x32 : Shape := ⟨3, ![4, 8192, 32]⟩
abbrev S4x8192x128 : Shape := ⟨3, ![4, 8192, 128]⟩
abbrev S4x8192x1 : Shape := ⟨3, ![4, 8192, 1]⟩
abbrev S4x1x8192 : Shape := ⟨3, ![4, 1, 8192]⟩
abbrev S4x8x192x8192 : Shape := ⟨4, ![4, 8, 192, 8192]⟩
abbrev S4x8x8192x192 : Shape := ⟨4, ![4, 8, 8192, 192]⟩
abbrev S4x8x16x144x512 : Shape := ⟨5, ![4, 8, 16, 144, 512]⟩
abbrev S1x512x256 : Shape := ⟨3, ![1, 512, 256]⟩
abbrev S1x512x128 : Shape := ⟨3, ![1, 512, 128]⟩
abbrev S1x512x1 : Shape := ⟨3, ![1, 512, 1]⟩
abbrev S1x1x512 : Shape := ⟨3, ![1, 1, 512]⟩
abbrev S1x8x192x512 : Shape := ⟨4, ![1, 8, 192, 512]⟩
abbrev S1x8x512x192 : Shape := ⟨4, ![1, 8, 512, 192]⟩
abbrev S1x8x1x144x512 : Shape := ⟨5, ![1, 8, 1, 144, 512]⟩
abbrev S512x256 : Shape := ⟨2, ![512, 256]⟩
abbrev S512 : Shape := ⟨1, ![512]⟩
abbrev S512x1 : Shape := ⟨2, ![512, 1]⟩
abbrev S256x512 : Shape := ⟨2, ![256, 512]⟩
abbrev S1x512 : Shape := ⟨2, ![1, 512]⟩
abbrev S64x512 : Shape := ⟨2, ![64, 512]⟩
abbrev S1x192x256 : Shape := ⟨3, ![1, 192, 256]⟩
abbrev S192x256 : Shape := ⟨2, ![192, 256]⟩
abbrev S192x512 : Shape := ⟨2, ![192, 512]⟩
abbrev S1x64x256 : Shape := ⟨3, ![1, 64, 256]⟩
abbrev S64x256 : Shape := ⟨2, ![64, 256]⟩
abbrev S128x512 : Shape := ⟨2, ![128, 512]⟩
abbrev S1x1x128x512 : Shape := ⟨4, ![1, 1, 128, 512]⟩
abbrev S1x1x64x512 : Shape := ⟨4, ![1, 1, 64, 512]⟩
abbrev S512x64 : Shape := ⟨2, ![512, 64]⟩
abbrev S1x512x64 : Shape := ⟨3, ![1, 512, 64]⟩
abbrev S16x512 : Shape := ⟨2, ![16, 512]⟩
abbrev S1x256x128 : Shape := ⟨3, ![1, 256, 128]⟩
abbrev S256x128 : Shape := ⟨2, ![256, 128]⟩
abbrev S512x128 : Shape := ⟨2, ![512, 128]⟩
abbrev S1x1x512x128 : Shape := ⟨4, ![1, 1, 512, 128]⟩
abbrev S1x1x512x64 : Shape := ⟨4, ![1, 1, 512, 64]⟩
abbrev S1x128x256 : Shape := ⟨3, ![1, 128, 256]⟩
abbrev S128x256 : Shape := ⟨2, ![128, 256]⟩
abbrev S1x1x1x128x512 : Shape := ⟨5, ![1, 1, 1, 128, 512]⟩
abbrev S1x1x1x16x512 : Shape := ⟨5, ![1, 1, 1, 16, 512]⟩

abbrev nBuf : Space → Nat
  | .hbm => 70
  | .vmem => 30
  | .smem => 0
  | _ => 0

abbrev bufTy : (tb : Table) → Fin (tcTables nBuf tb) → BufTy
  | .hbm, ⟨0, _⟩ => ⟨S4x8192x256, .f32⟩
  | .hbm, ⟨1, _⟩ => ⟨S4x8192x256, .f32⟩
  | .hbm, ⟨2, _⟩ => ⟨S4x8192x64, .f32⟩
  | .hbm, ⟨3, _⟩ => ⟨S4x8192, .i32⟩
  | .hbm, ⟨4, _⟩ => ⟨S256, .f32⟩
  | .hbm, ⟨5, _⟩ => ⟨S256x1536, .f32⟩
  | .hbm, ⟨6, _⟩ => ⟨S256, .f32⟩
  | .hbm, ⟨7, _⟩ => ⟨S256x2048, .f32⟩
  | .hbm, ⟨8, _⟩ => ⟨S192, .f32⟩
  | .hbm, ⟨9, _⟩ => ⟨S192, .f32⟩
  | .hbm, ⟨10, _⟩ => ⟨S256x8x192, .f32⟩
  | .hbm, ⟨11, _⟩ => ⟨S8x192x256, .f32⟩
  | .hbm, ⟨12, _⟩ => ⟨S8x192x256, .bf16⟩
  | .hbm, ⟨13, _⟩ => ⟨S8x32x256, .f32⟩
  | .hbm, ⟨14, _⟩ => ⟨S8x32x256, .f32⟩
  | .hbm, ⟨15, _⟩ => ⟨S8x32x256, .f32⟩
  | .hbm, ⟨16, _⟩ => ⟨S8x64x256, .f32⟩
  | .hbm, ⟨17, _⟩ => ⟨S8x64x256, .bf16⟩
  | .hbm, ⟨18, _⟩ => ⟨S256x8x256, .f32⟩
  | .hbm, ⟨19, _⟩ => ⟨S8x256x256, .f32⟩
  | .hbm, ⟨20, _⟩ => ⟨S8x256x128, .f32⟩
  | .hbm, ⟨21, _⟩ => ⟨S8x256x128, .bf16⟩
  | .hbm, ⟨22, _⟩ => ⟨S8x256x128, .f32⟩
  | .hbm, ⟨23, _⟩ => ⟨S8x128x256, .f32⟩
  | .hbm, ⟨24, _⟩ => ⟨S8x128x256, .bf16⟩
  | .hbm, ⟨25, _⟩ => ⟨S64, .f32⟩
  | .hbm, ⟨26, _⟩ => ⟨S64, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S64, .f32⟩
  | .hbm, ⟨42, _⟩ => ⟨S1x256, .f32⟩
  | .hbm, ⟨43, _⟩ => ⟨S1x256, .f32⟩
  | .hbm, ⟨44, _⟩ => ⟨S128, .f32⟩
  | .hbm, ⟨45, _⟩ => ⟨S128x1, .f32⟩
  | .hbm, ⟨46, _⟩ => ⟨S64x1, .f32⟩
  | .hbm, ⟨47, _⟩ => ⟨S32, .f32⟩
  | .hbm, ⟨48, _⟩ => ⟨S32, .f32⟩
  | .hbm, ⟨49, _⟩ => ⟨S64, .f32⟩
  | .hbm, ⟨50, _⟩ => ⟨S64x1, .f32⟩
  | .hbm, ⟨51, _⟩ => ⟨S128, .f32⟩
  | .hbm, ⟨52, _⟩ => ⟨S1x128, .f32⟩
  | .hbm, ⟨53, _⟩ => ⟨S1x64, .f32⟩
  | .hbm, ⟨54, _⟩ => ⟨S32, .f32⟩
  | .hbm, ⟨55, _⟩ => ⟨S32, .f32⟩
  | .hbm, ⟨56, _⟩ => ⟨S64, .f32⟩
  | .hbm, ⟨57, _⟩ => ⟨S1x64, .f32⟩
  | .hbm, ⟨58, _⟩ => ⟨S1x64, .f32⟩
  | .hbm, ⟨59, _⟩ => ⟨S64x1, .f32⟩
  | .hbm, ⟨60, _⟩ => ⟨S4x8192, .f32⟩
  | .hbm, ⟨61, _⟩ => ⟨S4x8192x32, .f32⟩
  | .hbm, ⟨62, _⟩ => ⟨S4x8192x32, .f32⟩
  | .hbm, ⟨63, _⟩ => ⟨S4x8192x32, .f32⟩
  | .hbm, ⟨64, _⟩ => ⟨S4x8192x128, .f32⟩
  | .hbm, ⟨65, _⟩ => ⟨S4x8192x1, .f32⟩
  | .hbm, ⟨66, _⟩ => ⟨S4x1x8192, .f32⟩
  | .hbm, ⟨67, _⟩ => ⟨S4x8x192x8192, .bf16⟩
  | .hbm, ⟨68, _⟩ => ⟨S4x8x8192x192, .bf16⟩
  | .hbm, ⟨69, _⟩ => ⟨S4x8x16x144x512, .bf16⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x128, .f32⟩
  | .local _ .vmem, ⟨5, _⟩ => ⟨S1x512x128, .f32⟩
  | .local _ .vmem, ⟨6, _⟩ => ⟨S1x512x1, .f32⟩
  | .local _ .vmem, ⟨7, _⟩ => ⟨S1x512x1, .f32⟩
  | .local _ .vmem, ⟨8, _⟩ => ⟨S1x1x512, .f32⟩
  | .local _ .vmem, ⟨9, _⟩ => ⟨S1x1x512, .f32⟩
  | .local _ .vmem, ⟨10, _⟩ => ⟨S1x256, .f32⟩
  | .local _ .vmem, ⟨11, _⟩ => ⟨S1x256, .f32⟩
  | .local _ .vmem, ⟨12, _⟩ => ⟨S8x192x256, .bf16⟩
  | .local _ .vmem, ⟨13, _⟩ => ⟨S8x64x256, .bf16⟩
  | .local _ .vmem, ⟨14, _⟩ => ⟨S8x256x128, .bf16⟩
  | .local _ .vmem, ⟨15, _⟩ => ⟨S8x128x256, .bf16⟩
  | .local _ .vmem, ⟨16, _⟩ => ⟨S128x1, .f32⟩
  | .local _ .vmem, ⟨17, _⟩ => ⟨S64x1, .f32⟩
  | .local _ .vmem, ⟨18, _⟩ => ⟨S64x1, .f32⟩
  | .local _ .vmem, ⟨19, _⟩ => ⟨S1x128, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S64x1, .f32⟩
  | .local _ .vmem, ⟨24, _⟩ => ⟨S1x8x192x512, .bf16⟩
  | .local _ .vmem, ⟨25, _⟩ => ⟨S1x8x192x512, .bf16⟩
  | .local _ .vmem, ⟨26, _⟩ => ⟨S1x8x512x192, .bf16⟩
  | .local _ .vmem, ⟨27, _⟩ => ⟨S1x8x512x192, .bf16⟩
  | .local _ .vmem, ⟨28, _⟩ => ⟨S1x8x1x144x512, .bf16⟩
  | .local _ .vmem, ⟨29, _⟩ => ⟨S1x8x1x144x512, .bf16⟩
  | _, _ => ⟨S4x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53_0 : Ref sig .tc := ⟨.hbm, 67, rfl⟩
abbrev main_v53_1 : Ref sig .tc := ⟨.hbm, 68, rfl⟩
abbrev main_v53_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x192x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S64x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x8x192x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x512x192 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x1x144x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Kernel4Ideal.lean ====
variable {F : FTy → Type} [FloatOps F] [Named F]
def κ : String → Option EReal := fun
  | "inv_qk_dim" => some ((1 / 192 : ℝ) : EReal)
  | _ => none
-- ==== Reference4Ideal.lean ====
abbrev S4x8192x256 : Shape := ⟨3, ![4, 8192, 256]⟩
abbrev S4x8192x64 : Shape := ⟨3, ![4, 8192, 64]⟩
abbrev S4x8192 : Shape := ⟨2, ![4, 8192]⟩
abbrev S256 : Shape := ⟨1, ![256]⟩
abbrev S256x1536 : Shape := ⟨2, ![256, 1536]⟩
abbrev S256x2048 : Shape := ⟨2, ![256, 2048]⟩
abbrev S192 : Shape := ⟨1, ![192]⟩
abbrev S_ : Shape := ⟨0, ![]⟩
abbrev S4x8192x1 : Shape := ⟨3, ![4, 8192, 1]⟩
abbrev S1x1x256 : Shape := ⟨3, ![1, 1, 256]⟩
abbrev S4x8192x1536 : Shape := ⟨3, ![4, 8192, 1536]⟩
abbrev S4x8192x8x192 : Shape := ⟨4, ![4, 8192, 8, 192]⟩
abbrev S4x8192x2048 : Shape := ⟨3, ![4, 8192, 2048]⟩
abbrev S4x8192x8x256 : Shape := ⟨4, ![4, 8192, 8, 256]⟩
abbrev S4x8192x8x128 : Shape := ⟨4, ![4, 8192, 8, 128]⟩
abbrev S4x8192x1x64 : Shape := ⟨4, ![4, 8192, 1, 64]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x192 : Shape := ⟨4, ![1, 1, 1, 192]⟩
abbrev S32 : Shape := ⟨1, ![32]⟩
abbrev S1x1x32 : Shape := ⟨3, ![1, 1, 32]⟩
abbrev S4x8192x32 : Shape := ⟨3, ![4, 8192, 32]⟩
abbrev S4x8192x1x32 : Shape := ⟨4, ![4, 8192, 1, 32]⟩
abbrev S4x8192x8x32 : Shape := ⟨4, ![4, 8192, 8, 32]⟩
abbrev S4x16x512x8x128 : Shape := ⟨5, ![4, 16, 512, 8, 128]⟩
abbrev S4x8x16x128x512 : Shape := ⟨5, ![4, 8, 16, 128, 512]⟩
abbrev S4x8x16x1x512 : Shape := ⟨5, ![4, 8, 16, 1, 512]⟩
abbrev S4x8x16x15x512 : Shape := ⟨5, ![4, 8, 16, 15, 512]⟩
abbrev S4x8x16x144x512 : Shape := ⟨5, ![4, 8, 16, 144, 512]⟩
abbrev S4x8x192x8192 : Shape := ⟨4, ![4, 8, 192, 8192]⟩
abbrev S4x8x8192x192 : Shape := ⟨4, ![4, 8, 8192, 192]⟩

abbrev nBuf : Space → Nat
  | .hbm => 151
  | .vmem => 0
  | .smem => 0
  | _ => 0

abbrev hbmTy0_0 (i : Nat) : BufTy := match i % 128 with
  | 0 => ⟨S4x8192x256, .f32⟩
  | 1 => ⟨S4x8192x256, .f32⟩
  | 2 => ⟨S4x8192x64, .f32⟩
  | 3 => ⟨S4x8192, .i32⟩
  | 4 => ⟨S256, .f32⟩
  | 5 => ⟨S256x1536, .f32⟩
  | 6 => ⟨S256, .f32⟩
  | 7 => ⟨S256x2048, .f32⟩
  | 8 => ⟨S192, .f32⟩
  | 9 => ⟨S192, .f32⟩
  | 10 => ⟨S4x8192x256, .f32⟩
  | 11 => ⟨S_, .f32⟩
  | 12 => ⟨S4x8192, .f32⟩
  | 13 => ⟨S4x8192x1, .f32⟩
  | 14 => ⟨S_, .f32⟩
  | 15 => ⟨S4x8192x1, .f32⟩
  | 16 => ⟨S4x8192x1, .f32⟩
  | 17 => ⟨S_, .f32⟩
  | 18 => ⟨S4x8192x1, .f32⟩
  | 19 => ⟨S4x8192x1, .f32⟩
  | 20 => ⟨S4x8192x1, .f32⟩
  | 21 => ⟨S4x8192x256, .f32⟩
  | 22 => ⟨S4x8192x256, .f32⟩
  | 23 => ⟨S1x1x256, .f32⟩
  | 24 => ⟨S4x8192x256, .f32⟩
  | 25 => ⟨S4x8192x256, .f32⟩
  | 26 => ⟨S4x8192x1536, .f32⟩
  | 27 => ⟨S4x8192x8x192, .f32⟩
  | 28 => ⟨S4x8192x256, .f32⟩
  | 29 => ⟨S_, .f32⟩
  | 30 => ⟨S4x8192, .f32⟩
  | 31 => ⟨S4x8192x1, .f32⟩
  | 32 => ⟨S_, .f32⟩
  | 33 => ⟨S4x8192x1, .f32⟩
  | 34 => ⟨S4x8192x1, .f32⟩
  | 35 => ⟨S_, .f32⟩
  | 36 => ⟨S4x8192x1, .f32⟩
  | 37 => ⟨S4x8192x1, .f32⟩
  | 38 => ⟨S4x8192x1, .f32⟩
  | 39 => ⟨S4x8192x256, .f32⟩
  | 40 => ⟨S4x8192x256, .f32⟩
  | 41 => ⟨S1x1x256, .f32⟩
  | 42 => ⟨S4x8192x256, .f32⟩
  | 43 => ⟨S4x8192x256, .f32⟩
  | 44 => ⟨S4x8192x2048, .f32⟩
  | 45 => ⟨S4x8192x8x256, .f32⟩
  | 46 => ⟨S4x8192x8x128, .f32⟩
  | 47 => ⟨S4x8192x8x128, .f32⟩
  | 48 => ⟨S4x8192x1x64, .f32⟩
  | 49 => ⟨S4x8192x8x64, .f32⟩
  | 50 => ⟨S4x8192x8x192, .f32⟩
  | 51 => ⟨S4x8192x8x192, .f32⟩
  | 52 => ⟨S_, .f32⟩
  | 53 => ⟨S4x8192x8, .f32⟩
  | 54 => ⟨S4x8192x8x1, .f32⟩
  | 55 => ⟨S_, .f32⟩
  | 56 => ⟨S4x8192x8x1, .f32⟩
  | 57 => ⟨S4x8192x8x1, .f32⟩
  | 58 => ⟨S_, .f32⟩
  | 59 => ⟨S4x8192x8x1, .f32⟩
  | 60 => ⟨S4x8192x8x1, .f32⟩
  | 61 => ⟨S4x8192x8x1, .f32⟩
  | 62 => ⟨S4x8192x8x192, .f32⟩
  | 63 => ⟨S4x8192x8x192, .f32⟩
  | 64 => ⟨S1x1x1x192, .f32⟩
  | 65 => ⟨S4x8192x8x192, .f32⟩
  | 66 => ⟨S4x8192x8x192, .f32⟩
  | 67 => ⟨S4x8192x8x192, .f32⟩
  | 68 => ⟨S_, .f32⟩
  | 69 => ⟨S4x8192x8, .f32⟩
  | 70 => ⟨S4x8192x8x1, .f32⟩
  | 71 => ⟨S_, .f32⟩
  | 72 => ⟨S4x8192x8x1, .f32⟩
  | 73 => ⟨S4x8192x8x1, .f32⟩
  | 74 => ⟨S_, .f32⟩
  | 75 => ⟨S4x8192x8x1, .f32⟩
  | 76 => ⟨S4x8192x8x1, .f32⟩
  | 77 => ⟨S4x8192x8x1, .f32⟩
  | 78 => ⟨S4x8192x8x192, .f32⟩
  | 79 => ⟨S4x8192x8x192, .f32⟩
  | 80 => ⟨S1x1x1x192, .f32⟩
  | 81 => ⟨S4x8192x8x192, .f32⟩
  | 82 => ⟨S4x8192x8x192, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S32, .f32⟩
  | 91 => ⟨S_, .f32⟩
  | 92 => ⟨S32, .f32⟩
  | 93 => ⟨S32, .f32⟩
  | 94 => ⟨S_, .f32⟩
  | 95 => ⟨S32, .f32⟩
  | 96 => ⟨S32, .f32⟩
  | 97 => ⟨S4x8192, .f32⟩
  | 98 => ⟨S4x8192x1, .f32⟩
  | 99 => ⟨S1x1x32, .f32⟩
  | 100 => ⟨S4x8192x32, .f32⟩
  | 101 => ⟨S4x8192x32, .f32⟩
  | 102 => ⟨S4x8192x32, .f32⟩
  | 103 => ⟨S4x8192x32, .f32⟩
  | 104 => ⟨S4x8192x1x32, .f32⟩
  | 105 => ⟨S4x8192x32, .f32⟩
  | 106 => ⟨S4x8192x1x32, .f32⟩
  | 107 => ⟨S4x8192x8x128, .f32⟩
  | 108 => ⟨S4x8192x8x64, .f32⟩
  | 109 => ⟨S4x8192x8x32, .f32⟩
  | 110 => ⟨S4x8192x8x32, .f32⟩
  | 111 => ⟨S4x8192x8x32, .f32⟩
  | 112 => ⟨S4x8192x8x32, .f32⟩
  | 113 => ⟨S4x8192x8x32, .f32⟩
  | 114 => ⟨S4x8192x8x32, .f32⟩
  | 115 => ⟨S4x8192x8x32, .f32⟩
  | 116 => ⟨S4x8192x8x32, .f32⟩
  | 117 => ⟨S4x8192x8x32, .f32⟩
  | 118 => ⟨S4x8192x8x32, .f32⟩
  | 119 => ⟨S4x8192x8x32, .f32⟩
  | 120 => ⟨S4x8192x8x32, .f32⟩
  | 121 => ⟨S4x8192x8x64, .f32⟩
  | 122 => ⟨S4x8192x8x192, .f32⟩
  | 123 => ⟨S4x8192x8x128, .f32⟩
  | 124 => ⟨S4x8192x8x64, .f32⟩
  | 125 => ⟨S4x8192x8x32, .f32⟩
  | 126 => ⟨S4x8192x8x32, .f32⟩
  | 127 => ⟨S4x8192x8x32, .f32⟩
  | _ => ⟨S4x8192x256, .f32⟩

abbrev hbmTy0_1 (i : Nat) : BufTy := match i % 128 with
  | 0 => ⟨S4x8192x8x32, .f32⟩
  | 1 => ⟨S4x8192x8x32, .f32⟩
  | 2 => ⟨S4x8192x8x32, .f32⟩
  | 3 => ⟨S4x8192x8x32, .f32⟩
  | 4 => ⟨S4x8192x8x32, .f32⟩
  | 5 => ⟨S4x8192x8x32, .f32⟩
  | 6 => ⟨S4x8192x8x32, .f32⟩
  | 7 => ⟨S4x8192x8x32, .f32⟩
  | 8 => ⟨S4x8192x8x32, .f32⟩
  | 9 => ⟨S4x8192x8x64, .f32⟩
  | 10 => ⟨S4x8192x8x192, .f32⟩
  | 11 => ⟨S4x16x512x8x128, .f32⟩
  | 12 => ⟨S4x8x16x128x512, .f32⟩
  | 13 => ⟨S_, .f32⟩
  | 14 => ⟨S4x8x16x1x512, .f32⟩
  | 15 => ⟨S_, .f32⟩
  | 16 => ⟨S4x8x16x15x512, .f32⟩
  | 17 => ⟨S4x8x16x144x512, .f32⟩
  | 18 => ⟨S4x8x192x8192, .f32⟩
  | 19 => ⟨S4x8x192x8192, .bf16⟩
  | 20 => ⟨S4x8x8192x192, .f32⟩
  | 21 => ⟨S4x8x8192x192, .bf16⟩
  | 22 => ⟨S4x8x16x144x512, .bf16⟩
  | _ => ⟨S4x8192x256, .f32⟩

abbrev hbmTy (i : Nat) : BufTy := match i / 128 with
  | 0 => hbmTy0_0 i
  | 1 => hbmTy0_1 i
  | _ => ⟨S4x8192x256, .f32⟩

abbrev bufTy : (tb : Table) → Fin (tcTables nBuf tb) → BufTy
  | .hbm, ⟨i, _⟩ => hbmTy i
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_15 : Ref sig .tc := ⟨.hbm, 141, rfl⟩
abbrev main_v115 : Ref sig .tc := ⟨.hbm, 142, rfl⟩
abbrev main_cst_16 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩

abbrev nD : Nat := 1
abbrev τ : Topo := Topo.v7x

variable {F : FTy → Type} [FloatOps F]
-- ==== Proof.MergeKit.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel3Ideal.Own

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the region is entered: after the host operations before it. -/
abbrev V0 (c : Dev nD) : Valuation τ sig (Elt F) := StableHlo.after (List.flatten [hostOps0]) (fun b => m (c, b))
/-- The same, at one TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The main function is its first host lines, the region, and its last host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The last host lines touch only unscoped buffers of the TensorCore. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl := List.mem_singleton.mp hops
  exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  obtain rfl := List.mem_singleton.mp hops
  exact (List.forall_iff_forall_mem.mp hostOps1_fresh) op hop
/-- They write no array that a window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl := List.mem_singleton.mp hops
  simp only [hostOps1, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The argument buffers. -/
def argRefs : List (Ref sig .tc) := [main_arg0, main_arg1, main_arg2, main_arg3, main_arg4, main_arg5, main_arg6, main_arg7, main_arg8, main_arg9, main_arg10]

/-- The first host lines write no argument buffer. -/
theorem V_arg (c : Dev nD) : ∀ b ∈ argRefs, V m c b = m ((c : Thread nD τ).loc b) := by
  intro b hb
  refine StableHlo.after_of_forall_not_mem (b := Proc.devRef .tc b) _ _ (List.forall_iff_forall_mem.mp ?_)
  simp only [hostOps0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  simp only [argRefs, List.mem_cons, List.mem_nil_iff, or_false] at hb
  rcases hb with rfl | rfl | rfl | rfl | rfl | rfl | rfl | rfl | rfl | rfl | rfl <;>
    (repeat' apply And.intro) <;> exact StableHlo.devRef_ne_of_ne (by decide)

/-- Nor do the last: each argument buffer ends as launched. -/
theorem W_arg (dats : (p : Fin _) → (c : Dev nD) → Dat τ (Elt F) Unit ℕ (UR sig nD τ) ℕ (cfgs p) c) (c : Dev nD) :
    ∀ b ∈ argRefs, Pipeline.afterTail₀ cfgs dats 0 (V0 m) [hostOps1] c b = m ((c : Thread nD τ).loc b) := by
  intro b hb
  have hn : ∀ w, Pipeline.arrRef spec0 w ≠ b := (by decide : ∀ b ∈ argRefs, ∀ w, Pipeline.arrRef spec0 w ≠ b) b hb
  have hV := V_arg m c b hb
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      simp only [argRefs, List.mem_cons, List.mem_nil_iff, or_false] at hb
      rcases hb with rfl | rfl | rfl | rfl | rfl | rfl | rfl | rfl | rfl | rfl | rfl <;>
        (repeat' apply And.intro) <;> exact StableHlo.devRef_ne_of_ne (by decide))),
    Pipeline.withArrays_of_ne _ c (V0 m c) _ b hn]
  exact hV

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's staging buffer holds its block at every point, for proof data whose array is the region's and whose body
    leaves the block in place. -/
theorem before_of_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of_6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_of_7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_of_8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The condition of the body's branch, from the grid coordinates. -/
abbrev cond (i : grid0.Coords) : Prop := (Scalar.cmpi .ne (Scalar.extui (Scalar.cmpi .eq (BitVec.ofNat 32 (i 0).val) 0#32)) 0#32) = 1#1
/-- It holds at the first point only. -/
theorem hcond : ∀ t : Fin cfg0.N, cond (grid0.coords t) ↔ t.val = 0 :=
  (fun t => by
    have ht : t.val < 128 := Nat.lt_of_lt_of_eq t.isLt N_0
    have e0 : (grid0.coords t 0).val = t.val / 1 % 128 := Pipeline.Grid.coords_val t 0 (by decide) rfl
    have h : cond (grid0.coords t) ↔ t.val % 128 = 0 := by
      simp only [cond, e0]
      word_cmp
    rw [h, Nat.mod_eq_of_lt ht]
   : ∀ t : Fin grid0.N, cond (grid0.coords t) ↔ t.val = 0)

/-! One staging buffer of each output window, and the scratch, as views through which contents are stated. -/
abbrev VO9 : View sig .tc .vmem S4096x128 .f32 := (Memref.whole cc0_stg9_0 : Memref sig .tc .vmem S4096x128 .f32).view
abbrev VO10 : View sig .tc .vmem S256x128 .f32 := (Memref.whole cc0_stg10_0 : Memref sig .tc .vmem S256x128 .f32).view
abbrev VO11 : View sig .tc .vmem S8x128 .f32 := (Memref.whole cc0_stg11_0 : Memref sig .tc .vmem S8x128 .f32).view

/-! Each window's staging memref at point `t`, and that it is whole. -/
abbrev ms0 (t : Fin cfg0.N) : Memref sig .tc .vmem S256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x256 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S4096x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S8x128 .f32 := win0_11.stage (cfg0.slots t 11)
abbrev hs11 (t : Fin cfg0.N) : (ms11 t).IsWhole := hstage0_11 ((cfg0.slots t 11).cast nbuf0_11)
/-- The scratch the kernel carries from point to point. -/
abbrev scM : Memref sig .tc .vmem S8x128 .f32 := Memref.whole cc0_scratch0
abbrev VSc : View sig .tc .vmem S8x128 .f32 := scM.view

/-- What the launch hands the region: the scratch at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The stores of one output window whose rectangle steps by 16 -/

/-- The rows `c, c + 16, c + 32, …` of a 4096-row block. -/
def rowRect (c : Fin 16) : Rect S4096x128 :=
  ⟨(⟨![c.val, 0], S256x128.size, ![16, 1], fun a => Or.inr (by
    fin_cases a
    · show c.val + 16 * (256 - 1) < 4096; omega
    · show 0 + 1 * (128 - 1) < 128; omega)⟩ : LoadRect S4096x128), fun a => by
    fin_cases a
    · show 0 < 16; decide
    · show 0 < 1; decide⟩

/-- Place `y` lies in the rows `c, c + 16, …` exactly when `c` is its row's remainder by 16. -/
theorem mem_rowRect (c : Fin 16) (y : S4096x128.Idx) : y ∈ (rowRect c).set ↔ (y 0).val % 16 = c.val := by
  rw [LoadRect.mem_set]
  have h0 : (y 0).val < 4096 := (y 0).isLt
  have h1 : (y 1).val < 128 := (y 1).isLt
  constructor
  · intro h
    obtain ⟨j, hj, e⟩ := h 0
    have e' : (y 0).val = c.val + 16 * j := e
    have := c.isLt
    omega
  · intro h a
    fin_cases a
    · refine ⟨(y 0).val / 16, ?_, ?_⟩
      · show (y 0).val / 16 < 256; omega
      · show (y 0).val = c.val + 16 * ((y 0).val / 16); omega
    · refine ⟨(y 1).val, h1, ?_⟩
      show (y 1).val = 0 + 1 * (y 1).val; omega

/-- Sixteen stores, one on the rows of each remainder, cover the block. -/
theorem cover_rows {V : EltTy → Type} (L : List (View.Piece V S4096x128 .f32))
    (h : ∀ c : Fin 16, rowRect c ∈ L.map (fun p => p.1)) (y : S4096x128.Idx) : ∃ p ∈ L, y ∈ p.1.set := by
  obtain ⟨p, hp, e⟩ := List.mem_map.mp (h ⟨(y 0).val % 16, Nat.mod_lt _ (by decide)⟩)
  exact ⟨p, hp, e ▸ (mem_rowRect _ y).mpr rfl⟩

end Cert.Kernel3Ideal.Own

end
-- ==== Proof.MergeRun.lean ====
module

public import proofs.«01_k».proof.Proof.MergeKit

@[expose] public section

set_option maxRecDepth 16384

noncomputable section

namespace Cert.Kernel3Ideal.Own

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole)
   (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole)
   (arg7 : Memref sig .tc .vmem S1x1024 .f32) (harg7 : arg7.IsWhole) (arg8 : Memref sig .tc .vmem S1024x256 .bf16) (harg8 : arg8.IsWhole) (arg9 : Memref sig .tc .vmem S1x128 .f32) (harg9 : arg9.IsWhole)
   (arg10 : Memref sig .tc .vmem S4096x128 .f32) (harg10 : arg10.IsWhole) (arg11 : Memref sig .tc .vmem S256x128 .f32) (harg11 : arg11.IsWhole) (arg12 : Memref sig .tc .vmem S8x128 .f32) (harg12 : arg12.IsWhole)
   (arg13 : Memref sig .tc .vmem S8x128 .f32) (harg13 : arg13.IsWhole)
  (x0 : Vec F S256x1024 .bf16) (x1 : Vec F S256x1024 .bf16) (x2 : Vec F S256x1024 .bf16) (x3 : Vec F S256x1024 .f32) (x4 : Vec F S1024x1024 .bf16) (x5 : Vec F S1024x1024 .bf16) (x6 : Vec F S1x1024 .f32) (x7 : Vec F S1024x256 .bf16) (x8 : Vec F S1x128 .f32)

/-- The body, on whole staging memrefs with the inputs at `x0 … x8`, the outputs at anything and the scratch as `S` says, runs to
    a continuation that holds the inputs as they were and each output and the scratch with the listed pieces written. -/
def RunTo (S : sProp 𝕄) (L9 : List (View.Piece (Elt F) S4096x128 .f32)) (L10 : List (View.Piece (Elt F) S256x128 .f32))
    (L11 LS : List (View.Piece (Elt F) S8x128 .f32)) : Prop :=
  ∀ (E : Set ℕ) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ S
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS)) -∗ K ⟨⟩))
      ⊢ wp frame (wpE (defs₀ (F := F)) Variants.none c none) E (cc0_merge_router i arg1 harg1 arg2 harg2 arg3 harg3 arg4 harg4 arg5 harg5 arg6 harg6 arg7 harg7 arg8 harg8 arg9 harg9 arg10 harg10 arg11 harg11 arg12 harg12 arg13 harg13) K

set_option maxHeartbeats 1000000 in
/-- The pieces the body's stores leave at the first point, whatever the scratch holds, with the proof that it runs so. -/
noncomputable def runA (hc : cond i) :
    Σ' (L9 : List (View.Piece (Elt F) S4096x128 .f32)), Σ' (L10 : List (View.Piece (Elt F) S256x128 .f32)), Σ' (L11 : List (View.Piece (Elt F) S8x128 .f32)), { LS : List (View.Piece (Elt F) S8x128 .f32) //
      RunTo c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 iprop(∃ d, owns (c : Thread nD τ) arg13 fullShare d) L9 L10 L11 LS } := by
  refine ⟨?_, ?_, ?_, ?_, fun E K => ?run⟩
  case run =>
    simp only [cc0_merge_router_eq_skeleton]; unfold cc0_merge_router_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    iexists _; iexact HS0

set_option maxHeartbeats 1000000 in
/-- The pieces the body's stores leave at a later point, the scratch at `xs`, with the proof that it runs so. -/
noncomputable def runB (hc : ¬cond i) (xs : Vec F S8x128 .f32) :
    Σ' (L9 : List (View.Piece (Elt F) S4096x128 .f32)), Σ' (L10 : List (View.Piece (Elt F) S256x128 .f32)), Σ' (L11 : List (View.Piece (Elt F) S8x128 .f32)), { LS : List (View.Piece (Elt F) S8x128 .f32) //
      RunTo c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (owns (c : Thread nD τ) arg13 fullShare xs) L9 L10 L11 LS } := by
  refine ⟨?_, ?_, ?_, ?_, fun E K => ?run⟩
  case run =>
    simp only [cc0_merge_router_eq_skeleton]; unfold cc0_merge_router_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg13.eq_unread hfs0
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    iexists _; iexact HS0

end Cert.Kernel3Ideal.Own

end
-- ==== Proof.MergeFrame.lean ====
module

public import proofs.«01_k».proof.Proof.MergeRun

@[expose] public section

set_option maxRecDepth 16384

noncomputable section

namespace Cert.Kernel3Ideal.Own

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole)
   (arg4 : Memref sig .tc .vmem S256x1024 .f32) (harg4 : arg4.IsWhole) (arg5 : Memref sig .tc .vmem S1024x1024 .bf16) (harg5 : arg5.IsWhole) (arg6 : Memref sig .tc .vmem S1024x1024 .bf16) (harg6 : arg6.IsWhole)
   (arg7 : Memref sig .tc .vmem S1x1024 .f32) (harg7 : arg7.IsWhole) (arg8 : Memref sig .tc .vmem S1024x256 .bf16) (harg8 : arg8.IsWhole) (arg9 : Memref sig .tc .vmem S1x128 .f32) (harg9 : arg9.IsWhole)
   (arg10 : Memref sig .tc .vmem S4096x128 .f32) (harg10 : arg10.IsWhole) (arg11 : Memref sig .tc .vmem S256x128 .f32) (harg11 : arg11.IsWhole) (arg12 : Memref sig .tc .vmem S8x128 .f32) (harg12 : arg12.IsWhole)
   (arg13 : Memref sig .tc .vmem S8x128 .f32) (harg13 : arg13.IsWhole)
  (x0 : Vec F S256x1024 .bf16) (x1 : Vec F S256x1024 .bf16) (x2 : Vec F S256x1024 .bf16) (x3 : Vec F S256x1024 .f32) (x4 : Vec F S1024x1024 .bf16) (x5 : Vec F S1024x1024 .bf16) (x6 : Vec F S1x1024 .f32) (x7 : Vec F S1024x256 .bf16) (x8 : Vec F S1x128 .f32)

/-- The pieces of window 9 cover its block. -/
theorem cover9_A (hc : cond i) (y : S4096x128.Idx) :
    ∃ p ∈ (runA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc).1, y ∈ p.1.set :=
  cover_rows _ (fun k => by
    have h : (runA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc).1.map (fun p => p.1) = [rowRect 15, rowRect 14, rowRect 13, rowRect 12, rowRect 11, rowRect 10, rowRect 9, rowRect 8, rowRect 7, rowRect 6, rowRect 5, rowRect 4, rowRect 3, rowRect 2, rowRect 1, rowRect 0] := rfl
    rw [h]
    fin_cases k <;> simp) y
theorem cover10_A (hc : cond i) (y : S256x128.Idx) :
    ∃ p ∈ (runA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc).2.1, y ∈ p.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc).2.1 S256x128.size (by sl_kernel_rfl) y
theorem cover11_A (hc : cond i) (y : S8x128.Idx) :
    ∃ p ∈ (runA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc).2.2.1, y ∈ p.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc).2.2.1 S8x128.size (by sl_kernel_rfl) y
theorem coverS_A (hc : cond i) (y : S8x128.Idx) :
    ∃ p ∈ (runA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc).2.2.2.1, y ∈ p.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc).2.2.2.1 S8x128.size (by sl_kernel_rfl) y
/-- The pieces of window 9 cover its block. -/
theorem cover9_B (hc : ¬cond i) (xs : Vec F S8x128 .f32) (y : S4096x128.Idx) :
    ∃ p ∈ (runB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc xs).1, y ∈ p.1.set :=
  cover_rows _ (fun k => by
    have h : (runB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc xs).1.map (fun p => p.1) = [rowRect 15, rowRect 14, rowRect 13, rowRect 12, rowRect 11, rowRect 10, rowRect 9, rowRect 8, rowRect 7, rowRect 6, rowRect 5, rowRect 4, rowRect 3, rowRect 2, rowRect 1, rowRect 0] := rfl
    rw [h]
    fin_cases k <;> simp) y
theorem cover10_B (hc : ¬cond i) (xs : Vec F S8x128 .f32) (y : S256x128.Idx) :
    ∃ p ∈ (runB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc xs).2.1, y ∈ p.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc xs).2.1 S256x128.size (by sl_kernel_rfl) y
theorem cover11_B (hc : ¬cond i) (xs : Vec F S8x128 .f32) (y : S8x128.Idx) :
    ∃ p ∈ (runB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc xs).2.2.1, y ∈ p.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc xs).2.2.1 S8x128.size (by sl_kernel_rfl) y
theorem coverS_B (hc : ¬cond i) (xs : Vec F S8x128 .f32) (y : S8x128.Idx) :
    ∃ p ∈ (runB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc xs).2.2.2.1, y ∈ p.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 hc xs).2.2.2.1 S8x128.size (by sl_kernel_rfl) y

end

variable (m : (ℓ : Loc nD τ sig) → Buf (Elt F) ℓ) (ρ : Dev nD → PrngReg)

/-- The run at the first point, on the pipeline's memrefs and blocks. -/
abbrev ptA (c : Dev nD) (t : Fin cfg0.N) (h : t.val = 0) :=
  runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) ((hcond t).mpr h)
/-- The run at a later point, the scratch at `xs`. -/
abbrev ptB (c : Dev nD) (t : Fin cfg0.N) (h : ¬t.val = 0) (xs : Vec F S8x128 .f32) :=
  runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) scM (Memref.isWhole_whole _) (iblk m c 0 t) (iblk m c 1 t) (iblk m c 2 t) (iblk m c 3 t) (iblk m c 4 t) (iblk m c 5 t) (iblk m c 6 t) (iblk m c 7 t) (iblk m c 8 t) (fun e => h ((hcond t).mp e)) xs

/-- What lists of pieces leave in the three outputs' buffers and the scratch. -/
def left (L9 : List (View.Piece (Elt F) S4096x128 .f32)) (L10 : List (View.Piece (Elt F) S256x128 .f32))
    (L11 LS : List (View.Piece (Elt F) S8x128 .f32)) : Vec F S4096x128 .f32 × Vec F S256x128 .f32 × Vec F S8x128 .f32 × Vec F S8x128 .f32 :=
  (VO9.read (Elt F) (VO9.writes (Elt F) VO9.junk L9), VO10.read (Elt F) (VO10.writes (Elt F) VO10.junk L10),
   VO11.read (Elt F) (VO11.writes (Elt F) VO11.junk L11), VSc.read (Elt F) (VSc.writes (Elt F) VSc.junk LS))

/-- What the outputs' buffers and the scratch hold after the body at position `n`. -/
def outsAt (c : Dev nD) : (n : ℕ) → n < cfg0.N → Vec F S4096x128 .f32 × Vec F S256x128 .f32 × Vec F S8x128 .f32 × Vec F S8x128 .f32
  | 0, hn => left (ptA m c ⟨0, hn⟩ rfl).1 (ptA m c ⟨0, hn⟩ rfl).2.1 (ptA m c ⟨0, hn⟩ rfl).2.2.1 (ptA m c ⟨0, hn⟩ rfl).2.2.2.1
  | n + 1, hn =>
    let r := ptB m c ⟨n + 1, hn⟩ (Nat.succ_ne_zero n) (outsAt c n (Nat.lt_of_succ_lt hn)).2.2.2
    left r.1 r.2.1 r.2.2.1 r.2.2.2.1

/-- At the first point. -/
theorem outsAt_A (c : Dev nD) (t : Fin cfg0.N) (h : t.val = 0) :
    outsAt m c t.val t.isLt = left (ptA m c t h).1 (ptA m c t h).2.1 (ptA m c t h).2.2.1 (ptA m c t h).2.2.2.1 := by
  obtain ⟨n, hn⟩ := t
  cases n with
  | zero => exact rfl
  | succ n => exact absurd h (Nat.succ_ne_zero n)

/-- The scratch before a later point: what the point before left. -/
def scrBefore (c : Dev nD) (t : Fin cfg0.N) : Vec F S8x128 .f32 :=
  (outsAt m c (t.val - 1) (Nat.lt_of_le_of_lt (Nat.sub_le _ _) t.isLt)).2.2.2

/-- At a later point, over what the point before left in the scratch. -/
theorem outsAt_B (c : Dev nD) (t : Fin cfg0.N) (h : ¬t.val = 0) :
    outsAt m c t.val t.isLt = left (ptB m c t h (scrBefore m c t)).1 (ptB m c t h (scrBefore m c t)).2.1
      (ptB m c t h (scrBefore m c t)).2.2.1 (ptB m c t h (scrBefore m c t)).2.2.2.1 := by
  obtain ⟨n, hn⟩ := t
  cases n with
  | zero => exact absurd rfl h
  | succ n => exact rfl

/-- The region's invariant before position `n`: before the first point what the launch hands over; afterwards the scratch at
    what the point before left, and the generator register. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2.2.2)) ∗ (∃ r, prngReg c r)) := by
  cases n with
  | zero => exact absurd rfl hz
  | succ n => rfl

/-- The pipeline's proof data on core `c`: the arrays as the region finds them; after the body each input's buffer at its block
    and the outputs' at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
    | ⟨10, _⟩ => (outsAt m c t.val t.isLt).2.1
    | ⟨11, _⟩ => (outsAt m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (outsAt m c t.val t.isLt).1 := by dsimp only [dats]
theorem after_10 (c : Dev nD) (t : Fin cfg0.N) : (dats m 0 c).after 10 t = (outsAt m c t.val t.isLt).2.1 := by dsimp only [dats]
theorem after_11 (c : Dev nD) (t : Fin cfg0.N) : (dats m 0 c).after 11 t = (outsAt m c t.val t.isLt).2.2.1 := by dsimp only [dats]

theorem before_0 (c : Dev nD) (t : Fin cfg0.N) (d) : (dats m 0 c).before 0 t d = iblk m c 0 t :=
  before_of_0 m (dats m 0 c) (A_eq m c 0) (after_0 m c) t d
theorem before_1 (c : Dev nD) (t : Fin cfg0.N) (d) : (dats m 0 c).before 1 t d = iblk m c 1 t :=
  before_of_1 m (dats m 0 c) (A_eq m c 1) (after_1 m c) t d
theorem before_2 (c : Dev nD) (t : Fin cfg0.N) (d) : (dats m 0 c).before 2 t d = iblk m c 2 t :=
  before_of_2 m (dats m 0 c) (A_eq m c 2) (after_2 m c) t d
theorem before_3 (c : Dev nD) (t : Fin cfg0.N) (d) : (dats m 0 c).before 3 t d = iblk m c 3 t :=
  before_of_3 m (dats m 0 c) (A_eq m c 3) (after_3 m c) t d
theorem before_4 (c : Dev nD) (t : Fin cfg0.N) (d) : (dats m 0 c).before 4 t d = iblk m c 4 t :=
  before_of_4 m (dats m 0 c) (A_eq m c 4) (after_4 m c) t d
theorem before_5 (c : Dev nD) (t : Fin cfg0.N) (d) : (dats m 0 c).before 5 t d = iblk m c 5 t :=
  before_of_5 m (dats m 0 c) (A_eq m c 5) (after_5 m c) t d
theorem before_6 (c : Dev nD) (t : Fin cfg0.N) (d) : (dats m 0 c).before 6 t d = iblk m c 6 t :=
  before_of_6 m (dats m 0 c) (A_eq m c 6) (after_6 m c) t d
theorem before_7 (c : Dev nD) (t : Fin cfg0.N) (d) : (dats m 0 c).before 7 t d = iblk m c 7 t :=
  before_of_7 m (dats m 0 c) (A_eq m c 7) (after_7 m c) t d
theorem before_8 (c : Dev nD) (t : Fin cfg0.N) (d) : (dats m 0 c).before 8 t d = iblk m c 8 t :=
  before_of_8 m (dats m 0 c) (A_eq m c 8) (after_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 9600000 in
/-- The body at any point: the inputs' memrefs hold their blocks, the scratch what the point before left, and the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8, after_9, after_10, after_11]
  rw [show (dats m 0 c).Φ t.succ = PhiS m c (t.val + 1) t.isLt from rfl, PhiS_succ]
  by_cases hz : t.val = 0
  · rw [PhiS_castSucc m c t, PhiS_zero m c _ _ hz, PhiA_eq]
    rw [outsAt_A m c t hz]
    unfold left; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((ptA m c t hz).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    iintro ⟨H0, H1, H2, H3, H4, H5, H6, H7, H8, ⟨%e9, H9⟩, ⟨%e10, H10⟩, ⟨%e11, H11⟩, ⟨%es0, HS0⟩⟩
    isplitl [HS0 Hg]
    · isplitl [HS0]
      · unfold owns; iexists _; isplitr
        swap; · iexact HS0
        ipureintro; exact View.read_writes_of_cover _ _ _ _ _ (coverS_A c _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover9_A c _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover10_A c _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover11_A c _ _ _ _ _ _ _ _ _ _ _ _ _ _ _ _ _ _ _ _ _ _ _ _ _ _ _ _ _ _ _ _ _ _ _ _ _)
  · rw [PhiS_castSucc m c t, PhiS_pos m c _ _ hz]
    rw [outsAt_B m c t hz]
    unfold left; (try dsimp only)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((ptB m c t hz (scrBefore m c t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    iintro ⟨H0, H1, H2, H3, H4, H5, H6, H7, H8, ⟨%e9, H9⟩, ⟨%e10, H10⟩, ⟨%e11, H11⟩, ⟨%es0, HS0⟩⟩
    isplitl [HS0 Hg]
    · isplitl [HS0]
      · unfold owns; iexists _; isplitr
        swap; · iexact HS0
        ipureintro; exact View.read_writes_of_cover _ _ _ _ _ (coverS_B c _ _ _ _ _ _ _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover9_B c _ _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover10_B c _ _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover11_B c _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The library's obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back; -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

/-- so after the last. -/
theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
set_option maxHeartbeats 800000 in
/-- Every weakly fair execution of the main function ends, with the staged arrays at what the proof data say, every other
    buffer as the last host lines leave it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- An argument buffer ends as launched. -/
theorem arg_end {r} (h : Pipeline.FramePost cfgs (dats m) 0 (Pipeline.afterTail₀ cfgs (dats m) 0 (V0 m) [hostOps1]) r)
    (c : Dev nD) (b : Ref sig .tc) (hb : b ∈ argRefs) (hr : b ∈ Pipeline.restRefs sig spec0) :
    r.2.mem ((c.tc : Thread nD τ).loc b) = m ((c.tc : Thread nD τ).loc b) :=
  ((h c).2 b hr).trans (W_arg m (dats m) c b hb)

/-- The frame: every execution ends, the arguments end unchanged, every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨arg_end m h.1 c main_arg0 (by decide) (Pipeline.mem_restRefs_of main_arg0 (by decide) (by decide)),
      arg_end m h.1 c main_arg1 (by decide) (Pipeline.mem_restRefs_of main_arg1 (by decide) (by decide)),
      arg_end m h.1 c main_arg2 (by decide) (Pipeline.mem_restRefs_of main_arg2 (by decide) (by decide)),
      arg_end m h.1 c main_arg3 (by decide) (Pipeline.mem_restRefs_of main_arg3 (by decide) (by decide)),
      arg_end m h.1 c main_arg4 (by decide) (Pipeline.mem_restRefs_of main_arg4 (by decide) (by decide)),
      arg_end m h.1 c main_arg5 (by decide) (Pipeline.mem_restRefs_of main_arg5 (by decide) (by decide)),
      arg_end m h.1 c main_arg6 (by decide) (Pipeline.mem_restRefs_of main_arg6 (by decide) (by decide)),
      arg_end m h.1 c main_arg7 (by decide) (Pipeline.mem_restRefs_of main_arg7 (by decide) (by decide)),
      arg_end m h.1 c main_arg8 (by decide) (Pipeline.mem_restRefs_of main_arg8 (by decide) (by decide)),
      arg_end m h.1 c main_arg9 (by decide) (Pipeline.mem_restRefs_of main_arg9 (by decide) (by decide)),
      arg_end m h.1 c main_arg10 (by decide) (Pipeline.mem_restRefs_of main_arg10 (by decide) (by decide))⟩, h.2⟩) (run_main_quiescent m ρ)

end Cert.Kernel3Ideal.Own

end
-- ==== Proof.Step.lean ====
/- One step of the online softmax on a chain of 512 query columns, and how a read of the carried
   buffers meets the list of writes made so far. -/
module

public import proofs.«01_k».proof.Proof.Gen.KernelIdeal.Value

@[expose] public section

set_option maxRecDepth 8192

noncomputable section

namespace Cert.Att

open Idealize.ShloMosaic Idealize.ShloMosaic.TcCoe
open Cert.KernelIdeal Cert.KernelIdeal.Gen

/-- A load through the rectangle of the last write reads what was written. -/
theorem hit {sig : RefSig} {κ : Kind} {sp : Space} {s : Shape} {e : EltTy} {Val : EltTy → Type}
    (v : View sig κ sp s e) (f : v.ty.Contents Val) (off size : Fin s.rank → Nat) (inb inb')
    (w : (Rect.unit (s := s) off size inb).shape.Idx → Val e) (L : List (View.Piece Val s e)) :
    v.readAt Val (Rect.unit off size inb').toLoadRect (v.writes Val f (⟨Rect.unit off size inb, w⟩ :: L)) = w := by
  funext j
  exact View.read_writes_cons_emb v f (Rect.unit off size inb) w L j

/-- A load through a rectangle apart from the last write reads the earlier contents. -/
theorem miss {sig : RefSig} {κ : Kind} {sp : Space} {s : Shape} {e : EltTy} {Val : EltTy → Type}
    (v : View sig κ sp s e) (f : v.ty.Contents Val) (off size off' size' : Fin s.rank → Nat) (inb inb')
    (w : (Rect.unit (s := s) off size inb).shape.Idx → Val e) (L : List (View.Piece Val s e)) (a : Fin s.rank)
    (h : off a + size a ≤ off' a ∨ off' a + size' a ≤ off a) :
    v.readAt Val (Rect.unit off' size' inb').toLoadRect (v.writes Val f (⟨Rect.unit off size inb, w⟩ :: L))
      = v.readAt Val (Rect.unit off' size' inb').toLoadRect (v.writes Val f L) := by
  funext j
  rw [View.readAt_apply, View.readAt_apply, View.writes_cons, View.read_slice_write_of_not_mem]
  rw [Rect.map_emb_univ]
  exact Finset.disjoint_right.mp (Rect.unit_disjoint (inb := inb) (inb' := inb') a h) ((Rect.unit off' size' inb').toLoadRect.idx_mem j)

variable {F : FTy → Type} [FloatOps F]

/-- A row of 512 running maxima. -/
abbrev MRow (F : FTy → Type) := FVec F S1x512 .f32
/-- The 144 accumulated rows of 512 columns. -/
abbrev ARows (F : FTy → Type) := FVec F S144x512 .f32

/-- The scores of a block of keys against a chain of queries. -/
def score (kb : Vec F S1x1x512x192 .bf16) (qb : Vec F S1x1x192x512 .bf16) : FVec F S512x512 .f32 := k0_pay4 kb qb

/-- The same with the entries of keys that come after the query replaced by −∞. -/
def dscore (kb : Vec F S1x1x512x192 .bf16) (qb : Vec F S1x1x192x512 .bf16) : FVec F S512x512 .f32 := k0_pay204 kb qb

/-- The maxima after a step. -/
def stepM (s : FVec F S512x512 .f32) (m : MRow F) : MRow F := k0_pay35 s m

/-- The accumulated rows after a step. -/
def stepA (s : FVec F S512x512 .f32) (m : MRow F) (a : ARows F) (vb : Vec F S1x1x1x144x512 .bf16) : ARows F :=
  k0_pay37 (k0_pay34 s m) (k0_pay36 s m a) vb

/-- Maxima and accumulated rows after a step. -/
def step (s : FVec F S512x512 .f32) (vb : Vec F S1x1x1x144x512 .bf16) (p : MRow F × ARows F) : MRow F × ARows F :=
  (stepM s p.1, stepA s p.1 p.2 vb)

theorem step_mk (s : FVec F S512x512 .f32) (vb : Vec F S1x1x1x144x512 .bf16) (m : MRow F) (a : ARows F) :
    step s vb (m, a) = (stepM s m, stepA s m a vb) := rfl

end Cert.Att
-- ==== Proof.Algebra.lean ====
/- The arithmetic of an online softmax on the extended reals: rescaling the accumulated sum when the
   maximum grows, and the final quotient. -/
module

public import Idealize.ShloMosaic.PureOps.Ideal
public import Mathlib.Algebra.BigOperators.Fin

@[expose] public section

noncomputable section

open scoped BigOperators

namespace Cert.Att

open Idealize.ShloMosaic

/-- The weight of a score `s` against a maximum `m`. -/
def E (s m : EReal) : EReal := Ideal.exp2 (s - m)

/-- A power of two below +∞ is a nonnegative real. -/
theorem exp2_real (x : EReal) (h : x < ⊤) : ∃ r : ℝ, 0 ≤ r ∧ Ideal.exp2 x = r := by
  induction x using EReal.rec with
  | bot => exact ⟨0, le_rfl, rfl⟩
  | coe x => exact ⟨Real.rpow 2 x, Real.rpow_nonneg (by norm_num) _, rfl⟩
  | top => exact absurd h (lt_irrefl _)

theorem E_bot (m : EReal) : E ⊥ m = 0 := by
  unfold E; rw [EReal.bot_sub]; rfl

theorem E_coe (s m : ℝ) : E s m = ((Real.rpow 2 (s - m) : ℝ) : EReal) := by
  unfold E; rw [← EReal.coe_sub]; rfl

/-- A weight is a nonnegative real when the score is below +∞ and at most the maximum. -/
theorem E_real (s m : EReal) (h : s ≤ m) (hm : m < ⊤) : ∃ r : ℝ, 0 ≤ r ∧ E s m = r := by
  induction m using EReal.rec with
  | bot => rw [le_bot_iff.mp h]; exact ⟨0, le_rfl, E_bot _⟩
  | top => exact absurd hm (lt_irrefl _)
  | coe m =>
    induction s using EReal.rec with
    | bot => exact ⟨0, le_rfl, E_bot _⟩
    | top => exact absurd h (not_le.mpr (EReal.coe_lt_top m))
    | coe s => exact ⟨_, Real.rpow_nonneg (by norm_num) _, E_coe s m⟩

/-- Weights against growing maxima compose. -/
theorem E_mul (s m m' : EReal) (hs : s ≤ m) (hm : m ≤ m') (ht : m' < ⊤) : E m m' * E s m = E s m' := by
  induction s using EReal.rec with
  | bot => rw [E_bot, E_bot, mul_zero]
  | top => exact absurd (lt_of_le_of_lt (le_trans hs hm) ht) (lt_irrefl _)
  | coe s =>
    induction m using EReal.rec with
    | bot => exact absurd (le_bot_iff.mp hs) (EReal.coe_ne_bot s)
    | top => exact absurd (lt_of_le_of_lt hm ht) (lt_irrefl _)
    | coe m =>
      induction m' using EReal.rec with
      | bot => exact absurd (le_bot_iff.mp hm) (EReal.coe_ne_bot m)
      | top => exact absurd ht (lt_irrefl _)
      | coe m' =>
        rw [E_coe, E_coe, E_coe, ← EReal.coe_mul]
        congr 1
        show (2 : ℝ) ^ (m - m') * (2 : ℝ) ^ (s - m) = (2 : ℝ) ^ (s - m')
        rw [← Real.rpow_add (by norm_num)]
        congr 1; ring

/-- A nonnegative real factor goes into a sum. -/
theorem coe_mul_sum {ι : Type*} (c : ℝ) (hc : 0 ≤ c) (s : Finset ι) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- A nonnegative real factor goes into a sum, from the right. -/
theorem sum_mul_coe {ι : Type*} (c : ℝ) (hc : 0 ≤ c) (s : Finset ι) (f : ι → EReal) :
    (∑ k ∈ s, f k) * (c : EReal) = ∑ k ∈ s, f k * (c : EReal) := by
  rw [mul_comm, coe_mul_sum c hc]
  exact Finset.sum_congr rfl fun k _ => mul_comm _ _

/-- The accumulated sum rescaled to a larger maximum, plus a block's new terms, is the sum over the
    longer range at that maximum. -/
theorem acc_step (S V : ℕ → EReal) (n b : ℕ) (m m' : EReal) (hS : ∀ k, k < n → S k ≤ m) (hm : m ≤ m') (ht : m' < ⊤) :
    E m m' * (∑ k ∈ Finset.range n, V k * E (S k) m) + (∑ r : Fin b, V (n + r.val) * E (S (n + r.val)) m')
      = ∑ k ∈ Finset.range (n + b), V k * E (S k) m' := by
  obtain ⟨c, hc, e⟩ := E_real m m' hm ht
  rw [Finset.sum_range_add, Finset.sum_range (fun x => V (n + x) * E (S (n + x)) m')]
  congr 1
  rw [e, coe_mul_sum c hc]
  refine Finset.sum_congr rfl fun k hk => ?_
  rw [← e, ← E_mul (S k) m m' (hS k (Finset.mem_range.mp hk)) hm ht, mul_left_comm]

/-- The coercion goes through a finite sum. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Dividing a weighted sum by the total weight is weighting by the shares of the total. -/
theorem ratio {ι : Type*} (s : Finset ι) (V : ι → EReal) (w : ι → ℝ) (hw : ∀ k, 0 ≤ w k) (c : ℝ) (hc : 0 < c)
    (hW : 0 < ∑ k ∈ s, w k) :
    Ideal.div (∑ k ∈ s, V k * ((c * w k : ℝ) : EReal)) (∑ k ∈ s, ((c * w k : ℝ) : EReal))
      = ∑ k ∈ s, V k * Ideal.div (w k : EReal) (∑ j ∈ s, (w j : EReal)) := by
  rw [← coe_sum, ← coe_sum, ← Finset.mul_sum]
  have h1 : c * ∑ k ∈ s, w k ≠ 0 := (mul_pos hc hW).ne'
  have hd : ∀ (x : EReal) (y : ℝ), y ≠ 0 → Ideal.div x y = x * ((y⁻¹ : ℝ) : EReal) := by
    intro x y hy
    rw [Ideal.div_coe hy, one_div]
  rw [hd _ _ h1, sum_mul_coe _ (inv_nonneg.mpr (mul_pos hc hW).le)]
  refine Finset.sum_congr rfl fun k _ => ?_
  rw [hd _ _ hW.ne', mul_assoc, ← EReal.coe_mul, ← EReal.coe_mul]
  congr 2
  field_simp

/-- The online sums' quotient is the softmax-weighted sum: scores in base 2 against any real `m`,
    logits in base e against any real `M`, keys from `N` on masked. -/
theorem soft (N T : ℕ) (X S V : ℕ → EReal)
    (hX : ∀ k, (X k = ⊥ ∧ S k = ⊥) ∨ ∃ x : ℝ, X k = x ∧ S k = ((x / Real.log 2 : ℝ) : EReal))
    (hN : ∀ k, N ≤ k → X k = ⊥) (hNT : N ≤ T) (m M : ℝ) (x0 : ℝ) (h0 : X 0 = x0) (hpos : 0 < N) :
    Ideal.div (∑ k ∈ Finset.range N, V k * E (S k) m) (∑ k ∈ Finset.range N, E (S k) m)
      = ∑ k ∈ Finset.range T, V k * Ideal.div (Ideal.exp (X k - M)) (∑ j ∈ Finset.range T, Ideal.exp (X j - M)) := by
  have hl : Real.log 2 ≠ 0 := (Real.log_pos (by norm_num)).ne'
  let w : ℕ → ℝ := fun k => if X k = ⊥ then 0 else Real.exp ((X k).toReal - M)
  have hw : ∀ k, 0 ≤ w k := fun k => by
    show 0 ≤ if X k = ⊥ then 0 else Real.exp ((X k).toReal - M)
    split
    · exact le_rfl
    · exact (Real.exp_pos _).le
  have hwX : ∀ k, Ideal.exp (X k - M) = (w k : EReal) := fun k => by
    rcases hX k with ⟨h, _⟩ | ⟨x, h, _⟩
    · have : w k = 0 := if_pos h
      rw [this, h, EReal.bot_sub]; rfl
    · have : w k = Real.exp (x - M) := by
        show (if X k = ⊥ then 0 else Real.exp ((X k).toReal - M)) = _
        rw [if_neg (by rw [h]; exact EReal.coe_ne_bot x), h, EReal.toReal_coe]
      rw [this, h, ← EReal.coe_sub]; rfl
  have hc : 0 < Real.exp (M - m * Real.log 2) := Real.exp_pos _
  have hwS : ∀ k, E (S k) m = ((Real.exp (M - m * Real.log 2) * w k : ℝ) : EReal) := fun k => by
    rcases hX k with ⟨h, h'⟩ | ⟨x, h, h'⟩
    · have : w k = 0 := if_pos h
      rw [this, h', E_bot, mul_zero]; rfl
    · have : w k = Real.exp (x - M) := by
        show (if X k = ⊥ then 0 else Real.exp ((X k).toReal - M)) = _
        rw [if_neg (by rw [h]; exact EReal.coe_ne_bot x), h, EReal.toReal_coe]
      rw [this, h', E_coe]
      congr 1
      show (2 : ℝ) ^ (x / Real.log 2 - m) = _
      rw [Real.rpow_def_of_pos (by norm_num), ← Real.exp_add]
      congr 1
      field_simp
      ring
  have hzero : ∀ k, N ≤ k → w k = 0 := fun k hk => if_pos (hN k hk)
  have ext : ∀ f : ℕ → EReal, (∀ k, N ≤ k → f k = 0) → ∑ k ∈ Finset.range N, f k = ∑ k ∈ Finset.range T, f k := fun f hf =>
    Finset.sum_subset (Finset.range_mono hNT) fun k _ hk => hf k (not_lt.mp fun h => hk (Finset.mem_range.mpr h))
  simp only [hwX, hwS]
  rw [ext _ fun k hk => by rw [hzero k hk, mul_zero, EReal.coe_zero, mul_zero],
    ext _ fun k hk => by rw [hzero k hk, mul_zero, EReal.coe_zero]]
  refine ratio _ V w hw _ hc ?_
  refine Finset.sum_pos' (fun k _ => hw k) ⟨0, Finset.mem_range.mpr (lt_of_lt_of_le hpos hNT), ?_⟩
  show 0 < if X 0 = ⊥ then 0 else Real.exp ((X 0).toReal - M)
  rw [if_neg (by rw [h0]; exact EReal.coe_ne_bot x0)]
  exact Real.exp_pos _

/-- The maximum of finitely many scores below +∞, one of them a real, is a real. -/
theorem sup_real {ι : Type*} (s : Finset ι) (S : ι → EReal) (hS : ∀ k, S k < ⊤) (k0 : ι) (hk : k0 ∈ s) (x : ℝ) (h0 : S k0 = x) :
    ∃ m : ℝ, s.sup S = m := by
  have h1 : s.sup S < ⊤ := (Finset.sup_lt_iff (bot_lt_top)).mpr fun k _ => hS k
  have h2 : (x : EReal) ≤ s.sup S := h0 ▸ Finset.le_sup hk
  exact ⟨(s.sup S).toReal, (EReal.coe_toReal h1.ne (ne_bot_of_le_ne_bot (EReal.coe_ne_bot x) h2)).symm⟩

end Cert.Att
-- ==== Proof.Mean.lean ====
/- What one step of a chain computes, element by element, on the extended reals. -/
module

public import Idealize.ShloMosaic.Lib.ValueIdx
public import Idealize.ShloMosaic.Lib.ValueLayout
public import Idealize.ShloMosaic.Lib.MatmulPlain
public import proofs.«01_k».proof.Proof.Step
public import proofs.«01_k».proof.Proof.Algebra

@[expose] public section

set_option maxRecDepth 8192
set_option maxHeartbeats 200000

noncomputable section

open scoped BigOperators

namespace Cert.Att

open Idealize.ShloMosaic Idealize.ShloMosaic.TcCoe Idealize.ShloMosaic.ValueIdx
open Cert.KernelIdeal Cert.KernelIdeal.Gen

/-- The word of minus infinity. -/
theorem bits_bot : (FloatOps.ofBits (F := Ideal) .f32 0xFF800000#32 : EReal) = ⊥ := by
  show Ideal.ofBits .f32 0xFF800000#32 = ⊥
  simp [Ideal.ofBits, Ideal.ieee]

/-- The word of zero. -/
theorem bits_zero : (FloatOps.ofBits (F := Ideal) .f32 0x00000000#32 : EReal) = 0 := by
  exact Ideal.ofBits_zero_f32

/-- A 4-axis block with two leading unit axes, read without them. -/
theorem cast4 {a b : ℕ} {α : Type} (x : (⟨4, ![1, 1, a, b]⟩ : Shape).Idx → α) (h) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp only [Nat.zero_mul, Nat.zero_add])

/-- A 5-axis block with three leading unit axes, read without them. -/
theorem cast5 {a b : ℕ} {α : Type} (x : (⟨5, ![1, 1, 1, a, b]⟩ : Shape).Idx → α) (h) (p : Fin a) (q : Fin b) :
    shapeCast ⟨2, ![a, b]⟩ x h (ix2 p q) = x (ix5 (0 : Fin 1) (0 : Fin 1) (0 : Fin 1) p q) :=
  shapeCast_apply x h _ _ (by
    rw [Shape.rowMajor_val_five, Shape.rowMajor_val_two]
    show (((0 * 1 + 0) * 1 + 0) * a + p.val) * b + q.val = p.val * b + q.val
    simp only [Nat.zero_mul, Nat.zero_add])

/-- A reshape to the same shape changes nothing. -/
theorem cast_self {s : Shape} {α : Type} (x : s.Idx → α) (h) : shapeCast s x h = x :=
  funext fun j => shapeCast_apply x h j j rfl

/-- A score is the product of a key row with a query column. -/
theorem score_apply (k : Vec Ideal S1x1x512x192 .bf16) (q : Vec Ideal S1x1x192x512 .bf16) (r x : Fin 512) :
    score (F := Ideal) k q (ix2 r x) = ∑ d : Fin 192, k (ix4 (0 : Fin 1) (0 : Fin 1) r d) * q (ix4 (0 : Fin 1) (0 : Fin 1) d x) := by
  show FloatOps.matmul (DotDims.plain 512 192 512) none (shapeCast (s := S1x1x512x192) (α := Ideal .bf16) ⟨2, ![512, 192]⟩ k shapeCasts_S1x1x512x192_S512x192) (shapeCast (s := S1x1x192x512) (α := Ideal .bf16) ⟨2, ![192, 512]⟩ q shapeCasts_S1x1x192x512_S192x512) (constant S512x512 .f32 0x00000000#32) (ix2 r x) = _
  rw [Ideal.matmul_plain_apply]
  have : (constant (F := Ideal) S512x512 .f32 0x00000000#32 : FVec Ideal S512x512 .f32) (ix2 r x) = 0 := bits_zero
  rw [this, zero_add]
  exact Finset.sum_congr rfl fun d _ => by rw [cast4, cast4]

/-- Comparing two small numbers as signed words. -/
theorem sle_small (a b : ℕ) (ha : a < 8192) (hb : b < 8192) :
    IntOp.cmpi .sle (BitVec.ofNat 32 a) (BitVec.ofNat 32 b) = if a ≤ b then 1#1 else 0#1 := by
  have e : ∀ n : ℕ, n < 8192 → (BitVec.ofNat 32 n).toInt = n := fun n hn => by
    rw [BitVec.toInt_eq_toNat_of_lt (by rw [BitVec.toNat_ofNat]; omega), BitVec.toNat_ofNat]; congr 1; omega
  show BitVec.ofBool (BitVec.sle _ _) = _
  rw [BitVec.sle, e a ha, e b hb]
  by_cases h : a ≤ b
  · rw [if_pos h, decide_eq_true (by exact_mod_cast h)]; rfl
  · rw [if_neg h, decide_eq_false (by exact_mod_cast h)]; rfl

/-- A masked score keeps the keys that come no later than the query. -/
theorem dscore_apply (k : Vec Ideal S1x1x512x192 .bf16) (q : Vec Ideal S1x1x192x512 .bf16) (r x : Fin 512) :
    dscore (F := Ideal) k q (ix2 r x) = if r.val ≤ x.val then score (F := Ideal) k q (ix2 r x) else ⊥ := by
  show Scalar.select (IntOp.cmpi .sle (IntOp.addi (BitVec.ofNat 32 (0 * 512 + r.val)) 0#32) (BitVec.ofNat 32 (0 * 512 + x.val))) (score (F := Ideal) k q (ix2 r x)) (FloatOps.ofBits (F := Ideal) .f32 0xFF800000#32) = _
  have : IntOp.addi (BitVec.ofNat 32 r.val) 0#32 = BitVec.ofNat 32 r.val := BitVec.add_zero _
  rw [Nat.zero_mul, Nat.zero_add, Nat.zero_add]
  rw [this, sle_small _ _ (lt_trans r.isLt (by norm_num)) (lt_trans x.isLt (by norm_num)), bits_bot]
  by_cases h : r.val ≤ x.val
  · rw [if_pos h, if_pos h]; rfl
  · rw [if_neg h, if_neg h]; rfl

/-- Taking the larger of a block's two halves keeps the bounds on its columns. -/
theorem half_le (h n : ℕ) (hn : n = h + h) (v : FVec Ideal ⟨2, ![n, 512]⟩ .f32) (s0 s1) (x : Fin 512) (b : EReal) :
    (∀ r : Fin h, maximumf (extractStridedSlice ⟨2, ![h, 512]⟩ ![0, 0] v s0) (extractStridedSlice ⟨2, ![h, 512]⟩ ![h, 0] v s1) (ix2 r x) ≤ b)
      ↔ ∀ r : Fin n, v (ix2 r x) ≤ b := by
  subst hn
  have e : ∀ r : Fin h, maximumf (extractStridedSlice ⟨2, ![h, 512]⟩ ![0, 0] v s0) (extractStridedSlice ⟨2, ![h, 512]⟩ ![h, 0] v s1) (ix2 r x)
      = max (v (ix2 (r.castAdd h) x)) (v (ix2 (r.natAdd h) x)) := fun r => by
    rw [maximumf_apply, slice2_axis0_apply 0 v s0 r x (r.castAdd h) (by simp), slice2_axis0_apply h v s1 r x (r.natAdd h) rfl]
  simp only [e, max_le_iff]
  constructor
  · intro H r
    refine Fin.addCases (fun i => (H i).1) (fun i => (H i).2) r
  · exact fun H r => ⟨H _, H _⟩

/-- The maximum over a block's rows is at most a bound just when each row is. -/
theorem red_le (v : FVec Ideal S8x512 .f32) (h : S8x512.Reduces [0] S512) (hφ) (hacc) (x : Fin 512) (b : EReal) :
    multiReduction .maximumf [0] S512 v 0xFF800000#32 h hφ hacc (ix1 x) ≤ b ↔ ∀ r : Fin 8, v (ix2 r x) ≤ b := by
  rw [Ideal.multiReduction_maximumf_single, Finset.fold_max_le]
  have e : ∀ r : Fin 8, h.lift (ix1 x) r = ix2 r x := fun r => by
    funext a; apply Fin.ext
    match a with
    | ⟨0, _⟩ => rfl
    | ⟨1, _⟩ => rfl
  constructor
  · intro H r
    exact e r ▸ H.2 r (Finset.mem_univ _)
  · intro H
    refine ⟨by rw [bits_bot]; exact bot_le, fun r _ => ?_⟩
    show v (h.lift (ix1 x) r) ≤ b
    rw [e r]; exact H r

/-- A new maximum is at most a bound just when the old one and the block's scores are. -/
theorem pay33_le (s : FVec Ideal S512x512 .f32) (m : Vec Ideal S1x512 .f32) (x : Fin 512) (b : EReal) :
    k0_pay33 (F := Ideal) s m (ix2 (0 : Fin 1) x) ≤ b ↔ m (ix2 (0 : Fin 1) x) ≤ b ∧ ∀ r : Fin 512, s (ix2 r x) ≤ b := by
  unfold k0_pay33
  refine Iff.trans (show max _ _ ≤ b ↔ _ from max_le_iff) (and_congr Iff.rfl ?_)
  rw [shapeCast_a_1a_apply]
  exact (red_le _ _ _ _ x b).trans ((half_le 8 16 rfl _ _ _ x b).trans ((half_le 16 32 rfl _ _ _ x b).trans
    ((half_le 32 64 rfl _ _ _ x b).trans ((half_le 64 128 rfl _ _ _ x b).trans ((half_le 128 256 rfl _ _ _ x b).trans
      (half_le 256 512 rfl s _ _ x b))))))

/-- The new maximum of a column. -/
theorem stepM_le (s : FVec Ideal S512x512 .f32) (m : MRow Ideal) (x : Fin 512) (b : EReal) :
    stepM s m (ix2 (0 : Fin 1) x) ≤ b ↔ m (ix2 (0 : Fin 1) x) ≤ b ∧ ∀ r : Fin 512, s (ix2 r x) ≤ b := by
  rw [← pay33_le]
  unfold stepM k0_pay35
  rw [cast_self]

/-- A column's new sums: the old ones rescaled to the new maximum, plus the block's weighted values. -/
theorem stepA_apply (s : FVec Ideal S512x512 .f32) (m : MRow Ideal) (a : ARows Ideal) (v : Vec Ideal S1x1x1x144x512 .bf16) (d : Fin 144) (x : Fin 512) :
    stepA s m a v (ix2 d x) = E (m (ix2 (0 : Fin 1) x)) (stepM s m (ix2 (0 : Fin 1) x)) * a (ix2 d x)
      + ∑ r : Fin 512, v (ix5 (0 : Fin 1) (0 : Fin 1) (0 : Fin 1) d r) * E (s (ix2 r x)) (stepM s m (ix2 (0 : Fin 1) x)) := by
  have hM : stepM s m = k0_pay33 s m := by unfold stepM k0_pay35; rw [cast_self]
  rw [hM]
  have hP : ∀ r : Fin 512, k0_pay34 s m (ix2 r x) = E (s (ix2 r x)) (k0_pay33 s m (ix2 (0 : Fin 1) x)) := fun r => by
    unfold k0_pay34 E
    generalize k0_pay33 s m = M
    show Ideal.exp2 (s (ix2 r x) - broadcastTo ⟨2, ![512, 512]⟩ M _ (ix2 r x)) = _
    rw [broadcastTo_1b_ab_apply]
  have hB : k0_pay36 s m a (ix2 d x) = E (m (ix2 (0 : Fin 1) x)) (k0_pay33 s m (ix2 (0 : Fin 1) x)) * a (ix2 d x) := by
    unfold k0_pay36 E
    generalize k0_pay33 s m = M
    show broadcastTo ⟨2, ![144, 512]⟩ (exp2 (subf m M)) _ (ix2 d x) * a (ix2 d x) = _
    rw [broadcastTo_1b_ab_apply]; rfl
  unfold stepA k0_pay37
  rw [cast_self]
  generalize hp : k0_pay34 s m = p at hP ⊢
  generalize hb : k0_pay36 s m a = b at hB ⊢
  show b (ix2 d x) + FloatOps.matmul (DotDims.plain 144 512 512) none (shapeCast (s := S1x1x1x144x512) (α := Ideal .bf16) ⟨2, ![144, 512]⟩ v shapeCasts_S1x1x1x144x512_S144x512) p (constant S144x512 .f32 0x00000000#32) (ix2 d x) = _
  rw [Ideal.matmul_plain_apply, hB]
  have : (constant (F := Ideal) S144x512 .f32 0x00000000#32 : FVec Ideal S144x512 .f32) (ix2 d x) = 0 := bits_zero
  rw [this, zero_add]
  congr 1
  exact Finset.sum_congr rfl fun r _ => by rw [cast5, hP]

/-- A column of a chain holds the maximum and the weighted sums of the first `n` keys. -/
def Inv (S : ℕ → EReal) (V : Fin 144 → ℕ → EReal) (x : Fin 512) (n : ℕ) (p : MRow Ideal × ARows Ideal) : Prop :=
  p.1 (ix2 (0 : Fin 1) x) = (Finset.range n).sup S ∧
    ∀ d : Fin 144, p.2 (ix2 d x) = ∑ k ∈ Finset.range n, V d k * E (S k) ((Finset.range n).sup S)

/-- A step over the next 512 keys keeps that. -/
theorem inv_step (S : ℕ → EReal) (V : Fin 144 → ℕ → EReal) (hS : ∀ k, S k < ⊤) (x : Fin 512) (n : ℕ)
    (s : FVec Ideal S512x512 .f32) (v : Vec Ideal S1x1x1x144x512 .bf16) (p : MRow Ideal × ARows Ideal)
    (hs : ∀ r : Fin 512, s (ix2 r x) = S (n + r.val))
    (hv : ∀ (d : Fin 144) (r : Fin 512), v (ix5 (0 : Fin 1) (0 : Fin 1) (0 : Fin 1) d r) = V d (n + r.val))
    (h : Inv S V x n p) : Inv S V x (n + 512) (step s v p) := by
  obtain ⟨h1, h2⟩ := h
  have hM : stepM s p.1 (ix2 (0 : Fin 1) x) = (Finset.range (n + 512)).sup S := by
    refine eq_of_forall_ge_iff fun b => ?_
    rw [stepM_le, h1, Finset.sup_le_iff, Finset.sup_le_iff]
    constructor
    · rintro ⟨ha, hb⟩ k hk
      by_cases hkn : k < n
      · exact ha k (Finset.mem_range.mpr hkn)
      · have hk' := Finset.mem_range.mp hk
        have := hb ⟨k - n, by omega⟩
        rw [hs] at this
        have e : n + (k - n) = k := by omega
        simpa only [e] using this
    · intro H
      refine ⟨fun k hk => H k (Finset.mem_range.mpr (by have := Finset.mem_range.mp hk; omega)), fun r => ?_⟩
      rw [hs]
      exact H _ (Finset.mem_range.mpr (by have := r.isLt; omega))
  refine ⟨hM, fun d => ?_⟩
  show stepA s p.1 p.2 v (ix2 d x) = _
  rw [stepA_apply, hM, h1, h2]
  have e : (∑ r : Fin 512, v (ix5 (0 : Fin 1) (0 : Fin 1) (0 : Fin 1) d r) * E (s (ix2 r x)) ((Finset.range (n + 512)).sup S))
      = ∑ r : Fin 512, V d (n + r.val) * E (S (n + r.val)) ((Finset.range (n + 512)).sup S) :=
    Finset.sum_congr rfl fun r _ => by rw [hv, hs]
  rw [e]
  exact acc_step S (V d) n 512 _ _ (fun k hk => Finset.le_sup (Finset.mem_range.mpr hk))
    (Finset.sup_mono (Finset.range_mono (Nat.le_add_right n 512)))
    ((Finset.sup_lt_iff bot_lt_top).mpr fun k _ => hS k)

end Cert.Att
-- ==== Proof.ProjBody.lean ====
/- The input projection's body: a row's root-mean-square norm, and its products with columns of the weights. -/
module

public import proofs.«01_k».proof.Proof.Mean
public import proofs.«01_k».proof.Proof.Gen.Kernel2Ideal.Frame
public import Idealize.ShloMosaic.Lib.ValueLayout
public import Idealize.ShloMosaic.Lib.ValueIdx
public import Idealize.ShloMosaic.Lib.Pipeline.ValueKit

@[expose] public section

set_option maxRecDepth 8192
set_option maxHeartbeats 200000

noncomputable section

open scoped BigOperators

namespace Cert.Proj

open Idealize.ShloMosaic Idealize.ShloMosaic.TcCoe
open Cert.Kernel2Ideal Cert.Kernel2Ideal.Gen

/-- A row's root-mean-square norm: its entry over the root of the mean square, with the small addend, times the gain. -/
def nrm (x g : Fin 1024 → EReal) (d : Fin 1024) : EReal :=
  x d * Ideal.rsqrt (Ideal.div (∑ k, x k * x k) (Ideal.ofBits .f32 0x44800000#32) + Ideal.ofBits .f32 0x358637BD#32) * g d

/-- The body's norm of a row of its block. -/
theorem norm_apply (x0 : Vec Ideal S256x1024 .f32) (x1 : Vec Ideal S1x1024 .f32) (p : Fin 256) (d : Fin 1024) :
    k0_pay5 (F := Ideal) x0 x1 (ValueIdx.ix2 p d) = nrm (fun k => x0 (ValueIdx.ix2 p k)) (fun k => x1 (ValueIdx.ix2 (0 : Fin 1) k)) d := by
  unfold k0_pay5
  rw [Att.cast_self, Att.cast_self]
  have hs : multiReduction (F := Ideal) .add [1] S256 (mulf x0 x0) 0x00000000#32 reduces_S256x1024_S256 (.inl rfl) rfl (ValueIdx.ix1 p)
      = ∑ k : Fin 1024, x0 (ValueIdx.ix2 p k) * x0 (ValueIdx.ix2 p k) := by
    refine (Ideal.multiReduction_add_single (mulf (F := Ideal) (φ := .f32) x0 x0) _ _ _ _ _).trans ?_
    refine Finset.sum_congr rfl fun k _ => ?_
    have e : reduces_S256x1024_S256.lift (ValueIdx.ix1 p) k = ValueIdx.ix2 p k := by
      funext a; apply Fin.ext
      match a with
      | ⟨0, _⟩ => rfl
      | ⟨1, _⟩ => rfl
    rw [e]; rfl
  have hc : shapeCast S256x1 (multiReduction (F := Ideal) .add [1] S256 (mulf x0 x0) 0x00000000#32 reduces_S256x1024_S256 (.inl rfl) rfl) shapeCasts_S256_S256x1 (ValueIdx.ix2 p (0 : Fin 1))
      = ∑ k : Fin 1024, x0 (ValueIdx.ix2 p k) * x0 (ValueIdx.ix2 p k) := by
    refine (shapeCast_apply _ _ _ (ValueIdx.ix1 p) ?_).trans hs
    rw [Shape.rowMajor_val_one, Shape.rowMajor_val_two]
    show p.val = p.val * 1 + 0
    omega
  have hb : ∀ v : Vec Ideal S256x1 .f32, broadcastTo S256x1024 v broadcasts_S256x1_S256x1024 (ValueIdx.ix2 p d) = v (ValueIdx.ix2 p (0 : Fin 1)) := fun v =>
    broadcastTo_apply v _ _ _ fun a => match a with
      | ⟨0, _⟩ => rfl
      | ⟨1, _⟩ => rfl
  have hg : broadcastTo S256x1024 x1 broadcasts_S1x1024_S256x1024 (ValueIdx.ix2 p d) = x1 (ValueIdx.ix2 (0 : Fin 1) d) :=
    ValueIdx.broadcastTo_1b_ab_apply x1 _ p d
  refine congrArg₂ (fun a b : EReal => a * b) (congrArg (fun z : EReal => x0 (ValueIdx.ix2 p d) * z) ((hb _).trans ?_)) hg
  exact congrArg (fun z : EReal => Ideal.rsqrt (Ideal.div z (Ideal.ofBits .f32 0x44800000#32) + Ideal.ofBits .f32 0x358637BD#32)) hc

/-- A product of the rows with columns of the weights. -/
theorem prod_apply {N : ℕ} (u : FVec Ideal S256x1024 .bf16) (w : FVec Ideal ⟨2, ![1024, N]⟩ .bf16) (p : Fin 256) (q : Fin N) :
    FloatOps.matmul (F := Ideal) (DotDims.plain 256 1024 N) none u w (constant ⟨2, ![256, N]⟩ .f32 0x00000000#32) (ValueIdx.ix2 p q)
      = ∑ d : Fin 1024, u (ValueIdx.ix2 p d) * w (ValueIdx.ix2 d q) := by
  rw [Ideal.matmul_plain_apply]
  have : (constant (F := Ideal) ⟨2, ![256, N]⟩ .f32 0x00000000#32 : FVec Ideal ⟨2, ![256, N]⟩ .f32) (ValueIdx.ix2 p q) = 0 := Att.bits_zero
  rw [this, zero_add]

/-- Columns of the weights from `o` on. -/
theorem cols_apply {N : ℕ} (x2 : Vec Ideal S1024x4736 .bf16) (o : ℕ) (inb) (d : Fin 1024) (q : Fin N) (h : o + q.val < 4736) :
    View.ld (Val := Elt Ideal) (e' := .bf16) x2 (Rect.unit (s := S1024x4736) ![0, o] ![1024, N] inb) (ValueIdx.ix2 d q) = x2 (ValueIdx.ix2 d (⟨o + q.val, h⟩ : Fin 4736)) :=
  View.ld_unit_apply_of x2 ![0, o] ![1024, N] inb (ValueIdx.ix2 d q) (ValueIdx.ix2 d (⟨o + q.val, h⟩ : Fin 4736)) fun a => match a with
    | ⟨0, _⟩ => (Nat.zero_add _).symm
    | ⟨1, _⟩ => rfl

theorem ld0 (x0 : Vec Ideal S256x1024 .f32) : View.ld (Val := Elt Ideal) (e' := .f32) x0 r0_0 = x0 :=
  View.ld_unit_lit inb_S256x1024_S256x1024_0_0 x0 (by decide)
theorem ld1 (x1 : Vec Ideal S1x1024 .f32) : View.ld (Val := Elt Ideal) (e' := .f32) x1 r0_1 = x1 :=
  View.ld_unit_lit inb_S1x1024_S1x1024_0_0 x1 (by decide)

variable (x0 : Vec Ideal S256x1024 .f32) (x1 : Vec Ideal S1x1024 .f32) (x2 : Vec Ideal S1024x4736 .bf16)

/-- A row's norm times a column of the weights, as the body computes it from its blocks. -/
def dotAt (p : Fin 256) (n : Fin 4736) : EReal :=
  ∑ d : Fin 1024, nrm (fun k => x0 (ValueIdx.ix2 p k)) (fun k => x1 (ValueIdx.ix2 (0 : Fin 1) k)) d * x2 (ValueIdx.ix2 d n)

/-- Every product of the body is such. -/
theorem pay_apply {N : ℕ} (o : ℕ) (inb) (w : FVec Ideal ⟨2, ![1024, N]⟩ .bf16)
    (hw : w = View.ld (Val := Elt Ideal) (e' := .bf16) x2 (Rect.unit (s := S1024x4736) ![0, o] ![1024, N] inb)) (p : Fin 256) (q : Fin N) (h : o + q.val < 4736) :
    FloatOps.matmul (F := Ideal) (DotDims.plain 256 1024 N) none (k0_pay5 (View.ld x0 r0_0) (View.ld x1 r0_1))
      w (constant ⟨2, ![256, N]⟩ .f32 0x00000000#32) (ValueIdx.ix2 p q)
      = dotAt x0 x1 x2 p ⟨o + q.val, h⟩ := by
  rw [prod_apply, ld0, ld1]
  refine Finset.sum_congr rfl fun d _ => ?_
  rw [norm_apply, hw, cols_apply x2 o inb d q h]

theorem out3 (p : Fin 256) (q : Fin 1024) :
    out0_3 x0 x1 x2 (ValueIdx.ix2 p q) = dotAt x0 x1 x2 p (⟨0 + q.val, by have := q.isLt; omega⟩ : Fin 4736) := by
  unfold out0_3
  refine (congrFun (View.canon_cons_unit_lit inb_S256x1024_S256x1024_0_0 _ [] (by decide)) _).trans ?_
  exact pay_apply x0 x1 x2 0 _ _ (Att.cast_self _ _) p q _
theorem out4 (p : Fin 256) (q : Fin 1024) :
    out0_4 x0 x1 x2 (ValueIdx.ix2 p q) = dotAt x0 x1 x2 p (⟨1024 + q.val, by have := q.isLt; omega⟩ : Fin 4736) := by
  unfold out0_4
  refine (congrFun (View.canon_cons_unit_lit inb_S256x1024_S256x1024_0_0 _ [] (by decide)) _).trans ?_
  exact pay_apply x0 x1 x2 1024 _ _ (Att.cast_self _ _) p q _
theorem out5 (p : Fin 256) (q : Fin 256) :
    out0_5 x0 x1 x2 (ValueIdx.ix2 p q) = dotAt x0 x1 x2 p (⟨2048 + q.val, by have := q.isLt; omega⟩ : Fin 4736) := by
  unfold out0_5
  refine (congrFun (View.canon_cons_unit_lit inb_S256x256_S256x256_0_0 _ [] (by decide)) _).trans ?_
  exact pay_apply x0 x1 x2 2048 _ _ (Att.cast_self _ _) p q _
theorem out6 (p : Fin 256) (q : Fin 256) :
    out0_6 x0 x1 x2 (ValueIdx.ix2 p q) = dotAt x0 x1 x2 p (⟨2304 + q.val, by have := q.isLt; omega⟩ : Fin 4736) := by
  unfold out0_6
  refine (congrFun (View.canon_cons_unit_lit inb_S256x256_S256x256_0_0 _ [] (by decide)) _).trans ?_
  exact pay_apply x0 x1 x2 2304 _ _ (Att.cast_self _ _) p q _
theorem out7 (p : Fin 256) (q : Fin 1024) :
    out0_7 x0 x1 x2 (ValueIdx.ix2 p q) = dotAt x0 x1 x2 p (⟨2560 + q.val, by have := q.isLt; omega⟩ : Fin 4736) := by
  unfold out0_7
  refine (congrFun (View.canon_cons_unit_lit inb_S256x1024_S256x1024_0_0 _ [] (by decide)) _).trans ?_
  exact pay_apply x0 x1 x2 2560 _ _ (Att.cast_self _ _) p q _
theorem out8 (p : Fin 256) (q : Fin 1024) :
    out0_8 x0 x1 x2 (ValueIdx.ix2 p q) = dotAt x0 x1 x2 p (⟨3584 + q.val, by have := q.isLt; omega⟩ : Fin 4736) := by
  unfold out0_8
  refine (congrFun (View.canon_cons_unit_lit inb_S256x1024_S256x1024_0_0 _ [] (by decide)) _).trans ?_
  exact pay_apply x0 x1 x2 3584 _ _ (Att.cast_self _ _) p q _
theorem out9 (p : Fin 256) (q : Fin 128) :
    out0_9 x0 x1 x2 (ValueIdx.ix2 p q) = dotAt x0 x1 x2 p (⟨4608 + q.val, by have := q.isLt; omega⟩ : Fin 4736) := by
  unfold out0_9
  refine (congrFun (View.canon_cons_unit_lit inb_S256x128_S256x128_0_0 _ [] (by decide)) _).trans ?_
  exact pay_apply x0 x1 x2 4608 _ _ (Att.cast_self _ _) p q _

end Cert.Proj

end
-- ==== Proof.MergeBody.lean ====
/- The residual the merge's body computes from its blocks, and where its strided stores leave it. -/
module

public import proofs.«01_k».proof.Proof.MergeFrame
public import proofs.«01_k».proof.Proof.ProjBody
public import Idealize.ShloMosaic.Lib.WholeRead
public import Mathlib.Analysis.SpecialFunctions.Trigonometric.DerivHyp

@[expose] public section

set_option maxRecDepth 16384
set_option maxHeartbeats 200000

noncomputable section

open scoped BigOperators

namespace Cert.Merge

open Idealize.ShloMosaic Idealize.ShloMosaic.TcCoe Idealize.SL.Sem
open Cert.Kernel3Ideal Cert.Kernel3Ideal.Gen Cert.Kernel3Ideal.Own

theorem bits_half : Ideal.ofBits .f32 0x3F000000#32 = ((1 / 2 : ℝ) : EReal) := by
  simp [Ideal.ofBits, Ideal.ieee]
  rw [← EReal.coe_mul]
  norm_num

/-- The body's gate: half the hyperbolic tangent of half its argument, and a half. -/
def gate (z : EReal) : EReal :=
  Ideal.ofBits .f32 0x3F000000#32 * Ideal.tanh (Ideal.ofBits .f32 0x3F000000#32 * z) + Ideal.ofBits .f32 0x3F000000#32

/-- The sigmoid of a real number by the hyperbolic tangent. -/
theorem sigmoid_real (r : ℝ) : 1 / 2 * Real.tanh (1 / 2 * r) + 1 / 2 = 1 / (1 + Real.exp (-r)) := by
  have e : Real.exp (-r) = Real.exp (-(1 / 2 * r)) * Real.exp (-(1 / 2 * r)) := by
    rw [← Real.exp_add]; congr 1; ring
  have h1 := Real.exp_pos (1 / 2 * r)
  have h2 := Real.exp_pos (-(1 / 2 * r))
  have h3 : Real.exp (1 / 2 * r) * Real.exp (-(1 / 2 * r)) = 1 := by rw [← Real.exp_add]; simp
  rw [Real.tanh_eq_sinh_div_cosh, Real.sinh_eq, Real.cosh_eq, e]
  generalize Real.exp (1 / 2 * r) = a at *
  generalize Real.exp (-(1 / 2 * r)) = b at *
  have ha : a = 1 / b := by field_simp; linarith
  subst ha
  field_simp
  ring

/-- The body's gate is the sigmoid, at the infinities too. -/
theorem gate_eq (z : EReal) : gate z = Ideal.div 1 (1 + Ideal.exp (-z)) := by
  unfold gate
  rw [bits_half]
  match z with
  | ⊥ =>
    rw [EReal.coe_mul_bot_of_pos (by norm_num)]
    show ((1 / 2 : ℝ) : EReal) * ((-1 : ℝ) : EReal) + _ = Ideal.div 1 (1 + ⊤)
    rw [← EReal.coe_mul, ← EReal.coe_add, EReal.add_top_of_ne_bot (by decide)]
    simp [Ideal.div]
  | ⊤ =>
    rw [EReal.coe_mul_top_of_pos (by norm_num)]
    show ((1 / 2 : ℝ) : EReal) * ((1 : ℝ) : EReal) + _ = Ideal.div 1 (1 + 0)
    rw [← EReal.coe_mul, ← EReal.coe_add, add_zero]
    refine Eq.trans ?_ (Ideal.div_coe (y := 1) one_ne_zero 1).symm
    rw [one_mul]
    norm_num
  | (r : ℝ) =>
    rw [← EReal.coe_mul]
    show _ * ((Real.tanh (1 / 2 * r) : ℝ) : EReal) + _ = Ideal.div 1 (((1 : ℝ) : EReal) + ((Real.exp (-r) : ℝ) : EReal))
    rw [← EReal.coe_mul, ← EReal.coe_add, sigmoid_real, ← EReal.coe_add]
    rw [Ideal.div_coe (by have := Real.exp_pos (-r); positivity), one_mul]

/-- The residual after mixing, from the blocks of the attention's output `o`, the gated branch `ga`, the other branch's gate `gb`, the
    tokens `x` and the two projections. -/
def hid (o : Vec Ideal S256x1024 .bf16) (ga gb : Vec Ideal S256x1024 .bf16) (x : Vec Ideal S256x1024 .f32)
    (wm wo : Vec Ideal S1024x1024 .bf16) (p : Fin 256) (q : Fin 1024) : EReal :=
  x (ValueIdx.ix2 p q) + ∑ d : Fin 1024, (ga (ValueIdx.ix2 p d)
    + gate (gb (ValueIdx.ix2 p d)) * ∑ k : Fin 1024, o (ValueIdx.ix2 p k) * wm (ValueIdx.ix2 k d)) * wo (ValueIdx.ix2 d q)

/-- The body computes it. -/
theorem pay_apply (o ga gb : Vec Ideal S256x1024 .bf16) (x : Vec Ideal S256x1024 .f32) (wm wo : Vec Ideal S1024x1024 .bf16)
    (p : Fin 256) (q : Fin 1024) :
    k0_pay7 (F := Ideal) o wm ga gb x wo (ValueIdx.ix2 p q) = hid o ga gb x wm wo p q := by
  unfold k0_pay7
  rw [Att.cast_self, Att.cast_self, Att.cast_self, Att.cast_self, Att.cast_self, Att.cast_self]
  refine congrArg (fun z : EReal => x (ValueIdx.ix2 p q) + z) ?_
  refine (Proj.prod_apply _ _ p q).trans ?_
  refine Finset.sum_congr rfl fun d _ => congrArg (fun z : EReal => z * wo (ValueIdx.ix2 d q)) ?_
  refine congrArg (fun z : EReal => ga (ValueIdx.ix2 p d) + gate (gb (ValueIdx.ix2 p d)) * z) ?_
  exact Proj.prod_apply _ _ p d

/-- The rows of the sixteen strided stores, the last store first. -/
def rows : List (Rect S4096x128) := [rowRect 15, rowRect 14, rowRect 13, rowRect 12, rowRect 11, rowRect 10, rowRect 9, rowRect 8,
  rowRect 7, rowRect 6, rowRect 5, rowRect 4, rowRect 3, rowRect 2, rowRect 1, rowRect 0]

/-- Reading back what a list of pieces on those rows left: row `16 p + k` holds row `p` of the piece on row `k`. -/
theorem read_row (f) (k : Fin 16) (w : S256x128.Idx → Elt Ideal .f32) :
    ∀ L : List (View.Piece (Elt Ideal) S4096x128 .f32), (∃ A B, L = A ++ ⟨rowRect k, w⟩ :: B ∧ ∀ q ∈ A, ∃ j : Fin 16, j ≠ k ∧ q.1 = rowRect j) →
      ∀ (p : Fin 256) (l : Fin 128), VO9.read (Elt Ideal) (VO9.writes (Elt Ideal) f L)
        (ValueIdx.ix2 (⟨16 * p.val + k.val, by have := p.isLt; have := k.isLt; omega⟩ : Fin 4096) l) = w (ValueIdx.ix2 p l) := by
  rintro L ⟨A, B, rfl, hA⟩ p l
  induction A with
  | nil =>
    refine View.read_writes_cons_hit_of_coords VO9 f (rowRect k) w B (ValueIdx.ix2 p l) _ fun a => ?_
    fin_cases a
    · show 16 * p.val + k.val = k.val + 16 * p.val
      omega
    · show l.val = 0 + 1 * l.val
      omega
  | cons q A ih =>
    obtain ⟨j, hj, hq⟩ := hA q List.mem_cons_self
    refine (View.read_writes_cons_miss VO9 f q _ _ fun h => ?_).trans (ih fun r hr => hA r (List.mem_cons_of_mem _ hr))
    rw [hq, mem_rowRect] at h
    have h' : (16 * p.val + k.val) % 16 = j.val := h
    have := k.isLt
    exact hj (Fin.ext (by omega))

/-- The same from the list's rows and its tail. -/
theorem read_rows (f) (k : Fin 16) (w : S256x128.Idx → Elt Ideal .f32) (L : List (View.Piece (Elt Ideal) S4096x128 .f32))
    (hL : L.map (·.1) = rows) (n : ℕ) (B) (hn : n + k.val = 15) (hw : L.drop n = ⟨rowRect k, w⟩ :: B) (p : Fin 256) (l : Fin 128) :
    VO9.read (Elt Ideal) (VO9.writes (Elt Ideal) f L)
        (ValueIdx.ix2 (⟨16 * p.val + k.val, by have := p.isLt; have := k.isLt; omega⟩ : Fin 4096) l) = w (ValueIdx.ix2 p l) := by
  refine read_row f k w L ⟨L.take n, B, ?_, fun q hq => ?_⟩ p l
  · rw [← hw, List.take_append_drop]
  · have h : q.1 ∈ rows.take n := by
      rw [← hL, ← List.map_take]
      exact List.mem_map_of_mem hq
    have := k.isLt
    obtain rfl : n = 15 - k.val := by omega
    have hr : rows = ([15, 14, 13, 12, 11, 10, 9, 8, 7, 6, 5, 4, 3, 2, 1, 0] : List (Fin 16)).map rowRect := rfl
    rw [hr, ← List.map_take] at h
    obtain ⟨j, hj, e⟩ := List.mem_map.1 h
    exact ⟨j, (by decide : ∀ k : Fin 16, ∀ j ∈ ([15, 14, 13, 12, 11, 10, 9, 8, 7, 6, 5, 4, 3, 2, 1, 0] : List (Fin 16)).take (15 - k.val), j ≠ k) k j hj, e.symm⟩

/-- A load of a whole block reads the block. -/
theorem load_row {e : EltTy} {M : Memref sig .tc .vmem S256x1024 e} (h : M.IsWhole) (X : S256x1024.Idx → Elt Ideal e) :
    View.readAt (Elt Ideal) M.view (Rect.unit (s := S256x1024) ![0, 0] S256x1024.size inb_S256x1024_S256x1024_0_0).toLoadRect (h.unread X) = X :=
  (funext fun y => h.readAt_unread X _ y).trans (View.ld_unit_lit inb_S256x1024_S256x1024_0_0 X (by decide))
theorem load_mat {e : EltTy} {M : Memref sig .tc .vmem S1024x1024 e} (h : M.IsWhole) (X : S1024x1024.Idx → Elt Ideal e) :
    View.readAt (Elt Ideal) M.view (Rect.unit (s := S1024x1024) ![0, 0] S1024x1024.size inb_S1024x1024_S1024x1024_0_0).toLoadRect (h.unread X) = X :=
  (funext fun y => h.readAt_unread X _ y).trans (View.ld_unit_lit inb_S1024x1024_S1024x1024_0_0 X (by decide))

variable (m : (ℓ : Loc nD τ sig) → Buf (Elt Ideal) ℓ) (c : Dev nD)

/-- The residual's block at a point. -/
abbrev blk (t : Fin cfg0.N) : FVec Ideal S256x1024 .f32 :=
  k0_pay7 (iblk m c 0 t) (iblk m c 4 t) (iblk m c 1 t) (iblk m c 2 t) (iblk m c 3 t) (iblk m c 5 t)

/-- The residual's block as the first point computes it. -/
theorem blkA (t : Fin cfg0.N) : runA.sl.r c (ms0 t) (hs0 t) (ms1 t) (hs1 t) (ms2 t) (hs2 t) (ms3 t) (hs3 t) (ms4 t) (hs4 t) (ms5 t) (hs5 t)
    (iblk m c 0 t) (iblk m c 1 t) (iblk m c 2 t) (iblk m c 3 t) (iblk m c 4 t) (iblk m c 5 t) = blk m c t := by
  unfold runA.sl.r
  rw [load_row, load_mat, load_row, load_row, load_row, load_mat]

/-- The residual's block as the later points computes it. -/
theorem blkB (t : Fin cfg0.N) : runB.sl.r c (ms0 t) (hs0 t) (ms1 t) (hs1 t) (ms2 t) (hs2 t) (ms3 t) (hs3 t) (ms4 t) (hs4 t) (ms5 t) (hs5 t)
    (iblk m c 0 t) (iblk m c 1 t) (iblk m c 2 t) (iblk m c 3 t) (iblk m c 4 t) (iblk m c 5 t) = blk m c t := by
  unfold runB.sl.r
  rw [load_row, load_mat, load_row, load_row, load_row, load_mat]

/-- Column group `k` of a block. -/
theorem cols_apply (v : FVec Ideal S256x1024 .f32) (o : ℕ) (h) (p : Fin 256) (l : Fin 128) (ho : o + l.val < 1024) :
    extractStridedSlice S256x128 ![0, o] v h (ValueIdx.ix2 p l) = v (ValueIdx.ix2 p (⟨o + l.val, ho⟩ : Fin 1024)) :=
  extractStridedSlice_apply ![0, o] v h (ValueIdx.ix2 p l) (ValueIdx.ix2 p (⟨o + l.val, ho⟩ : Fin 1024)) fun a => match a with
    | ⟨0, _⟩ => (Nat.zero_add _).symm
    | ⟨1, _⟩ => rfl
theorem group0 (v : FVec Ideal S256x1024 .f32) (p : Fin 256) (l : Fin 128) :
    k0_pay28 v (ValueIdx.ix2 p l) = v (ValueIdx.ix2 p (⟨128 * 0 + l.val, by have := l.isLt; omega⟩ : Fin 1024)) :=
  cols_apply v 0 slices_S256x1024_o0_0_S256x128 p l _
theorem group1 (v : FVec Ideal S256x1024 .f32) (p : Fin 256) (l : Fin 128) :
    k0_pay29 v (ValueIdx.ix2 p l) = v (ValueIdx.ix2 p (⟨128 * 1 + l.val, by have := l.isLt; omega⟩ : Fin 1024)) :=
  cols_apply v 128 slices_S256x1024_o0_128_S256x128 p l _
theorem group2 (v : FVec Ideal S256x1024 .f32) (p : Fin 256) (l : Fin 128) :
    k0_pay30 v (ValueIdx.ix2 p l) = v (ValueIdx.ix2 p (⟨128 * 2 + l.val, by have := l.isLt; omega⟩ : Fin 1024)) :=
  cols_apply v 256 slices_S256x1024_o0_256_S256x128 p l _
theorem group3 (v : FVec Ideal S256x1024 .f32) (p : Fin 256) (l : Fin 128) :
    k0_pay31 v (ValueIdx.ix2 p l) = v (ValueIdx.ix2 p (⟨128 * 3 + l.val, by have := l.isLt; omega⟩ : Fin 1024)) :=
  cols_apply v 384 slices_S256x1024_o0_384_S256x128 p l _
theorem group4 (v : FVec Ideal S256x1024 .f32) (p : Fin 256) (l : Fin 128) :
    k0_pay32 v (ValueIdx.ix2 p l) = v (ValueIdx.ix2 p (⟨128 * 4 + l.val, by have := l.isLt; omega⟩ : Fin 1024)) :=
  cols_apply v 512 slices_S256x1024_o0_512_S256x128 p l _
theorem group5 (v : FVec Ideal S256x1024 .f32) (p : Fin 256) (l : Fin 128) :
    k0_pay33 v (ValueIdx.ix2 p l) = v (ValueIdx.ix2 p (⟨128 * 5 + l.val, by have := l.isLt; omega⟩ : Fin 1024)) :=
  cols_apply v 640 slices_S256x1024_o0_640_S256x128 p l _
theorem group6 (v : FVec Ideal S256x1024 .f32) (p : Fin 256) (l : Fin 128) :
    k0_pay34 v (ValueIdx.ix2 p l) = v (ValueIdx.ix2 p (⟨128 * 6 + l.val, by have := l.isLt; omega⟩ : Fin 1024)) :=
  cols_apply v 768 slices_S256x1024_o0_768_S256x128 p l _
theorem group7 (v : FVec Ideal S256x1024 .f32) (p : Fin 256) (l : Fin 128) :
    k0_pay35 v (ValueIdx.ix2 p l) = v (ValueIdx.ix2 p (⟨128 * 7 + l.val, by have := l.isLt; omega⟩ : Fin 1024)) :=
  cols_apply v 896 slices_S256x1024_o0_896_S256x128 p l _

theorem rowsA (t : Fin cfg0.N) (h : t.val = 0) : (ptA m c t h).1.map (·.1) = rows := rfl

/-- What the first point leaves in row `16 p + k` of its block, for `k` below 8: columns `128 k` on of row `p` of the residual. -/
theorem slabA (t : Fin cfg0.N) (h : t.val = 0) (f) (k : Fin 8) (p : Fin 256) (l : Fin 128) :
    VO9.read (Elt Ideal) (VO9.writes (Elt Ideal) f (ptA m c t h).1)
        (ValueIdx.ix2 (⟨16 * p.val + k.val, by have := p.isLt; have := k.isLt; omega⟩ : Fin 4096) l)
      = blk m c t (ValueIdx.ix2 p (⟨128 * k.val + l.val, by have := l.isLt; have := k.isLt; omega⟩ : Fin 1024)) := by
  have hl := l.isLt
  rw [← blkA]
  fin_cases k
  · exact (read_rows f 0 _ _ (rowsA m c t h) 15 _ rfl rfl p l).trans (group0 _ p l)
  · exact (read_rows f 1 _ _ (rowsA m c t h) 14 _ rfl rfl p l).trans (group1 _ p l)
  · exact (read_rows f 2 _ _ (rowsA m c t h) 13 _ rfl rfl p l).trans (group2 _ p l)
  · exact (read_rows f 3 _ _ (rowsA m c t h) 12 _ rfl rfl p l).trans (group3 _ p l)
  · exact (read_rows f 4 _ _ (rowsA m c t h) 11 _ rfl rfl p l).trans (group4 _ p l)
  · exact (read_rows f 5 _ _ (rowsA m c t h) 10 _ rfl rfl p l).trans (group5 _ p l)
  · exact (read_rows f 6 _ _ (rowsA m c t h) 9 _ rfl rfl p l).trans (group6 _ p l)
  · exact (read_rows f 7 _ _ (rowsA m c t h) 8 _ rfl rfl p l).trans (group7 _ p l)

theorem rowsB (t : Fin cfg0.N) (h : ¬t.val = 0) (xs : Vec Ideal S8x128 .f32) : (ptB m c t h xs).1.map (·.1) = rows := rfl

/-- What the later points leaves in row `16 p + k` of its block, for `k` below 8: columns `128 k` on of row `p` of the residual. -/
theorem slabB (t : Fin cfg0.N) (h : ¬t.val = 0) (xs : Vec Ideal S8x128 .f32) (f) (k : Fin 8) (p : Fin 256) (l : Fin 128) :
    VO9.read (Elt Ideal) (VO9.writes (Elt Ideal) f (ptB m c t h xs).1)
        (ValueIdx.ix2 (⟨16 * p.val + k.val, by have := p.isLt; have := k.isLt; omega⟩ : Fin 4096) l)
      = blk m c t (ValueIdx.ix2 p (⟨128 * k.val + l.val, by have := l.isLt; have := k.isLt; omega⟩ : Fin 1024)) := by
  have hl := l.isLt
  rw [← blkB]
  fin_cases k
  · exact (read_rows f 0 _ _ (rowsB m c t h xs) 15 _ rfl rfl p l).trans (group0 _ p l)
  · exact (read_rows f 1 _ _ (rowsB m c t h xs) 14 _ rfl rfl p l).trans (group1 _ p l)
  · exact (read_rows f 2 _ _ (rowsB m c t h xs) 13 _ rfl rfl p l).trans (group2 _ p l)
  · exact (read_rows f 3 _ _ (rowsB m c t h xs) 12 _ rfl rfl p l).trans (group3 _ p l)
  · exact (read_rows f 4 _ _ (rowsB m c t h xs) 11 _ rfl rfl p l).trans (group4 _ p l)
  · exact (read_rows f 5 _ _ (rowsB m c t h xs) 10 _ rfl rfl p l).trans (group5 _ p l)
  · exact (read_rows f 6 _ _ (rowsB m c t h xs) 9 _ rfl rfl p l).trans (group6 _ p l)
  · exact (read_rows f 7 _ _ (rowsB m c t h xs) 8 _ rfl rfl p l).trans (group7 _ p l)

end Cert.Merge

end
-- ==== Proof.ProjRef.lean ====
/- The input projection's reference, element by element: a token's norm times a column of the weights. -/
module

public import proofs.«01_k».proof.Proof.ProjBody
public import proofs.«01_k».proof.Proof.Gen.Reference2Ideal.Read

@[expose] public section

set_option maxRecDepth 8192
set_option maxHeartbeats 200000

noncomputable section

open scoped BigOperators

namespace Cert.Proj

open Idealize.ShloMosaic Idealize.ShloMosaic.TcCoe
open Cert.Reference2Ideal Cert.Reference2Ideal.Gen Cert.Reference2Ideal.Read

variable (x0 : S4x8192x1024.Idx → EReal) (x1 : S1024.Idx → EReal) (x2 : S1024x4672.Idx → EReal)

/-- The batch of token `r`. -/
abbrev rb (r : Fin 32768) : Fin 4 := ⟨r.val / 8192, by have := r.isLt; omega⟩
/-- The position of token `r`. -/
abbrev rs (r : Fin 32768) : Fin 8192 := ⟨r.val % 8192, Nat.mod_lt _ (by norm_num)⟩

/-- Token `r`'s features after the norm. -/
def U (r : Fin 32768) (d : Fin 1024) : EReal := nrm (fun k => x0 (ValueIdx.ix3 (rb r) (rs r) k)) (fun k => x1 (ValueIdx.ix1 k)) d

/-- The projection: token `r`'s norm times column `n` of the weights. -/
def P (r : Fin 32768) (n : Fin 4672) : EReal := ∑ d : Fin 1024, U x0 x1 r d * x2 (ValueIdx.ix2 d n)

/-- The `N` columns of the projection from `o` on. -/
def cols {N : ℕ} (o : ℕ) (h : o + N ≤ 4672) (i : (⟨2, ![32768, N]⟩ : Shape).Idx) : EReal :=
  P x0 x1 x2 (i 0) ⟨o + (i 1).val, by have := (i 1).isLt; exact lt_of_lt_of_le (Nat.add_lt_add_left this o) h⟩

/-- The 64 rotary columns, and beside them the same turned by a quarter: the second half negated, then the first. -/
def rot (i : (⟨2, ![32768, 128]⟩ : Shape).Idx) : EReal :=
  if h : (i 1).val < 64 then P x0 x1 x2 (i 0) ⟨2560 + (i 1).val, by omega⟩
  else if h' : (i 1).val < 96 then -P x0 x1 x2 (i 0) ⟨2528 + (i 1).val, by omega⟩
  else P x0 x1 x2 (i 0) ⟨2464 + (i 1).val, by have : (i 1).val < 128 := (i 1).isLt; omega⟩

/-- The reference's norm. -/
theorem ref_norm (b : Fin 4) (s : Fin 8192) (d : Fin 1024) :
    val_main_v12 (F := Ideal) x0 x1 (ValueIdx.ix3 b s d) = nrm (fun k => x0 (ValueIdx.ix3 b s k)) (fun k => x1 (ValueIdx.ix1 k)) d := by
  have hs : val_main_v1 (F := Ideal) x0 (idx_main_v2 (idx_main_v8 (ValueIdx.ix3 b s d))) = ∑ k : Fin 1024, x0 (ValueIdx.ix3 b s k) * x0 (ValueIdx.ix3 b s k) := by
    rw [val_main_v1_apply, val_main_cst_apply, Att.bits_zero, zero_add]
    refine Finset.sum_congr rfl fun k _ => ?_
    rw [val_main_v0_apply]
    have e : idx_main_v1 (idx_main_v2 (idx_main_v8 (ValueIdx.ix3 b s d))) k = ValueIdx.ix3 b s k := by
      funext a
      match a with
      | ⟨0, _⟩ => rfl
      | ⟨1, _⟩ => rfl
      | ⟨2, _⟩ => rfl
    rw [e]; rfl
  have hg : idx_main_v10 (idx_main_v11 (ValueIdx.ix3 b s d)) = ValueIdx.ix1 d := by
    funext a
    match a with
    | ⟨0, _⟩ => rfl
  rw [val_main_v12_apply, val_main_v9_apply, val_main_v8_apply, val_main_v7_apply, val_main_v6_apply, val_main_v4_apply, val_main_v2_apply, hs,
    val_main_v3_apply, val_main_cst_0_apply, val_main_v5_apply, val_main_cst_1_apply, val_main_v11_apply, val_main_v10_apply, hg]
  rfl

/-- The reference's projection. -/
theorem ref_proj (r : Fin 32768) (n : Fin 4672) : val_main_v14 (F := Ideal) x0 x1 x2 (ValueIdx.ix2 r n) = P x0 x1 x2 r n := by
  have e : idx_main_v14 (ValueIdx.ix2 r n) = ValueIdx.ix3 (rb r) (rs r) n := by
    have hn := n.isLt
    funext a; apply Fin.ext
    match a with
    | ⟨0, _⟩ => show (r.val * 4672 + n.val) / 38273024 = r.val / 8192; omega
    | ⟨1, _⟩ => show (r.val * 4672 + n.val) / 4672 % 8192 = r.val % 8192; omega
    | ⟨2, _⟩ => show (r.val * 4672 + n.val) % 4672 = n.val; omega
  rw [val_main_v14_apply, e, val_main_v13_apply, P]
  refine Finset.sum_congr rfl fun d _ => ?_
  have el : lidx_main_v13 (ValueIdx.ix3 (rb r) (rs r) n) d = ValueIdx.ix3 (rb r) (rs r) d := by
    funext a
    match a with
    | ⟨0, _⟩ => rfl
    | ⟨1, _⟩ => rfl
    | ⟨2, _⟩ => rfl
  have er : ridx_main_v13 (ValueIdx.ix3 (rb r) (rs r) n) d = ValueIdx.ix2 d n := by
    funext a
    match a with
    | ⟨0, _⟩ => rfl
    | ⟨1, _⟩ => rfl
  rw [el, er, ref_norm, U]

/-- The reference's projection at any index. -/
theorem ref_proj' (i : S32768x4672.Idx) (r : Fin 32768) (n : Fin 4672) (h0 : (i 0).val = r.val) (h1 : (i 1).val = n.val) :
    val_main_v14 (F := Ideal) x0 x1 x2 i = P x0 x1 x2 r n := by
  have e : i = ValueIdx.ix2 r n := by
    funext a; apply Fin.ext
    match a with
    | ⟨0, _⟩ => exact h0
    | ⟨1, _⟩ => exact h1
  rw [e, ref_proj]

theorem ref_v26 : val_main_v26 (F := Ideal) x0 x1 x2 = cols x0 x1 x2 (N := 1024) 0 (by norm_num) := funext fun i => by
  rw [val_main_v26_apply, val_main_v15_apply]
  exact ref_proj' x0 x1 x2 _ _ _ rfl (Nat.zero_add _).symm
theorem ref_v27 : val_main_v27 (F := Ideal) x0 x1 x2 = cols x0 x1 x2 (N := 1024) 1024 (by norm_num) := funext fun i => by
  rw [val_main_v27_apply, val_main_v16_apply]
  exact ref_proj' x0 x1 x2 _ _ _ rfl rfl
theorem ref_v17 : val_main_v17 (F := Ideal) x0 x1 x2 = cols x0 x1 x2 (N := 256) 2048 (by norm_num) := funext fun i => by
  rw [val_main_v17_apply]
  exact ref_proj' x0 x1 x2 _ _ _ rfl rfl
theorem ref_v18 : val_main_v18 (F := Ideal) x0 x1 x2 = cols x0 x1 x2 (N := 256) 2304 (by norm_num) := funext fun i => by
  rw [val_main_v18_apply]
  exact ref_proj' x0 x1 x2 _ _ _ rfl rfl
theorem ref_v28 : val_main_v28 (F := Ideal) x0 x1 x2 = cols x0 x1 x2 (N := 1024) 2624 (by norm_num) := funext fun i => by
  rw [val_main_v28_apply, val_main_v20_apply]
  exact ref_proj' x0 x1 x2 _ _ _ rfl rfl
theorem ref_v29 : val_main_v29 (F := Ideal) x0 x1 x2 = cols x0 x1 x2 (N := 1024) 3648 (by norm_num) := funext fun i => by
  rw [val_main_v29_apply, val_main_v21_apply]
  exact ref_proj' x0 x1 x2 _ _ _ rfl rfl

/-- The reference's rotary columns. -/
theorem ref_v25 : val_main_v25 (F := Ideal) x0 x1 x2 = rot x0 x1 x2 := funext fun i => by
  obtain ⟨r, n, rfl⟩ : ∃ (r : Fin 32768) (n : Fin 128), i = ValueIdx.ix2 r n := ⟨i 0, i 1, ValueIdx.eq_ix2 i⟩
  have hn := n.isLt
  unfold val_main_v25
  by_cases h : n.val < 64
  · refine (concatenate_apply_piece (1 : Fin 2) _ _ (ValueIdx.ix2 r n) 0 (by simp) S32768x64 _ rfl rfl 0 rfl
      (ValueIdx.ix2 r (⟨n.val, h⟩ : Fin 64)) (fun b hb => match b, hb with | ⟨0, _⟩, _ => rfl | ⟨1, _⟩, hb => absurd rfl hb) (Nat.zero_add _)).trans ?_
    refine Eq.trans ?_ (dif_pos (c := n.val < 64) h).symm
    rw [val_main_v19_apply]
    exact ref_proj' x0 x1 x2 _ _ _ rfl rfl
  · refine Eq.trans ?_ (dif_neg (c := n.val < 64) h).symm
    by_cases h' : n.val < 96
    · refine (concatenate_apply_piece (1 : Fin 2) _ _ (ValueIdx.ix2 r n) 1 (by simp) S32768x32 _ rfl rfl 64 rfl
        (ValueIdx.ix2 r (⟨n.val - 64, by omega⟩ : Fin 32)) (fun b hb => match b, hb with | ⟨0, _⟩, _ => rfl | ⟨1, _⟩, hb => absurd rfl hb) (by show 64 + (n.val - 64) = n.val; omega)).trans ?_
      refine Eq.trans ?_ (dif_pos (c := n.val < 96) h').symm
      rw [val_main_v23_apply, val_main_v22_apply, val_main_v19_apply]
      refine congrArg (fun z : EReal => -z) ?_
      exact ref_proj' x0 x1 x2 _ _ _ rfl (by show 2560 + (32 + (n.val - 64)) = 2528 + n.val; omega)
    · refine (concatenate_apply_piece (1 : Fin 2) _ _ (ValueIdx.ix2 r n) 2 (by simp) S32768x32 _ rfl rfl 96 rfl
        (ValueIdx.ix2 r (⟨n.val - 96, by omega⟩ : Fin 32)) (fun b hb => match b, hb with | ⟨0, _⟩, _ => rfl | ⟨1, _⟩, hb => absurd rfl hb) (by show 96 + (n.val - 96) = n.val; omega)).trans ?_
      refine Eq.trans ?_ (dif_neg (c := n.val < 96) h').symm
      rw [val_main_v24_apply, val_main_v19_apply]
      exact ref_proj' x0 x1 x2 _ _ _ rfl (by show 2560 + (n.val - 96) = 2464 + n.val; omega)

end Cert.Proj

end
-- ==== Proof.MergeFinal.lean ====
/- The array of slabs the merge leaves, and the residual the host lines read off it. -/
module

public import proofs.«01_k».proof.Proof.MergeBody
public import proofs.«01_k».proof.Proof.ProjRef
public import Idealize.ShloMosaic.Lib.IdealHost
public import Idealize.ShloMosaic.Lib.StableHlo.Run
public import Idealize.ShloMosaic.Lib.Pipeline.ValueKit

@[expose] public section

set_option maxRecDepth 8192
set_option maxHeartbeats 200000

noncomputable section

open scoped BigOperators

namespace Cert.Merge

open Idealize.ShloMosaic Idealize.ShloMosaic.TcCoe
open Cert.Kernel3Ideal Cert.Kernel3Ideal.Gen Cert.Kernel3Ideal.Own
open Cert.Proj (rb rs)

variable (m : (ℓ : Loc nD τ sig) → Buf (Elt Ideal) ℓ) (c : Dev nD)

/-- The attention's output. -/
abbrev A0 : S4x8192x1024.Idx → EReal := m ((c : Thread nD τ).loc main_arg0)
/-- The gated branch. -/
abbrev A1 : S4x8192x1024.Idx → EReal := m ((c : Thread nD τ).loc main_arg1)
/-- The other branch's gate. -/
abbrev A2 : S4x8192x1024.Idx → EReal := m ((c : Thread nD τ).loc main_arg2)
/-- The tokens. -/
abbrev A3 : S4x8192x1024.Idx → EReal := m ((c : Thread nD τ).loc main_arg3)
/-- The attention's output projection. -/
abbrev A4 : S1024x1024.Idx → EReal := m ((c : Thread nD τ).loc main_arg4)
/-- The layer's output projection. -/
abbrev A5 : S1024x1024.Idx → EReal := m ((c : Thread nD τ).loc main_arg5)

/-- An array of tokens, batch after batch. -/
theorem flat_apply (x : S4x8192x1024.Idx → EReal) (r : Fin 32768) (d : Fin 1024) :
    (shapeCast S32768x1024 x shapeCasts_S4x8192x1024_S32768x1024 : S32768x1024.Idx → EReal) (ValueIdx.ix2 r d) = x (ValueIdx.ix3 (rb r) (rs r) d) := by
  refine shapeCast_apply _ _ _ _ ?_
  rw [Shape.rowMajor_val_three, Shape.rowMajor_val_two]
  show (r.val / 8192 * 8192 + r.val % 8192) * 1024 + d.val = r.val * 1024 + d.val
  omega

/-- The arrays the call reads. -/
theorem V0_eq : (V m c main_v10 : S32768x1024.Idx → EReal) = shapeCast S32768x1024 (A0 m c) shapeCasts_S4x8192x1024_S32768x1024 := by
  show StableHlo.after hostOps0 _ _ = _
  after_results_simp <;> rfl
theorem V1_eq : (V m c main_v12 : S32768x1024.Idx → EReal) = shapeCast S32768x1024 (A1 m c) shapeCasts_S4x8192x1024_S32768x1024 := by
  show StableHlo.after hostOps0 _ _ = _
  after_results_simp <;> rfl
theorem V2_eq : (V m c main_v14 : S32768x1024.Idx → EReal) = shapeCast S32768x1024 (A2 m c) shapeCasts_S4x8192x1024_S32768x1024 := by
  show StableHlo.after hostOps0 _ _ = _
  after_results_simp <;> rfl
theorem V3_eq : (V m c main_v15 : S32768x1024.Idx → EReal) = shapeCast S32768x1024 (A3 m c) shapeCasts_S4x8192x1024_S32768x1024 := by
  show StableHlo.after hostOps0 _ _ = _
  after_results_simp <;> rfl
theorem V4_eq : (V m c main_v16 : S1024x1024.Idx → EReal) = A4 m c := by
  show StableHlo.after hostOps0 _ _ = _
  after_results_simp <;> rfl
theorem V5_eq : (V m c main_v17 : S1024x1024.Idx → EReal) = A5 m c := by
  show StableHlo.after hostOps0 _ _ = _
  after_results_simp <;> rfl

/-- The residual of a token after mixing, column by column: the token, and the layer's output projection of the gated branch and the
    gated output projection of the attention. -/
def R (x0 x1 x2 x3 : S4x8192x1024.Idx → EReal) (x4 x5 : S1024x1024.Idx → EReal) (b : Fin 4) (s : Fin 8192) (q : Fin 1024) : EReal :=
  x3 (ValueIdx.ix3 b s q) + ∑ d : Fin 1024, (x1 (ValueIdx.ix3 b s d)
    + Ideal.div 1 (1 + Ideal.exp (-x2 (ValueIdx.ix3 b s d))) * ∑ k : Fin 1024, x0 (ValueIdx.ix3 b s k) * x4 (ValueIdx.ix2 k d)) * x5 (ValueIdx.ix2 d q)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx9 : ∀ t : Fin cfg0.N, win0_9.index t = ![t.val, 0] := (by decide +kernel : ∀ t : Fin grid0.N, _)

/-- The token in row `p` of a grid point's block. -/
def tok (t : Fin cfg0.N) (p : Fin 256) : Fin 32768 :=
  ⟨t.val * 256 + p.val, by have h : t.val < 128 := t.isLt; have := p.isLt; omega⟩

/-- A point's residual is the tokens'. -/
theorem blk_apply (t : Fin cfg0.N) (p : Fin 256) (q : Fin 1024) :
    blk m c t (ValueIdx.ix2 p q) = R (A0 m c) (A1 m c) (A2 m c) (A3 m c) (A4 m c) (A5 m c) (rb (tok t p)) (rs (tok t p)) q := by
  refine (pay_apply _ _ _ _ _ _ p q).trans ?_
  have e0 : ∀ k : Fin 1024, iblk m c 0 t (ValueIdx.ix2 p k) = A0 m c (ValueIdx.ix3 (rb (tok t p)) (rs (tok t p)) k) := fun k => by
    refine Eq.trans ?_ ((congrFun (V0_eq m c) _).trans (flat_apply _ (tok t p) k))
    have e := idx0 t
    blk_simp [iblk]
    refine congrArg (V m c main_v10) ?_
    blk_ext [e, tok]
  have e1 : ∀ k : Fin 1024, iblk m c 1 t (ValueIdx.ix2 p k) = A1 m c (ValueIdx.ix3 (rb (tok t p)) (rs (tok t p)) k) := fun k => by
    refine Eq.trans ?_ ((congrFun (V1_eq m c) _).trans (flat_apply _ (tok t p) k))
    have e := idx1 t
    blk_simp [iblk]
    refine congrArg (V m c main_v12) ?_
    blk_ext [e, tok]
  have e2 : ∀ k : Fin 1024, iblk m c 2 t (ValueIdx.ix2 p k) = A2 m c (ValueIdx.ix3 (rb (tok t p)) (rs (tok t p)) k) := fun k => by
    refine Eq.trans ?_ ((congrFun (V2_eq m c) _).trans (flat_apply _ (tok t p) k))
    have e := idx2 t
    blk_simp [iblk]
    refine congrArg (V m c main_v14) ?_
    blk_ext [e, tok]
  have e3 : ∀ k : Fin 1024, iblk m c 3 t (ValueIdx.ix2 p k) = A3 m c (ValueIdx.ix3 (rb (tok t p)) (rs (tok t p)) k) := fun k => by
    refine Eq.trans ?_ ((congrFun (V3_eq m c) _).trans (flat_apply _ (tok t p) k))
    have e := idx3 t
    blk_simp [iblk]
    refine congrArg (V m c main_v15) ?_
    blk_ext [e, tok]
  have e4 : ∀ a b : Fin 1024, iblk m c 4 t (ValueIdx.ix2 a b) = A4 m c (ValueIdx.ix2 a b) := fun a b => by
    refine Eq.trans ?_ (congrFun (V4_eq m c) _)
    have e := idx4 t
    blk_simp [iblk]
    refine congrArg (V m c main_v16) ?_
    blk_ext [e]
  have e5 : ∀ a b : Fin 1024, iblk m c 5 t (ValueIdx.ix2 a b) = A5 m c (ValueIdx.ix2 a b) := fun a b => by
    refine Eq.trans ?_ (congrFun (V5_eq m c) _)
    have e := idx5 t
    blk_simp [iblk]
    refine congrArg (V m c main_v17) ?_
    blk_ext [e]
  refine congrArg₂ (fun a b : EReal => a + b) (e3 q) (Finset.sum_congr rfl fun d _ => ?_)
  refine congrArg₂ (fun a b : EReal => a * b) (congrArg₂ (fun a b : EReal => a + b) (e1 d) (congrArg₂ (fun a b : EReal => a * b) ?_ ?_)) (e5 d q)
  · exact (congrArg gate (e2 d)).trans (gate_eq _)
  · exact Finset.sum_congr rfl fun k _ => congrArg₂ (fun a b : EReal => a * b) (e0 k) (e4 k d)

/-- Row `16 p + k` of a point's slab, for `k` below 8. -/
theorem slab_apply (t : Fin cfg0.N) (k : Fin 8) (p : Fin 256) (l : Fin 128) :
    (outsAt m c t.val t.isLt).1 (ValueIdx.ix2 (⟨16 * p.val + k.val, by have := p.isLt; have := k.isLt; omega⟩ : Fin 4096) l)
      = R (A0 m c) (A1 m c) (A2 m c) (A3 m c) (A4 m c) (A5 m c) (rb (tok t p)) (rs (tok t p)) ⟨128 * k.val + l.val, by have := l.isLt; have := k.isLt; omega⟩ := by
  by_cases h : t.val = 0
  · rw [outsAt_A m c t h]
    exact (slabA m c t h _ k p l).trans (blk_apply m c t p _)
  · rw [outsAt_B m c t h]
    exact (slabB m c t h (scrBefore m c t) _ k p l).trans (blk_apply m c t p _)

/-- The slabs of all the points, one after another. -/
def G : S524288x128.Idx → EReal := fun i =>
  (outsAt m c ((i 0).val / 4096) (by have h : (i 0).val < 524288 := (i 0).isLt; show _ < 128; omega)).1
    (ValueIdx.ix2 (⟨(i 0).val % 4096, Nat.mod_lt _ (by norm_num)⟩ : Fin 4096) (i 1))

theorem outsAt_congr {n n' : ℕ} (e : n = n') (h h') : (outsAt m c n h).1 = (outsAt m c n' h').1 := by subst e; rfl

/-- The call leaves them. -/
theorem final9 : (dats m 0 c).arrAt 9 cfg0.N = G m c := by
  refine (dats m 0 c).arrAt_eq_of_covers 9 _ (by decide +kernel) fun t hf y => ?_
  have e := idx9 t
  obtain ⟨p, q, rfl⟩ : ∃ (p : Fin 4096) (q : Fin 128), y = ValueIdx.ix2 p q := ⟨y 0, y 1, ValueIdx.eq_ix2 y⟩
  have ht : t.val < 128 := t.isLt
  have hp := p.isLt
  have key : (dats m 0 c).after 9 t (ValueIdx.ix2 p q) = G m c (ValueIdx.ix2 (⟨t.val * 4096 + p.val, by omega⟩ : Fin 524288) q) := by
    rw [after_9]
    show _ = (outsAt m c ((t.val * 4096 + p.val) / 4096) _).1 (ValueIdx.ix2 (⟨(t.val * 4096 + p.val) % 4096, _⟩ : Fin 4096) q)
    rw [outsAt_congr m c (show (t.val * 4096 + p.val) / 4096 = t.val by omega) _ t.isLt]
    refine congrArg (outsAt m c t.val t.isLt).1 (congrArg (fun z => ValueIdx.ix2 z q) (Fin.ext ?_))
    show p.val = (t.val * 4096 + p.val) % 4096
    omega
  blk_simp
  refine key.trans (congrArg (G m c) ?_)
  blk_ext [e]

/-- Rows of a token's slab below 8 hold its residual. -/
theorem G_apply (r : Fin 32768) (k : Fin 8) (l : Fin 128) :
    G m c (ValueIdx.ix2 (⟨r.val * 16 + k.val, by have := r.isLt; have := k.isLt; omega⟩ : Fin 524288) l)
      = R (A0 m c) (A1 m c) (A2 m c) (A3 m c) (A4 m c) (A5 m c) (rb r) (rs r) ⟨128 * k.val + l.val, by have := l.isLt; have := k.isLt; omega⟩ := by
  have hr := r.isLt
  have hk := k.isLt
  have ht : (r.val * 16 + k.val) / 4096 = r.val / 256 := by omega
  have hr' : tok ⟨r.val / 256, by show _ < 128; omega⟩ ⟨r.val % 256, Nat.mod_lt _ (by norm_num)⟩ = r := Fin.ext (by show r.val / 256 * 256 + r.val % 256 = r.val; omega)
  refine Eq.trans ?_ ((slab_apply m c ⟨r.val / 256, by show _ < 128; omega⟩ k ⟨r.val % 256, Nat.mod_lt _ (by norm_num)⟩ l).trans (by rw [hr']))
  show (outsAt m c ((r.val * 16 + k.val) / 4096) _).1 (ValueIdx.ix2 (⟨(r.val * 16 + k.val) % 4096, _⟩ : Fin 4096) l) = _
  rw [outsAt_congr m c ht _ (by show _ < 128; omega)]
  refine congrArg (outsAt m c (r.val / 256) _).1 (congrArg (fun z => ValueIdx.ix2 z l) (Fin.ext ?_))
  show (r.val * 16 + k.val) % 4096 = 16 * (r.val % 256) + k.val
  omega

/-- The residual as an array. -/
def res (x0 x1 x2 x3 : S4x8192x1024.Idx → EReal) (x4 x5 : S1024x1024.Idx → EReal) : S4x8192x1024.Idx → EReal :=
  fun i => R x0 x1 x2 x3 x4 x5 (i 0) (i 1) (i 2)

/-- What the last host lines read off the slabs. -/
theorem tail_eq : (Pipeline.afterTail₀ cfgs (dats m) 0 (V0 m) [hostOps1] c main_v23 : S4x8192x1024.Idx → EReal)
    = shapeCast S4x8192x1024 (extractStridedSlice S32768x8x128 ![0, 0, 0] (shapeCast S32768x16x128 (G m c) shapeCasts_S524288x128_S32768x16x128)
        slices_S32768x16x128_S32768x8x128_0_0_0) shapeCasts_S32768x8x128_S4x8192x1024 := by
  rw [← final9]
  unfold Pipeline.afterTail₀
  show StableHlo.after hostOps1 _ _ = _
  after_results_simp
  rw [show (Pipeline.withArrays (cfgs 0).spec c (V0 m c) fun w => (dats m 0 c).arrAt w (cfgs 0).N) (Proc.devRef .tc main_v20_0) = (dats m 0 c).arrAt 9 cfg0.N from
    Pipeline.withArrays_arr spec0 (by decide) c (V0 m c) (fun w => (dats m 0 c).arrAt w cfg0.N) 9]
  rfl

/-- It is the residual. -/
theorem tail_res : (Pipeline.afterTail₀ cfgs (dats m) 0 (V0 m) [hostOps1] c main_v23 : S4x8192x1024.Idx → EReal)
    = res (A0 m c) (A1 m c) (A2 m c) (A3 m c) (A4 m c) (A5 m c) := by
  rw [tail_eq]
  funext i
  obtain ⟨b, s, q, rfl⟩ : ∃ (b : Fin 4) (s : Fin 8192) (q : Fin 1024), i = ValueIdx.ix3 b s q := ⟨i 0, i 1, i 2, ValueIdx.eq_ix3 i⟩
  have hb := b.isLt
  have hs := s.isLt
  have hq := q.isLt
  refine (shapeCast_apply _ _ _ (ValueIdx.ix3 (⟨b.val * 8192 + s.val, by omega⟩ : Fin 32768) (⟨q.val / 128, by omega⟩ : Fin 8) (⟨q.val % 128, Nat.mod_lt _ (by norm_num)⟩ : Fin 128)) ?_).trans ?_
  · rw [Shape.rowMajor_val_three, Shape.rowMajor_val_three]
    show ((b.val * 8192 + s.val) * 8 + q.val / 128) * 128 + q.val % 128 = (b.val * 8192 + s.val) * 1024 + q.val
    omega
  refine (extractStridedSlice_apply ![0, 0, 0] _ slices_S32768x16x128_S32768x8x128_0_0_0 _ (ValueIdx.ix3 (⟨b.val * 8192 + s.val, by omega⟩ : Fin 32768) (⟨q.val / 128, by omega⟩ : Fin 16) (⟨q.val % 128, Nat.mod_lt _ (by norm_num)⟩ : Fin 128)) fun a => match a with
    | ⟨0, _⟩ => (Nat.zero_add _).symm
    | ⟨1, _⟩ => (Nat.zero_add _).symm
    | ⟨2, _⟩ => (Nat.zero_add _).symm).trans ?_
  refine (shapeCast_apply _ _ _ (ValueIdx.ix2 (⟨(b.val * 8192 + s.val) * 16 + q.val / 128, by omega⟩ : Fin 524288) (⟨q.val % 128, Nat.mod_lt _ (by norm_num)⟩ : Fin 128)) ?_).trans ?_
  · rw [Shape.rowMajor_val_three, Shape.rowMajor_val_two]
    rfl
  refine (G_apply m c ⟨b.val * 8192 + s.val, by omega⟩ ⟨q.val / 128, by omega⟩ ⟨q.val % 128, Nat.mod_lt _ (by norm_num)⟩).trans ?_
  have h1 : rb ⟨b.val * 8192 + s.val, by omega⟩ = b := Fin.ext (by show (b.val * 8192 + s.val) / 8192 = b.val; omega)
  have h2 : rs ⟨b.val * 8192 + s.val, by omega⟩ = s := Fin.ext (by show (b.val * 8192 + s.val) % 8192 = s.val; omega)
  rw [h1, h2]
  exact congrArg (R (A0 m c) (A1 m c) (A2 m c) (A3 m c) (A4 m c) (A5 m c) b s) (Fin.ext (by show 128 * (q.val / 128) + q.val % 128 = q.val; omega))

end Cert.Merge

end
-- ==== Proof.MergeRef.lean ====
/- The merge's reference: the residual after mixing, by the sigmoid. -/
module

public import proofs.«01_k».proof.Proof.MergeFinal
public import proofs.«01_k».proof.Proof.Gen.Reference3Ideal.Read

@[expose] public section

set_option maxRecDepth 8192
set_option maxHeartbeats 200000

noncomputable section

open scoped BigOperators

namespace Cert.Merge

open Idealize.ShloMosaic Idealize.ShloMosaic.TcCoe
open Cert.Reference3Ideal Cert.Reference3Ideal.Read

variable (x0 x1 x2 x3 : S4x8192x1024.Idx → EReal) (x4 x5 : S1024x1024.Idx → EReal)

theorem bits_one : Ideal.ofBits .f32 0x3F800000#32 = 1 := by
  simp [Ideal.ofBits, Ideal.ieee]
  rw [← EReal.coe_mul]
  norm_num

theorem lidx6 (b : Fin 4) (s : Fin 8192) (d k : Fin 1024) : lidx_main_v6 (ValueIdx.ix3 b s d) k = ValueIdx.ix3 b s k := by
  funext a
  match a with
  | ⟨0, _⟩ => rfl
  | ⟨1, _⟩ => rfl
  | ⟨2, _⟩ => rfl
theorem ridx6 (b : Fin 4) (s : Fin 8192) (d k : Fin 1024) : ridx_main_v6 (ValueIdx.ix3 b s d) k = ValueIdx.ix2 k d := by
  funext a
  match a with
  | ⟨0, _⟩ => rfl
  | ⟨1, _⟩ => rfl
theorem lidx9 (b : Fin 4) (s : Fin 8192) (d k : Fin 1024) : lidx_main_v9 (ValueIdx.ix3 b s d) k = ValueIdx.ix3 b s k := by
  funext a
  match a with
  | ⟨0, _⟩ => rfl
  | ⟨1, _⟩ => rfl
  | ⟨2, _⟩ => rfl
theorem ridx9 (b : Fin 4) (s : Fin 8192) (d k : Fin 1024) : ridx_main_v9 (ValueIdx.ix3 b s d) k = ValueIdx.ix2 k d := by
  funext a
  match a with
  | ⟨0, _⟩ => rfl
  | ⟨1, _⟩ => rfl

/-- The reference's sigmoid. -/
theorem ref_sigmoid (i : S4x8192x1024.Idx) : val_main_v5 (F := Ideal) x2 i = Ideal.div 1 (1 + Ideal.exp (-x2 i)) := by
  rw [val_main_v5_apply, val_main_v4_apply, val_main_v3_apply, val_main_v2_apply, val_main_v1_apply, val_main_v0_apply]
  show Ideal.div (Ideal.ofBits .f32 0x3F800000#32) (Ideal.ofBits .f32 0x3F800000#32 + Ideal.exp (-x2 i)) = _
  rw [bits_one]

/-- The reference's result is the residual. -/
theorem ref_res : val_main_v10 (F := Ideal) x0 x1 x2 x3 x4 x5 = res x0 x1 x2 x3 x4 x5 := funext fun i => by
  obtain ⟨b, s, q, rfl⟩ : ∃ (b : Fin 4) (s : Fin 8192) (q : Fin 1024), i = ValueIdx.ix3 b s q := ⟨i 0, i 1, i 2, ValueIdx.eq_ix3 i⟩
  rw [val_main_v10_apply, val_main_v9_apply]
  refine congrArg (fun z : EReal => x3 (ValueIdx.ix3 b s q) + z) (Finset.sum_congr rfl fun d _ => ?_)
  rw [lidx9, ridx9, val_main_v8_apply, val_main_v7_apply, ref_sigmoid, val_main_v6_apply]
  refine congrArg (fun z : EReal => (x1 (ValueIdx.ix3 b s d) + Ideal.div 1 (1 + Ideal.exp (-x2 (ValueIdx.ix3 b s d))) * z) * x5 (ValueIdx.ix2 d q)) ?_
  exact Finset.sum_congr rfl fun k _ => by rw [lidx6, ridx6]

end Cert.Merge

end
-- ==== Proof.QkvBody.lean ====
/- The query, key and value projection's body: its norms, products and rotations, read at an entry. -/
module

public import proofs.«01_k».proof.Proof.Mean
public import proofs.«01_k».proof.Proof.Gen.Kernel4Ideal.Skeleton
public import Idealize.ShloMosaic.Lib.ValueLayout
public import Idealize.ShloMosaic.Lib.ValueIdx
public import Idealize.ShloMosaic.Lib.Pipeline.ValueKit

@[expose] public section

set_option maxRecDepth 16384
set_option maxHeartbeats 200000

noncomputable section

open scoped BigOperators

namespace Cert.Qkv

open Idealize.ShloMosaic Idealize.ShloMosaic.TcCoe
open Cert.Kernel4Ideal Cert.Kernel4Ideal.Gen

/-- A block with a leading unit axis, read without it. -/
theorem drop1 {α : Type} {a b : ℕ} (v : (⟨3, ![1, a, b]⟩ : Shape).Idx → α) (h) (p : Fin a) (q : Fin b) :
    shapeCast ⟨2, ![a, b]⟩ v h (ValueIdx.ix2 p q) = v (ValueIdx.ix3 (0 : Fin 1) p q) := by
  refine shapeCast_apply _ _ _ _ ?_
  rw [Shape.rowMajor_val_two, Shape.rowMajor_val_three]
  show (0 * a + p.val) * b + q.val = p.val * b + q.val
  rw [Nat.zero_mul, Nat.zero_add]

/-- A block given two leading unit axes. -/
theorem add2 {α : Type} {a b : ℕ} (v : (⟨2, ![a, b]⟩ : Shape).Idx → α) (h) (p : Fin a) (q : Fin b) :
    shapeCast ⟨4, ![1, 1, a, b]⟩ v h (ValueIdx.ix4 (0 : Fin 1) (0 : Fin 1) p q) = v (ValueIdx.ix2 p q) := by
  refine shapeCast_apply _ _ _ _ ?_
  rw [Shape.rowMajor_val_two, Shape.rowMajor_val_four]
  show p.val * b + q.val = ((0 * 1 + 0) * a + p.val) * b + q.val
  simp only [Nat.zero_mul, Nat.zero_add]

/-- A block given three leading unit axes. -/
theorem add3 {α : Type} {a b : ℕ} (v : (⟨2, ![a, b]⟩ : Shape).Idx → α) (h) (p : Fin a) (q : Fin b) :
    shapeCast ⟨5, ![1, 1, 1, a, b]⟩ v h (ValueIdx.ix5 (0 : Fin 1) (0 : Fin 1) (0 : Fin 1) p q) = v (ValueIdx.ix2 p q) := by
  refine shapeCast_apply _ _ _ _ ?_
  rw [Shape.rowMajor_val_two, Shape.rowMajor_val_five]
  show p.val * b + q.val = (((0 * 1 + 0) * 1 + 0) * a + p.val) * b + q.val
  simp only [Nat.zero_mul, Nat.zero_add]

/-- A column spread along its rows. -/
theorem colB {α : Type} {a b : ℕ} (v : (⟨2, ![a, 1]⟩ : Shape).Idx → α) (h) (p : Fin a) (q : Fin b) :
    broadcastTo ⟨2, ![a, b]⟩ v h (ValueIdx.ix2 p q) = v (ValueIdx.ix2 p (0 : Fin 1)) :=
  broadcastTo_apply v _ _ _ fun c => match c with
    | ⟨0, _⟩ => by
        show p.val = if a = 1 then 0 else p.val
        have := p.isLt
        split <;> omega
    | ⟨1, _⟩ => rfl

/-- A row spread along its columns. -/
theorem rowB {α : Type} {a b : ℕ} (v : (⟨2, ![1, b]⟩ : Shape).Idx → α) (h) (p : Fin a) (q : Fin b) :
    broadcastTo ⟨2, ![a, b]⟩ v h (ValueIdx.ix2 p q) = v (ValueIdx.ix2 (0 : Fin 1) q) :=
  ValueIdx.broadcastTo_1b_ab_apply v _ p q

/-- A block's sums along its rows, as a column. -/
theorem sumRows {a b : ℕ} (v : FVec Ideal ⟨2, ![a, b]⟩ .f32) (h : (⟨2, ![a, b]⟩ : Shape).Reduces [1] ⟨1, ![a]⟩) (hc) (p : Fin a) :
    shapeCast ⟨2, ![a, 1]⟩ (multiReduction (F := Ideal) .add [1] ⟨1, ![a]⟩ v 0x00000000#32 h (.inl rfl) rfl) hc (ValueIdx.ix2 p (0 : Fin 1))
      = ∑ k : Fin b, v (ValueIdx.ix2 p k) := by
  refine (shapeCast_apply _ _ _ (ValueIdx.ix1 p) ?_).trans ?_
  · rw [Shape.rowMajor_val_one, Shape.rowMajor_val_two]
    show p.val = p.val * 1 + 0
    omega
  refine (Ideal.multiReduction_add_single v _ _ _ _ _).trans ?_
  refine Finset.sum_congr rfl fun k _ => ?_
  have e : h.lift (ValueIdx.ix1 p) k = ValueIdx.ix2 p k := by
    funext c; apply Fin.ext
    match c with
    | ⟨0, _⟩ => rfl
    | ⟨1, _⟩ => rfl
  exact congrArg v e

/-- A block's sums along its columns, as a row. -/
theorem sumCols {a b : ℕ} (v : FVec Ideal ⟨2, ![a, b]⟩ .f32) (h : (⟨2, ![a, b]⟩ : Shape).Reduces [0] ⟨1, ![b]⟩) (hc) (q : Fin b) :
    shapeCast ⟨2, ![1, b]⟩ (multiReduction (F := Ideal) .add [0] ⟨1, ![b]⟩ v 0x00000000#32 h (.inl rfl) rfl) hc (ValueIdx.ix2 (0 : Fin 1) q)
      = ∑ k : Fin a, v (ValueIdx.ix2 k q) := by
  refine (shapeCast_apply _ _ _ (ValueIdx.ix1 q) ?_).trans ?_
  · rw [Shape.rowMajor_val_one, Shape.rowMajor_val_two]
    show q.val = 0 * b + q.val
    omega
  refine (Ideal.multiReduction_add_single v _ _ _ _ _).trans ?_
  refine Finset.sum_congr rfl fun k _ => ?_
  have e : h.lift (ValueIdx.ix1 q) k = ValueIdx.ix2 k q := by
    funext c; apply Fin.ext
    match c with
    | ⟨0, _⟩ => rfl
    | ⟨1, _⟩ => rfl
  exact congrArg v e

/-- A plain product into zeros. -/
theorem prod_apply {M K N : ℕ} (u : FVec Ideal ⟨2, ![M, K]⟩ .bf16) (w : FVec Ideal ⟨2, ![K, N]⟩ .bf16) (p : Fin M) (q : Fin N) :
    FloatOps.matmul (F := Ideal) (DotDims.plain M K N) none u w (constant ⟨2, ![M, N]⟩ .f32 0x00000000#32) (ValueIdx.ix2 p q)
      = ∑ d : Fin K, u (ValueIdx.ix2 p d) * w (ValueIdx.ix2 d q) := by
  rw [Ideal.matmul_plain_apply]
  have : (constant (F := Ideal) ⟨2, ![M, N]⟩ .f32 0x00000000#32 : FVec Ideal ⟨2, ![M, N]⟩ .f32) (ValueIdx.ix2 p q) = 0 := Att.bits_zero
  rw [this, zero_add]

/-- A block turned. -/
theorem turn {α : Type} {a b : ℕ} (v : (⟨2, ![a, b]⟩ : Shape).Idx → α) (h) (p : Fin b) (q : Fin a) :
    transpose ⟨2, ![b, a]⟩ [1, 0] v h (ValueIdx.ix2 p q) = v (ValueIdx.ix2 q p) :=
  transpose_apply _ v h _ _ fun c => match c with
    | ⟨0, _⟩ => rfl
    | ⟨1, _⟩ => rfl

/-- A latent row's root-mean-square norm. -/
def nrm (x g : Fin 256 → EReal) (d : Fin 256) : EReal :=
  x d * Ideal.rsqrt (Ideal.div (∑ k, x k * x k) (Ideal.ofBits .f32 0x43800000#32) + Ideal.ofBits .f32 0x358637BD#32) * g d

/-- A head's reciprocal root mean square of its sum of squares `S` over the query's 192 entries. -/
def rstdQ (S : EReal) : EReal := Ideal.rsqrt (Ideal.div S (Ideal.ofBits .f32 0x43400000#32) + Ideal.ofBits .f32 0x358637BD#32)

/-- The same of a key's sum of squares, with the named reciprocal of 192. -/
def rstdK (S : EReal) : EReal := Ideal.rsqrt (S * ((1 / 192 : ℝ) : EReal) + Ideal.ofBits .f32 0x358637BD#32)

theorem pay6_apply (x0 : Vec Ideal S1x512x256 .f32) (x1 : Vec Ideal S1x256 .f32) (p : Fin 512) (d : Fin 256) :
    k0_pay6 (F := Ideal) x0 x1 (ValueIdx.ix2 p d) = nrm (fun k => x0 (ValueIdx.ix3 (0 : Fin 1) p k)) (fun k => x1 (ValueIdx.ix2 (0 : Fin 1) k)) d := by
  unfold k0_pay6
  rw [Att.cast_self]
  refine congrArg₂ (fun a b : EReal => a * b) (congrArg₂ (fun a b : EReal => a * b) (drop1 x0 _ p d) ((colB _ _ p d).trans ?_)) (rowB x1 _ p d)
  refine congrArg (fun z : EReal => Ideal.rsqrt (Ideal.div z (Ideal.ofBits .f32 0x43800000#32) + Ideal.ofBits .f32 0x358637BD#32)) ?_
  refine (sumRows _ _ _ p).trans (Finset.sum_congr rfl fun k _ => ?_)
  exact congrArg (fun z : EReal => z * z) (drop1 x0 _ p k)

theorem pay7_apply (x0 : Vec Ideal S1x512x256 .f32) (x1 : Vec Ideal S1x256 .f32) (p : Fin 512) (d : Fin 256) :
    k0_pay7 (F := Ideal) x0 x1 (ValueIdx.ix2 d p) = nrm (fun k => x0 (ValueIdx.ix3 (0 : Fin 1) p k)) (fun k => x1 (ValueIdx.ix2 (0 : Fin 1) k)) d :=
  (turn (k0_pay6 (F := Ideal) x0 x1) _ d p).trans (pay6_apply x0 x1 p d)

theorem pay5_apply (x0 : Vec Ideal S1x512x256 .f32) (x1 : Vec Ideal S1x256 .f32) (p : Fin 512) (d : Fin 256) :
    k0_pay5 (F := Ideal) x0 x1 (ValueIdx.ix2 d p) = nrm (fun k => x0 (ValueIdx.ix3 (0 : Fin 1) p k)) (fun k => x1 (ValueIdx.ix2 (0 : Fin 1) k)) d :=
  pay7_apply x0 x1 p d

/-- A query head's products. -/
theorem pay13_apply (u : FVec Ideal S256x512 .bf16) (w : Vec Ideal S1x192x256 .bf16) (j : Fin 192) (p : Fin 512) :
    k0_pay13 (F := Ideal) u w (ValueIdx.ix2 j p) = ∑ c : Fin 256, w (ValueIdx.ix3 (0 : Fin 1) j c) * u (ValueIdx.ix2 c p) :=
  (prod_apply _ u j p).trans (Finset.sum_congr rfl fun c _ => congrArg (fun z : EReal => z * u (ValueIdx.ix2 c p)) (drop1 w _ j c))

theorem pay14_apply (u : FVec Ideal S256x512 .bf16) (w : Vec Ideal S1x64x256 .bf16) (j : Fin 64) (p : Fin 512) :
    k0_pay14 (F := Ideal) u w (ValueIdx.ix2 j p) = ∑ c : Fin 256, w (ValueIdx.ix3 (0 : Fin 1) j c) * u (ValueIdx.ix2 c p) :=
  (prod_apply _ u j p).trans (Finset.sum_congr rfl fun c _ => congrArg (fun z : EReal => z * u (ValueIdx.ix2 c p)) (drop1 w _ j c))

theorem pay15_apply (u : FVec Ideal S256x512 .bf16) (w : Vec Ideal S1x192x256 .bf16) (p : Fin 512) :
    k0_pay15 (F := Ideal) u w (ValueIdx.ix2 (0 : Fin 1) p)
      = rstdQ (∑ j : Fin 192, k0_pay13 (F := Ideal) u w (ValueIdx.ix2 j p) * k0_pay13 (F := Ideal) u w (ValueIdx.ix2 j p)) :=
  congrArg rstdQ (sumCols _ _ _ p)

theorem pay17_apply (u : FVec Ideal S256x512 .bf16) (w : Vec Ideal S1x192x256 .bf16) (g : Vec Ideal S128x1 .f32) (j : Fin 128) (p : Fin 512) :
    k0_pay17 (F := Ideal) (k0_pay16 u w g) (ValueIdx.ix4 (0 : Fin 1) (0 : Fin 1) j p)
      = k0_pay13 (F := Ideal) u w (ValueIdx.ix2 (⟨j.val, by omega⟩ : Fin 192) p) * g (ValueIdx.ix2 j (0 : Fin 1)) * k0_pay15 (F := Ideal) u w (ValueIdx.ix2 (0 : Fin 1) p) := by
  refine (add2 (α := EReal) (k0_pay16 (F := Ideal) u w g) _ j p).trans ?_
  unfold k0_pay16
  rw [Att.cast_self]
  refine congrArg₂ (fun a b : EReal => a * b) (congrArg₂ (fun a b : EReal => a * b) ?_ (colB g _ j p)) (rowB (k0_pay15 (F := Ideal) u w) _ j p)
  exact extractStridedSlice_apply _ _ _ _ _ fun c => match c with
    | ⟨0, _⟩ => (Nat.zero_add _).symm
    | ⟨1, _⟩ => (Nat.zero_add _).symm

theorem pay10_apply (f : Vec Ideal S64x1 .f32) (x : Vec Ideal S1x1x512 .f32) (k : Fin 64) (p : Fin 512) :
    k0_pay10 (F := Ideal) (k0_pay9 f) x (ValueIdx.ix2 k p) = f (ValueIdx.ix2 k (0 : Fin 1)) * x (ValueIdx.ix3 (0 : Fin 1) (0 : Fin 1) p) := by
  unfold k0_pay10 k0_pay9
  rw [Att.cast_self]
  exact congrArg₂ (fun a b : EReal => a * b) (colB f _ k p) ((rowB _ _ k p).trans (drop1 x _ 0 p))

theorem pay11_apply (f : Vec Ideal S64x1 .f32) (x : Vec Ideal S1x1x512 .f32) (g : Vec Ideal S64x1 .f32) (k : Fin 64) (p : Fin 512) :
    k0_pay11 (F := Ideal) (k0_pay9 f) x g (ValueIdx.ix2 k p) = g (ValueIdx.ix2 k (0 : Fin 1)) * Ideal.cos (f (ValueIdx.ix2 k (0 : Fin 1)) * x (ValueIdx.ix3 (0 : Fin 1) (0 : Fin 1) p)) := by
  unfold k0_pay11
  rw [Att.cast_self]
  exact congrArg₂ (fun a b : EReal => a * b) (colB g _ k p) (congrArg Ideal.cos (pay10_apply f x k p))

theorem pay12_apply (f : Vec Ideal S64x1 .f32) (x : Vec Ideal S1x1x512 .f32) (g : Vec Ideal S64x1 .f32) (k : Fin 64) (p : Fin 512) :
    k0_pay12 (F := Ideal) (k0_pay9 f) x g (ValueIdx.ix2 k p) = g (ValueIdx.ix2 k (0 : Fin 1)) * Ideal.sin (f (ValueIdx.ix2 k (0 : Fin 1)) * x (ValueIdx.ix3 (0 : Fin 1) (0 : Fin 1) p)) := by
  unfold k0_pay12
  rw [Att.cast_self]
  exact congrArg₂ (fun a b : EReal => a * b) (colB g _ k p) (congrArg Ideal.sin (pay10_apply f x k p))

theorem pay18_apply (a b : FVec Ideal S64x512 .f32) (q : FVec Ideal S192x512 .f32) (qr : FVec Ideal S64x512 .f32) (r : FVec Ideal S1x512 .f32) (k : Fin 64) (p : Fin 512) :
    k0_pay18 (F := Ideal) a b q qr r (ValueIdx.ix4 (0 : Fin 1) (0 : Fin 1) k p)
      = (q (ValueIdx.ix2 (⟨128 + k.val, by omega⟩ : Fin 192) p) * a (ValueIdx.ix2 k p) + qr (ValueIdx.ix2 k p) * b (ValueIdx.ix2 k p)) * r (ValueIdx.ix2 (0 : Fin 1) p) := by
  unfold k0_pay18
  refine (add2 (α := EReal) _ _ k p).trans ?_
  refine congrArg₂ (fun a b : EReal => a * b) (congrArg (fun z : EReal => z * a (ValueIdx.ix2 k p) + qr (ValueIdx.ix2 k p) * b (ValueIdx.ix2 k p)) ?_) (rowB r _ k p)
  exact extractStridedSlice_apply _ _ _ _ _ fun c => match c with
    | ⟨0, _⟩ => rfl
    | ⟨1, _⟩ => (Nat.zero_add _).symm

/-- The key's turned part before its norm. -/
theorem pay57_apply (pos : Vec Ideal S1x512x1 .f32) (f : Vec Ideal S1x64 .f32) (x xr : Vec Ideal S1x512x64 .f32) (g gr : Vec Ideal S1x64 .f32) (p : Fin 512) (k : Fin 64) :
    k0_pay57 (F := Ideal) pos f x xr g gr (ValueIdx.ix2 p k)
      = x (ValueIdx.ix3 (0 : Fin 1) p k) * g (ValueIdx.ix2 (0 : Fin 1) k) * Ideal.cos (pos (ValueIdx.ix3 (0 : Fin 1) p (0 : Fin 1)) * f (ValueIdx.ix2 (0 : Fin 1) k))
        + xr (ValueIdx.ix3 (0 : Fin 1) p k) * gr (ValueIdx.ix2 (0 : Fin 1) k) * Ideal.sin (pos (ValueIdx.ix3 (0 : Fin 1) p (0 : Fin 1)) * f (ValueIdx.ix2 (0 : Fin 1) k)) := by
  unfold k0_pay57 k0_pay56
  rw [Att.cast_self, Att.cast_self, Att.cast_self]
  have ha : ∀ h₁ h₂ h₃, broadcastTo S512x64 (shapeCast S512x1 pos h₁) h₂ (ValueIdx.ix2 p k) * broadcastTo S512x64 f h₃ (ValueIdx.ix2 p k)
      = pos (ValueIdx.ix3 (0 : Fin 1) p (0 : Fin 1)) * f (ValueIdx.ix2 (0 : Fin 1) k) := fun h₁ h₂ h₃ =>
    congrArg₂ (fun a b : EReal => a * b) ((colB _ _ p k).trans (drop1 pos _ p 0)) (rowB f _ p k)
  refine congrArg₂ (fun a b : EReal => a + b) ?_ ?_
  · exact congrArg₂ (fun a b : EReal => a * b) (congrArg₂ (fun a b : EReal => a * b) (drop1 x _ p k) (rowB g _ p k)) (congrArg Ideal.cos (ha _ _ _))
  · exact congrArg₂ (fun a b : EReal => a * b) (congrArg₂ (fun a b : EReal => a * b) (drop1 xr _ p k) (rowB gr _ p k)) (congrArg Ideal.sin (ha _ _ _))

theorem pay58_apply (x : Vec Ideal S1x512x64 .f32) (p : Fin 512) :
    k0_pay58 (F := Ideal) x (ValueIdx.ix2 p (0 : Fin 1)) = ∑ k : Fin 64, x (ValueIdx.ix3 (0 : Fin 1) p k) * x (ValueIdx.ix3 (0 : Fin 1) p k) :=
  (sumRows _ _ _ p).trans (Finset.sum_congr rfl fun k _ => congrArg (fun z : EReal => z * z) (drop1 x _ p k))

/-- A key head's products. -/
theorem pay61_apply (u : FVec Ideal S512x256 .bf16) (w : Vec Ideal S1x256x128 .bf16) (p : Fin 512) (j : Fin 128) :
    k0_pay61 (F := Ideal) u (k0_pay60 w) (ValueIdx.ix2 p j) = ∑ c : Fin 256, u (ValueIdx.ix2 p c) * w (ValueIdx.ix3 (0 : Fin 1) c j) :=
  (prod_apply u _ p j).trans (Finset.sum_congr rfl fun c _ => congrArg (fun z : EReal => u (ValueIdx.ix2 p c) * z) (drop1 w _ c j))

theorem pay62_apply (u : FVec Ideal S512x256 .bf16) (s : FVec Ideal S512x1 .f32) (w : FVec Ideal S256x128 .bf16) (p : Fin 512) :
    k0_pay62 (F := Ideal) u s w (ValueIdx.ix2 p (0 : Fin 1))
      = rstdK ((∑ j : Fin 128, k0_pay61 (F := Ideal) u w (ValueIdx.ix2 p j) * k0_pay61 (F := Ideal) u w (ValueIdx.ix2 p j)) + s (ValueIdx.ix2 p (0 : Fin 1))) :=
  congrArg (fun z : EReal => rstdK (z + s (ValueIdx.ix2 p (0 : Fin 1)))) (sumRows _ _ _ p)

theorem pay63_apply (u : FVec Ideal S512x256 .bf16) (s : FVec Ideal S512x1 .f32) (w : FVec Ideal S256x128 .bf16) (g : Vec Ideal S1x128 .f32) (p : Fin 512) (j : Fin 128) :
    k0_pay63 (F := Ideal) u s w g (ValueIdx.ix4 (0 : Fin 1) (0 : Fin 1) p j)
      = k0_pay61 (F := Ideal) u w (ValueIdx.ix2 p j) * g (ValueIdx.ix2 (0 : Fin 1) j) * k0_pay62 (F := Ideal) u s w (ValueIdx.ix2 p (0 : Fin 1)) := by
  unfold k0_pay63
  rw [Att.cast_self]
  refine (add2 (α := EReal) _ _ p j).trans ?_
  exact congrArg₂ (fun a b : EReal => a * b) (congrArg (fun z : EReal => k0_pay61 (F := Ideal) u w (ValueIdx.ix2 p j) * z) (rowB g _ p j)) (colB (k0_pay62 (F := Ideal) u s w) _ p j)

theorem pay64_apply (u : FVec Ideal S512x256 .bf16) (t : FVec Ideal S512x64 .f32) (s : FVec Ideal S512x1 .f32) (w : FVec Ideal S256x128 .bf16) (p : Fin 512) (k : Fin 64) :
    k0_pay64 (F := Ideal) u t s w (ValueIdx.ix4 (0 : Fin 1) (0 : Fin 1) p k) = t (ValueIdx.ix2 p k) * k0_pay62 (F := Ideal) u s w (ValueIdx.ix2 p (0 : Fin 1)) := by
  unfold k0_pay64
  exact (add2 (α := EReal) _ _ p k).trans (congrArg (fun z : EReal => t (ValueIdx.ix2 p k) * z) (colB (k0_pay62 (F := Ideal) u s w) _ p k))

/-- A value head's products. -/
theorem pay65_apply (u : FVec Ideal S256x512 .bf16) (w : Vec Ideal S1x128x256 .bf16) (j : Fin 128) (p : Fin 512) :
    k0_pay65 (F := Ideal) u w (ValueIdx.ix5 (0 : Fin 1) (0 : Fin 1) (0 : Fin 1) j p) = ∑ c : Fin 256, w (ValueIdx.ix3 (0 : Fin 1) j c) * u (ValueIdx.ix2 c p) :=
  (add3 _ _ j p).trans ((prod_apply _ u j p).trans (Finset.sum_congr rfl fun c _ => congrArg (fun z : EReal => z * u (ValueIdx.ix2 c p)) (drop1 w _ j c)))

/-- The row of ones over rows of zeros. -/
theorem pay66_apply (j : Fin 16) (p : Fin 512) :
    k0_pay66 (F := Ideal) k0_pay59 (ValueIdx.ix5 (0 : Fin 1) (0 : Fin 1) (0 : Fin 1) j p) = if j.val = 0 then 1 else 0 := by
  refine (add3 (α := EReal) (k0_pay59 (F := Ideal)) _ j p).trans ?_
  have hb : (BitVec.setWidth 32 (BitVec.ofBool (decide ((BitVec.ofNat 32 (0 * 16 + j.val)) = (0#32)))) : BitVec 32).toInt = if j.val = 0 then 1 else 0 := by
    revert j; decide
  show (((BitVec.setWidth 32 (BitVec.ofBool (decide ((BitVec.ofNat 32 (0 * 16 + j.val)) = (0#32)))) : BitVec 32).toInt : ℝ) : EReal) = _
  rw [hb]
  split <;> simp

end Cert.Qkv

end
-- ==== Proof.QkvBlock.lean ====
/- The query, key and value projection's block results: each entry from the blocks the body reads. -/
module

public import proofs.«01_k».proof.Proof.QkvBody
public import Idealize.ShloMosaic.Lib.WholeRead
public import proofs.«01_k».proof.Proof.Gen.Kernel4Ideal.Frame

@[expose] public section

set_option maxRecDepth 16384
set_option maxHeartbeats 200000

noncomputable section

open scoped BigOperators

namespace Cert.Qkv

open Idealize.ShloMosaic Idealize.ShloMosaic.TcCoe
open Cert.Kernel4Ideal Cert.Kernel4Ideal.Gen

/-- A query entry from its head's products, the products turned, the gains, the frequencies and the position. -/
def qval (qd : Fin 192 → EReal) (gn : Fin 128 → EReal) (qr gc gs f : Fin 64 → EReal) (pos : EReal) (j : Fin 192) : EReal :=
  if h : j.val < 128 then qd j * gn ⟨j.val, h⟩ * rstdQ (∑ i, qd i * qd i)
  else (qd j * (gc ⟨j.val - 128, by omega⟩ * Ideal.cos (f ⟨j.val - 128, by omega⟩ * pos))
    + qr ⟨j.val - 128, by omega⟩ * (gs ⟨j.val - 128, by omega⟩ * Ideal.sin (f ⟨j.val - 128, by omega⟩ * pos))) * rstdQ (∑ i, qd i * qd i)

/-- A key entry from its head's products, the shared part as it is and turned, the gains, the frequencies and the position. -/
def kval (kn gn : Fin 128 → EReal) (x xr gc gs f : Fin 64 → EReal) (pos : EReal) (j : Fin 192) : EReal :=
  if h : j.val < 128 then kn ⟨j.val, h⟩ * gn ⟨j.val, h⟩ * rstdK ((∑ i, kn i * kn i) + ∑ i, x i * x i)
  else (x ⟨j.val - 128, by omega⟩ * gc ⟨j.val - 128, by omega⟩ * Ideal.cos (pos * f ⟨j.val - 128, by omega⟩)
    + xr ⟨j.val - 128, by omega⟩ * gs ⟨j.val - 128, by omega⟩ * Ideal.sin (pos * f ⟨j.val - 128, by omega⟩)) * rstdK ((∑ i, kn i * kn i) + ∑ i, x i * x i)

/-- A value entry: its head's products, then a row of ones, then zeros. -/
def vval (vd : Fin 128 → EReal) (j : Fin 144) : EReal :=
  if h : j.val < 128 then vd ⟨j.val, h⟩ else if j.val = 128 then 1 else 0

/-- Stored pieces that agree with a function are read as it, where they cover. -/
theorem read_of_pieces {sig' : RefSig} {κ' : Kind} {sp' : Space} {S : Shape} {e : EltTy} (v : View sig' κ' sp' S e) (f : v.ty.Contents (Elt Ideal)) (G : S.Idx → Elt Ideal e) :
    ∀ (L : List (View.Piece (Elt Ideal) S e)) (_ : ∀ p ∈ L, ∀ x : p.1.shape.Idx, p.2 x = G (p.1.emb x)) (y : S.Idx)
      (_ : ∃ p ∈ L, y ∈ p.1.set), v.read (Elt Ideal) (v.writes (Elt Ideal) f L) y = G y
  | [], _, _, hy => by obtain ⟨p, hp, _⟩ := hy; simp at hp
  | p :: L, hL, y, hy => by
    by_cases hm : y ∈ p.1.set
    · obtain ⟨x, rfl⟩ := p.1.exists_idx_of_mem hm
      exact (View.read_writes_cons_emb v f p.1 p.2 L x).trans (hL p (by simp) x)
    · rw [View.read_writes_cons_miss v f p L y hm]
      refine read_of_pieces v f G L (fun q hq => hL q (by simp [hq])) y ?_
      obtain ⟨q, hq, hy'⟩ := hy
      rcases List.mem_cons.1 hq with rfl | h
      · exact absurd hy' hm
      · exact ⟨q, h, hy'⟩

/-- A load of a whole block, from an offset on. -/
theorem ld_eq {s : Shape} {e : EltTy} (arg : Memref sig .tc .vmem s e) (harg : arg.IsWhole) (x : Vec Ideal s e) (B : Rect s) :
    View.readAt (Elt Ideal) arg.view B.toLoadRect (harg.unread x) = View.ld (Val := Elt Ideal) x B :=
  funext fun y => harg.readAt_unread x _ y

/-- A head's slab of a block of weights. -/
theorem ld_slab {a b : ℕ} {e : EltTy} (arg : Memref sig .tc .vmem ⟨3, ![8, a, b]⟩ e) (harg : arg.IsWhole) (x : Vec Ideal ⟨3, ![8, a, b]⟩ e) (h : ℕ) (hh : h < 8) (inb) (p : Fin a) (q : Fin b) :
    View.readAt (Elt Ideal) arg.view (Rect.unit (s := ⟨3, ![8, a, b]⟩) ![h, 0, 0] ![1, a, b] inb).toLoadRect (harg.unread x) (ValueIdx.ix3 (0 : Fin 1) p q)
      = x (ValueIdx.ix3 (⟨h, hh⟩ : Fin 8) p q) := by
  rw [ld_eq]
  exact View.ld_unit_apply_of x ![h, 0, 0] ![1, a, b] inb (ValueIdx.ix3 (0 : Fin 1) p q) _ fun c => match c with
    | ⟨0, _⟩ => rfl
    | ⟨1, _⟩ => (Nat.zero_add _).symm
    | ⟨2, _⟩ => (Nat.zero_add _).symm

/-- Columns of a block from `o` on. -/
theorem ld_cols (arg : Memref sig .tc .vmem S1x512x128 .f32) (harg : arg.IsWhole) (x : Vec Ideal S1x512x128 .f32) (o : ℕ) (inb) (p : Fin 512) (q : Fin 64) (ho : o + q.val < 128) :
    View.readAt (Elt Ideal) arg.view (Rect.unit (s := S1x512x128) ![0, 0, o] ![1, 512, 64] inb).toLoadRect (harg.unread x) (ValueIdx.ix3 (0 : Fin 1) p q)
      = x (ValueIdx.ix3 (0 : Fin 1) p (⟨o + q.val, ho⟩ : Fin 128)) := by
  rw [ld_eq]
  exact View.ld_unit_apply_of x ![0, 0, o] ![1, 512, 64] inb (ValueIdx.ix3 (0 : Fin 1) p q) _ fun c => match c with
    | ⟨0, _⟩ => rfl
    | ⟨1, _⟩ => (Nat.zero_add _).symm
    | ⟨2, _⟩ => rfl

/-- A latent block's norm at an entry. -/
def lat (x : Vec Ideal S1x512x256 .f32) (g : Vec Ideal S1x256 .f32) (p : Fin 512) (d : Fin 256) : EReal :=
  nrm (fun k => x (ValueIdx.ix3 (0 : Fin 1) p k)) (fun k => g (ValueIdx.ix2 (0 : Fin 1) k)) d

/-- The query block. -/
def qblk (x0 : Vec Ideal S1x512x256 .f32) (x4 : Vec Ideal S1x1x512 .f32) (x5 : Vec Ideal S1x256 .f32) (x7 : Vec Ideal S8x192x256 .bf16) (x8 : Vec Ideal S8x64x256 .bf16)
    (x11 : Vec Ideal S128x1 .f32) (x12 x13 x18 : Vec Ideal S64x1 .f32) (h : Fin 8) (j : Fin 192) (p : Fin 512) : EReal :=
  qval (fun i => ∑ c : Fin 256, x7 (ValueIdx.ix3 h i c) * lat x0 x5 p c) (fun i => x11 (ValueIdx.ix2 i (0 : Fin 1)))
    (fun k => ∑ c : Fin 256, x8 (ValueIdx.ix3 h k c) * lat x0 x5 p c) (fun k => x12 (ValueIdx.ix2 k (0 : Fin 1))) (fun k => x13 (ValueIdx.ix2 k (0 : Fin 1)))
    (fun k => x18 (ValueIdx.ix2 k (0 : Fin 1))) (x4 (ValueIdx.ix3 (0 : Fin 1) (0 : Fin 1) p)) j

/-- The key block. -/
def kblk (x1 : Vec Ideal S1x512x256 .f32) (x2 : Vec Ideal S1x512x128 .f32) (x3 : Vec Ideal S1x512x1 .f32) (x6 : Vec Ideal S1x256 .f32) (x9 : Vec Ideal S8x256x128 .bf16)
    (x14 : Vec Ideal S1x128 .f32) (x15 x16 x17 : Vec Ideal S1x64 .f32) (h : Fin 8) (p : Fin 512) (j : Fin 192) : EReal :=
  kval (fun i => ∑ c : Fin 256, lat x1 x6 p c * x9 (ValueIdx.ix3 h c i)) (fun i => x14 (ValueIdx.ix2 (0 : Fin 1) i))
    (fun k => x2 (ValueIdx.ix3 (0 : Fin 1) p (⟨k.val, by omega⟩ : Fin 128))) (fun k => x2 (ValueIdx.ix3 (0 : Fin 1) p (⟨64 + k.val, by omega⟩ : Fin 128)))
    (fun k => x15 (ValueIdx.ix2 (0 : Fin 1) k)) (fun k => x16 (ValueIdx.ix2 (0 : Fin 1) k)) (fun k => x17 (ValueIdx.ix2 (0 : Fin 1) k))
    (x3 (ValueIdx.ix3 (0 : Fin 1) p (0 : Fin 1))) j

/-- The value block. -/
def vblk (x1 : Vec Ideal S1x512x256 .f32) (x6 : Vec Ideal S1x256 .f32) (x10 : Vec Ideal S8x128x256 .bf16) (h : Fin 8) (j : Fin 144) (p : Fin 512) : EReal :=
  vval (fun i => ∑ c : Fin 256, x10 (ValueIdx.ix3 h i c) * lat x1 x6 p c) j

theorem qn_val (u : FVec Ideal S256x512 .bf16) (w : Vec Ideal S1x192x256 .bf16) (g : Vec Ideal S128x1 .f32) (qr gc gs f : Fin 64 → EReal) (pos : EReal)
    (W : Fin 192 → Fin 256 → EReal) (a : Fin 256 → EReal) (p : Fin 512) (hu : ∀ c, u (ValueIdx.ix2 c p) = a c) (hw : ∀ i c, w (ValueIdx.ix3 (0 : Fin 1) i c) = W i c) (j : Fin 128) (j' : Fin 192) (hj : j'.val = j.val) :
    k0_pay17 (F := Ideal) (k0_pay16 u w g) (ValueIdx.ix4 (0 : Fin 1) (0 : Fin 1) j p)
      = qval (fun i => ∑ c : Fin 256, W i c * a c) (fun i => g (ValueIdx.ix2 i (0 : Fin 1))) qr gc gs f pos j' := by
  have hq : ∀ i : Fin 192, k0_pay13 (F := Ideal) u w (ValueIdx.ix2 i p) = ∑ c : Fin 256, W i c * a c := fun i => by
    rw [pay13_apply]
    exact Finset.sum_congr rfl fun c _ => by rw [hu, hw]
  rw [pay17_apply, pay15_apply]
  simp only [hq]
  have hb : j.val < 192 := Nat.lt_trans j.isLt (by norm_num)
  obtain rfl : j' = ⟨j.val, hb⟩ := Fin.ext hj
  unfold qval
  rw [dif_pos j.isLt]

theorem qr_val (u : FVec Ideal S256x512 .bf16) (w : Vec Ideal S1x192x256 .bf16) (w' : Vec Ideal S1x64x256 .bf16) (gn : Fin 128 → EReal) (f gc gs : Vec Ideal S64x1 .f32) (x : Vec Ideal S1x1x512 .f32)
    (W : Fin 192 → Fin 256 → EReal) (W' : Fin 64 → Fin 256 → EReal) (a : Fin 256 → EReal) (p : Fin 512) (hu : ∀ c, u (ValueIdx.ix2 c p) = a c)
    (hw : ∀ i c, w (ValueIdx.ix3 (0 : Fin 1) i c) = W i c) (hw' : ∀ i c, w' (ValueIdx.ix3 (0 : Fin 1) i c) = W' i c) (k : Fin 64) (j' : Fin 192) (hj : j'.val = 128 + k.val) :
    k0_pay18 (F := Ideal) (k0_pay11 (k0_pay9 f) x gc) (k0_pay12 (k0_pay9 f) x gs) (k0_pay13 u w) (k0_pay14 u w') (k0_pay15 u w) (ValueIdx.ix4 (0 : Fin 1) (0 : Fin 1) k p)
      = qval (fun i => ∑ c : Fin 256, W i c * a c) gn (fun k => ∑ c : Fin 256, W' k c * a c) (fun k => gc (ValueIdx.ix2 k (0 : Fin 1))) (fun k => gs (ValueIdx.ix2 k (0 : Fin 1)))
          (fun k => f (ValueIdx.ix2 k (0 : Fin 1))) (x (ValueIdx.ix3 (0 : Fin 1) (0 : Fin 1) p)) j' := by
  have hq : ∀ i : Fin 192, k0_pay13 (F := Ideal) u w (ValueIdx.ix2 i p) = ∑ c : Fin 256, W i c * a c := fun i => by
    rw [pay13_apply]
    exact Finset.sum_congr rfl fun c _ => by rw [hu, hw]
  have hr : k0_pay14 (F := Ideal) u w' (ValueIdx.ix2 k p) = ∑ c : Fin 256, W' k c * a c := by
    rw [pay14_apply]
    exact Finset.sum_congr rfl fun c _ => by rw [hu, hw']
  rw [pay18_apply, pay15_apply, pay11_apply, pay12_apply, hr]
  simp only [hq]
  have hb : 128 + k.val < 192 := Nat.add_lt_add_left k.isLt 128
  obtain rfl : j' = ⟨128 + k.val, hb⟩ := Fin.ext hj
  have e' : (⟨128 + k.val - 128, by omega⟩ : Fin 64) = k := Fin.ext (Nat.add_sub_cancel_left _ _)
  unfold qval
  rw [dif_neg (by show ¬ 128 + k.val < 128; omega)]
  simp only [e']

theorem kn_val (u : FVec Ideal S512x256 .bf16) (y : Vec Ideal S1x512x64 .f32) (w : Vec Ideal S1x256x128 .bf16) (g : Vec Ideal S1x128 .f32) (xr gc gs f : Fin 64 → EReal) (pos : EReal)
    (W : Fin 256 → Fin 128 → EReal) (a : Fin 256 → EReal) (x : Fin 64 → EReal) (p : Fin 512) (hu : ∀ c, u (ValueIdx.ix2 p c) = a c) (hw : ∀ c i, w (ValueIdx.ix3 (0 : Fin 1) c i) = W c i)
    (hx : ∀ k, y (ValueIdx.ix3 (0 : Fin 1) p k) = x k) (j : Fin 128) (j' : Fin 192) (hj : j'.val = j.val) :
    k0_pay63 (F := Ideal) u (k0_pay58 y) (k0_pay60 w) g (ValueIdx.ix4 (0 : Fin 1) (0 : Fin 1) p j)
      = kval (fun i => ∑ c : Fin 256, a c * W c i) (fun i => g (ValueIdx.ix2 (0 : Fin 1) i)) x xr gc gs f pos j' := by
  have hq : ∀ i : Fin 128, k0_pay61 (F := Ideal) u (k0_pay60 w) (ValueIdx.ix2 p i) = ∑ c : Fin 256, a c * W c i := fun i => by
    rw [pay61_apply]
    exact Finset.sum_congr rfl fun c _ => by rw [hu, hw]
  rw [pay63_apply, pay62_apply, pay58_apply]
  simp only [hq, hx]
  have hb : j.val < 192 := Nat.lt_trans j.isLt (by norm_num)
  obtain rfl : j' = ⟨j.val, hb⟩ := Fin.ext hj
  unfold kval
  rw [dif_pos j.isLt]

theorem kr_val (u : FVec Ideal S512x256 .bf16) (y y' : Vec Ideal S1x512x64 .f32) (w : Vec Ideal S1x256x128 .bf16) (gn : Fin 128 → EReal) (f gc gs : Vec Ideal S1x64 .f32) (pos : Vec Ideal S1x512x1 .f32)
    (W : Fin 256 → Fin 128 → EReal) (a : Fin 256 → EReal) (x x' : Fin 64 → EReal) (p : Fin 512) (hu : ∀ c, u (ValueIdx.ix2 p c) = a c) (hw : ∀ c i, w (ValueIdx.ix3 (0 : Fin 1) c i) = W c i)
    (hx : ∀ k, y (ValueIdx.ix3 (0 : Fin 1) p k) = x k) (hx' : ∀ k, y' (ValueIdx.ix3 (0 : Fin 1) p k) = x' k) (k : Fin 64) (j' : Fin 192) (hj : j'.val = 128 + k.val) :
    k0_pay64 (F := Ideal) u (k0_pay57 pos f y y' gc gs) (k0_pay58 y) (k0_pay60 w) (ValueIdx.ix4 (0 : Fin 1) (0 : Fin 1) p k)
      = kval (fun i => ∑ c : Fin 256, a c * W c i) gn x x' (fun k => gc (ValueIdx.ix2 (0 : Fin 1) k)) (fun k => gs (ValueIdx.ix2 (0 : Fin 1) k))
          (fun k => f (ValueIdx.ix2 (0 : Fin 1) k)) (pos (ValueIdx.ix3 (0 : Fin 1) p (0 : Fin 1))) j' := by
  have hq : ∀ i : Fin 128, k0_pay61 (F := Ideal) u (k0_pay60 w) (ValueIdx.ix2 p i) = ∑ c : Fin 256, a c * W c i := fun i => by
    rw [pay61_apply]
    exact Finset.sum_congr rfl fun c _ => by rw [hu, hw]
  rw [pay64_apply, pay62_apply, pay58_apply, pay57_apply]
  simp only [hq, hx, hx']
  have hb : 128 + k.val < 192 := Nat.add_lt_add_left k.isLt 128
  obtain rfl : j' = ⟨128 + k.val, hb⟩ := Fin.ext hj
  have e' : (⟨128 + k.val - 128, by omega⟩ : Fin 64) = k := Fin.ext (Nat.add_sub_cancel_left _ _)
  unfold kval
  rw [dif_neg (by show ¬ 128 + k.val < 128; omega)]
  simp only [e']

theorem vn_val (u : FVec Ideal S256x512 .bf16) (w : Vec Ideal S1x128x256 .bf16) (W : Fin 128 → Fin 256 → EReal) (a : Fin 256 → EReal) (p : Fin 512) (hu : ∀ c, u (ValueIdx.ix2 c p) = a c)
    (hw : ∀ i c, w (ValueIdx.ix3 (0 : Fin 1) i c) = W i c) (j : Fin 128) (j' : Fin 144) (hj : j'.val = j.val) :
    k0_pay65 (F := Ideal) u w (ValueIdx.ix5 (0 : Fin 1) (0 : Fin 1) (0 : Fin 1) j p) = vval (fun i => ∑ c : Fin 256, W i c * a c) j' := by
  rw [pay65_apply]
  have hb : j.val < 144 := Nat.lt_trans j.isLt (by norm_num)
  obtain rfl : j' = ⟨j.val, hb⟩ := Fin.ext hj
  unfold vval
  rw [dif_pos j.isLt]
  exact Finset.sum_congr rfl fun c _ => by rw [hu, hw]

theorem vo_val (vd : Fin 128 → EReal) (p : Fin 512) (j : Fin 16) (j' : Fin 144) (hj : j'.val = 128 + j.val) :
    k0_pay66 (F := Ideal) k0_pay59 (ValueIdx.ix5 (0 : Fin 1) (0 : Fin 1) (0 : Fin 1) j p) = vval vd j' := by
  rw [pay66_apply]
  have hb : 128 + j.val < 144 := Nat.add_lt_add_left j.isLt 128
  obtain rfl : j' = ⟨128 + j.val, hb⟩ := Fin.ext hj
  unfold vval
  rw [dif_neg (by show ¬ 128 + j.val < 128; omega)]
  show _ = if 128 + j.val = 128 then (1 : EReal) else 0
  by_cases h : j.val = 0
  · rw [if_pos h, if_pos (by omega)]
  · rw [if_neg h, if_neg (by omega)]

end Cert.Qkv

end
-- ==== Proof.QkvAlg.lean ====
/- The algebra between the projection's body and its reference: a head's scale taken out of its rotation. -/
module

public import proofs.«01_k».proof.Proof.QkvBlock

@[expose] public section

set_option maxRecDepth 16384
set_option maxHeartbeats 200000

noncomputable section

open scoped BigOperators

namespace Cert.Qkv

open Idealize.ShloMosaic Idealize.ShloMosaic.TcCoe
theorem bits_dim : Ideal.ofBits .f32 0x43400000#32 = ((192 : ℝ) : EReal) := by
  simp [Ideal.ofBits, Ideal.ieee]
  rw [← EReal.coe_mul]
  norm_num

/-- The small addend is a positive real. -/
theorem bits_small : ∃ e : ℝ, 0 < e ∧ Ideal.ofBits .f32 0x358637BD#32 = (e : EReal) := by
  simp only [Ideal.ofBits, Ideal.ieee]
  simp
  refine ⟨_, ?_, (EReal.coe_mul _ _).symm⟩
  positivity

/-- A square is not negative. -/
theorem sq_nonneg' (x : EReal) : 0 ≤ x * x := by
  rcases le_total 0 x with h | h
  · exact mul_nonneg h h
  · rw [← neg_mul_neg]
    exact mul_nonneg (EReal.neg_nonneg.2 h) (EReal.neg_nonneg.2 h)

/-- The named reciprocal of 192 scales as the division does. -/
theorem rstdK_eq (S : EReal) : rstdK S = rstdQ S := by
  unfold rstdK rstdQ
  rw [bits_dim, Ideal.div_coe (by norm_num)]

theorem rstdQ_top : rstdQ ⊤ = 0 := by
  obtain ⟨e, he, hE⟩ := bits_small
  unfold rstdQ
  rw [bits_dim, Ideal.div_coe (by norm_num), hE, EReal.top_mul_coe_of_pos (by norm_num), EReal.top_add_coe]
  rfl

/-- A head's scale is a real and not negative. -/
theorem rstdQ_real (S : EReal) (h : 0 ≤ S) : ∃ r : ℝ, 0 ≤ r ∧ rstdQ S = (r : EReal) := by
  obtain ⟨e, he, hE⟩ := bits_small
  match S, h with
  | ⊥, h => exact absurd h (by simp)
  | ⊤, _ => exact ⟨0, le_refl _, rstdQ_top⟩
  | (s : ℝ), h =>
    have hs : 0 ≤ s := EReal.coe_nonneg.1 h
    have hpos : 0 < s * (1 / 192) + e := add_pos_of_nonneg_of_pos (mul_nonneg hs (by norm_num)) he
    refine ⟨(Real.sqrt (s * (1 / 192) + e))⁻¹, inv_nonneg.2 (Real.sqrt_nonneg _), ?_⟩
    unfold rstdQ
    rw [bits_dim, Ideal.div_coe (by norm_num), hE, ← EReal.coe_mul, ← EReal.coe_add]
    show (if _ < (0 : ℝ) then (⊥ : EReal) else if _ = (0 : ℝ) then ⊤ else _) = _
    rw [if_neg (not_lt.2 hpos.le), if_neg hpos.ne']

/-- A sum of squares holding an infinite entry's is infinite. -/
theorem sum_sq_top {ι : Type*} [Fintype ι] (q : ι → EReal) (i : ι) (hi : ¬ ∃ r : ℝ, q i = r) : ∑ j, q j * q j = ⊤ := by
  have hsq : q i * q i = ⊤ := by
    match hq : q i with
    | ⊥ => rfl
    | ⊤ => rfl
    | (r : ℝ) => exact absurd ⟨r, hq⟩ hi
  exact top_le_iff.1 (hsq.symm.le.trans (Finset.single_le_sum (f := fun j => q j * q j) (fun j _ => sq_nonneg' (q j)) (Finset.mem_univ i)))

/-- Two terms of a real sum are real. -/
theorem add_real (a b : EReal) (h : ∃ r : ℝ, a + b = r) : (∃ r : ℝ, a = r) ∧ ∃ r : ℝ, b = r := by
  obtain ⟨r, h⟩ := h
  match a, b, h with
  | ⊥, _, h => exact absurd h (by simp)
  | _, ⊥, h => exact absurd h (by simp)
  | ⊤, ⊤, h => exact absurd h (by simp)
  | ⊤, (b : ℝ), h => exact absurd h (by simp)
  | (a : ℝ), ⊤, h => exact absurd h (by simp)
  | (a : ℝ), (b : ℝ), _ => exact ⟨⟨a, rfl⟩, ⟨b, rfl⟩⟩

/-- A real sum's terms negated sum to its negation. -/
theorem sum_neg_real {ι : Type*} [DecidableEq ι] (s : Finset ι) (f : ι → EReal) (h : ∃ r : ℝ, ∑ i ∈ s, f i = r) : ∑ i ∈ s, -f i = -∑ i ∈ s, f i := by
  induction s using Finset.induction_on with
  | empty => simp
  | insert a s ha ih =>
    rw [Finset.sum_insert ha] at h ⊢
    obtain ⟨⟨x, hx⟩, y, hy⟩ := add_real _ _ h
    rw [Finset.sum_insert ha, ih ⟨y, hy⟩, hx, hy]
    rw [← EReal.coe_neg, ← EReal.coe_neg, ← EReal.coe_add, ← EReal.coe_add, ← EReal.coe_neg, neg_add]

/-- A head's entries with the last 64 turned by the angles: each pair of the two halves. -/
def rot (x : Fin 192 → EReal) (a : Fin 32 → EReal) (j : Fin 192) : EReal :=
  if j.val < 128 then x j
  else if h : j.val < 160 then x j * Ideal.cos (a ⟨j.val - 128, by omega⟩) - x ⟨j.val + 32, by omega⟩ * Ideal.sin (a ⟨j.val - 128, by omega⟩)
  else x j * Ideal.cos (a ⟨j.val - 160, by omega⟩) + x ⟨j.val - 32, by omega⟩ * Ideal.sin (a ⟨j.val - 160, by omega⟩)

/-- A head's root-mean-square norm over its 192 entries. -/
def hnrm (x g : Fin 192 → EReal) (j : Fin 192) : EReal := x j * rstdQ (∑ i, x i * x i) * g j

/-- The scale taken out of a turned pair. -/
theorem pull (x g y g' c s : EReal) (r : ℝ) (hr : 0 ≤ r) :
    (x * (g * c) + y * (g' * s)) * (r : EReal) = x * r * g * c + y * r * g' * s := by
  rw [EReal.right_distrib_of_nonneg_of_ne_top (EReal.coe_nonneg.2 hr) (EReal.coe_ne_top r)]
  congr 1 <;> ac_rfl

/-- The body's query entry is the norm's, turned. -/
theorem qval_eq (q g : Fin 192 → EReal) (qr : Fin 64 → EReal) (a : Fin 32 → EReal) (gn : Fin 128 → EReal) (gc gs f : Fin 64 → EReal) (pos : EReal)
    (hgn : ∀ k : Fin 128, gn k = g ⟨k.val, by omega⟩) (hgc : ∀ k : Fin 64, gc k = g ⟨128 + k.val, by omega⟩)
    (hlo : ∀ k : Fin 64, k.val < 32 → gs k = g ⟨(160 + k.val) % 192, Nat.mod_lt _ (by norm_num)⟩)
    (hhi : ∀ k : Fin 64, ¬ k.val < 32 → gs k = g ⟨96 + k.val, by omega⟩)
    (hf : ∀ k : Fin 64, f k * pos = a ⟨k.val % 32, Nat.mod_lt _ (by norm_num)⟩)
    (qlo : ∀ k : Fin 64, k.val < 32 → (∃ r : ℝ, q ⟨(160 + k.val) % 192, Nat.mod_lt _ (by norm_num)⟩ = r) → qr k = -q ⟨(160 + k.val) % 192, Nat.mod_lt _ (by norm_num)⟩)
    (qhi : ∀ k : Fin 64, ¬ k.val < 32 → qr k = q ⟨96 + k.val, by omega⟩) (j : Fin 192) :
    qval q gn qr gc gs f pos j = rot (hnrm q g) a j := by
  have hj := j.isLt
  unfold qval
  by_cases h : j.val < 128
  · rw [dif_pos h, rot, if_pos h, hgn]
    show q j * g j * _ = q j * _ * g j
    ac_rfl
  rw [dif_neg h, rot, if_neg h]
  by_cases hq : ∀ i, ∃ r : ℝ, q i = r
  swap
  · obtain ⟨i, hi⟩ := not_forall.1 hq
    have hz : ∀ k, hnrm q g k = 0 := fun k => by
      unfold hnrm
      rw [sum_sq_top q i hi, rstdQ_top, mul_zero, zero_mul]
    rw [sum_sq_top q i hi, rstdQ_top, mul_zero]
    simp only [hz, zero_mul]
    split <;> simp
  obtain ⟨r, hr0, hr⟩ := rstdQ_real (∑ i, q i * q i) (Finset.sum_nonneg fun i _ => sq_nonneg' (q i))
  rw [hr, pull _ _ _ _ _ _ r hr0]
  unfold hnrm
  rw [hr]
  have e1 : (⟨128 + (j.val - 128), by omega⟩ : Fin 192) = j := Fin.ext (by show 128 + (j.val - 128) = j.val; omega)
  by_cases h' : j.val < 160
  · rw [dif_pos h']
    have hk : (⟨j.val - 128, by omega⟩ : Fin 64).val < 32 := by show j.val - 128 < 32; omega
    have e2 : (⟨(160 + (j.val - 128)) % 192, Nat.mod_lt _ (by norm_num)⟩ : Fin 192) = ⟨j.val + 32, by omega⟩ := Fin.ext (by show (160 + (j.val - 128)) % 192 = j.val + 32; omega)
    have e3 : (⟨(j.val - 128) % 32, Nat.mod_lt _ (by norm_num)⟩ : Fin 32) = ⟨j.val - 128, by omega⟩ := Fin.ext (by show (j.val - 128) % 32 = j.val - 128; omega)
    rw [hf, hgc, hlo _ hk, qlo _ hk (hq _)]
    simp only [e1, e2, e3]
    rw [sub_eq_add_neg, EReal.neg_mul, EReal.neg_mul, EReal.neg_mul]
  · rw [dif_neg h']
    have hk : ¬ (⟨j.val - 128, by omega⟩ : Fin 64).val < 32 := by show ¬ j.val - 128 < 32; omega
    have e2 : (⟨96 + (j.val - 128), by omega⟩ : Fin 192) = ⟨j.val - 32, by omega⟩ := Fin.ext (by show 96 + (j.val - 128) = j.val - 32; omega)
    have e3 : (⟨(j.val - 128) % 32, Nat.mod_lt _ (by norm_num)⟩ : Fin 32) = ⟨j.val - 160, by omega⟩ := Fin.ext (by show (j.val - 128) % 32 = j.val - 160; omega)
    rw [hf, hgc, hhi _ hk, qhi _ hk]
    simp only [e1, e2, e3]

/-- The same of the key, whose turned part all heads share. -/
theorem kval_eq (q g : Fin 192 → EReal) (kn gn : Fin 128 → EReal) (x xr : Fin 64 → EReal) (a : Fin 32 → EReal) (gc gs f : Fin 64 → EReal) (pos : EReal)
    (hkn : ∀ k : Fin 128, kn k = q ⟨k.val, by omega⟩) (hx : ∀ k : Fin 64, x k = q ⟨128 + k.val, by omega⟩)
    (hgn : ∀ k : Fin 128, gn k = g ⟨k.val, by omega⟩) (hgc : ∀ k : Fin 64, gc k = g ⟨128 + k.val, by omega⟩)
    (hlo : ∀ k : Fin 64, k.val < 32 → gs k = g ⟨(160 + k.val) % 192, Nat.mod_lt _ (by norm_num)⟩)
    (hhi : ∀ k : Fin 64, ¬ k.val < 32 → gs k = g ⟨96 + k.val, by omega⟩)
    (hf : ∀ k : Fin 64, pos * f k = a ⟨k.val % 32, Nat.mod_lt _ (by norm_num)⟩)
    (qlo : ∀ k : Fin 64, k.val < 32 → xr k = -q ⟨(160 + k.val) % 192, Nat.mod_lt _ (by norm_num)⟩)
    (qhi : ∀ k : Fin 64, ¬ k.val < 32 → xr k = q ⟨96 + k.val, by omega⟩) (j : Fin 192) :
    kval kn gn x xr gc gs f pos j = rot (hnrm q g) a j := by
  have hj := j.isLt
  have hs : (∑ i, kn i * kn i) + ∑ i, x i * x i = ∑ i : Fin 192, q i * q i := by
    rw [show (∑ i : Fin 192, q i * q i) = ∑ i : Fin (128 + 64), q i * q i from rfl, Fin.sum_univ_add]
    refine congrArg₂ (fun a b : EReal => a + b) (Finset.sum_congr rfl fun k _ => ?_) (Finset.sum_congr rfl fun k _ => ?_)
    · rw [hkn]; rfl
    · rw [hx]; rfl
  unfold kval
  rw [hs, rstdK_eq]
  by_cases h : j.val < 128
  · rw [dif_pos h, rot, if_pos h, hgn, hkn]
    show q j * g j * _ = q j * _ * g j
    ac_rfl
  rw [dif_neg h, rot, if_neg h]
  obtain ⟨r, hr0, hr⟩ := rstdQ_real (∑ i, q i * q i) (Finset.sum_nonneg fun i _ => sq_nonneg' (q i))
  rw [hr, mul_assoc (x _), mul_assoc (xr _), pull _ _ _ _ _ _ r hr0]
  unfold hnrm
  rw [hr]
  have e1 : (⟨128 + (j.val - 128), by omega⟩ : Fin 192) = j := Fin.ext (by show 128 + (j.val - 128) = j.val; omega)
  by_cases h' : j.val < 160
  · rw [dif_pos h']
    have hk : (⟨j.val - 128, by omega⟩ : Fin 64).val < 32 := by show j.val - 128 < 32; omega
    have e2 : (⟨(160 + (j.val - 128)) % 192, Nat.mod_lt _ (by norm_num)⟩ : Fin 192) = ⟨j.val + 32, by omega⟩ := Fin.ext (by show (160 + (j.val - 128)) % 192 = j.val + 32; omega)
    have e3 : (⟨(j.val - 128) % 32, Nat.mod_lt _ (by norm_num)⟩ : Fin 32) = ⟨j.val - 128, by omega⟩ := Fin.ext (by show (j.val - 128) % 32 = j.val - 128; omega)
    rw [hf, hgc, hlo _ hk, qlo _ hk, hx]
    simp only [e1, e2, e3]
    rw [sub_eq_add_neg, EReal.neg_mul, EReal.neg_mul, EReal.neg_mul]
  · rw [dif_neg h']
    have hk : ¬ (⟨j.val - 128, by omega⟩ : Fin 64).val < 32 := by show ¬ j.val - 128 < 32; omega
    have e2 : (⟨96 + (j.val - 128), by omega⟩ : Fin 192) = ⟨j.val - 32, by omega⟩ := Fin.ext (by show 96 + (j.val - 128) = j.val - 32; omega)
    have e3 : (⟨(j.val - 128) % 32, Nat.mod_lt _ (by norm_num)⟩ : Fin 32) = ⟨j.val - 160, by omega⟩ := Fin.ext (by show (j.val - 128) % 32 = j.val - 160; omega)
    rw [hf, hgc, hhi _ hk, qhi _ hk, hx]
    simp only [e1, e2, e3]

end Cert.Qkv

end
-- ==== Proof.QkvRef.lean ====
/- The latent projections' reference, element by element: norms, products, and the turned parts. -/
module

public import proofs.«01_k».proof.Proof.QkvAlg
public import proofs.«01_k».proof.Proof.Gen.Reference4Ideal.Read

@[expose] public section

set_option maxRecDepth 16384
set_option maxHeartbeats 200000

noncomputable section

open scoped BigOperators

namespace Cert.Qkv

open Idealize.ShloMosaic Idealize.ShloMosaic.TcCoe
open Cert.Reference4Ideal Cert.Reference4Ideal.Gen Cert.Reference4Ideal.Read

variable (x0 x1 : S4x8192x256.Idx → EReal) (x2 : S4x8192x64.Idx → EReal) (x3 : S4x8192.Idx → BitVec 32)
  (x4 x6 : S256.Idx → EReal) (x5 : S256x1536.Idx → EReal) (x7 : S256x2048.Idx → EReal) (x8 x9 : S192.Idx → EReal)

theorem bits_one : Ideal.ofBits .f32 0x3F800000#32 = 1 := by
  simp [Ideal.ofBits, Ideal.ieee]
  rw [← EReal.coe_mul]
  norm_num

/-- A position's latent after the norm. -/
def L (x : S4x8192x256.Idx → EReal) (g : S256.Idx → EReal) (b : Fin 4) (s : Fin 8192) (c : Fin 256) : EReal :=
  nrm (fun k => x (ValueIdx.ix3 b s k)) (fun k => g (ValueIdx.ix1 k)) c

/-- The query entries of head `h`. -/
def Q (b : Fin 4) (s : Fin 8192) (h : Fin 8) (j : Fin 192) : EReal :=
  ∑ c : Fin 256, L x0 x4 b s c * x5 (ValueIdx.ix2 c ⟨h.val * 192 + j.val, by omega⟩)

/-- The key and value entries of head `h`. -/
def KV (b : Fin 4) (s : Fin 8192) (h : Fin 8) (j : Fin 256) : EReal :=
  ∑ c : Fin 256, L x1 x6 b s c * x7 (ValueIdx.ix2 c ⟨h.val * 256 + j.val, by omega⟩)

/-- The key of head `h`: its own 128 entries, then the 64 all heads share. -/
def K (b : Fin 4) (s : Fin 8192) (h : Fin 8) (j : Fin 192) : EReal :=
  if hj : j.val < 128 then KV x1 x6 x7 b s h ⟨j.val, by omega⟩ else x2 (ValueIdx.ix3 b s ⟨j.val - 128, by omega⟩)

/-- The turning angle of pair `k` at a position. -/
def ang (b : Fin 4) (s : Fin 8192) (k : Fin 32) : EReal := val_main_v71 (F := Ideal) x3 (ValueIdx.ix2 b s) * val_main_v70 (F := Ideal) (ValueIdx.ix1 k)

/-- The queries, head by head, positions along the last axis. -/
def resQ (i : S4x8x192x8192.Idx) : EReal := rot (hnrm (Q x0 x4 x5 (i 0) (i 3) (i 1)) (fun j => x8 (ValueIdx.ix1 j))) (ang x3 (i 0) (i 3)) (i 2)

/-- The keys, head by head. -/
def resK (i : S4x8x8192x192.Idx) : EReal := rot (hnrm (K x1 x2 x6 x7 (i 0) (i 2) (i 1)) (fun j => x9 (ValueIdx.ix1 j))) (ang x3 (i 0) (i 2)) (i 3)

/-- The values in blocks of 512 positions, a row of ones and fifteen of zeros under each. -/
def resV (i : S4x8x16x144x512.Idx) : EReal :=
  vval (fun j => KV x1 x6 x7 (i 0) ⟨(i 2).val * 512 + (i 4).val, by have h2 : (i 2).val < 16 := (i 2).isLt; have h4 : (i 4).val < 512 := (i 4).isLt; omega⟩ (i 1) ⟨128 + j.val, by omega⟩) (i 3)

/-- The reference's norm of the query latent. -/
theorem ref_latQ (b : Fin 4) (s : Fin 8192) (d : Fin 256) : val_main_v12 (F := Ideal) x0 x4 (ValueIdx.ix3 b s d) = L x0 x4 b s d := by
  have hs : val_main_v1 (F := Ideal) x0 (idx_main_v2 (idx_main_v8 (ValueIdx.ix3 b s d))) = ∑ k : Fin 256, x0 (ValueIdx.ix3 b s k) * x0 (ValueIdx.ix3 b s k) := by
    rw [val_main_v1_apply, val_main_cst_apply, Att.bits_zero, zero_add]
    refine Finset.sum_congr rfl fun k _ => ?_
    rw [val_main_v0_apply]
    have e : idx_main_v1 (idx_main_v2 (idx_main_v8 (ValueIdx.ix3 b s d))) k = ValueIdx.ix3 b s k := by
      funext a
      match a with
      | ⟨0, _⟩ => rfl
      | ⟨1, _⟩ => rfl
      | ⟨2, _⟩ => rfl
    rw [e]; rfl
  have hg : idx_main_v10 (idx_main_v11 (ValueIdx.ix3 b s d)) = ValueIdx.ix1 d := by
    funext a
    match a with
    | ⟨0, _⟩ => rfl
  rw [val_main_v12_apply, val_main_v9_apply, val_main_v8_apply, val_main_v7_apply, val_main_v6_apply, val_main_v4_apply, val_main_v2_apply, hs,
    val_main_v3_apply, val_main_cst_0_apply, val_main_v5_apply, val_main_cst_1_apply, val_main_v11_apply, val_main_v10_apply, hg]
  rfl

/-- The reference's product of it. -/
theorem ref_Q (b : Fin 4) (s : Fin 8192) (h : Fin 8) (j : Fin 192) : val_main_v14 (F := Ideal) x0 x4 x5 (ValueIdx.ix4 b s h j) = Q x0 x4 x5 b s h j := by
  have hb := b.isLt
  have hs := s.isLt
  have hh := h.isLt
  have hj := j.isLt
  have e : idx_main_v14 (ValueIdx.ix4 b s h j) = ValueIdx.ix3 b s ⟨h.val * 192 + j.val, by omega⟩ := by
    funext a; apply Fin.ext
    match a with
    | ⟨0, _⟩ => show (((b.val * 8192 + s.val) * 8 + h.val) * 192 + j.val) / (8192 * 1536) = b.val; omega
    | ⟨1, _⟩ => show (((b.val * 8192 + s.val) * 8 + h.val) * 192 + j.val) / 1536 % 8192 = s.val; omega
    | ⟨2, _⟩ => show (((b.val * 8192 + s.val) * 8 + h.val) * 192 + j.val) % 1536 = h.val * 192 + j.val; omega
  rw [val_main_v14_apply, e, val_main_v13_apply, Q]
  refine Finset.sum_congr rfl fun c _ => ?_
  have el : lidx_main_v13 (ValueIdx.ix3 b s ⟨h.val * 192 + j.val, by omega⟩) c = ValueIdx.ix3 b s c := by
    funext a
    match a with
    | ⟨0, _⟩ => rfl
    | ⟨1, _⟩ => rfl
    | ⟨2, _⟩ => rfl
  have er : ridx_main_v13 (ValueIdx.ix3 b s ⟨h.val * 192 + j.val, by omega⟩) c = ValueIdx.ix2 c ⟨h.val * 192 + j.val, by omega⟩ := by
    funext a
    match a with
    | ⟨0, _⟩ => rfl
    | ⟨1, _⟩ => rfl
  rw [el, er, ref_latQ]

/-- The reference's norm of the key and value latent. -/
theorem ref_latKV (b : Fin 4) (s : Fin 8192) (d : Fin 256) : val_main_v27 (F := Ideal) x1 x6 (ValueIdx.ix3 b s d) = L x1 x6 b s d := by
  have hs : val_main_v16 (F := Ideal) x1 (idx_main_v17 (idx_main_v23 (ValueIdx.ix3 b s d))) = ∑ k : Fin 256, x1 (ValueIdx.ix3 b s k) * x1 (ValueIdx.ix3 b s k) := by
    rw [val_main_v16_apply, val_main_cst_2_apply, Att.bits_zero, zero_add]
    refine Finset.sum_congr rfl fun k _ => ?_
    rw [val_main_v15_apply]
    have e : idx_main_v16 (idx_main_v17 (idx_main_v23 (ValueIdx.ix3 b s d))) k = ValueIdx.ix3 b s k := by
      funext a
      match a with
      | ⟨0, _⟩ => rfl
      | ⟨1, _⟩ => rfl
      | ⟨2, _⟩ => rfl
    rw [e]; rfl
  have hg : idx_main_v25 (idx_main_v26 (ValueIdx.ix3 b s d)) = ValueIdx.ix1 d := by
    funext a
    match a with
    | ⟨0, _⟩ => rfl
  rw [val_main_v27_apply, val_main_v24_apply, val_main_v23_apply, val_main_v22_apply, val_main_v21_apply, val_main_v19_apply, val_main_v17_apply, hs,
    val_main_v18_apply, val_main_cst_3_apply, val_main_v20_apply, val_main_cst_4_apply, val_main_v26_apply, val_main_v25_apply, hg]
  rfl

/-- The reference's product of it. -/
theorem ref_KV (b : Fin 4) (s : Fin 8192) (h : Fin 8) (j : Fin 256) : val_main_v29 (F := Ideal) x1 x6 x7 (ValueIdx.ix4 b s h j) = KV x1 x6 x7 b s h j := by
  have hb := b.isLt
  have hs := s.isLt
  have hh := h.isLt
  have hj := j.isLt
  have e : idx_main_v29 (ValueIdx.ix4 b s h j) = ValueIdx.ix3 b s ⟨h.val * 256 + j.val, by omega⟩ := by
    funext a; apply Fin.ext
    match a with
    | ⟨0, _⟩ => show (((b.val * 8192 + s.val) * 8 + h.val) * 256 + j.val) / (8192 * 2048) = b.val; omega
    | ⟨1, _⟩ => show (((b.val * 8192 + s.val) * 8 + h.val) * 256 + j.val) / 2048 % 8192 = s.val; omega
    | ⟨2, _⟩ => show (((b.val * 8192 + s.val) * 8 + h.val) * 256 + j.val) % 2048 = h.val * 256 + j.val; omega
  rw [val_main_v29_apply, e, val_main_v28_apply, KV]
  refine Finset.sum_congr rfl fun c _ => ?_
  have el : lidx_main_v28 (ValueIdx.ix3 b s ⟨h.val * 256 + j.val, by omega⟩) c = ValueIdx.ix3 b s c := by
    funext a
    match a with
    | ⟨0, _⟩ => rfl
    | ⟨1, _⟩ => rfl
    | ⟨2, _⟩ => rfl
  have er : ridx_main_v28 (ValueIdx.ix3 b s ⟨h.val * 256 + j.val, by omega⟩) c = ValueIdx.ix2 c ⟨h.val * 256 + j.val, by omega⟩ := by
    funext a
    match a with
    | ⟨0, _⟩ => rfl
    | ⟨1, _⟩ => rfl
  rw [el, er, ref_latKV]

/-- The reference's keys before their norm. -/
theorem ref_K (b : Fin 4) (s : Fin 8192) (h : Fin 8) (j : Fin 192) : val_main_v34 (F := Ideal) x1 x2 x6 x7 (ValueIdx.ix4 b s h j) = K x1 x2 x6 x7 b s h j := by
  have hj := j.isLt
  unfold val_main_v34 K
  by_cases hl : j.val < 128
  · rw [dif_pos hl]
    refine (concatenate_apply_piece (3 : Fin 4) _ _ (ValueIdx.ix4 b s h j) 0 (by simp) S4x8192x8x128 _ rfl rfl 0 rfl
      (ValueIdx.ix4 b s h (⟨j.val, hl⟩ : Fin 128)) (fun a ha => match a, ha with | ⟨0, _⟩, _ => rfl | ⟨1, _⟩, _ => rfl | ⟨2, _⟩, _ => rfl | ⟨3, _⟩, ha => absurd rfl ha) (Nat.zero_add _)).trans ?_
    have e : idx_main_v30 (ValueIdx.ix4 b s h (⟨j.val, hl⟩ : Fin 128)) = ValueIdx.ix4 b s h ⟨j.val, by omega⟩ := by
      funext a; apply Fin.ext
      match a with
      | ⟨0, _⟩ => rfl
      | ⟨1, _⟩ => rfl
      | ⟨2, _⟩ => rfl
      | ⟨3, _⟩ => rfl
    show val_main_v30 (F := Ideal) x1 x6 x7 _ = _
    exact (val_main_v30_apply (F := Ideal) x1 x6 x7 _).trans ((congrArg (val_main_v29 (F := Ideal) x1 x6 x7) e).trans (ref_KV x1 x6 x7 b s h _))
  · rw [dif_neg hl]
    refine (concatenate_apply_piece (3 : Fin 4) _ _ (ValueIdx.ix4 b s h j) 1 (by simp) S4x8192x8x64 _ rfl rfl 128 rfl
      (ValueIdx.ix4 b s h (⟨j.val - 128, by omega⟩ : Fin 64)) (fun a ha => match a, ha with | ⟨0, _⟩, _ => rfl | ⟨1, _⟩, _ => rfl | ⟨2, _⟩, _ => rfl | ⟨3, _⟩, ha => absurd rfl ha) (by show 128 + (j.val - 128) = j.val; omega)).trans ?_
    rw [val_main_v33_apply, val_main_v32_apply]
    refine congrArg x2 ?_
    funext a
    match a with
    | ⟨0, _⟩ => rfl
    | ⟨1, _⟩ => rfl
    | ⟨2, _⟩ => rfl

/-- The reference's norm of a head's query. -/
theorem ref_nQ (b : Fin 4) (s : Fin 8192) (h : Fin 8) (j : Fin 192) :
    val_main_v47 (F := Ideal) x0 x4 x5 x8 (ValueIdx.ix4 b s h j) = hnrm (Q x0 x4 x5 b s h) (fun j => x8 (ValueIdx.ix1 j)) j := by
  have hs : val_main_v36 (F := Ideal) x0 x4 x5 (idx_main_v37 (idx_main_v43 (ValueIdx.ix4 b s h j))) = ∑ k : Fin 192, Q x0 x4 x5 b s h k * Q x0 x4 x5 b s h k := by
    rw [val_main_v36_apply, val_main_cst_5_apply, Att.bits_zero, zero_add]
    refine Finset.sum_congr rfl fun k _ => ?_
    rw [val_main_v35_apply]
    have e : idx_main_v36 (idx_main_v37 (idx_main_v43 (ValueIdx.ix4 b s h j))) k = ValueIdx.ix4 b s h k := by
      funext a
      match a with
      | ⟨0, _⟩ => rfl
      | ⟨1, _⟩ => rfl
      | ⟨2, _⟩ => rfl
      | ⟨3, _⟩ => rfl
    rw [e, ref_Q]; rfl
  have hg : idx_main_v45 (idx_main_v46 (ValueIdx.ix4 b s h j)) = ValueIdx.ix1 j := by
    funext a
    match a with
    | ⟨0, _⟩ => rfl
  rw [val_main_v47_apply, val_main_v44_apply, val_main_v43_apply, val_main_v42_apply, val_main_v41_apply, val_main_v39_apply, val_main_v37_apply, hs,
    val_main_v38_apply, val_main_cst_6_apply, val_main_v40_apply, val_main_cst_7_apply, val_main_v46_apply, val_main_v45_apply, hg, ref_Q]
  rfl

/-- The reference's norm of a head's key. -/
theorem ref_nK (b : Fin 4) (s : Fin 8192) (h : Fin 8) (j : Fin 192) :
    val_main_v60 (F := Ideal) x1 x2 x6 x7 x9 (ValueIdx.ix4 b s h j) = hnrm (K x1 x2 x6 x7 b s h) (fun j => x9 (ValueIdx.ix1 j)) j := by
  have hs : val_main_v49 (F := Ideal) x1 x2 x6 x7 (idx_main_v50 (idx_main_v56 (ValueIdx.ix4 b s h j))) = ∑ k : Fin 192, K x1 x2 x6 x7 b s h k * K x1 x2 x6 x7 b s h k := by
    rw [val_main_v49_apply, val_main_cst_8_apply, Att.bits_zero, zero_add]
    refine Finset.sum_congr rfl fun k _ => ?_
    rw [val_main_v48_apply]
    have e : idx_main_v49 (idx_main_v50 (idx_main_v56 (ValueIdx.ix4 b s h j))) k = ValueIdx.ix4 b s h k := by
      funext a
      match a with
      | ⟨0, _⟩ => rfl
      | ⟨1, _⟩ => rfl
      | ⟨2, _⟩ => rfl
      | ⟨3, _⟩ => rfl
    rw [e, ref_K]; rfl
  have hg : idx_main_v58 (idx_main_v59 (ValueIdx.ix4 b s h j)) = ValueIdx.ix1 j := by
    funext a
    match a with
    | ⟨0, _⟩ => rfl
  rw [val_main_v60_apply, val_main_v57_apply, val_main_v56_apply, val_main_v55_apply, val_main_v54_apply, val_main_v52_apply, val_main_v50_apply, hs,
    val_main_v51_apply, val_main_cst_9_apply, val_main_v53_apply, val_main_cst_10_apply, val_main_v59_apply, val_main_v58_apply, hg, ref_K]
  rfl

/-- The reference's angles. -/
theorem ref_ang (b : Fin 4) (s : Fin 8192) (k : Fin 32) (i : S4x8192x32.Idx) (hi : i = ValueIdx.ix3 b s k) : val_main_v76 (F := Ideal) x3 i = ang x3 b s k := by
  subst hi
  have e1 : idx_main_v72 (idx_main_v74 (ValueIdx.ix3 b s k)) = ValueIdx.ix2 b s := by
    funext a
    match a with
    | ⟨0, _⟩ => rfl
    | ⟨1, _⟩ => rfl
  have e2 : idx_main_v73 (idx_main_v75 (ValueIdx.ix3 b s k)) = ValueIdx.ix1 k := by
    funext a
    match a with
    | ⟨0, _⟩ => rfl
  rw [val_main_v76_apply, val_main_v74_apply, val_main_v72_apply, e1, val_main_v75_apply, val_main_v73_apply, e2]
  rfl

theorem ix4_eq {n0 n1 n2 n3 : ℕ} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) : i = ValueIdx.ix4 a b c d := by
  funext k; apply Fin.ext
  match k with
  | ⟨0, _⟩ => exact h0
  | ⟨1, _⟩ => exact h1
  | ⟨2, _⟩ => exact h2
  | ⟨3, _⟩ => exact h3

theorem ref_nQ' (i : S4x8192x8x192.Idx) (b : Fin 4) (s : Fin 8192) (h : Fin 8) (j : Fin 192)
    (h0 : (i 0).val = b.val) (h1 : (i 1).val = s.val) (h2 : (i 2).val = h.val) (h3 : (i 3).val = j.val) :
    val_main_v47 (F := Ideal) x0 x4 x5 x8 i = hnrm (Q x0 x4 x5 b s h) (fun j => x8 (ValueIdx.ix1 j)) j := by
  rw [ix4_eq i b s h j h0 h1 h2 h3, ref_nQ]

theorem ref_cosQ (b : Fin 4) (s : Fin 8192) (h : Fin 8) (k : Fin 32) : val_main_v85 (F := Ideal) x3 (ValueIdx.ix4 b s h k) = Ideal.cos (ang x3 b s k) := by
  rw [val_main_v85_apply, val_main_v78_apply, val_main_v77_apply, ref_ang x3 b s k _ (by
    funext a
    match a with
    | ⟨0, _⟩ => rfl
    | ⟨1, _⟩ => rfl
    | ⟨2, _⟩ => rfl)]
  rfl

theorem ref_sinQ (b : Fin 4) (s : Fin 8192) (h : Fin 8) (k : Fin 32) : val_main_v87 (F := Ideal) x3 (ValueIdx.ix4 b s h k) = Ideal.sin (ang x3 b s k) := by
  rw [val_main_v87_apply, val_main_v80_apply, val_main_v79_apply, ref_ang x3 b s k _ (by
    funext a
    match a with
    | ⟨0, _⟩ => rfl
    | ⟨1, _⟩ => rfl
    | ⟨2, _⟩ => rfl)]
  rfl

theorem ref_cosQ' (b : Fin 4) (s : Fin 8192) (h : Fin 8) (k : Fin 32) : val_main_v90 (F := Ideal) x3 (ValueIdx.ix4 b s h k) = Ideal.cos (ang x3 b s k) := by
  rw [val_main_v90_apply, val_main_v78_apply, val_main_v77_apply, ref_ang x3 b s k _ (by
    funext a
    match a with
    | ⟨0, _⟩ => rfl
    | ⟨1, _⟩ => rfl
    | ⟨2, _⟩ => rfl)]
  rfl

theorem ref_sinQ' (b : Fin 4) (s : Fin 8192) (h : Fin 8) (k : Fin 32) : val_main_v92 (F := Ideal) x3 (ValueIdx.ix4 b s h k) = Ideal.sin (ang x3 b s k) := by
  rw [val_main_v92_apply, val_main_v80_apply, val_main_v79_apply, ref_ang x3 b s k _ (by
    funext a
    match a with
    | ⟨0, _⟩ => rfl
    | ⟨1, _⟩ => rfl
    | ⟨2, _⟩ => rfl)]
  rfl

/-- The first of a turned pair. -/
theorem ref_loQ (b : Fin 4) (s : Fin 8192) (h : Fin 8) (k : Fin 32) :
    val_main_v89 (F := Ideal) x0 x3 x4 x5 x8 (ValueIdx.ix4 b s h k) = hnrm (Q x0 x4 x5 b s h) (fun j => x8 (ValueIdx.ix1 j)) ⟨128 + k.val, by omega⟩ * Ideal.cos (ang x3 b s k)
      - hnrm (Q x0 x4 x5 b s h) (fun j => x8 (ValueIdx.ix1 j)) ⟨160 + k.val, by omega⟩ * Ideal.sin (ang x3 b s k) := by
  rw [val_main_v89_apply, val_main_v86_apply, val_main_v88_apply, val_main_v83_apply, val_main_v84_apply, val_main_v82_apply, val_main_v82_apply, ref_cosQ, ref_sinQ]
  refine congrArg₂ (fun u v : EReal => u * Ideal.cos (ang x3 b s k) - v * Ideal.sin (ang x3 b s k)) ?_ ?_
  · exact ref_nQ' x0 x4 x5 x8 _ b s h _ rfl rfl rfl rfl
  · exact ref_nQ' x0 x4 x5 x8 _ b s h _ rfl rfl rfl (by show 128 + (32 + k.val) = 160 + k.val; omega)

/-- The second. -/
theorem ref_hiQ (b : Fin 4) (s : Fin 8192) (h : Fin 8) (k : Fin 32) :
    val_main_v94 (F := Ideal) x0 x3 x4 x5 x8 (ValueIdx.ix4 b s h k) = hnrm (Q x0 x4 x5 b s h) (fun j => x8 (ValueIdx.ix1 j)) ⟨160 + k.val, by omega⟩ * Ideal.cos (ang x3 b s k)
      + hnrm (Q x0 x4 x5 b s h) (fun j => x8 (ValueIdx.ix1 j)) ⟨128 + k.val, by omega⟩ * Ideal.sin (ang x3 b s k) := by
  rw [val_main_v94_apply, val_main_v91_apply, val_main_v93_apply, val_main_v83_apply, val_main_v84_apply, val_main_v82_apply, val_main_v82_apply, ref_cosQ', ref_sinQ']
  refine congrArg₂ (fun u v : EReal => u * Ideal.cos (ang x3 b s k) + v * Ideal.sin (ang x3 b s k)) ?_ ?_
  · exact ref_nQ' x0 x4 x5 x8 _ b s h _ rfl rfl rfl (by show 128 + (32 + k.val) = 160 + k.val; omega)
  · exact ref_nQ' x0 x4 x5 x8 _ b s h _ rfl rfl rfl rfl

/-- The turned 64 entries of the reference's query. -/
theorem ref_turnQ_lo (b : Fin 4) (s : Fin 8192) (h : Fin 8) (k : Fin 64) (hk : k.val < 32) :
    val_main_v95 (F := Ideal) x0 x3 x4 x5 x8 (ValueIdx.ix4 b s h k) = val_main_v89 (F := Ideal) x0 x3 x4 x5 x8 (ValueIdx.ix4 b s h ⟨k.val, hk⟩) :=
  concatenate_apply_piece (3 : Fin 4) _ _ (ValueIdx.ix4 b s h k) 0 (by simp) S4x8192x8x32 _ rfl rfl 0 rfl
    (ValueIdx.ix4 b s h (⟨k.val, hk⟩ : Fin 32)) (fun a ha => match a, ha with | ⟨0, _⟩, _ => rfl | ⟨1, _⟩, _ => rfl | ⟨2, _⟩, _ => rfl | ⟨3, _⟩, ha => absurd rfl ha) (Nat.zero_add _)

theorem ref_turnQ_hi (b : Fin 4) (s : Fin 8192) (h : Fin 8) (k : Fin 64) (hk : ¬ k.val < 32) :
    val_main_v95 (F := Ideal) x0 x3 x4 x5 x8 (ValueIdx.ix4 b s h k) = val_main_v94 (F := Ideal) x0 x3 x4 x5 x8 (ValueIdx.ix4 b s h ⟨k.val - 32, by omega⟩) :=
  concatenate_apply_piece (3 : Fin 4) _ _ (ValueIdx.ix4 b s h k) 1 (by simp) S4x8192x8x32 _ rfl rfl 32 rfl
    (ValueIdx.ix4 b s h (⟨k.val - 32, by omega⟩ : Fin 32)) (fun a ha => match a, ha with | ⟨0, _⟩, _ => rfl | ⟨1, _⟩, _ => rfl | ⟨2, _⟩, _ => rfl | ⟨3, _⟩, ha => absurd rfl ha) (by show 32 + (k.val - 32) = k.val; omega)

theorem ref_wholeQ_lo (b : Fin 4) (s : Fin 8192) (h : Fin 8) (j : Fin 192) (hl : j.val < 128) :
    val_main_v96 (F := Ideal) x0 x3 x4 x5 x8 (ValueIdx.ix4 b s h j) = val_main_v81 (F := Ideal) x0 x4 x5 x8 (ValueIdx.ix4 b s h ⟨j.val, hl⟩) :=
  concatenate_apply_piece (3 : Fin 4) _ _ (ValueIdx.ix4 b s h j) 0 (by simp) S4x8192x8x128 _ rfl rfl 0 rfl
    (ValueIdx.ix4 b s h (⟨j.val, hl⟩ : Fin 128)) (fun a ha => match a, ha with | ⟨0, _⟩, _ => rfl | ⟨1, _⟩, _ => rfl | ⟨2, _⟩, _ => rfl | ⟨3, _⟩, ha => absurd rfl ha) (Nat.zero_add _)

theorem ref_wholeQ_hi (b : Fin 4) (s : Fin 8192) (h : Fin 8) (j : Fin 192) (hl : ¬ j.val < 128) :
    val_main_v96 (F := Ideal) x0 x3 x4 x5 x8 (ValueIdx.ix4 b s h j) = val_main_v95 (F := Ideal) x0 x3 x4 x5 x8 (ValueIdx.ix4 b s h ⟨j.val - 128, by omega⟩) :=
  concatenate_apply_piece (3 : Fin 4) _ _ (ValueIdx.ix4 b s h j) 1 (by simp) S4x8192x8x64 _ rfl rfl 128 rfl
    (ValueIdx.ix4 b s h (⟨j.val - 128, by omega⟩ : Fin 64)) (fun a ha => match a, ha with | ⟨0, _⟩, _ => rfl | ⟨1, _⟩, _ => rfl | ⟨2, _⟩, _ => rfl | ⟨3, _⟩, ha => absurd rfl ha) (by show 128 + (j.val - 128) = j.val; omega)

/-- The reference's query with its last 64 entries turned. -/
theorem ref_rotQ (b : Fin 4) (s : Fin 8192) (h : Fin 8) (j : Fin 192) :
    val_main_v96 (F := Ideal) x0 x3 x4 x5 x8 (ValueIdx.ix4 b s h j) = rot (hnrm (Q x0 x4 x5 b s h) (fun j => x8 (ValueIdx.ix1 j))) (ang x3 b s) j := by
  have hj := j.isLt
  unfold rot
  by_cases hl : j.val < 128
  · rw [if_pos hl, ref_wholeQ_lo x0 x3 x4 x5 x8 b s h j hl, val_main_v81_apply]
    exact ref_nQ' x0 x4 x5 x8 _ b s h j rfl rfl rfl rfl
  rw [if_neg hl, ref_wholeQ_hi x0 x3 x4 x5 x8 b s h j hl]
  by_cases hm : j.val < 160
  · have hk : (⟨j.val - 128, by omega⟩ : Fin 64).val < 32 := by show j.val - 128 < 32; omega
    rw [dif_pos hm, ref_turnQ_lo x0 x3 x4 x5 x8 b s h _ hk, ref_loQ]
    refine congrArg₂ (fun u v => hnrm (Q x0 x4 x5 b s h) (fun j => x8 (ValueIdx.ix1 j)) u * Ideal.cos (ang x3 b s ⟨j.val - 128, hk⟩)
      - hnrm (Q x0 x4 x5 b s h) (fun j => x8 (ValueIdx.ix1 j)) v * Ideal.sin (ang x3 b s ⟨j.val - 128, hk⟩)) (Fin.ext ?_) (Fin.ext ?_)
    · show 128 + (j.val - 128) = j.val; omega
    · show 160 + (j.val - 128) = j.val + 32; omega
  · have hk : ¬ (⟨j.val - 128, by omega⟩ : Fin 64).val < 32 := by show ¬ j.val - 128 < 32; omega
    have ek : (⟨j.val - 128 - 32, by omega⟩ : Fin 32) = ⟨j.val - 160, by omega⟩ := Fin.ext (by show j.val - 128 - 32 = j.val - 160; omega)
    rw [dif_neg hm, ref_turnQ_hi x0 x3 x4 x5 x8 b s h _ hk, ref_hiQ]
    show _ * Ideal.cos (ang x3 b s ⟨j.val - 128 - 32, _⟩) + _ * Ideal.sin (ang x3 b s ⟨j.val - 128 - 32, _⟩) = _
    rw [ek]
    refine congrArg₂ (fun u v => hnrm (Q x0 x4 x5 b s h) (fun j => x8 (ValueIdx.ix1 j)) u * Ideal.cos (ang x3 b s ⟨j.val - 160, by omega⟩)
      + hnrm (Q x0 x4 x5 b s h) (fun j => x8 (ValueIdx.ix1 j)) v * Ideal.sin (ang x3 b s ⟨j.val - 160, by omega⟩)) (Fin.ext ?_) (Fin.ext ?_)
    · show 160 + (j.val - 128 - 32) = j.val; omega
    · show 128 + (j.val - 128 - 32) = j.val - 32; omega

theorem ref_nK' (i : S4x8192x8x192.Idx) (b : Fin 4) (s : Fin 8192) (h : Fin 8) (j : Fin 192)
    (h0 : (i 0).val = b.val) (h1 : (i 1).val = s.val) (h2 : (i 2).val = h.val) (h3 : (i 3).val = j.val) :
    val_main_v60 (F := Ideal) x1 x2 x6 x7 x9 i = hnrm (K x1 x2 x6 x7 b s h) (fun j => x9 (ValueIdx.ix1 j)) j := by
  rw [ix4_eq i b s h j h0 h1 h2 h3, ref_nK]

theorem ref_cosK (b : Fin 4) (s : Fin 8192) (h : Fin 8) (k : Fin 32) : val_main_v101 (F := Ideal) x3 (ValueIdx.ix4 b s h k) = Ideal.cos (ang x3 b s k) := by
  rw [val_main_v101_apply, val_main_v78_apply, val_main_v77_apply, ref_ang x3 b s k _ (by
    funext a
    match a with
    | ⟨0, _⟩ => rfl
    | ⟨1, _⟩ => rfl
    | ⟨2, _⟩ => rfl)]
  rfl

theorem ref_sinK (b : Fin 4) (s : Fin 8192) (h : Fin 8) (k : Fin 32) : val_main_v103 (F := Ideal) x3 (ValueIdx.ix4 b s h k) = Ideal.sin (ang x3 b s k) := by
  rw [val_main_v103_apply, val_main_v80_apply, val_main_v79_apply, ref_ang x3 b s k _ (by
    funext a
    match a with
    | ⟨0, _⟩ => rfl
    | ⟨1, _⟩ => rfl
    | ⟨2, _⟩ => rfl)]
  rfl

theorem ref_cosK' (b : Fin 4) (s : Fin 8192) (h : Fin 8) (k : Fin 32) : val_main_v106 (F := Ideal) x3 (ValueIdx.ix4 b s h k) = Ideal.cos (ang x3 b s k) := by
  rw [val_main_v106_apply, val_main_v78_apply, val_main_v77_apply, ref_ang x3 b s k _ (by
    funext a
    match a with
    | ⟨0, _⟩ => rfl
    | ⟨1, _⟩ => rfl
    | ⟨2, _⟩ => rfl)]
  rfl

theorem ref_sinK' (b : Fin 4) (s : Fin 8192) (h : Fin 8) (k : Fin 32) : val_main_v108 (F := Ideal) x3 (ValueIdx.ix4 b s h k) = Ideal.sin (ang x3 b s k) := by
  rw [val_main_v108_apply, val_main_v80_apply, val_main_v79_apply, ref_ang x3 b s k _ (by
    funext a
    match a with
    | ⟨0, _⟩ => rfl
    | ⟨1, _⟩ => rfl
    | ⟨2, _⟩ => rfl)]
  rfl

/-- The first of a turned pair. -/
theorem ref_loK (b : Fin 4) (s : Fin 8192) (h : Fin 8) (k : Fin 32) :
    val_main_v105 (F := Ideal) x1 x2 x3 x6 x7 x9 (ValueIdx.ix4 b s h k) = hnrm (K x1 x2 x6 x7 b s h) (fun j => x9 (ValueIdx.ix1 j)) ⟨128 + k.val, by omega⟩ * Ideal.cos (ang x3 b s k)
      - hnrm (K x1 x2 x6 x7 b s h) (fun j => x9 (ValueIdx.ix1 j)) ⟨160 + k.val, by omega⟩ * Ideal.sin (ang x3 b s k) := by
  rw [val_main_v105_apply, val_main_v102_apply, val_main_v104_apply, val_main_v99_apply, val_main_v100_apply, val_main_v98_apply, val_main_v98_apply, ref_cosK, ref_sinK]
  refine congrArg₂ (fun u v : EReal => u * Ideal.cos (ang x3 b s k) - v * Ideal.sin (ang x3 b s k)) ?_ ?_
  · exact ref_nK' x1 x2 x6 x7 x9 _ b s h _ rfl rfl rfl rfl
  · exact ref_nK' x1 x2 x6 x7 x9 _ b s h _ rfl rfl rfl (by show 128 + (32 + k.val) = 160 + k.val; omega)

/-- The second. -/
theorem ref_hiK (b : Fin 4) (s : Fin 8192) (h : Fin 8) (k : Fin 32) :
    val_main_v110 (F := Ideal) x1 x2 x3 x6 x7 x9 (ValueIdx.ix4 b s h k) = hnrm (K x1 x2 x6 x7 b s h) (fun j => x9 (ValueIdx.ix1 j)) ⟨160 + k.val, by omega⟩ * Ideal.cos (ang x3 b s k)
      + hnrm (K x1 x2 x6 x7 b s h) (fun j => x9 (ValueIdx.ix1 j)) ⟨128 + k.val, by omega⟩ * Ideal.sin (ang x3 b s k) := by
  rw [val_main_v110_apply, val_main_v107_apply, val_main_v109_apply, val_main_v99_apply, val_main_v100_apply, val_main_v98_apply, val_main_v98_apply, ref_cosK', ref_sinK']
  refine congrArg₂ (fun u v : EReal => u * Ideal.cos (ang x3 b s k) + v * Ideal.sin (ang x3 b s k)) ?_ ?_
  · exact ref_nK' x1 x2 x6 x7 x9 _ b s h _ rfl rfl rfl (by show 128 + (32 + k.val) = 160 + k.val; omega)
  · exact ref_nK' x1 x2 x6 x7 x9 _ b s h _ rfl rfl rfl rfl

/-- The turned 64 entries of the reference's key. -/
theorem ref_turnK_lo (b : Fin 4) (s : Fin 8192) (h : Fin 8) (k : Fin 64) (hk : k.val < 32) :
    val_main_v111 (F := Ideal) x1 x2 x3 x6 x7 x9 (ValueIdx.ix4 b s h k) = val_main_v105 (F := Ideal) x1 x2 x3 x6 x7 x9 (ValueIdx.ix4 b s h ⟨k.val, hk⟩) :=
  concatenate_apply_piece (3 : Fin 4) _ _ (ValueIdx.ix4 b s h k) 0 (by simp) S4x8192x8x32 _ rfl rfl 0 rfl
    (ValueIdx.ix4 b s h (⟨k.val, hk⟩ : Fin 32)) (fun a ha => match a, ha with | ⟨0, _⟩, _ => rfl | ⟨1, _⟩, _ => rfl | ⟨2, _⟩, _ => rfl | ⟨3, _⟩, ha => absurd rfl ha) (Nat.zero_add _)

theorem ref_turnK_hi (b : Fin 4) (s : Fin 8192) (h : Fin 8) (k : Fin 64) (hk : ¬ k.val < 32) :
    val_main_v111 (F := Ideal) x1 x2 x3 x6 x7 x9 (ValueIdx.ix4 b s h k) = val_main_v110 (F := Ideal) x1 x2 x3 x6 x7 x9 (ValueIdx.ix4 b s h ⟨k.val - 32, by omega⟩) :=
  concatenate_apply_piece (3 : Fin 4) _ _ (ValueIdx.ix4 b s h k) 1 (by simp) S4x8192x8x32 _ rfl rfl 32 rfl
    (ValueIdx.ix4 b s h (⟨k.val - 32, by omega⟩ : Fin 32)) (fun a ha => match a, ha with | ⟨0, _⟩, _ => rfl | ⟨1, _⟩, _ => rfl | ⟨2, _⟩, _ => rfl | ⟨3, _⟩, ha => absurd rfl ha) (by show 32 + (k.val - 32) = k.val; omega)

theorem ref_wholeK_lo (b : Fin 4) (s : Fin 8192) (h : Fin 8) (j : Fin 192) (hl : j.val < 128) :
    val_main_v112 (F := Ideal) x1 x2 x3 x6 x7 x9 (ValueIdx.ix4 b s h j) = val_main_v97 (F := Ideal) x1 x2 x6 x7 x9 (ValueIdx.ix4 b s h ⟨j.val, hl⟩) :=
  concatenate_apply_piece (3 : Fin 4) _ _ (ValueIdx.ix4 b s h j) 0 (by simp) S4x8192x8x128 _ rfl rfl 0 rfl
    (ValueIdx.ix4 b s h (⟨j.val, hl⟩ : Fin 128)) (fun a ha => match a, ha with | ⟨0, _⟩, _ => rfl | ⟨1, _⟩, _ => rfl | ⟨2, _⟩, _ => rfl | ⟨3, _⟩, ha => absurd rfl ha) (Nat.zero_add _)

theorem ref_wholeK_hi (b : Fin 4) (s : Fin 8192) (h : Fin 8) (j : Fin 192) (hl : ¬ j.val < 128) :
    val_main_v112 (F := Ideal) x1 x2 x3 x6 x7 x9 (ValueIdx.ix4 b s h j) = val_main_v111 (F := Ideal) x1 x2 x3 x6 x7 x9 (ValueIdx.ix4 b s h ⟨j.val - 128, by omega⟩) :=
  concatenate_apply_piece (3 : Fin 4) _ _ (ValueIdx.ix4 b s h j) 1 (by simp) S4x8192x8x64 _ rfl rfl 128 rfl
    (ValueIdx.ix4 b s h (⟨j.val - 128, by omega⟩ : Fin 64)) (fun a ha => match a, ha with | ⟨0, _⟩, _ => rfl | ⟨1, _⟩, _ => rfl | ⟨2, _⟩, _ => rfl | ⟨3, _⟩, ha => absurd rfl ha) (by show 128 + (j.val - 128) = j.val; omega)

/-- The reference's key with its last 64 entries turned. -/
theorem ref_rotK (b : Fin 4) (s : Fin 8192) (h : Fin 8) (j : Fin 192) :
    val_main_v112 (F := Ideal) x1 x2 x3 x6 x7 x9 (ValueIdx.ix4 b s h j) = rot (hnrm (K x1 x2 x6 x7 b s h) (fun j => x9 (ValueIdx.ix1 j))) (ang x3 b s) j := by
  have hj := j.isLt
  unfold rot
  by_cases hl : j.val < 128
  · rw [if_pos hl, ref_wholeK_lo x1 x2 x3 x6 x7 x9 b s h j hl, val_main_v97_apply]
    exact ref_nK' x1 x2 x6 x7 x9 _ b s h j rfl rfl rfl rfl
  rw [if_neg hl, ref_wholeK_hi x1 x2 x3 x6 x7 x9 b s h j hl]
  by_cases hm : j.val < 160
  · have hk : (⟨j.val - 128, by omega⟩ : Fin 64).val < 32 := by show j.val - 128 < 32; omega
    rw [dif_pos hm, ref_turnK_lo x1 x2 x3 x6 x7 x9 b s h _ hk, ref_loK]
    refine congrArg₂ (fun u v => hnrm (K x1 x2 x6 x7 b s h) (fun j => x9 (ValueIdx.ix1 j)) u * Ideal.cos (ang x3 b s ⟨j.val - 128, hk⟩)
      - hnrm (K x1 x2 x6 x7 b s h) (fun j => x9 (ValueIdx.ix1 j)) v * Ideal.sin (ang x3 b s ⟨j.val - 128, hk⟩)) (Fin.ext ?_) (Fin.ext ?_)
    · show 128 + (j.val - 128) = j.val; omega
    · show 160 + (j.val - 128) = j.val + 32; omega
  · have hk : ¬ (⟨j.val - 128, by omega⟩ : Fin 64).val < 32 := by show ¬ j.val - 128 < 32; omega
    have ek : (⟨j.val - 128 - 32, by omega⟩ : Fin 32) = ⟨j.val - 160, by omega⟩ := Fin.ext (by show j.val - 128 - 32 = j.val - 160; omega)
    rw [dif_neg hm, ref_turnK_hi x1 x2 x3 x6 x7 x9 b s h _ hk, ref_hiK]
    show _ * Ideal.cos (ang x3 b s ⟨j.val - 128 - 32, _⟩) + _ * Ideal.sin (ang x3 b s ⟨j.val - 128 - 32, _⟩) = _
    rw [ek]
    refine congrArg₂ (fun u v => hnrm (K x1 x2 x6 x7 b s h) (fun j => x9 (ValueIdx.ix1 j)) u * Ideal.cos (ang x3 b s ⟨j.val - 160, by omega⟩)
      + hnrm (K x1 x2 x6 x7 b s h) (fun j => x9 (ValueIdx.ix1 j)) v * Ideal.sin (ang x3 b s ⟨j.val - 160, by omega⟩)) (Fin.ext ?_) (Fin.ext ?_)
    · show 160 + (j.val - 128 - 32) = j.val; omega
    · show 128 + (j.val - 128 - 32) = j.val - 32; omega

/-- The reference's queries. -/
theorem ref_resQ : val_main_v119 (F := Ideal) x0 x3 x4 x5 x8 = resQ x0 x3 x4 x5 x8 := funext fun i => by
  rw [val_main_v119_apply, val_main_v118_apply]
  refine Eq.trans (congrArg (val_main_v96 (F := Ideal) x0 x3 x4 x5 x8) ?_) (ref_rotQ x0 x3 x4 x5 x8 (i 0) (i 3) (i 1) (i 2))
  exact ix4_eq (n0 := 4) (n1 := 8192) (n2 := 8) (n3 := 192) _ _ _ _ _ rfl rfl rfl rfl

/-- The reference's keys. -/
theorem ref_resK : val_main_v121 (F := Ideal) x1 x2 x3 x6 x7 x9 = resK x1 x2 x3 x6 x7 x9 := funext fun i => by
  rw [val_main_v121_apply, val_main_v120_apply]
  refine Eq.trans (congrArg (val_main_v112 (F := Ideal) x1 x2 x3 x6 x7 x9) ?_) (ref_rotK x1 x2 x3 x6 x7 x9 (i 0) (i 2) (i 1) (i 3))
  exact ix4_eq (n0 := 4) (n1 := 8192) (n2 := 8) (n3 := 192) _ _ _ _ _ rfl rfl rfl rfl

/-- The reference's values before the rows of ones and zeros. -/
theorem ref_val (b : Fin 4) (h : Fin 8) (t : Fin 16) (j : Fin 128) (p : Fin 512) :
    val_main_v114 (F := Ideal) x1 x6 x7 (ValueIdx.ix5 b h t j p) = KV x1 x6 x7 b ⟨t.val * 512 + p.val, by omega⟩ h ⟨128 + j.val, by omega⟩ := by
  have hb := b.isLt
  have hh := h.isLt
  have ht := t.isLt
  have hj := j.isLt
  have hp := p.isLt
  rw [val_main_v114_apply, val_main_v113_apply, val_main_v31_apply]
  refine Eq.trans (congrArg (val_main_v29 (F := Ideal) x1 x6 x7) ?_) (ref_KV x1 x6 x7 b ⟨t.val * 512 + p.val, by omega⟩ h ⟨128 + j.val, by omega⟩)
  have ei : idx_main_v114 (ValueIdx.ix5 b h t j p) = ValueIdx.ix5 b t p h j := by
    funext a
    match a with
    | ⟨0, _⟩ => rfl
    | ⟨1, _⟩ => rfl
    | ⟨2, _⟩ => rfl
    | ⟨3, _⟩ => rfl
    | ⟨4, _⟩ => rfl
  rw [ei]
  refine ix4_eq (n0 := 4) (n1 := 8192) (n2 := 8) (n3 := 256) _ _ _ _ _ ?_ ?_ ?_ ?_
  · show (((((b.val * 16 + t.val) * 512 + p.val) * 8 + h.val) * 128 + j.val) / 8388608) = b.val; omega
  · show (((((b.val * 16 + t.val) * 512 + p.val) * 8 + h.val) * 128 + j.val) / 1024 % 8192) = t.val * 512 + p.val; omega
  · show (((((b.val * 16 + t.val) * 512 + p.val) * 8 + h.val) * 128 + j.val) / 128 % 8) = h.val; omega
  · show 128 + (((((b.val * 16 + t.val) * 512 + p.val) * 8 + h.val) * 128 + j.val) % 128) = 128 + j.val; omega

/-- The reference's values. -/
theorem ref_resV : val_main_v122 (F := Ideal) x1 x6 x7 = resV x1 x6 x7 := funext fun i => by
  rw [val_main_v122_apply]
  obtain ⟨b, h, t, j, p, rfl⟩ : ∃ (b : Fin 4) (h : Fin 8) (t : Fin 16) (j : Fin 144) (p : Fin 512), i = ValueIdx.ix5 b h t j p := ⟨i 0, i 1, i 2, i 3, i 4, ValueIdx.eq_ix5 i⟩
  have hj := j.isLt
  show val_main_v117 (F := Ideal) x1 x6 x7 (ValueIdx.ix5 b h t j p) = vval (fun k => KV x1 x6 x7 b ⟨t.val * 512 + p.val, by omega⟩ h ⟨128 + k.val, by omega⟩) j
  unfold val_main_v117 vval
  by_cases hl : j.val < 128
  · rw [dif_pos hl]
    refine (concatenate_apply_piece (3 : Fin 5) _ _ (ValueIdx.ix5 b h t j p) 0 (by simp) S4x8x16x128x512 _ rfl rfl 0 rfl
      (ValueIdx.ix5 b h t (⟨j.val, hl⟩ : Fin 128) p) (fun a ha => match a, ha with | ⟨0, _⟩, _ => rfl | ⟨1, _⟩, _ => rfl | ⟨2, _⟩, _ => rfl | ⟨3, _⟩, ha => absurd rfl ha | ⟨4, _⟩, _ => rfl) (Nat.zero_add _)).trans ?_
    exact ref_val x1 x6 x7 b h t ⟨j.val, hl⟩ p
  · rw [dif_neg hl]
    by_cases hm : j.val = 128
    · rw [if_pos hm]
      refine (concatenate_apply_piece (3 : Fin 5) _ _ (ValueIdx.ix5 b h t j p) 1 (by simp) S4x8x16x1x512 _ rfl rfl 128 rfl
        (ValueIdx.ix5 b h t (0 : Fin 1) p) (fun a ha => match a, ha with | ⟨0, _⟩, _ => rfl | ⟨1, _⟩, _ => rfl | ⟨2, _⟩, _ => rfl | ⟨3, _⟩, ha => absurd rfl ha | ⟨4, _⟩, _ => rfl) (by show 128 + 0 = j.val; omega)).trans ?_
      rw [val_main_v115_apply, val_main_cst_15_apply]
      exact bits_one
    · rw [if_neg hm]
      refine (concatenate_apply_piece (3 : Fin 5) _ _ (ValueIdx.ix5 b h t j p) 2 (by simp) S4x8x16x15x512 _ rfl rfl 129 rfl
        (ValueIdx.ix5 b h t (⟨j.val - 129, by omega⟩ : Fin 15) p) (fun a ha => match a, ha with | ⟨0, _⟩, _ => rfl | ⟨1, _⟩, _ => rfl | ⟨2, _⟩, _ => rfl | ⟨3, _⟩, ha => absurd rfl ha | ⟨4, _⟩, _ => rfl) (by show 129 + (j.val - 129) = j.val; omega)).trans ?_
      rw [val_main_v116_apply, val_main_cst_16_apply]
      exact Att.bits_zero

end Cert.Qkv

end
-- ==== Proof.QkvHost.lean ====
/- The nineteen arrays the latent projections read, element by element, as functions of the arguments. -/
module

public import proofs.«01_k».proof.Proof.QkvRef
public import Idealize.ShloMosaic.Lib.IdealHost
public import Idealize.ShloMosaic.Lib.StableHlo.Run

@[expose] public section

set_option maxRecDepth 16384
set_option maxHeartbeats 200000

noncomputable section

open scoped BigOperators

namespace Cert.Qkv

open Idealize.ShloMosaic Idealize.ShloMosaic.TcCoe
open Cert.Kernel4Ideal Cert.Kernel4Ideal.Gen

variable (m : (ℓ : Loc nD τ sig) → Buf (Elt Ideal) ℓ) (c : Dev nD)

/-- The query latent. -/
abbrev A0 : S4x8192x256.Idx → EReal := m ((c : Thread nD τ).loc main_arg0)
/-- The key and value latent. -/
abbrev A1 : S4x8192x256.Idx → EReal := m ((c : Thread nD τ).loc main_arg1)
/-- The part of the key all heads share. -/
abbrev A2 : S4x8192x64.Idx → EReal := m ((c : Thread nD τ).loc main_arg2)
/-- The positions. -/
abbrev A3 : S4x8192.Idx → BitVec 32 := m ((c : Thread nD τ).loc main_arg3)
/-- The query latent's gains. -/
abbrev A4 : S256.Idx → EReal := m ((c : Thread nD τ).loc main_arg4)
/-- The query weights. -/
abbrev A5 : S256x1536.Idx → EReal := m ((c : Thread nD τ).loc main_arg5)
/-- The key and value latent's gains. -/
abbrev A6 : S256.Idx → EReal := m ((c : Thread nD τ).loc main_arg6)
/-- The key and value weights. -/
abbrev A7 : S256x2048.Idx → EReal := m ((c : Thread nD τ).loc main_arg7)
/-- The query gains. -/
abbrev A8 : S192.Idx → EReal := m ((c : Thread nD τ).loc main_arg8)
/-- The key gains. -/
abbrev A9 : S192.Idx → EReal := m ((c : Thread nD τ).loc main_arg9)

/-- The frequencies of the 32 pairs. -/
abbrev freq : S32.Idx → EReal := Cert.Reference4Ideal.Read.val_main_v70 (F := Ideal)
/-- The positions as floats. -/
abbrev posf : S4x8192.Idx → EReal := Cert.Reference4Ideal.Read.val_main_v71 (F := Ideal) (A3 m c)

theorem arg0_eq : (V m c main_arg0 : S4x8192x256.Idx → EReal) = A0 m c := by
  show StableHlo.after hostOps0 _ _ = _
  after_results_simp <;> rfl
theorem arg1_eq : (V m c main_arg1 : S4x8192x256.Idx → EReal) = A1 m c := by
  show StableHlo.after hostOps0 _ _ = _
  after_results_simp <;> rfl

/-- A head's query weights, entries by latent features. -/
def W1 : S8x192x256.Idx → EReal :=
  transpose S8x192x256 [1, 2, 0] (shapeCast S256x8x192 (A5 m c) shapeCasts_S256x1536_S256x8x192) transposes_S256x8x192_S8x192x256_1_2_0

theorem W1_apply (h : Fin 8) (i : Fin 192) (k : Fin 256) : W1 m c (ValueIdx.ix3 h i k) = A5 m c (ValueIdx.ix2 k ⟨h.val * 192 + i.val, by omega⟩) := by
  refine (transpose_apply [1, 2, 0] _ transposes_S256x8x192_S8x192x256_1_2_0 (ValueIdx.ix3 h i k) (ValueIdx.ix3 k h i) (fun b => match b with | 0 => rfl | 1 => rfl | 2 => rfl)).trans ?_
  refine shapeCast_apply _ _ _ _ ?_
  rw [Shape.rowMajor_val_three, Shape.rowMajor_val_two]
  show k.val * 1536 + (h.val * 192 + i.val) = (k.val * 8 + h.val) * 192 + i.val
  omega

theorem q_apply (h : Fin 8) (i : Fin 192) (k : Fin 256) : (V m c main_v2 : S8x192x256.Idx → EReal) (ValueIdx.ix3 h i k) = A5 m c (ValueIdx.ix2 k ⟨h.val * 192 + i.val, by omega⟩) := by
  have e : (V m c main_v2 : S8x192x256.Idx → EReal) = W1 m c := by
    show StableHlo.after hostOps0 _ _ = _
    after_results_simp <;> rfl
  rw [e, W1_apply]

/-- The last 64 of a head's query weights turned. -/
def W6 : S8x64x256.Idx → EReal :=
  concatenate S8x64x256 1 [⟨S8x32x256, (Host.negf (F := Ideal) (φ := .f32) (extractStridedSlice S8x32x256 ![0, 160, 0] (W1 m c) slices_S8x192x256_S8x32x256_0_160_0) : S8x32x256.Idx → EReal)⟩,
    ⟨S8x32x256, (extractStridedSlice S8x32x256 ![0, 128, 0] (W1 m c) slices_S8x192x256_S8x32x256_0_128_0 : S8x32x256.Idx → EReal)⟩] concatenates_S8x32x256_S8x32x256_S8x64x256_d1

theorem v7_eq : (V m c main_v7 : S8x64x256.Idx → EReal) = W6 m c := by
  show StableHlo.after hostOps0 _ _ = _
  after_results_simp <;> rfl

theorem qr_lo (h : Fin 8) (i : Fin 64) (k : Fin 256) (hi : i.val < 32) :
    (V m c main_v7 : S8x64x256.Idx → EReal) (ValueIdx.ix3 h i k) = -A5 m c (ValueIdx.ix2 k ⟨h.val * 192 + (160 + i.val), by omega⟩) := by
  rw [v7_eq]
  refine (concatenate_apply_piece (1 : Fin 3) _ _ (ValueIdx.ix3 h i k) 0 (by simp) S8x32x256 _ rfl rfl 0 rfl
    (ValueIdx.ix3 h (⟨i.val, hi⟩ : Fin 32) k) (fun b hb => match b, hb with | ⟨0, _⟩, _ => rfl | ⟨1, _⟩, hb => absurd rfl hb | ⟨2, _⟩, _ => rfl) (Nat.zero_add _)).trans ?_
  refine congrArg (fun z : EReal => -z) ?_
  refine (extractStridedSlice_apply ![0, 160, 0] (W1 m c) slices_S8x192x256_S8x32x256_0_160_0 _ (ValueIdx.ix3 h (⟨160 + i.val, by omega⟩ : Fin 192) k) fun a => match a with
    | ⟨0, _⟩ => (Nat.zero_add _).symm
    | ⟨1, _⟩ => rfl
    | ⟨2, _⟩ => (Nat.zero_add _).symm).trans ?_
  rw [W1_apply]

theorem qr_hi (h : Fin 8) (i : Fin 64) (k : Fin 256) (hi : ¬ i.val < 32) :
    (V m c main_v7 : S8x64x256.Idx → EReal) (ValueIdx.ix3 h i k) = A5 m c (ValueIdx.ix2 k ⟨h.val * 192 + (96 + i.val), by omega⟩) := by
  have hl := i.isLt
  rw [v7_eq]
  refine (concatenate_apply_piece (1 : Fin 3) _ _ (ValueIdx.ix3 h i k) 1 (by simp) S8x32x256 _ rfl rfl 32 rfl
    (ValueIdx.ix3 h (⟨i.val - 32, by omega⟩ : Fin 32) k) (fun b hb => match b, hb with | ⟨0, _⟩, _ => rfl | ⟨1, _⟩, hb => absurd rfl hb | ⟨2, _⟩, _ => rfl) (by show 32 + (i.val - 32) = i.val; omega)).trans ?_
  refine (extractStridedSlice_apply ![0, 128, 0] (W1 m c) slices_S8x192x256_S8x32x256_0_128_0 _ (ValueIdx.ix3 h (⟨96 + i.val, by omega⟩ : Fin 192) k) fun a => match a with
    | ⟨0, _⟩ => (Nat.zero_add _).symm
    | ⟨1, _⟩ => by show 96 + i.val = 128 + (i.val - 32); omega
    | ⟨2, _⟩ => (Nat.zero_add _).symm).trans ?_
  rw [W1_apply]

/-- A head's key and value weights, latent features by entries. -/
def W9 : S8x256x256.Idx → EReal :=
  transpose S8x256x256 [1, 0, 2] (shapeCast S256x8x256 (A7 m c) shapeCasts_S256x2048_S256x8x256) transposes_S256x8x256_S8x256x256_1_0_2

theorem W9_apply (h : Fin 8) (k i : Fin 256) : W9 m c (ValueIdx.ix3 h k i) = A7 m c (ValueIdx.ix2 k ⟨h.val * 256 + i.val, by omega⟩) := by
  refine (transpose_apply [1, 0, 2] _ transposes_S256x8x256_S8x256x256_1_0_2 (ValueIdx.ix3 h k i) (ValueIdx.ix3 k h i) (fun b => match b with | 0 => rfl | 1 => rfl | 2 => rfl)).trans ?_
  refine shapeCast_apply _ _ _ _ ?_
  rw [Shape.rowMajor_val_three, Shape.rowMajor_val_two]
  show k.val * 2048 + (h.val * 256 + i.val) = (k.val * 8 + h.val) * 256 + i.val
  omega

theorem kw_apply (h : Fin 8) (k : Fin 256) (i : Fin 128) : (V m c main_v11 : S8x256x128.Idx → EReal) (ValueIdx.ix3 h k i) = A7 m c (ValueIdx.ix2 k ⟨h.val * 256 + i.val, by omega⟩) := by
  have e : (V m c main_v11 : S8x256x128.Idx → EReal) = extractStridedSlice S8x256x128 ![0, 0, 0] (W9 m c) slices_S8x256x256_S8x256x128_0_0_0 := by
    show StableHlo.after hostOps0 _ _ = _
    after_results_simp <;> rfl
  rw [e]
  refine (extractStridedSlice_apply ![0, 0, 0] (W9 m c) slices_S8x256x256_S8x256x128_0_0_0 _ (ValueIdx.ix3 h k (⟨i.val, by omega⟩ : Fin 256)) fun a => match a with
    | ⟨0, _⟩ => (Nat.zero_add _).symm
    | ⟨1, _⟩ => (Nat.zero_add _).symm
    | ⟨2, _⟩ => (Nat.zero_add _).symm).trans ?_
  rw [W9_apply]

theorem vw_apply (h : Fin 8) (i : Fin 128) (k : Fin 256) : (V m c main_v14 : S8x128x256.Idx → EReal) (ValueIdx.ix3 h i k) = A7 m c (ValueIdx.ix2 k ⟨h.val * 256 + (128 + i.val), by omega⟩) := by
  have e : (V m c main_v14 : S8x128x256.Idx → EReal) = transpose S8x128x256 [0, 2, 1] (extractStridedSlice S8x256x128 ![0, 0, 128] (W9 m c) slices_S8x256x256_S8x256x128_0_0_128) transposes_S8x256x128_S8x128x256_0_2_1 := by
    show StableHlo.after hostOps0 _ _ = _
    after_results_simp <;> rfl
  rw [e]
  refine (transpose_apply [0, 2, 1] _ transposes_S8x256x128_S8x128x256_0_2_1 (ValueIdx.ix3 h i k) (ValueIdx.ix3 h k i) (fun b => match b with | 0 => rfl | 1 => rfl | 2 => rfl)).trans ?_
  refine (extractStridedSlice_apply ![0, 0, 128] (W9 m c) slices_S8x256x256_S8x256x128_0_0_128 _ (ValueIdx.ix3 h k (⟨128 + i.val, by omega⟩ : Fin 256)) fun a => match a with
    | ⟨0, _⟩ => (Nat.zero_add _).symm
    | ⟨1, _⟩ => (Nat.zero_add _).symm
    | ⟨2, _⟩ => rfl).trans ?_
  rw [W9_apply]

/-- A list as a column. -/
theorem col_apply {n : ℕ} (x : (⟨1, ![n]⟩ : Shape).Idx → EReal) (h : (⟨1, ![n]⟩ : Shape).ShapeCasts ⟨2, ![n, 1]⟩) (i : Fin n) :
    shapeCast ⟨2, ![n, 1]⟩ x h (ValueIdx.ix2 i (0 : Fin 1)) = x (ValueIdx.ix1 i) := by
  refine shapeCast_apply _ _ _ _ ?_
  rw [Shape.rowMajor_val_one, Shape.rowMajor_val_two]
  show i.val = i.val * 1 + 0
  omega

/-- The last 64 of 192 gains. -/
def tail (g : S192.Idx → EReal) : S64.Idx → EReal := extractStridedSlice S64 ![128] g slices_S192_S64_128

theorem tail_apply (g : S192.Idx → EReal) (k : Fin 64) : tail g (ValueIdx.ix1 k) = g (ValueIdx.ix1 ⟨128 + k.val, by omega⟩) :=
  extractStridedSlice_apply ![128] g slices_S192_S64_128 (ValueIdx.ix1 k) (ValueIdx.ix1 (⟨128 + k.val, by omega⟩ : Fin 192)) fun a => match a with
    | ⟨0, _⟩ => rfl

/-- The same with its halves exchanged. -/
def swap (g : S192.Idx → EReal) : S64.Idx → EReal :=
  concatenate S64 0 [⟨S32, (extractStridedSlice S32 ![32] (tail g) slices_S64_S32_32 : S32.Idx → EReal)⟩, ⟨S32, (extractStridedSlice S32 ![0] (tail g) slices_S64_S32_0 : S32.Idx → EReal)⟩] concatenates_S32_S32_S64_d0

theorem swap_lo (g : S192.Idx → EReal) (k : Fin 64) (hk : k.val < 32) : swap g (ValueIdx.ix1 k) = g (ValueIdx.ix1 ⟨(160 + k.val) % 192, Nat.mod_lt _ (by norm_num)⟩) := by
  refine (concatenate_apply_piece (0 : Fin 1) _ _ (ValueIdx.ix1 k) 0 (by simp) S32 _ rfl rfl 0 rfl
    (ValueIdx.ix1 (⟨k.val, hk⟩ : Fin 32)) (fun b hb => match b, hb with | ⟨0, _⟩, hb => absurd rfl hb) (Nat.zero_add _)).trans ?_
  refine (extractStridedSlice_apply ![32] (tail g) slices_S64_S32_32 _ (ValueIdx.ix1 (⟨32 + k.val, by omega⟩ : Fin 64)) fun a => match a with
    | ⟨0, _⟩ => rfl).trans ?_
  rw [tail_apply]
  exact congrArg (fun n => g (ValueIdx.ix1 n)) (Fin.ext (by show 128 + (32 + k.val) = (160 + k.val) % 192; omega))

theorem swap_hi (g : S192.Idx → EReal) (k : Fin 64) (hk : ¬ k.val < 32) : swap g (ValueIdx.ix1 k) = g (ValueIdx.ix1 ⟨96 + k.val, by omega⟩) := by
  have hl := k.isLt
  refine (concatenate_apply_piece (0 : Fin 1) _ _ (ValueIdx.ix1 k) 1 (by simp) S32 _ rfl rfl 32 rfl
    (ValueIdx.ix1 (⟨k.val - 32, by omega⟩ : Fin 32)) (fun b hb => match b, hb with | ⟨0, _⟩, hb => absurd rfl hb) (by show 32 + (k.val - 32) = k.val; omega)).trans ?_
  refine (extractStridedSlice_apply ![0] (tail g) slices_S64_S32_0 _ (ValueIdx.ix1 (⟨k.val - 32, by omega⟩ : Fin 64)) fun a => match a with
    | ⟨0, _⟩ => (Nat.zero_add _).symm).trans ?_
  rw [tail_apply]
  exact congrArg (fun n => g (ValueIdx.ix1 n)) (Fin.ext (by show 128 + (k.val - 32) = 96 + k.val; omega))

/-- The frequencies of both halves. -/
def freq2 : S64.Idx → EReal := concatenate S64 0 [⟨S32, freq⟩, ⟨S32, freq⟩] concatenates_S32_S32_S64_d0

theorem freq2_apply (k : Fin 64) : freq2 (ValueIdx.ix1 k) = freq (ValueIdx.ix1 ⟨k.val % 32, Nat.mod_lt _ (by norm_num)⟩) := by
  have hl := k.isLt
  by_cases hk : k.val < 32
  · refine (concatenate_apply_piece (0 : Fin 1) _ _ (ValueIdx.ix1 k) 0 (by simp) S32 _ rfl rfl 0 rfl
      (ValueIdx.ix1 (⟨k.val, hk⟩ : Fin 32)) (fun b hb => match b, hb with | ⟨0, _⟩, hb => absurd rfl hb) (Nat.zero_add _)).trans ?_
    exact congrArg (fun n => freq (ValueIdx.ix1 n)) (Fin.ext (by show k.val = k.val % 32; omega))
  · refine (concatenate_apply_piece (0 : Fin 1) _ _ (ValueIdx.ix1 k) 1 (by simp) S32 _ rfl rfl 32 rfl
      (ValueIdx.ix1 (⟨k.val - 32, by omega⟩ : Fin 32)) (fun b hb => match b, hb with | ⟨0, _⟩, hb => absurd rfl hb) (by show 32 + (k.val - 32) = k.val; omega)).trans ?_
    exact congrArg (fun n => freq (ValueIdx.ix1 n)) (Fin.ext (by show k.val - 32 = k.val % 32; omega))

theorem head_apply (g : S192.Idx → EReal) (k : Fin 128) : extractStridedSlice S128 ![0] g slices_S192_S128_0 (ValueIdx.ix1 k) = g (ValueIdx.ix1 ⟨k.val, by omega⟩) :=
  extractStridedSlice_apply ![0] g slices_S192_S128_0 (ValueIdx.ix1 k) (ValueIdx.ix1 (⟨k.val, by omega⟩ : Fin 192)) fun a => match a with
    | ⟨0, _⟩ => (Nat.zero_add _).symm

theorem g5 (k : Fin 256) : (V m c main_v28 : S1x256.Idx → EReal) (ValueIdx.ix2 (0 : Fin 1) k) = A4 m c (ValueIdx.ix1 k) := by
  have e : (V m c main_v28 : S1x256.Idx → EReal) = shapeCast S1x256 (A4 m c) shapeCasts_S256_S1x256 := by
    show StableHlo.after hostOps0 _ _ = _
    after_results_simp <;> rfl
  rw [e]
  exact ValueIdx.shapeCast_a_1a_apply _ _ _ _

theorem g6 (k : Fin 256) : (V m c main_v29 : S1x256.Idx → EReal) (ValueIdx.ix2 (0 : Fin 1) k) = A6 m c (ValueIdx.ix1 k) := by
  have e : (V m c main_v29 : S1x256.Idx → EReal) = shapeCast S1x256 (A6 m c) shapeCasts_S256_S1x256 := by
    show StableHlo.after hostOps0 _ _ = _
    after_results_simp <;> rfl
  rw [e]
  exact ValueIdx.shapeCast_a_1a_apply _ _ _ _

theorem g11 (k : Fin 128) : (V m c main_v31 : S128x1.Idx → EReal) (ValueIdx.ix2 k (0 : Fin 1)) = (extractStridedSlice S128 ![0] (A8 m c) slices_S192_S128_0 : S128.Idx → EReal) (ValueIdx.ix1 k) := by
  have e : (V m c main_v31 : S128x1.Idx → EReal) = shapeCast S128x1 (extractStridedSlice S128 ![0] (A8 m c) slices_S192_S128_0) shapeCasts_S128_S128x1 := by
    show StableHlo.after hostOps0 _ _ = _
    after_results_simp <;> rfl
  rw [e]
  exact col_apply _ _ _

theorem g12 (k : Fin 64) : (V m c main_v32 : S64x1.Idx → EReal) (ValueIdx.ix2 k (0 : Fin 1)) = tail (A8 m c) (ValueIdx.ix1 k) := by
  have e : (V m c main_v32 : S64x1.Idx → EReal) = shapeCast S64x1 (tail (A8 m c)) shapeCasts_S64_S64x1 := by
    show StableHlo.after hostOps0 _ _ = _
    after_results_simp <;> rfl
  rw [e]
  exact col_apply _ _ _

theorem g13 (k : Fin 64) : (V m c main_v36 : S64x1.Idx → EReal) (ValueIdx.ix2 k (0 : Fin 1)) = swap (A8 m c) (ValueIdx.ix1 k) := by
  have e : (V m c main_v36 : S64x1.Idx → EReal) = shapeCast S64x1 (swap (A8 m c)) shapeCasts_S64_S64x1 := by
    show StableHlo.after hostOps0 _ _ = _
    after_results_simp <;> rfl
  rw [e]
  exact col_apply _ _ _

theorem g14 (k : Fin 128) : (V m c main_v38 : S1x128.Idx → EReal) (ValueIdx.ix2 (0 : Fin 1) k) = (extractStridedSlice S128 ![0] (A9 m c) slices_S192_S128_0 : S128.Idx → EReal) (ValueIdx.ix1 k) := by
  have e : (V m c main_v38 : S1x128.Idx → EReal) = shapeCast S1x128 (extractStridedSlice S128 ![0] (A9 m c) slices_S192_S128_0) shapeCasts_S128_S1x128 := by
    show StableHlo.after hostOps0 _ _ = _
    after_results_simp <;> rfl
  rw [e]
  exact ValueIdx.shapeCast_a_1a_apply _ _ _ _

theorem g15 (k : Fin 64) : (V m c main_v39 : S1x64.Idx → EReal) (ValueIdx.ix2 (0 : Fin 1) k) = tail (A9 m c) (ValueIdx.ix1 k) := by
  have e : (V m c main_v39 : S1x64.Idx → EReal) = shapeCast S1x64 (tail (A9 m c)) shapeCasts_S64_S1x64 := by
    show StableHlo.after hostOps0 _ _ = _
    after_results_simp <;> rfl
  rw [e]
  exact ValueIdx.shapeCast_a_1a_apply _ _ _ _

theorem g16 (k : Fin 64) : (V m c main_v43 : S1x64.Idx → EReal) (ValueIdx.ix2 (0 : Fin 1) k) = swap (A9 m c) (ValueIdx.ix1 k) := by
  have e : (V m c main_v43 : S1x64.Idx → EReal) = shapeCast S1x64 (swap (A9 m c)) shapeCasts_S64_S1x64 := by
    show StableHlo.after hostOps0 _ _ = _
    after_results_simp <;> rfl
  rw [e]
  exact ValueIdx.shapeCast_a_1a_apply _ _ _ _

theorem g17 (k : Fin 64) : (V m c main_v44 : S1x64.Idx → EReal) (ValueIdx.ix2 (0 : Fin 1) k) = freq2 (ValueIdx.ix1 k) := by
  have e : (V m c main_v44 : S1x64.Idx → EReal) = shapeCast S1x64 (freq2) shapeCasts_S64_S1x64 := by
    show StableHlo.after hostOps0 _ _ = _
    after_results_simp <;> rfl
  rw [e]
  exact ValueIdx.shapeCast_a_1a_apply _ _ _ _

theorem g18 (k : Fin 64) : (V m c main_v45 : S64x1.Idx → EReal) (ValueIdx.ix2 k (0 : Fin 1)) = freq2 (ValueIdx.ix1 k) := by
  have e : (V m c main_v45 : S64x1.Idx → EReal) = shapeCast S64x1 (freq2) shapeCasts_S64_S64x1 := by
    show StableHlo.after hostOps0 _ _ = _
    after_results_simp <;> rfl
  rw [e]
  exact col_apply _ _ _

theorem pos_row (b : Fin 4) (s : Fin 8192) : (V m c main_v52 : S4x1x8192.Idx → EReal) (ValueIdx.ix3 b (0 : Fin 1) s) = posf m c (ValueIdx.ix2 b s) := by
  have e : (V m c main_v52 : S4x1x8192.Idx → EReal) = shapeCast S4x1x8192 (posf m c) shapeCasts_S4x8192_S4x1x8192 := by
    show StableHlo.after hostOps0 _ _ = _
    after_results_simp <;> rfl
  rw [e]
  refine shapeCast_apply _ _ _ _ ?_
  rw [Shape.rowMajor_val_three, Shape.rowMajor_val_two]
  show b.val * 8192 + s.val = (b.val * 1 + 0) * 8192 + s.val
  omega

theorem pos_col (b : Fin 4) (s : Fin 8192) : (V m c main_v51 : S4x8192x1.Idx → EReal) (ValueIdx.ix3 b s (0 : Fin 1)) = posf m c (ValueIdx.ix2 b s) := by
  have e : (V m c main_v51 : S4x8192x1.Idx → EReal) = shapeCast S4x8192x1 (posf m c) shapeCasts_S4x8192_S4x8192x1 := by
    show StableHlo.after hostOps0 _ _ = _
    after_results_simp <;> rfl
  rw [e]
  refine shapeCast_apply _ _ _ _ ?_
  rw [Shape.rowMajor_val_three, Shape.rowMajor_val_two]
  show b.val * 8192 + s.val = (b.val * 8192 + s.val) * 1 + 0
  omega

theorem v50_eq : (V m c main_v50 : S4x8192x128.Idx → EReal) = concatenate S4x8192x128 2 [⟨S4x8192x64, A2 m c⟩,
    ⟨S4x8192x32, (Host.negf (F := Ideal) (φ := .f32) (extractStridedSlice S4x8192x32 ![0, 0, 32] (A2 m c) slices_S4x8192x64_S4x8192x32_0_0_32) : S4x8192x32.Idx → EReal)⟩,
    ⟨S4x8192x32, (extractStridedSlice S4x8192x32 ![0, 0, 0] (A2 m c) slices_S4x8192x64_S4x8192x32_0_0_0 : S4x8192x32.Idx → EReal)⟩] concatenates_S4x8192x64_S4x8192x32_S4x8192x32_S4x8192x128_d2 := by
  show StableHlo.after hostOps0 _ _ = _
  after_results <;> rfl

theorem pe_apply (b : Fin 4) (s : Fin 8192) (k : Fin 64) :
    (V m c main_v50 : S4x8192x128.Idx → EReal) (ValueIdx.ix3 b s (⟨k.val, by omega⟩ : Fin 128)) = A2 m c (ValueIdx.ix3 b s k) := by
  rw [v50_eq]
  exact concatenate_apply_piece (2 : Fin 3) _ _ (ValueIdx.ix3 b s (⟨k.val, by omega⟩ : Fin 128)) 0 (by simp) S4x8192x64 _ rfl rfl 0 rfl
    (ValueIdx.ix3 b s k) (fun a ha => match a, ha with | ⟨0, _⟩, _ => rfl | ⟨1, _⟩, _ => rfl | ⟨2, _⟩, ha => absurd rfl ha) (Nat.zero_add _)

theorem per_lo (b : Fin 4) (s : Fin 8192) (k : Fin 64) (hk : k.val < 32) :
    (V m c main_v50 : S4x8192x128.Idx → EReal) (ValueIdx.ix3 b s (⟨64 + k.val, by omega⟩ : Fin 128)) = -A2 m c (ValueIdx.ix3 b s ⟨32 + k.val, by omega⟩) := by
  rw [v50_eq]
  refine (concatenate_apply_piece (2 : Fin 3) _ _ (ValueIdx.ix3 b s (⟨64 + k.val, by omega⟩ : Fin 128)) 1 (by simp) S4x8192x32 _ rfl rfl 64 rfl
    (ValueIdx.ix3 b s (⟨k.val, hk⟩ : Fin 32)) (fun a ha => match a, ha with | ⟨0, _⟩, _ => rfl | ⟨1, _⟩, _ => rfl | ⟨2, _⟩, ha => absurd rfl ha) rfl).trans ?_
  refine congrArg (fun z : EReal => -z) ?_
  exact extractStridedSlice_apply ![0, 0, 32] (A2 m c) slices_S4x8192x64_S4x8192x32_0_0_32 _ (ValueIdx.ix3 b s (⟨32 + k.val, by omega⟩ : Fin 64)) fun a => match a with
    | ⟨0, _⟩ => (Nat.zero_add _).symm
    | ⟨1, _⟩ => (Nat.zero_add _).symm
    | ⟨2, _⟩ => rfl

theorem per_hi (b : Fin 4) (s : Fin 8192) (k : Fin 64) (hk : ¬ k.val < 32) :
    (V m c main_v50 : S4x8192x128.Idx → EReal) (ValueIdx.ix3 b s (⟨64 + k.val, by omega⟩ : Fin 128)) = A2 m c (ValueIdx.ix3 b s ⟨k.val - 32, by omega⟩) := by
  have hl := k.isLt
  rw [v50_eq]
  refine (concatenate_apply_piece (2 : Fin 3) _ _ (ValueIdx.ix3 b s (⟨64 + k.val, by omega⟩ : Fin 128)) 2 (by simp) S4x8192x32 _ rfl rfl 96 rfl
    (ValueIdx.ix3 b s (⟨k.val - 32, by omega⟩ : Fin 32)) (fun a ha => match a, ha with | ⟨0, _⟩, _ => rfl | ⟨1, _⟩, _ => rfl | ⟨2, _⟩, ha => absurd rfl ha) (by show 96 + (k.val - 32) = 64 + k.val; omega)).trans ?_
  exact extractStridedSlice_apply ![0, 0, 0] (A2 m c) slices_S4x8192x64_S4x8192x32_0_0_0 _ (ValueIdx.ix3 b s (⟨k.val - 32, by omega⟩ : Fin 64)) fun a => match a with
    | ⟨0, _⟩ => (Nat.zero_add _).symm
    | ⟨1, _⟩ => (Nat.zero_add _).symm
    | ⟨2, _⟩ => (Nat.zero_add _).symm

end Cert.Qkv

end
-- ==== Proof.QkvEntry.lean ====
/- The latent projections' three results, over the arguments: each block's entries are the reference's. -/
module

public import proofs.«01_k».proof.Proof.QkvHost
public import proofs.«01_k».proof.Proof.Gen.Kernel4Ideal.Value
public import Idealize.ShloMosaic.Lib.Pipeline.ValueKit

@[expose] public section

set_option maxRecDepth 16384
set_option maxHeartbeats 200000

noncomputable section

open scoped BigOperators

namespace Cert.Qkv

open Idealize.ShloMosaic Idealize.ShloMosaic.TcCoe
open Cert.Kernel4Ideal Cert.Kernel4Ideal.Gen

variable (m : (ℓ : Loc nD τ sig) → Buf (Elt Ideal) ℓ) (c : Dev nD)

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![(grid0.coords t 0).val, (grid0.coords t 1).val, 0] := (by decide +kernel : ∀ t : Fin grid0.N, _)
theorem idx3 : ∀ t : Fin cfg0.N, win0_3.index t = ![(grid0.coords t 0).val, (grid0.coords t 1).val, 0] := (by decide +kernel : ∀ t : Fin grid0.N, _)
theorem idx4 : ∀ t : Fin cfg0.N, win0_4.index t = ![(grid0.coords t 0).val, 0, (grid0.coords t 1).val] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0, 0] := (by decide +kernel : ∀ t : Fin grid0.N, _)
theorem idx9 : ∀ t : Fin cfg0.N, win0_9.index t = ![0, 0, 0] := (by decide +kernel : ∀ t : Fin grid0.N, _)
theorem idx10 : ∀ t : Fin cfg0.N, win0_10.index t = ![0, 0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![(grid0.coords t 0).val, 0, 0, (grid0.coords t 1).val] := (by decide +kernel : ∀ t : Fin grid0.N, _)
theorem idx20 : ∀ t : Fin cfg0.N, win0_20.index t = ![(grid0.coords t 0).val, 0, (grid0.coords t 1).val, 0] := (by decide +kernel : ∀ t : Fin grid0.N, _)
theorem idx21 : ∀ t : Fin cfg0.N, win0_21.index t = ![(grid0.coords t 0).val, 0, (grid0.coords t 1).val, 0, 0] := (by decide +kernel : ∀ t : Fin grid0.N, _)

/-- The batch of a grid point. -/
def bat (t : Fin cfg0.N) : Fin 4 := ⟨(grid0.coords t 0).val, (grid0.coords t 0).isLt⟩
/-- The block of positions of a grid point. -/
def blk (t : Fin cfg0.N) : Fin 16 := ⟨(grid0.coords t 1).val, (grid0.coords t 1).isLt⟩
/-- Position `p` of a grid point's block. -/
def at' (t : Fin cfg0.N) (p : Fin 512) : Fin 8192 := ⟨(blk t).val * 512 + p.val, by omega⟩

theorem b0 (t : Fin cfg0.N) (p : Fin 512) (k : Fin 256) : iblk m c 0 t (ValueIdx.ix3 (0 : Fin 1) p k) = (V m c main_arg0 : S4x8192x256.Idx → EReal) (ValueIdx.ix3 (bat t) (at' t p) k) := by
  have e := idx0 t
  blk_simp [iblk]
  refine congrArg (V m c main_arg0) ?_
  blk_ext [e, bat, blk, at']

theorem b1 (t : Fin cfg0.N) (p : Fin 512) (k : Fin 256) : iblk m c 1 t (ValueIdx.ix3 (0 : Fin 1) p k) = (V m c main_arg1 : S4x8192x256.Idx → EReal) (ValueIdx.ix3 (bat t) (at' t p) k) := by
  have e := idx1 t
  blk_simp [iblk]
  refine congrArg (V m c main_arg1) ?_
  blk_ext [e, bat, blk, at']

theorem b2 (t : Fin cfg0.N) (p : Fin 512) (k : Fin 128) : iblk m c 2 t (ValueIdx.ix3 (0 : Fin 1) p k) = (V m c main_v50 : S4x8192x128.Idx → EReal) (ValueIdx.ix3 (bat t) (at' t p) k) := by
  have e := idx2 t
  blk_simp [iblk]
  refine congrArg (V m c main_v50) ?_
  blk_ext [e, bat, blk, at']

theorem b3 (t : Fin cfg0.N) (p : Fin 512) : iblk m c 3 t (ValueIdx.ix3 (0 : Fin 1) p (0 : Fin 1)) = (V m c main_v51 : S4x8192x1.Idx → EReal) (ValueIdx.ix3 (bat t) (at' t p) (0 : Fin 1)) := by
  have e := idx3 t
  blk_simp [iblk]
  refine congrArg (V m c main_v51) ?_
  blk_ext [e, bat, blk, at']

theorem b4 (t : Fin cfg0.N) (p : Fin 512) : iblk m c 4 t (ValueIdx.ix3 (0 : Fin 1) (0 : Fin 1) p) = (V m c main_v52 : S4x1x8192.Idx → EReal) (ValueIdx.ix3 (bat t) (0 : Fin 1) (at' t p)) := by
  have e := idx4 t
  blk_simp [iblk]
  refine congrArg (V m c main_v52) ?_
  blk_ext [e, bat, blk, at']

theorem b5 (t : Fin cfg0.N) (k : Fin 256) : iblk m c 5 t (ValueIdx.ix2 (0 : Fin 1) k) = (V m c main_v28 : S1x256.Idx → EReal) (ValueIdx.ix2 (0 : Fin 1) k) := by
  have e := idx5 t
  blk_simp [iblk]
  refine congrArg (V m c main_v28) ?_
  blk_ext [e, bat, blk, at']

theorem b6 (t : Fin cfg0.N) (k : Fin 256) : iblk m c 6 t (ValueIdx.ix2 (0 : Fin 1) k) = (V m c main_v29 : S1x256.Idx → EReal) (ValueIdx.ix2 (0 : Fin 1) k) := by
  have e := idx6 t
  blk_simp [iblk]
  refine congrArg (V m c main_v29) ?_
  blk_ext [e, bat, blk, at']

theorem b14 (t : Fin cfg0.N) (k : Fin 128) : iblk m c 14 t (ValueIdx.ix2 (0 : Fin 1) k) = (V m c main_v38 : S1x128.Idx → EReal) (ValueIdx.ix2 (0 : Fin 1) k) := by
  have e := idx14 t
  blk_simp [iblk]
  refine congrArg (V m c main_v38) ?_
  blk_ext [e, bat, blk, at']

theorem b15 (t : Fin cfg0.N) (k : Fin 64) : iblk m c 15 t (ValueIdx.ix2 (0 : Fin 1) k) = (V m c main_v39 : S1x64.Idx → EReal) (ValueIdx.ix2 (0 : Fin 1) k) := by
  have e := idx15 t
  blk_simp [iblk]
  refine congrArg (V m c main_v39) ?_
  blk_ext [e, bat, blk, at']

theorem b16 (t : Fin cfg0.N) (k : Fin 64) : iblk m c 16 t (ValueIdx.ix2 (0 : Fin 1) k) = (V m c main_v43 : S1x64.Idx → EReal) (ValueIdx.ix2 (0 : Fin 1) k) := by
  have e := idx16 t
  blk_simp [iblk]
  refine congrArg (V m c main_v43) ?_
  blk_ext [e, bat, blk, at']

theorem b17 (t : Fin cfg0.N) (k : Fin 64) : iblk m c 17 t (ValueIdx.ix2 (0 : Fin 1) k) = (V m c main_v44 : S1x64.Idx → EReal) (ValueIdx.ix2 (0 : Fin 1) k) := by
  have e := idx17 t
  blk_simp [iblk]
  refine congrArg (V m c main_v44) ?_
  blk_ext [e, bat, blk, at']

theorem b11 (t : Fin cfg0.N) (k : Fin 128) : iblk m c 11 t (ValueIdx.ix2 k (0 : Fin 1)) = (V m c main_v31 : S128x1.Idx → EReal) (ValueIdx.ix2 k (0 : Fin 1)) := by
  have e := idx11 t
  blk_simp [iblk]
  refine congrArg (V m c main_v31) ?_
  blk_ext [e, bat, blk, at']

theorem b12 (t : Fin cfg0.N) (k : Fin 64) : iblk m c 12 t (ValueIdx.ix2 k (0 : Fin 1)) = (V m c main_v32 : S64x1.Idx → EReal) (ValueIdx.ix2 k (0 : Fin 1)) := by
  have e := idx12 t
  blk_simp [iblk]
  refine congrArg (V m c main_v32) ?_
  blk_ext [e, bat, blk, at']

theorem b13 (t : Fin cfg0.N) (k : Fin 64) : iblk m c 13 t (ValueIdx.ix2 k (0 : Fin 1)) = (V m c main_v36 : S64x1.Idx → EReal) (ValueIdx.ix2 k (0 : Fin 1)) := by
  have e := idx13 t
  blk_simp [iblk]
  refine congrArg (V m c main_v36) ?_
  blk_ext [e, bat, blk, at']

theorem b18 (t : Fin cfg0.N) (k : Fin 64) : iblk m c 18 t (ValueIdx.ix2 k (0 : Fin 1)) = (V m c main_v45 : S64x1.Idx → EReal) (ValueIdx.ix2 k (0 : Fin 1)) := by
  have e := idx18 t
  blk_simp [iblk]
  refine congrArg (V m c main_v45) ?_
  blk_ext [e, bat, blk, at']

theorem b7 (t : Fin cfg0.N) (h : Fin 8) (i : Fin 192) (k : Fin 256) : iblk m c 7 t (ValueIdx.ix3 h i k) = (V m c main_v2 : S8x192x256.Idx → EReal) (ValueIdx.ix3 h i k) := by
  have e := idx7 t
  blk_simp [iblk]
  refine congrArg (V m c main_v2) ?_
  blk_ext [e, bat, blk, at']

theorem b8 (t : Fin cfg0.N) (h : Fin 8) (i : Fin 64) (k : Fin 256) : iblk m c 8 t (ValueIdx.ix3 h i k) = (V m c main_v7 : S8x64x256.Idx → EReal) (ValueIdx.ix3 h i k) := by
  have e := idx8 t
  blk_simp [iblk]
  refine congrArg (V m c main_v7) ?_
  blk_ext [e, bat, blk, at']

theorem b9 (t : Fin cfg0.N) (h : Fin 8) (i : Fin 256) (k : Fin 128) : iblk m c 9 t (ValueIdx.ix3 h i k) = (V m c main_v11 : S8x256x128.Idx → EReal) (ValueIdx.ix3 h i k) := by
  have e := idx9 t
  blk_simp [iblk]
  refine congrArg (V m c main_v11) ?_
  blk_ext [e, bat, blk, at']

theorem b10 (t : Fin cfg0.N) (h : Fin 8) (i : Fin 128) (k : Fin 256) : iblk m c 10 t (ValueIdx.ix3 h i k) = (V m c main_v14 : S8x128x256.Idx → EReal) (ValueIdx.ix3 h i k) := by
  have e := idx10 t
  blk_simp [iblk]
  refine congrArg (V m c main_v14) ?_
  blk_ext [e, bat, blk, at']

/-- The query latent's norm in a block. -/
theorem latQ (t : Fin cfg0.N) (p : Fin 512) (k : Fin 256) : lat (iblk m c 0 t) (iblk m c 5 t) p k = L (A0 m c) (A4 m c) (bat t) (at' t p) k := by
  unfold lat L
  refine congrArg₂ (fun x g => nrm x g k) (funext fun d => ?_) (funext fun d => ?_)
  · exact (b0 m c t p d).trans (congrFun (arg0_eq m c) _)
  · exact (b5 m c t d).trans (g5 m c d)

/-- The key and value latent's norm in a block. -/
theorem latKV (t : Fin cfg0.N) (p : Fin 512) (k : Fin 256) : lat (iblk m c 1 t) (iblk m c 6 t) p k = L (A1 m c) (A6 m c) (bat t) (at' t p) k := by
  unfold lat L
  refine congrArg₂ (fun x g => nrm x g k) (funext fun d => ?_) (funext fun d => ?_)
  · exact (b1 m c t p d).trans (congrFun (arg1_eq m c) _)
  · exact (b6 m c t d).trans (g6 m c d)

/-- The weights' blocks, as arrays of extended reals. -/
abbrev X7 (t : Fin cfg0.N) : S8x192x256.Idx → EReal := iblk m c 7 t
abbrev X8 (t : Fin cfg0.N) : S8x64x256.Idx → EReal := iblk m c 8 t
abbrev X10 (t : Fin cfg0.N) : S8x128x256.Idx → EReal := iblk m c 10 t

/-- A block's query entries are the reference's. -/
theorem qblk_eq (t : Fin cfg0.N) (h : Fin 8) (j : Fin 192) (p : Fin 512) :
    qblk (iblk m c 0 t) (iblk m c 4 t) (iblk m c 5 t) (iblk m c 7 t) (iblk m c 8 t) (iblk m c 11 t) (iblk m c 12 t) (iblk m c 13 t) (iblk m c 18 t) h j p
      = rot (hnrm (Q (A0 m c) (A4 m c) (A5 m c) (bat t) (at' t p) h) (fun j => A8 m c (ValueIdx.ix1 j))) (ang (A3 m c) (bat t) (at' t p)) j := by
  have hq (i : Fin 192) : (∑ k : Fin 256, X7 m c t (ValueIdx.ix3 h i k) * lat (iblk m c 0 t) (iblk m c 5 t) p k)
      = Q (A0 m c) (A4 m c) (A5 m c) (bat t) (at' t p) h i :=
    Finset.sum_congr rfl fun k _ => by
      rw [latQ]
      refine Eq.trans (congrArg (fun z : EReal => z * _) ((b7 m c t h i k).trans (q_apply m c h i k))) ?_
      exact mul_comm _ _
  have ht (k : Fin 64) (i : ℕ) (hi : i < 192) (e : ∀ d : Fin 256, X8 m c t (ValueIdx.ix3 h k d) = A5 m c (ValueIdx.ix2 d ⟨h.val * 192 + i, by omega⟩)) :
      (∑ d : Fin 256, X8 m c t (ValueIdx.ix3 h k d) * lat (iblk m c 0 t) (iblk m c 5 t) p d) = Q (A0 m c) (A4 m c) (A5 m c) (bat t) (at' t p) h ⟨i, hi⟩ :=
    Finset.sum_congr rfl fun d _ => by
      rw [latQ]
      refine Eq.trans (congrArg (fun z : EReal => z * _) (e d)) ?_
      exact mul_comm _ _
  unfold qblk
  refine Eq.trans (congrArg (fun q => qval q _ _ _ _ _ _ j) (funext hq)) ?_
  refine qval_eq _ (fun j => A8 m c (ValueIdx.ix1 j)) _ (ang (A3 m c) (bat t) (at' t p)) _ _ _ _ _ ?_ ?_ ?_ ?_ ?_ ?_ ?_ j
  · exact fun k => (b11 m c t k).trans ((g11 m c k).trans (head_apply _ k))
  · exact fun k => (b12 m c t k).trans ((g12 m c k).trans (tail_apply _ k))
  · exact fun k hk => (b13 m c t k).trans ((g13 m c k).trans (swap_lo _ k hk))
  · exact fun k hk => (b13 m c t k).trans ((g13 m c k).trans (swap_hi _ k hk))
  · intro k
    refine (congrArg₂ (fun a b : EReal => a * b) ((b18 m c t k).trans ((g18 m c k).trans (freq2_apply k))) ((b4 m c t p).trans (pos_row m c (bat t) (at' t p)))).trans ?_
    exact mul_comm _ _
  · intro k hk hr
    have e : (⟨(160 + k.val) % 192, Nat.mod_lt _ (by norm_num)⟩ : Fin 192) = ⟨160 + k.val, by omega⟩ := Fin.ext (by show (160 + k.val) % 192 = 160 + k.val; omega)
    rw [e] at hr ⊢
    refine Eq.trans ?_ (sum_neg_real Finset.univ _ hr)
    refine Finset.sum_congr rfl fun d _ => ?_
    rw [latQ]
    refine Eq.trans (congrArg (fun z : EReal => z * _) ((b8 m c t h k d).trans (qr_lo m c h k d hk))) ?_
    show -_ * _ = -(_ * _)
    rw [EReal.neg_mul, mul_comm]
  · intro k hk
    exact ht k (96 + k.val) (by omega) fun d => (b8 m c t h k d).trans (qr_hi m c h k d hk)

/-- A block's key and value products are the reference's. -/
theorem k_eq (t : Fin cfg0.N) (h : Fin 8) (i : Fin 128) (p : Fin 512) :
    (∑ k : Fin 256, lat (iblk m c 1 t) (iblk m c 6 t) p k * (iblk m c 9 t (ValueIdx.ix3 h k i) : EReal)) = KV (A1 m c) (A6 m c) (A7 m c) (bat t) (at' t p) h ⟨i.val, by omega⟩ :=
  Finset.sum_congr rfl fun k _ => by
    rw [latKV]
    exact congrArg (fun z : EReal => _ * z) ((b9 m c t h k i).trans (kw_apply m c h k i))

theorem v_eq (t : Fin cfg0.N) (h : Fin 8) (i : Fin 128) (p : Fin 512) :
    (∑ k : Fin 256, X10 m c t (ValueIdx.ix3 h i k) * lat (iblk m c 1 t) (iblk m c 6 t) p k) = KV (A1 m c) (A6 m c) (A7 m c) (bat t) (at' t p) h ⟨128 + i.val, by omega⟩ :=
  Finset.sum_congr rfl fun k _ => by
    rw [latKV]
    refine Eq.trans (congrArg (fun z : EReal => z * _) ((b10 m c t h i k).trans (vw_apply m c h i k))) ?_
    exact mul_comm _ _

theorem K_lo (x1 : S4x8192x256.Idx → EReal) (x2 : S4x8192x64.Idx → EReal) (x6 : S256.Idx → EReal) (x7 : S256x2048.Idx → EReal) (b : Fin 4) (s : Fin 8192) (h : Fin 8) (i : Fin 192) (hi : i.val < 128) :
    K x1 x2 x6 x7 b s h i = KV x1 x6 x7 b s h ⟨i.val, by omega⟩ := by
  unfold K
  rw [dif_pos hi]

/-- A block's key entries are the reference's. -/
theorem kblk_eq (t : Fin cfg0.N) (h : Fin 8) (p : Fin 512) (j : Fin 192) :
    kblk (iblk m c 1 t) (iblk m c 2 t) (iblk m c 3 t) (iblk m c 6 t) (iblk m c 9 t) (iblk m c 14 t) (iblk m c 15 t) (iblk m c 16 t) (iblk m c 17 t) h p j
      = rot (hnrm (K (A1 m c) (A2 m c) (A6 m c) (A7 m c) (bat t) (at' t p) h) (fun j => A9 m c (ValueIdx.ix1 j))) (ang (A3 m c) (bat t) (at' t p)) j := by
  have hx (k : ℕ) (hk : k < 64) (i : Fin 192) (hi : i.val = 128 + k) :
      K (A1 m c) (A2 m c) (A6 m c) (A7 m c) (bat t) (at' t p) h i = A2 m c (ValueIdx.ix3 (bat t) (at' t p) ⟨k, hk⟩) := by
    unfold K
    rw [dif_neg (by omega)]
    exact congrArg (fun n => A2 m c (ValueIdx.ix3 (bat t) (at' t p) n)) (Fin.ext (by show i.val - 128 = k; omega))
  unfold kblk
  refine kval_eq (K (A1 m c) (A2 m c) (A6 m c) (A7 m c) (bat t) (at' t p) h) (fun j => A9 m c (ValueIdx.ix1 j)) _ _ _ _ (ang (A3 m c) (bat t) (at' t p)) _ _ _ _ ?_ ?_ ?_ ?_ ?_ ?_ ?_ ?_ ?_ j
  · intro i
    exact (k_eq m c t h i p).trans (K_lo _ _ _ _ _ _ _ ⟨i.val, by omega⟩ i.isLt).symm
  · intro k
    exact (b2 m c t p _).trans ((pe_apply m c (bat t) (at' t p) k).trans (hx k.val k.isLt _ rfl).symm)
  · exact fun k => (b14 m c t k).trans ((g14 m c k).trans (head_apply _ k))
  · exact fun k => (b15 m c t k).trans ((g15 m c k).trans (tail_apply _ k))
  · exact fun k hk => (b16 m c t k).trans ((g16 m c k).trans (swap_lo _ k hk))
  · exact fun k hk => (b16 m c t k).trans ((g16 m c k).trans (swap_hi _ k hk))
  · intro k
    exact congrArg₂ (fun a b : EReal => a * b) ((b3 m c t p).trans (pos_col m c (bat t) (at' t p))) ((b17 m c t k).trans ((g17 m c k).trans (freq2_apply k)))
  · intro k hk
    exact (b2 m c t p _).trans ((per_lo m c (bat t) (at' t p) k hk).trans (congrArg (fun z : EReal => -z) (hx (32 + k.val) (by omega) _ (by show (160 + k.val) % 192 = 128 + (32 + k.val); omega)).symm))
  · intro k hk
    exact (b2 m c t p _).trans ((per_hi m c (bat t) (at' t p) k hk).trans (hx (k.val - 32) (by omega) _ (by show 96 + k.val = 128 + (k.val - 32); omega)).symm)

end Cert.Qkv

end
-- ==== Proof.QkvOutQ.lean ====
/- The query block the body stores: each entry from the blocks it reads. -/
module

public import proofs.«01_k».proof.Proof.QkvBlock

@[expose] public section

set_option maxRecDepth 16384
set_option maxHeartbeats 200000

noncomputable section

open scoped BigOperators

namespace Cert.Qkv

open Idealize.ShloMosaic Idealize.ShloMosaic.TcCoe
open Cert.Kernel4Ideal Cert.Kernel4Ideal.Gen

/-- A query head's upper rows, as stored. -/
theorem qn_piece (arg2 : Memref sig .tc .vmem S1x512x256 .f32) (harg2 : arg2.IsWhole) (arg6 : Memref sig .tc .vmem S1x1x512 .f32) (harg6 : arg6.IsWhole) (arg7 : Memref sig .tc .vmem S1x256 .f32) (harg7 : arg7.IsWhole) (arg9 : Memref sig .tc .vmem S8x192x256 .bf16) (harg9 : arg9.IsWhole) (arg10 : Memref sig .tc .vmem S8x64x256 .bf16) (harg10 : arg10.IsWhole) (arg13 : Memref sig .tc .vmem S128x1 .f32) (harg13 : arg13.IsWhole) (arg14 : Memref sig .tc .vmem S64x1 .f32) (harg14 : arg14.IsWhole) (arg15 : Memref sig .tc .vmem S64x1 .f32) (harg15 : arg15.IsWhole) (arg20 : Memref sig .tc .vmem S64x1 .f32) (harg20 : arg20.IsWhole) (x0 : Vec Ideal S1x512x256 .f32) (x4 : Vec Ideal S1x1x512 .f32) (x5 : Vec Ideal S1x256 .f32) (x7 : Vec Ideal S8x192x256 .bf16) (x8 : Vec Ideal S8x64x256 .bf16) (x11 : Vec Ideal S128x1 .f32) (x12 : Vec Ideal S64x1 .f32) (x13 : Vec Ideal S64x1 .f32) (x18 : Vec Ideal S64x1 .f32) (h : ℕ) (hh : h < 8) (inb9) (inb10 : True) (inb)
    (x : (Rect.unit (s := S1x8x192x512) ![0, h, 0, 0] ![1, 1, 128, 512] inb).shape.Idx) :
    (k0_pay17 (k0_pay16 (k0_pay5 (View.readAt (Elt Ideal) arg2.view (Rect.unit (s := S1x512x256) ![0, 0, 0] ![1, 512, 256] inb_S1x512x256_S1x512x256_0_0_0).toLoadRect (harg2.unread x0)) (View.readAt (Elt Ideal) arg7.view (Rect.unit (s := S1x256) ![0, 0] ![1, 256] inb_S1x256_S1x256_0_0).toLoadRect (harg7.unread x5))) (View.readAt (Elt Ideal) arg9.view (Rect.unit (s := S8x192x256) ![h, 0, 0] ![1, 192, 256] inb9).toLoadRect (harg9.unread x7)) (View.readAt (Elt Ideal) arg13.view (Rect.unit (s := S128x1) ![0, 0] ![128, 1] inb_S128x1_S128x1_0_0).toLoadRect (harg13.unread x11))) : FVec Ideal S1x1x128x512 .bf16) x
      = (fun y : S1x8x192x512.Idx => qblk x0 x4 x5 x7 x8 x11 x12 x13 x18 (y 1) (y 2) (y 3)) ((Rect.unit (s := S1x8x192x512) ![0, h, 0, 0] ![1, 1, 128, 512] inb).emb x) := by
  obtain ⟨p, q, rfl⟩ : ∃ p q, x = ValueIdx.ix4 (0 : Fin 1) (0 : Fin 1) p q := ⟨x 2, x 3, funext fun a => match a with
    | ⟨0, _⟩ => Fin.ext (Nat.lt_one_iff.1 (x 0).isLt)
    | ⟨1, _⟩ => Fin.ext (Nat.lt_one_iff.1 (x 1).isLt)
    | ⟨2, _⟩ => rfl
    | ⟨3, _⟩ => rfl⟩
  have e1 : ((Rect.unit (s := S1x8x192x512) ![0, h, 0, 0] ![1, 1, 128, 512] inb).emb (ValueIdx.ix4 (0 : Fin 1) (0 : Fin 1) p q)) 1 = (⟨h, hh⟩ : Fin 8) := Fin.ext (ValueKit.rect_emb_unit_val _ _ _ _ _)
  have e2 : (((Rect.unit (s := S1x8x192x512) ![0, h, 0, 0] ![1, 1, 128, 512] inb).emb (ValueIdx.ix4 (0 : Fin 1) (0 : Fin 1) p q)) 2).val = p.val := (ValueKit.rect_emb_unit_val _ _ _ _ _).trans (Nat.zero_add _)
  have e3 : ((Rect.unit (s := S1x8x192x512) ![0, h, 0, 0] ![1, 1, 128, 512] inb).emb (ValueIdx.ix4 (0 : Fin 1) (0 : Fin 1) p q)) 3 = q := Fin.ext ((ValueKit.rect_emb_unit_val _ _ _ _ _).trans (Nat.zero_add _))
  beta_reduce
  rw [e1, e3]
  rw [((ld_eq arg2 harg2 x0 _).trans (View.ld_unit_lit inb_S1x512x256_S1x512x256_0_0_0 x0 (by decide))), ((ld_eq arg7 harg7 x5 _).trans (View.ld_unit_lit inb_S1x256_S1x256_0_0 x5 (by decide))), ((ld_eq arg13 harg13 x11 _).trans (View.ld_unit_lit inb_S128x1_S128x1_0_0 x11 (by decide)))]
  exact qn_val _ _ _ _ _ _ _ _ (fun i c => x7 (ValueIdx.ix3 (⟨h, hh⟩ : Fin 8) i c)) (lat x0 x5 q) q (fun c => pay5_apply x0 x5 q c) (fun i c => ld_slab arg9 harg9 x7 h hh _ i c) p _ e2

/-- A query head's turned rows, as stored. -/
theorem qr_piece (arg2 : Memref sig .tc .vmem S1x512x256 .f32) (harg2 : arg2.IsWhole) (arg6 : Memref sig .tc .vmem S1x1x512 .f32) (harg6 : arg6.IsWhole) (arg7 : Memref sig .tc .vmem S1x256 .f32) (harg7 : arg7.IsWhole) (arg9 : Memref sig .tc .vmem S8x192x256 .bf16) (harg9 : arg9.IsWhole) (arg10 : Memref sig .tc .vmem S8x64x256 .bf16) (harg10 : arg10.IsWhole) (arg13 : Memref sig .tc .vmem S128x1 .f32) (harg13 : arg13.IsWhole) (arg14 : Memref sig .tc .vmem S64x1 .f32) (harg14 : arg14.IsWhole) (arg15 : Memref sig .tc .vmem S64x1 .f32) (harg15 : arg15.IsWhole) (arg20 : Memref sig .tc .vmem S64x1 .f32) (harg20 : arg20.IsWhole) (x0 : Vec Ideal S1x512x256 .f32) (x4 : Vec Ideal S1x1x512 .f32) (x5 : Vec Ideal S1x256 .f32) (x7 : Vec Ideal S8x192x256 .bf16) (x8 : Vec Ideal S8x64x256 .bf16) (x11 : Vec Ideal S128x1 .f32) (x12 : Vec Ideal S64x1 .f32) (x13 : Vec Ideal S64x1 .f32) (x18 : Vec Ideal S64x1 .f32) (h : ℕ) (hh : h < 8) (inb9) (inb10) (inb)
    (x : (Rect.unit (s := S1x8x192x512) ![0, h, 128, 0] ![1, 1, 64, 512] inb).shape.Idx) :
    (k0_pay18 (k0_pay11 (k0_pay9 (View.readAt (Elt Ideal) arg20.view (Rect.unit (s := S64x1) ![0, 0] ![64, 1] inb_S64x1_S64x1_0_0).toLoadRect (harg20.unread x18))) (View.readAt (Elt Ideal) arg6.view (Rect.unit (s := S1x1x512) ![0, 0, 0] ![1, 1, 512] inb_S1x1x512_S1x1x512_0_0_0).toLoadRect (harg6.unread x4)) (View.readAt (Elt Ideal) arg14.view (Rect.unit (s := S64x1) ![0, 0] ![64, 1] inb_S64x1_S64x1_0_0).toLoadRect (harg14.unread x12))) (k0_pay12 (k0_pay9 (View.readAt (Elt Ideal) arg20.view (Rect.unit (s := S64x1) ![0, 0] ![64, 1] inb_S64x1_S64x1_0_0).toLoadRect (harg20.unread x18))) (View.readAt (Elt Ideal) arg6.view (Rect.unit (s := S1x1x512) ![0, 0, 0] ![1, 1, 512] inb_S1x1x512_S1x1x512_0_0_0).toLoadRect (harg6.unread x4)) (View.readAt (Elt Ideal) arg15.view (Rect.unit (s := S64x1) ![0, 0] ![64, 1] inb_S64x1_S64x1_0_0).toLoadRect (harg15.unread x13))) (k0_pay13 (k0_pay5 (View.readAt (Elt Ideal) arg2.view (Rect.unit (s := S1x512x256) ![0, 0, 0] ![1, 512, 256] inb_S1x512x256_S1x512x256_0_0_0).toLoadRect (harg2.unread x0)) (View.readAt (Elt Ideal) arg7.view (Rect.unit (s := S1x256) ![0, 0] ![1, 256] inb_S1x256_S1x256_0_0).toLoadRect (harg7.unread x5))) (View.readAt (Elt Ideal) arg9.view (Rect.unit (s := S8x192x256) ![h, 0, 0] ![1, 192, 256] inb9).toLoadRect (harg9.unread x7))) (k0_pay14 (k0_pay5 (View.readAt (Elt Ideal) arg2.view (Rect.unit (s := S1x512x256) ![0, 0, 0] ![1, 512, 256] inb_S1x512x256_S1x512x256_0_0_0).toLoadRect (harg2.unread x0)) (View.readAt (Elt Ideal) arg7.view (Rect.unit (s := S1x256) ![0, 0] ![1, 256] inb_S1x256_S1x256_0_0).toLoadRect (harg7.unread x5))) (View.readAt (Elt Ideal) arg10.view (Rect.unit (s := S8x64x256) ![h, 0, 0] ![1, 64, 256] inb10).toLoadRect (harg10.unread x8))) (k0_pay15 (k0_pay5 (View.readAt (Elt Ideal) arg2.view (Rect.unit (s := S1x512x256) ![0, 0, 0] ![1, 512, 256] inb_S1x512x256_S1x512x256_0_0_0).toLoadRect (harg2.unread x0)) (View.readAt (Elt Ideal) arg7.view (Rect.unit (s := S1x256) ![0, 0] ![1, 256] inb_S1x256_S1x256_0_0).toLoadRect (harg7.unread x5))) (View.readAt (Elt Ideal) arg9.view (Rect.unit (s := S8x192x256) ![h, 0, 0] ![1, 192, 256] inb9).toLoadRect (harg9.unread x7))) : FVec Ideal S1x1x64x512 .bf16) x
      = (fun y : S1x8x192x512.Idx => qblk x0 x4 x5 x7 x8 x11 x12 x13 x18 (y 1) (y 2) (y 3)) ((Rect.unit (s := S1x8x192x512) ![0, h, 128, 0] ![1, 1, 64, 512] inb).emb x) := by
  obtain ⟨p, q, rfl⟩ : ∃ p q, x = ValueIdx.ix4 (0 : Fin 1) (0 : Fin 1) p q := ⟨x 2, x 3, funext fun a => match a with
    | ⟨0, _⟩ => Fin.ext (Nat.lt_one_iff.1 (x 0).isLt)
    | ⟨1, _⟩ => Fin.ext (Nat.lt_one_iff.1 (x 1).isLt)
    | ⟨2, _⟩ => rfl
    | ⟨3, _⟩ => rfl⟩
  have e1 : ((Rect.unit (s := S1x8x192x512) ![0, h, 128, 0] ![1, 1, 64, 512] inb).emb (ValueIdx.ix4 (0 : Fin 1) (0 : Fin 1) p q)) 1 = (⟨h, hh⟩ : Fin 8) := Fin.ext (ValueKit.rect_emb_unit_val _ _ _ _ _)
  have e2 : (((Rect.unit (s := S1x8x192x512) ![0, h, 128, 0] ![1, 1, 64, 512] inb).emb (ValueIdx.ix4 (0 : Fin 1) (0 : Fin 1) p q)) 2).val = 128 + p.val := (ValueKit.rect_emb_unit_val _ _ _ _ _)
  have e3 : ((Rect.unit (s := S1x8x192x512) ![0, h, 128, 0] ![1, 1, 64, 512] inb).emb (ValueIdx.ix4 (0 : Fin 1) (0 : Fin 1) p q)) 3 = q := Fin.ext ((ValueKit.rect_emb_unit_val _ _ _ _ _).trans (Nat.zero_add _))
  beta_reduce
  rw [e1, e3]
  rw [((ld_eq arg2 harg2 x0 _).trans (View.ld_unit_lit inb_S1x512x256_S1x512x256_0_0_0 x0 (by decide))), ((ld_eq arg7 harg7 x5 _).trans (View.ld_unit_lit inb_S1x256_S1x256_0_0 x5 (by decide))), ((ld_eq arg6 harg6 x4 _).trans (View.ld_unit_lit inb_S1x1x512_S1x1x512_0_0_0 x4 (by decide))), ((ld_eq arg14 harg14 x12 _).trans (View.ld_unit_lit inb_S64x1_S64x1_0_0 x12 (by decide))), ((ld_eq arg15 harg15 x13 _).trans (View.ld_unit_lit inb_S64x1_S64x1_0_0 x13 (by decide))), ((ld_eq arg20 harg20 x18 _).trans (View.ld_unit_lit inb_S64x1_S64x1_0_0 x18 (by decide)))]
  exact qr_val _ _ _ _ _ _ _ _ (fun i c => x7 (ValueIdx.ix3 (⟨h, hh⟩ : Fin 8) i c)) (fun i c => x8 (ValueIdx.ix3 (⟨h, hh⟩ : Fin 8) i c)) (lat x0 x5 q) q (fun c => pay5_apply x0 x5 q c)
    (fun i c => ld_slab arg9 harg9 x7 h hh _ i c) (fun i c => ld_slab arg10 harg10 x8 h hh _ i c) p _ e2

/-- The query block at an entry. -/
theorem outQ (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x128 .f32) (harg4 : arg4.IsWhole) (arg5 : Memref sig .tc .vmem S1x512x1 .f32) (harg5 : arg5.IsWhole) (arg6 : Memref sig .tc .vmem S1x1x512 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S8x192x256 .bf16) (harg9 : arg9.IsWhole) (arg10 : Memref sig .tc .vmem S8x64x256 .bf16) (harg10 : arg10.IsWhole) (arg11 : Memref sig .tc .vmem S8x256x128 .bf16) (harg11 : arg11.IsWhole) (arg12 : Memref sig .tc .vmem S8x128x256 .bf16) (harg12 : arg12.IsWhole) (arg13 : Memref sig .tc .vmem S128x1 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S1x128 .f32) (harg16 : arg16.IsWhole) (arg17 : Memref sig .tc .vmem S1x64 .f32) (harg17 : arg17.IsWhole) (arg18 : Memref sig .tc .vmem S1x64 .f32) (harg18 : arg18.IsWhole) (arg19 : Memref sig .tc .vmem S1x64 .f32) (harg19 : arg19.IsWhole) (arg20 : Memref sig .tc .vmem S64x1 .f32) (harg20 : arg20.IsWhole) (arg21 : Memref sig .tc .vmem S1x8x192x512 .bf16) (harg21 : arg21.IsWhole) (arg22 : Memref sig .tc .vmem S1x8x512x192 .bf16) (harg22 : arg22.IsWhole) (arg23 : Memref sig .tc .vmem S1x8x1x144x512 .bf16) (harg23 : arg23.IsWhole)
    (x0 : Vec Ideal S1x512x256 .f32) (x1 : Vec Ideal S1x512x256 .f32) (x2 : Vec Ideal S1x512x128 .f32) (x3 : Vec Ideal S1x512x1 .f32) (x4 : Vec Ideal S1x1x512 .f32) (x5 : Vec Ideal S1x256 .f32) (x6 : Vec Ideal S1x256 .f32) (x7 : Vec Ideal S8x192x256 .bf16) (x8 : Vec Ideal S8x64x256 .bf16) (x9 : Vec Ideal S8x256x128 .bf16) (x10 : Vec Ideal S8x128x256 .bf16) (x11 : Vec Ideal S128x1 .f32) (x12 : Vec Ideal S64x1 .f32) (x13 : Vec Ideal S64x1 .f32) (x14 : Vec Ideal S1x128 .f32) (x15 : Vec Ideal S1x64 .f32) (x16 : Vec Ideal S1x64 .f32) (x17 : Vec Ideal S1x64 .f32) (x18 : Vec Ideal S64x1 .f32)
    (h : Fin 8) (j : Fin 192) (p : Fin 512) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 (ValueIdx.ix4 (0 : Fin 1) h j p) = qblk x0 x4 x5 x7 x8 x11 x12 x13 x18 h j p := by
  unfold out0_A_19
  refine (read_of_pieces VO0_19 VO0_19.junk (fun y : S1x8x192x512.Idx => qblk x0 x4 x5 x7 x8 x11 x12 x13 x18 (y 1) (y 2) (y 3)) _ ?_ ((ValueIdx.ix4 (0 : Fin 1) h j p)) (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 _)).trans rfl
  unfold kernelRun0_A
  dsimp only
  refine List.forall_mem_cons.2 ⟨fun x => qr_piece arg2 harg2 arg6 harg6 arg7 harg7 arg9 harg9 arg10 harg10 arg13 harg13 arg14 harg14 arg15 harg15 arg20 harg20 x0 x4 x5 x7 x8 x11 x12 x13 x18 7 (by decide) inb_S8x192x256_S1x192x256_7_0_0 inb_S8x64x256_S1x64x256_7_0_0 inb_S1x8x192x512_S1x1x64x512_0_7_128_0 x, ?_⟩
  refine List.forall_mem_cons.2 ⟨fun x => qn_piece arg2 harg2 arg6 harg6 arg7 harg7 arg9 harg9 arg10 harg10 arg13 harg13 arg14 harg14 arg15 harg15 arg20 harg20 x0 x4 x5 x7 x8 x11 x12 x13 x18 7 (by decide) inb_S8x192x256_S1x192x256_7_0_0 trivial inb_S1x8x192x512_S1x1x128x512_0_7_0_0 x, ?_⟩
  refine List.forall_mem_cons.2 ⟨fun x => qr_piece arg2 harg2 arg6 harg6 arg7 harg7 arg9 harg9 arg10 harg10 arg13 harg13 arg14 harg14 arg15 harg15 arg20 harg20 x0 x4 x5 x7 x8 x11 x12 x13 x18 6 (by decide) inb_S8x192x256_S1x192x256_6_0_0 inb_S8x64x256_S1x64x256_6_0_0 inb_S1x8x192x512_S1x1x64x512_0_6_128_0 x, ?_⟩
  refine List.forall_mem_cons.2 ⟨fun x => qn_piece arg2 harg2 arg6 harg6 arg7 harg7 arg9 harg9 arg10 harg10 arg13 harg13 arg14 harg14 arg15 harg15 arg20 harg20 x0 x4 x5 x7 x8 x11 x12 x13 x18 6 (by decide) inb_S8x192x256_S1x192x256_6_0_0 trivial inb_S1x8x192x512_S1x1x128x512_0_6_0_0 x, ?_⟩
  refine List.forall_mem_cons.2 ⟨fun x => qr_piece arg2 harg2 arg6 harg6 arg7 harg7 arg9 harg9 arg10 harg10 arg13 harg13 arg14 harg14 arg15 harg15 arg20 harg20 x0 x4 x5 x7 x8 x11 x12 x13 x18 5 (by decide) inb_S8x192x256_S1x192x256_5_0_0 inb_S8x64x256_S1x64x256_5_0_0 inb_S1x8x192x512_S1x1x64x512_0_5_128_0 x, ?_⟩
  refine List.forall_mem_cons.2 ⟨fun x => qn_piece arg2 harg2 arg6 harg6 arg7 harg7 arg9 harg9 arg10 harg10 arg13 harg13 arg14 harg14 arg15 harg15 arg20 harg20 x0 x4 x5 x7 x8 x11 x12 x13 x18 5 (by decide) inb_S8x192x256_S1x192x256_5_0_0 trivial inb_S1x8x192x512_S1x1x128x512_0_5_0_0 x, ?_⟩
  refine List.forall_mem_cons.2 ⟨fun x => qr_piece arg2 harg2 arg6 harg6 arg7 harg7 arg9 harg9 arg10 harg10 arg13 harg13 arg14 harg14 arg15 harg15 arg20 harg20 x0 x4 x5 x7 x8 x11 x12 x13 x18 4 (by decide) inb_S8x192x256_S1x192x256_4_0_0 inb_S8x64x256_S1x64x256_4_0_0 inb_S1x8x192x512_S1x1x64x512_0_4_128_0 x, ?_⟩
  refine List.forall_mem_cons.2 ⟨fun x => qn_piece arg2 harg2 arg6 harg6 arg7 harg7 arg9 harg9 arg10 harg10 arg13 harg13 arg14 harg14 arg15 harg15 arg20 harg20 x0 x4 x5 x7 x8 x11 x12 x13 x18 4 (by decide) inb_S8x192x256_S1x192x256_4_0_0 trivial inb_S1x8x192x512_S1x1x128x512_0_4_0_0 x, ?_⟩
  refine List.forall_mem_cons.2 ⟨fun x => qr_piece arg2 harg2 arg6 harg6 arg7 harg7 arg9 harg9 arg10 harg10 arg13 harg13 arg14 harg14 arg15 harg15 arg20 harg20 x0 x4 x5 x7 x8 x11 x12 x13 x18 3 (by decide) inb_S8x192x256_S1x192x256_3_0_0 inb_S8x64x256_S1x64x256_3_0_0 inb_S1x8x192x512_S1x1x64x512_0_3_128_0 x, ?_⟩
  refine List.forall_mem_cons.2 ⟨fun x => qn_piece arg2 harg2 arg6 harg6 arg7 harg7 arg9 harg9 arg10 harg10 arg13 harg13 arg14 harg14 arg15 harg15 arg20 harg20 x0 x4 x5 x7 x8 x11 x12 x13 x18 3 (by decide) inb_S8x192x256_S1x192x256_3_0_0 trivial inb_S1x8x192x512_S1x1x128x512_0_3_0_0 x, ?_⟩
  refine List.forall_mem_cons.2 ⟨fun x => qr_piece arg2 harg2 arg6 harg6 arg7 harg7 arg9 harg9 arg10 harg10 arg13 harg13 arg14 harg14 arg15 harg15 arg20 harg20 x0 x4 x5 x7 x8 x11 x12 x13 x18 2 (by decide) inb_S8x192x256_S1x192x256_2_0_0 inb_S8x64x256_S1x64x256_2_0_0 inb_S1x8x192x512_S1x1x64x512_0_2_128_0 x, ?_⟩
  refine List.forall_mem_cons.2 ⟨fun x => qn_piece arg2 harg2 arg6 harg6 arg7 harg7 arg9 harg9 arg10 harg10 arg13 harg13 arg14 harg14 arg15 harg15 arg20 harg20 x0 x4 x5 x7 x8 x11 x12 x13 x18 2 (by decide) inb_S8x192x256_S1x192x256_2_0_0 trivial inb_S1x8x192x512_S1x1x128x512_0_2_0_0 x, ?_⟩
  refine List.forall_mem_cons.2 ⟨fun x => qr_piece arg2 harg2 arg6 harg6 arg7 harg7 arg9 harg9 arg10 harg10 arg13 harg13 arg14 harg14 arg15 harg15 arg20 harg20 x0 x4 x5 x7 x8 x11 x12 x13 x18 1 (by decide) inb_S8x192x256_S1x192x256_1_0_0 inb_S8x64x256_S1x64x256_1_0_0 inb_S1x8x192x512_S1x1x64x512_0_1_128_0 x, ?_⟩
  refine List.forall_mem_cons.2 ⟨fun x => qn_piece arg2 harg2 arg6 harg6 arg7 harg7 arg9 harg9 arg10 harg10 arg13 harg13 arg14 harg14 arg15 harg15 arg20 harg20 x0 x4 x5 x7 x8 x11 x12 x13 x18 1 (by decide) inb_S8x192x256_S1x192x256_1_0_0 trivial inb_S1x8x192x512_S1x1x128x512_0_1_0_0 x, ?_⟩
  refine List.forall_mem_cons.2 ⟨fun x => qr_piece arg2 harg2 arg6 harg6 arg7 harg7 arg9 harg9 arg10 harg10 arg13 harg13 arg14 harg14 arg15 harg15 arg20 harg20 x0 x4 x5 x7 x8 x11 x12 x13 x18 0 (by decide) inb_S8x192x256_S1x192x256_0_0_0 inb_S8x64x256_S1x64x256_0_0_0 inb_S1x8x192x512_S1x1x64x512_0_0_128_0 x, ?_⟩
  refine List.forall_mem_cons.2 ⟨fun x => qn_piece arg2 harg2 arg6 harg6 arg7 harg7 arg9 harg9 arg10 harg10 arg13 harg13 arg14 harg14 arg15 harg15 arg20 harg20 x0 x4 x5 x7 x8 x11 x12 x13 x18 0 (by decide) inb_S8x192x256_S1x192x256_0_0_0 trivial inb_S1x8x192x512_S1x1x128x512_0_0_0_0 x, ?_⟩
  exact fun _ hm => absurd hm List.not_mem_nil

end Cert.Qkv

end
-- ==== Proof.QkvOutK.lean ====
/- The key block the body stores: each entry from the blocks it reads. -/
module

public import proofs.«01_k».proof.Proof.QkvBlock

@[expose] public section

set_option maxRecDepth 16384
set_option maxHeartbeats 200000

noncomputable section

open scoped BigOperators

namespace Cert.Qkv

open Idealize.ShloMosaic Idealize.ShloMosaic.TcCoe
open Cert.Kernel4Ideal Cert.Kernel4Ideal.Gen

/-- A key head's first columns, as stored. -/
theorem kn_piece (arg3 : Memref sig .tc .vmem S1x512x256 .f32) (harg3 : arg3.IsWhole) (arg4 : Memref sig .tc .vmem S1x512x128 .f32) (harg4 : arg4.IsWhole) (arg5 : Memref sig .tc .vmem S1x512x1 .f32) (harg5 : arg5.IsWhole) (arg8 : Memref sig .tc .vmem S1x256 .f32) (harg8 : arg8.IsWhole) (arg11 : Memref sig .tc .vmem S8x256x128 .bf16) (harg11 : arg11.IsWhole) (arg16 : Memref sig .tc .vmem S1x128 .f32) (harg16 : arg16.IsWhole) (arg17 : Memref sig .tc .vmem S1x64 .f32) (harg17 : arg17.IsWhole) (arg18 : Memref sig .tc .vmem S1x64 .f32) (harg18 : arg18.IsWhole) (arg19 : Memref sig .tc .vmem S1x64 .f32) (harg19 : arg19.IsWhole) (x1 : Vec Ideal S1x512x256 .f32) (x2 : Vec Ideal S1x512x128 .f32) (x3 : Vec Ideal S1x512x1 .f32) (x6 : Vec Ideal S1x256 .f32) (x9 : Vec Ideal S8x256x128 .bf16) (x14 : Vec Ideal S1x128 .f32) (x15 : Vec Ideal S1x64 .f32) (x16 : Vec Ideal S1x64 .f32) (x17 : Vec Ideal S1x64 .f32) (h : ℕ) (hh : h < 8) (inb11) (inb)
    (x : (Rect.unit (s := S1x8x512x192) ![0, h, 0, 0] ![1, 1, 512, 128] inb).shape.Idx) :
    (k0_pay63 (k0_pay8 (View.readAt (Elt Ideal) arg3.view (Rect.unit (s := S1x512x256) ![0, 0, 0] ![1, 512, 256] inb_S1x512x256_S1x512x256_0_0_0).toLoadRect (harg3.unread x1)) (View.readAt (Elt Ideal) arg8.view (Rect.unit (s := S1x256) ![0, 0] ![1, 256] inb_S1x256_S1x256_0_0).toLoadRect (harg8.unread x6))) (k0_pay58 (View.readAt (Elt Ideal) arg4.view (Rect.unit (s := S1x512x128) ![0, 0, 0] ![1, 512, 64] inb_S1x512x128_S1x512x64_0_0_0).toLoadRect (harg4.unread x2))) (k0_pay60 (View.readAt (Elt Ideal) arg11.view (Rect.unit (s := S8x256x128) ![h, 0, 0] ![1, 256, 128] inb11).toLoadRect (harg11.unread x9))) (View.readAt (Elt Ideal) arg16.view (Rect.unit (s := S1x128) ![0, 0] ![1, 128] inb_S1x128_S1x128_0_0).toLoadRect (harg16.unread x14)) : FVec Ideal S1x1x512x128 .bf16) x
      = (fun y : S1x8x512x192.Idx => kblk x1 x2 x3 x6 x9 x14 x15 x16 x17 (y 1) (y 2) (y 3)) ((Rect.unit (s := S1x8x512x192) ![0, h, 0, 0] ![1, 1, 512, 128] inb).emb x) := by
  obtain ⟨p, q, rfl⟩ : ∃ p q, x = ValueIdx.ix4 (0 : Fin 1) (0 : Fin 1) p q := ⟨x 2, x 3, funext fun a => match a with
    | ⟨0, _⟩ => Fin.ext (Nat.lt_one_iff.1 (x 0).isLt)
    | ⟨1, _⟩ => Fin.ext (Nat.lt_one_iff.1 (x 1).isLt)
    | ⟨2, _⟩ => rfl
    | ⟨3, _⟩ => rfl⟩
  have e1 : ((Rect.unit (s := S1x8x512x192) ![0, h, 0, 0] ![1, 1, 512, 128] inb).emb (ValueIdx.ix4 (0 : Fin 1) (0 : Fin 1) p q)) 1 = (⟨h, hh⟩ : Fin 8) := Fin.ext (ValueKit.rect_emb_unit_val _ _ _ _ _)
  have e2 : ((Rect.unit (s := S1x8x512x192) ![0, h, 0, 0] ![1, 1, 512, 128] inb).emb (ValueIdx.ix4 (0 : Fin 1) (0 : Fin 1) p q)) 2 = p := Fin.ext ((ValueKit.rect_emb_unit_val _ _ _ _ _).trans (Nat.zero_add _))
  have e3 : (((Rect.unit (s := S1x8x512x192) ![0, h, 0, 0] ![1, 1, 512, 128] inb).emb (ValueIdx.ix4 (0 : Fin 1) (0 : Fin 1) p q)) 3).val = q.val := (ValueKit.rect_emb_unit_val _ _ _ _ _).trans (Nat.zero_add _)
  beta_reduce
  rw [e1, e2]
  rw [((ld_eq arg3 harg3 x1 _).trans (View.ld_unit_lit inb_S1x512x256_S1x512x256_0_0_0 x1 (by decide))), ((ld_eq arg8 harg8 x6 _).trans (View.ld_unit_lit inb_S1x256_S1x256_0_0 x6 (by decide))), ((ld_eq arg16 harg16 x14 _).trans (View.ld_unit_lit inb_S1x128_S1x128_0_0 x14 (by decide)))]
  exact kn_val _ _ _ _ _ _ _ _ _ (fun c i => x9 (ValueIdx.ix3 (⟨h, hh⟩ : Fin 8) c i)) (lat x1 x6 p) (fun k => x2 (ValueIdx.ix3 (0 : Fin 1) p (⟨k.val, by omega⟩ : Fin 128))) p
    (fun c => pay6_apply x1 x6 p c) (fun c i => ld_slab arg11 harg11 x9 h hh _ c i)
    (fun k => (ld_cols arg4 harg4 x2 0 _ p k (by omega)).trans (congrArg (fun z : Fin 128 => x2 (ValueIdx.ix3 (0 : Fin 1) p z)) (Fin.ext (Nat.zero_add _)))) q _ e3

/-- A key head's turned columns, as stored. -/
theorem kr_piece (arg3 : Memref sig .tc .vmem S1x512x256 .f32) (harg3 : arg3.IsWhole) (arg4 : Memref sig .tc .vmem S1x512x128 .f32) (harg4 : arg4.IsWhole) (arg5 : Memref sig .tc .vmem S1x512x1 .f32) (harg5 : arg5.IsWhole) (arg8 : Memref sig .tc .vmem S1x256 .f32) (harg8 : arg8.IsWhole) (arg11 : Memref sig .tc .vmem S8x256x128 .bf16) (harg11 : arg11.IsWhole) (arg16 : Memref sig .tc .vmem S1x128 .f32) (harg16 : arg16.IsWhole) (arg17 : Memref sig .tc .vmem S1x64 .f32) (harg17 : arg17.IsWhole) (arg18 : Memref sig .tc .vmem S1x64 .f32) (harg18 : arg18.IsWhole) (arg19 : Memref sig .tc .vmem S1x64 .f32) (harg19 : arg19.IsWhole) (x1 : Vec Ideal S1x512x256 .f32) (x2 : Vec Ideal S1x512x128 .f32) (x3 : Vec Ideal S1x512x1 .f32) (x6 : Vec Ideal S1x256 .f32) (x9 : Vec Ideal S8x256x128 .bf16) (x14 : Vec Ideal S1x128 .f32) (x15 : Vec Ideal S1x64 .f32) (x16 : Vec Ideal S1x64 .f32) (x17 : Vec Ideal S1x64 .f32) (h : ℕ) (hh : h < 8) (inb11) (inb)
    (x : (Rect.unit (s := S1x8x512x192) ![0, h, 0, 128] ![1, 1, 512, 64] inb).shape.Idx) :
    (k0_pay64 (k0_pay8 (View.readAt (Elt Ideal) arg3.view (Rect.unit (s := S1x512x256) ![0, 0, 0] ![1, 512, 256] inb_S1x512x256_S1x512x256_0_0_0).toLoadRect (harg3.unread x1)) (View.readAt (Elt Ideal) arg8.view (Rect.unit (s := S1x256) ![0, 0] ![1, 256] inb_S1x256_S1x256_0_0).toLoadRect (harg8.unread x6))) (k0_pay57 (View.readAt (Elt Ideal) arg5.view (Rect.unit (s := S1x512x1) ![0, 0, 0] ![1, 512, 1] inb_S1x512x1_S1x512x1_0_0_0).toLoadRect (harg5.unread x3)) (View.readAt (Elt Ideal) arg19.view (Rect.unit (s := S1x64) ![0, 0] ![1, 64] inb_S1x64_S1x64_0_0).toLoadRect (harg19.unread x17)) (View.readAt (Elt Ideal) arg4.view (Rect.unit (s := S1x512x128) ![0, 0, 0] ![1, 512, 64] inb_S1x512x128_S1x512x64_0_0_0).toLoadRect (harg4.unread x2)) (View.readAt (Elt Ideal) arg4.view (Rect.unit (s := S1x512x128) ![0, 0, 64] ![1, 512, 64] inb_S1x512x128_S1x512x64_0_0_64).toLoadRect (harg4.unread x2)) (View.readAt (Elt Ideal) arg17.view (Rect.unit (s := S1x64) ![0, 0] ![1, 64] inb_S1x64_S1x64_0_0).toLoadRect (harg17.unread x15)) (View.readAt (Elt Ideal) arg18.view (Rect.unit (s := S1x64) ![0, 0] ![1, 64] inb_S1x64_S1x64_0_0).toLoadRect (harg18.unread x16))) (k0_pay58 (View.readAt (Elt Ideal) arg4.view (Rect.unit (s := S1x512x128) ![0, 0, 0] ![1, 512, 64] inb_S1x512x128_S1x512x64_0_0_0).toLoadRect (harg4.unread x2))) (k0_pay60 (View.readAt (Elt Ideal) arg11.view (Rect.unit (s := S8x256x128) ![h, 0, 0] ![1, 256, 128] inb11).toLoadRect (harg11.unread x9))) : FVec Ideal S1x1x512x64 .bf16) x
      = (fun y : S1x8x512x192.Idx => kblk x1 x2 x3 x6 x9 x14 x15 x16 x17 (y 1) (y 2) (y 3)) ((Rect.unit (s := S1x8x512x192) ![0, h, 0, 128] ![1, 1, 512, 64] inb).emb x) := by
  obtain ⟨p, q, rfl⟩ : ∃ p q, x = ValueIdx.ix4 (0 : Fin 1) (0 : Fin 1) p q := ⟨x 2, x 3, funext fun a => match a with
    | ⟨0, _⟩ => Fin.ext (Nat.lt_one_iff.1 (x 0).isLt)
    | ⟨1, _⟩ => Fin.ext (Nat.lt_one_iff.1 (x 1).isLt)
    | ⟨2, _⟩ => rfl
    | ⟨3, _⟩ => rfl⟩
  have e1 : ((Rect.unit (s := S1x8x512x192) ![0, h, 0, 128] ![1, 1, 512, 64] inb).emb (ValueIdx.ix4 (0 : Fin 1) (0 : Fin 1) p q)) 1 = (⟨h, hh⟩ : Fin 8) := Fin.ext (ValueKit.rect_emb_unit_val _ _ _ _ _)
  have e2 : ((Rect.unit (s := S1x8x512x192) ![0, h, 0, 128] ![1, 1, 512, 64] inb).emb (ValueIdx.ix4 (0 : Fin 1) (0 : Fin 1) p q)) 2 = p := Fin.ext ((ValueKit.rect_emb_unit_val _ _ _ _ _).trans (Nat.zero_add _))
  have e3 : (((Rect.unit (s := S1x8x512x192) ![0, h, 0, 128] ![1, 1, 512, 64] inb).emb (ValueIdx.ix4 (0 : Fin 1) (0 : Fin 1) p q)) 3).val = 128 + q.val := (ValueKit.rect_emb_unit_val _ _ _ _ _)
  beta_reduce
  rw [e1, e2]
  rw [((ld_eq arg3 harg3 x1 _).trans (View.ld_unit_lit inb_S1x512x256_S1x512x256_0_0_0 x1 (by decide))), ((ld_eq arg8 harg8 x6 _).trans (View.ld_unit_lit inb_S1x256_S1x256_0_0 x6 (by decide))), ((ld_eq arg5 harg5 x3 _).trans (View.ld_unit_lit inb_S1x512x1_S1x512x1_0_0_0 x3 (by decide))), ((ld_eq arg17 harg17 x15 _).trans (View.ld_unit_lit inb_S1x64_S1x64_0_0 x15 (by decide))), ((ld_eq arg18 harg18 x16 _).trans (View.ld_unit_lit inb_S1x64_S1x64_0_0 x16 (by decide))), ((ld_eq arg19 harg19 x17 _).trans (View.ld_unit_lit inb_S1x64_S1x64_0_0 x17 (by decide)))]
  exact kr_val _ _ _ _ _ _ _ _ _ (fun c i => x9 (ValueIdx.ix3 (⟨h, hh⟩ : Fin 8) c i)) (lat x1 x6 p) (fun k => x2 (ValueIdx.ix3 (0 : Fin 1) p (⟨k.val, by omega⟩ : Fin 128)))
    (fun k => x2 (ValueIdx.ix3 (0 : Fin 1) p (⟨64 + k.val, by omega⟩ : Fin 128))) p
    (fun c => pay6_apply x1 x6 p c) (fun c i => ld_slab arg11 harg11 x9 h hh _ c i)
    (fun k => (ld_cols arg4 harg4 x2 0 _ p k (by omega)).trans (congrArg (fun z : Fin 128 => x2 (ValueIdx.ix3 (0 : Fin 1) p z)) (Fin.ext (Nat.zero_add _))))
    (fun k => ld_cols arg4 harg4 x2 64 _ p k (by omega)) q _ e3

/-- The key block at an entry. -/
theorem outK (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x128 .f32) (harg4 : arg4.IsWhole) (arg5 : Memref sig .tc .vmem S1x512x1 .f32) (harg5 : arg5.IsWhole) (arg6 : Memref sig .tc .vmem S1x1x512 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S8x192x256 .bf16) (harg9 : arg9.IsWhole) (arg10 : Memref sig .tc .vmem S8x64x256 .bf16) (harg10 : arg10.IsWhole) (arg11 : Memref sig .tc .vmem S8x256x128 .bf16) (harg11 : arg11.IsWhole) (arg12 : Memref sig .tc .vmem S8x128x256 .bf16) (harg12 : arg12.IsWhole) (arg13 : Memref sig .tc .vmem S128x1 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S1x128 .f32) (harg16 : arg16.IsWhole) (arg17 : Memref sig .tc .vmem S1x64 .f32) (harg17 : arg17.IsWhole) (arg18 : Memref sig .tc .vmem S1x64 .f32) (harg18 : arg18.IsWhole) (arg19 : Memref sig .tc .vmem S1x64 .f32) (harg19 : arg19.IsWhole) (arg20 : Memref sig .tc .vmem S64x1 .f32) (harg20 : arg20.IsWhole) (arg21 : Memref sig .tc .vmem S1x8x192x512 .bf16) (harg21 : arg21.IsWhole) (arg22 : Memref sig .tc .vmem S1x8x512x192 .bf16) (harg22 : arg22.IsWhole) (arg23 : Memref sig .tc .vmem S1x8x1x144x512 .bf16) (harg23 : arg23.IsWhole)
    (x0 : Vec Ideal S1x512x256 .f32) (x1 : Vec Ideal S1x512x256 .f32) (x2 : Vec Ideal S1x512x128 .f32) (x3 : Vec Ideal S1x512x1 .f32) (x4 : Vec Ideal S1x1x512 .f32) (x5 : Vec Ideal S1x256 .f32) (x6 : Vec Ideal S1x256 .f32) (x7 : Vec Ideal S8x192x256 .bf16) (x8 : Vec Ideal S8x64x256 .bf16) (x9 : Vec Ideal S8x256x128 .bf16) (x10 : Vec Ideal S8x128x256 .bf16) (x11 : Vec Ideal S128x1 .f32) (x12 : Vec Ideal S64x1 .f32) (x13 : Vec Ideal S64x1 .f32) (x14 : Vec Ideal S1x128 .f32) (x15 : Vec Ideal S1x64 .f32) (x16 : Vec Ideal S1x64 .f32) (x17 : Vec Ideal S1x64 .f32) (x18 : Vec Ideal S64x1 .f32)
    (h : Fin 8) (p : Fin 512) (j : Fin 192) :
    out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 (ValueIdx.ix4 (0 : Fin 1) h p j) = kblk x1 x2 x3 x6 x9 x14 x15 x16 x17 h p j := by
  unfold out0_A_20
  refine (read_of_pieces VO0_20 VO0_20.junk (fun y : S1x8x512x192.Idx => kblk x1 x2 x3 x6 x9 x14 x15 x16 x17 (y 1) (y 2) (y 3)) _ ?_ ((ValueIdx.ix4 (0 : Fin 1) h p j)) (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 _)).trans rfl
  unfold kernelRun0_A
  dsimp only
  refine List.forall_mem_cons.2 ⟨fun x => kr_piece arg3 harg3 arg4 harg4 arg5 harg5 arg8 harg8 arg11 harg11 arg16 harg16 arg17 harg17 arg18 harg18 arg19 harg19 x1 x2 x3 x6 x9 x14 x15 x16 x17 7 (by decide) inb_S8x256x128_S1x256x128_7_0_0 inb_S1x8x512x192_S1x1x512x64_0_7_0_128 x, ?_⟩
  refine List.forall_mem_cons.2 ⟨fun x => kn_piece arg3 harg3 arg4 harg4 arg5 harg5 arg8 harg8 arg11 harg11 arg16 harg16 arg17 harg17 arg18 harg18 arg19 harg19 x1 x2 x3 x6 x9 x14 x15 x16 x17 7 (by decide) inb_S8x256x128_S1x256x128_7_0_0 inb_S1x8x512x192_S1x1x512x128_0_7_0_0 x, ?_⟩
  refine List.forall_mem_cons.2 ⟨fun x => kr_piece arg3 harg3 arg4 harg4 arg5 harg5 arg8 harg8 arg11 harg11 arg16 harg16 arg17 harg17 arg18 harg18 arg19 harg19 x1 x2 x3 x6 x9 x14 x15 x16 x17 6 (by decide) inb_S8x256x128_S1x256x128_6_0_0 inb_S1x8x512x192_S1x1x512x64_0_6_0_128 x, ?_⟩
  refine List.forall_mem_cons.2 ⟨fun x => kn_piece arg3 harg3 arg4 harg4 arg5 harg5 arg8 harg8 arg11 harg11 arg16 harg16 arg17 harg17 arg18 harg18 arg19 harg19 x1 x2 x3 x6 x9 x14 x15 x16 x17 6 (by decide) inb_S8x256x128_S1x256x128_6_0_0 inb_S1x8x512x192_S1x1x512x128_0_6_0_0 x, ?_⟩
  refine List.forall_mem_cons.2 ⟨fun x => kr_piece arg3 harg3 arg4 harg4 arg5 harg5 arg8 harg8 arg11 harg11 arg16 harg16 arg17 harg17 arg18 harg18 arg19 harg19 x1 x2 x3 x6 x9 x14 x15 x16 x17 5 (by decide) inb_S8x256x128_S1x256x128_5_0_0 inb_S1x8x512x192_S1x1x512x64_0_5_0_128 x, ?_⟩
  refine List.forall_mem_cons.2 ⟨fun x => kn_piece arg3 harg3 arg4 harg4 arg5 harg5 arg8 harg8 arg11 harg11 arg16 harg16 arg17 harg17 arg18 harg18 arg19 harg19 x1 x2 x3 x6 x9 x14 x15 x16 x17 5 (by decide) inb_S8x256x128_S1x256x128_5_0_0 inb_S1x8x512x192_S1x1x512x128_0_5_0_0 x, ?_⟩
  refine List.forall_mem_cons.2 ⟨fun x => kr_piece arg3 harg3 arg4 harg4 arg5 harg5 arg8 harg8 arg11 harg11 arg16 harg16 arg17 harg17 arg18 harg18 arg19 harg19 x1 x2 x3 x6 x9 x14 x15 x16 x17 4 (by decide) inb_S8x256x128_S1x256x128_4_0_0 inb_S1x8x512x192_S1x1x512x64_0_4_0_128 x, ?_⟩
  refine List.forall_mem_cons.2 ⟨fun x => kn_piece arg3 harg3 arg4 harg4 arg5 harg5 arg8 harg8 arg11 harg11 arg16 harg16 arg17 harg17 arg18 harg18 arg19 harg19 x1 x2 x3 x6 x9 x14 x15 x16 x17 4 (by decide) inb_S8x256x128_S1x256x128_4_0_0 inb_S1x8x512x192_S1x1x512x128_0_4_0_0 x, ?_⟩
  refine List.forall_mem_cons.2 ⟨fun x => kr_piece arg3 harg3 arg4 harg4 arg5 harg5 arg8 harg8 arg11 harg11 arg16 harg16 arg17 harg17 arg18 harg18 arg19 harg19 x1 x2 x3 x6 x9 x14 x15 x16 x17 3 (by decide) inb_S8x256x128_S1x256x128_3_0_0 inb_S1x8x512x192_S1x1x512x64_0_3_0_128 x, ?_⟩
  refine List.forall_mem_cons.2 ⟨fun x => kn_piece arg3 harg3 arg4 harg4 arg5 harg5 arg8 harg8 arg11 harg11 arg16 harg16 arg17 harg17 arg18 harg18 arg19 harg19 x1 x2 x3 x6 x9 x14 x15 x16 x17 3 (by decide) inb_S8x256x128_S1x256x128_3_0_0 inb_S1x8x512x192_S1x1x512x128_0_3_0_0 x, ?_⟩
  refine List.forall_mem_cons.2 ⟨fun x => kr_piece arg3 harg3 arg4 harg4 arg5 harg5 arg8 harg8 arg11 harg11 arg16 harg16 arg17 harg17 arg18 harg18 arg19 harg19 x1 x2 x3 x6 x9 x14 x15 x16 x17 2 (by decide) inb_S8x256x128_S1x256x128_2_0_0 inb_S1x8x512x192_S1x1x512x64_0_2_0_128 x, ?_⟩
  refine List.forall_mem_cons.2 ⟨fun x => kn_piece arg3 harg3 arg4 harg4 arg5 harg5 arg8 harg8 arg11 harg11 arg16 harg16 arg17 harg17 arg18 harg18 arg19 harg19 x1 x2 x3 x6 x9 x14 x15 x16 x17 2 (by decide) inb_S8x256x128_S1x256x128_2_0_0 inb_S1x8x512x192_S1x1x512x128_0_2_0_0 x, ?_⟩
  refine List.forall_mem_cons.2 ⟨fun x => kr_piece arg3 harg3 arg4 harg4 arg5 harg5 arg8 harg8 arg11 harg11 arg16 harg16 arg17 harg17 arg18 harg18 arg19 harg19 x1 x2 x3 x6 x9 x14 x15 x16 x17 1 (by decide) inb_S8x256x128_S1x256x128_1_0_0 inb_S1x8x512x192_S1x1x512x64_0_1_0_128 x, ?_⟩
  refine List.forall_mem_cons.2 ⟨fun x => kn_piece arg3 harg3 arg4 harg4 arg5 harg5 arg8 harg8 arg11 harg11 arg16 harg16 arg17 harg17 arg18 harg18 arg19 harg19 x1 x2 x3 x6 x9 x14 x15 x16 x17 1 (by decide) inb_S8x256x128_S1x256x128_1_0_0 inb_S1x8x512x192_S1x1x512x128_0_1_0_0 x, ?_⟩
  refine List.forall_mem_cons.2 ⟨fun x => kr_piece arg3 harg3 arg4 harg4 arg5 harg5 arg8 harg8 arg11 harg11 arg16 harg16 arg17 harg17 arg18 harg18 arg19 harg19 x1 x2 x3 x6 x9 x14 x15 x16 x17 0 (by decide) inb_S8x256x128_S1x256x128_0_0_0 inb_S1x8x512x192_S1x1x512x64_0_0_0_128 x, ?_⟩
  refine List.forall_mem_cons.2 ⟨fun x => kn_piece arg3 harg3 arg4 harg4 arg5 harg5 arg8 harg8 arg11 harg11 arg16 harg16 arg17 harg17 arg18 harg18 arg19 harg19 x1 x2 x3 x6 x9 x14 x15 x16 x17 0 (by decide) inb_S8x256x128_S1x256x128_0_0_0 inb_S1x8x512x192_S1x1x512x128_0_0_0_0 x, ?_⟩
  exact fun _ hm => absurd hm List.not_mem_nil

end Cert.Qkv

end
-- ==== Proof.QkvOutV.lean ====
/- The value block the body stores: each entry from the blocks it reads. -/
module

public import proofs.«01_k».proof.Proof.QkvBlock

@[expose] public section

set_option maxRecDepth 16384
set_option maxHeartbeats 200000

noncomputable section

open scoped BigOperators

namespace Cert.Qkv

open Idealize.ShloMosaic Idealize.ShloMosaic.TcCoe
open Cert.Kernel4Ideal Cert.Kernel4Ideal.Gen

/-- A value head's rows, as stored. -/
theorem vn_piece (arg3 : Memref sig .tc .vmem S1x512x256 .f32) (harg3 : arg3.IsWhole) (arg8 : Memref sig .tc .vmem S1x256 .f32) (harg8 : arg8.IsWhole) (arg12 : Memref sig .tc .vmem S8x128x256 .bf16) (harg12 : arg12.IsWhole) (x1 : Vec Ideal S1x512x256 .f32) (x6 : Vec Ideal S1x256 .f32) (x10 : Vec Ideal S8x128x256 .bf16) (h : ℕ) (hh : h < 8) (inb12) (inb)
    (x : (Rect.unit (s := S1x8x1x144x512) ![0, h, 0, 0, 0] ![1, 1, 1, 128, 512] inb).shape.Idx) :
    (k0_pay65 (k0_pay7 (View.readAt (Elt Ideal) arg3.view (Rect.unit (s := S1x512x256) ![0, 0, 0] ![1, 512, 256] inb_S1x512x256_S1x512x256_0_0_0).toLoadRect (harg3.unread x1)) (View.readAt (Elt Ideal) arg8.view (Rect.unit (s := S1x256) ![0, 0] ![1, 256] inb_S1x256_S1x256_0_0).toLoadRect (harg8.unread x6))) (View.readAt (Elt Ideal) arg12.view (Rect.unit (s := S8x128x256) ![h, 0, 0] ![1, 128, 256] inb12).toLoadRect (harg12.unread x10)) : FVec Ideal S1x1x1x128x512 .bf16) x
      = (fun y : S1x8x1x144x512.Idx => vblk x1 x6 x10 (y 1) (y 3) (y 4)) ((Rect.unit (s := S1x8x1x144x512) ![0, h, 0, 0, 0] ![1, 1, 1, 128, 512] inb).emb x) := by
  obtain ⟨p, q, rfl⟩ : ∃ p q, x = ValueIdx.ix5 (0 : Fin 1) (0 : Fin 1) (0 : Fin 1) p q := ⟨x 3, x 4, funext fun a => match a with
    | ⟨0, _⟩ => Fin.ext (Nat.lt_one_iff.1 (x 0).isLt)
    | ⟨1, _⟩ => Fin.ext (Nat.lt_one_iff.1 (x 1).isLt)
    | ⟨2, _⟩ => Fin.ext (Nat.lt_one_iff.1 (x 2).isLt)
    | ⟨3, _⟩ => rfl
    | ⟨4, _⟩ => rfl⟩
  have e1 : ((Rect.unit (s := S1x8x1x144x512) ![0, h, 0, 0, 0] ![1, 1, 1, 128, 512] inb).emb (ValueIdx.ix5 (0 : Fin 1) (0 : Fin 1) (0 : Fin 1) p q)) 1 = (⟨h, hh⟩ : Fin 8) := Fin.ext (ValueKit.rect_emb_unit_val _ _ _ _ _)
  have e2 : ((Rect.unit (s := S1x8x1x144x512) ![0, h, 0, 0, 0] ![1, 1, 1, 128, 512] inb).emb (ValueIdx.ix5 (0 : Fin 1) (0 : Fin 1) (0 : Fin 1) p q)) 4 = q := Fin.ext ((ValueKit.rect_emb_unit_val _ _ _ _ _).trans (Nat.zero_add _))
  have e3 : (((Rect.unit (s := S1x8x1x144x512) ![0, h, 0, 0, 0] ![1, 1, 1, 128, 512] inb).emb (ValueIdx.ix5 (0 : Fin 1) (0 : Fin 1) (0 : Fin 1) p q)) 3).val = p.val := (ValueKit.rect_emb_unit_val _ _ _ _ _).trans (Nat.zero_add _)
  beta_reduce
  rw [e1, e2]
  rw [((ld_eq arg3 harg3 x1 _).trans (View.ld_unit_lit inb_S1x512x256_S1x512x256_0_0_0 x1 (by decide))), ((ld_eq arg8 harg8 x6 _).trans (View.ld_unit_lit inb_S1x256_S1x256_0_0 x6 (by decide)))]
  exact vn_val _ _ (fun i c => x10 (ValueIdx.ix3 (⟨h, hh⟩ : Fin 8) i c)) (lat x1 x6 q) q (fun c => pay7_apply x1 x6 q c) (fun i c => ld_slab arg12 harg12 x10 h hh _ i c) p _ e3

/-- The row of ones and the rows of zeros, as stored. -/
theorem vo_piece (arg3 : Memref sig .tc .vmem S1x512x256 .f32) (harg3 : arg3.IsWhole) (arg8 : Memref sig .tc .vmem S1x256 .f32) (harg8 : arg8.IsWhole) (arg12 : Memref sig .tc .vmem S8x128x256 .bf16) (harg12 : arg12.IsWhole) (x1 : Vec Ideal S1x512x256 .f32) (x6 : Vec Ideal S1x256 .f32) (x10 : Vec Ideal S8x128x256 .bf16) (h : ℕ) (hh : h < 8) (inb12 : True) (inb)
    (x : (Rect.unit (s := S1x8x1x144x512) ![0, h, 0, 128, 0] ![1, 1, 1, 16, 512] inb).shape.Idx) :
    (k0_pay66 k0_pay59 : FVec Ideal S1x1x1x16x512 .bf16) x
      = (fun y : S1x8x1x144x512.Idx => vblk x1 x6 x10 (y 1) (y 3) (y 4)) ((Rect.unit (s := S1x8x1x144x512) ![0, h, 0, 128, 0] ![1, 1, 1, 16, 512] inb).emb x) := by
  obtain ⟨p, q, rfl⟩ : ∃ p q, x = ValueIdx.ix5 (0 : Fin 1) (0 : Fin 1) (0 : Fin 1) p q := ⟨x 3, x 4, funext fun a => match a with
    | ⟨0, _⟩ => Fin.ext (Nat.lt_one_iff.1 (x 0).isLt)
    | ⟨1, _⟩ => Fin.ext (Nat.lt_one_iff.1 (x 1).isLt)
    | ⟨2, _⟩ => Fin.ext (Nat.lt_one_iff.1 (x 2).isLt)
    | ⟨3, _⟩ => rfl
    | ⟨4, _⟩ => rfl⟩
  have e1 : ((Rect.unit (s := S1x8x1x144x512) ![0, h, 0, 128, 0] ![1, 1, 1, 16, 512] inb).emb (ValueIdx.ix5 (0 : Fin 1) (0 : Fin 1) (0 : Fin 1) p q)) 1 = (⟨h, hh⟩ : Fin 8) := Fin.ext (ValueKit.rect_emb_unit_val _ _ _ _ _)
  have e2 : ((Rect.unit (s := S1x8x1x144x512) ![0, h, 0, 128, 0] ![1, 1, 1, 16, 512] inb).emb (ValueIdx.ix5 (0 : Fin 1) (0 : Fin 1) (0 : Fin 1) p q)) 4 = q := Fin.ext ((ValueKit.rect_emb_unit_val _ _ _ _ _).trans (Nat.zero_add _))
  have e3 : (((Rect.unit (s := S1x8x1x144x512) ![0, h, 0, 128, 0] ![1, 1, 1, 16, 512] inb).emb (ValueIdx.ix5 (0 : Fin 1) (0 : Fin 1) (0 : Fin 1) p q)) 3).val = 128 + p.val := (ValueKit.rect_emb_unit_val _ _ _ _ _)
  beta_reduce
  rw [e1, e2]
  exact vo_val _ q p _ e3

/-- The value block at an entry. -/
theorem outV (c : Dev nD) (i : grid0.Coords) (arg2 : Memref sig .tc .vmem S1x512x256 .f32) (harg2 : arg2.IsWhole) (arg3 : Memref sig .tc .vmem S1x512x256 .f32) (harg3 : arg3.IsWhole) (arg4 : Memref sig .tc .vmem S1x512x128 .f32) (harg4 : arg4.IsWhole) (arg5 : Memref sig .tc .vmem S1x512x1 .f32) (harg5 : arg5.IsWhole) (arg6 : Memref sig .tc .vmem S1x1x512 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S8x192x256 .bf16) (harg9 : arg9.IsWhole) (arg10 : Memref sig .tc .vmem S8x64x256 .bf16) (harg10 : arg10.IsWhole) (arg11 : Memref sig .tc .vmem S8x256x128 .bf16) (harg11 : arg11.IsWhole) (arg12 : Memref sig .tc .vmem S8x128x256 .bf16) (harg12 : arg12.IsWhole) (arg13 : Memref sig .tc .vmem S128x1 .f32) (harg13 : arg13.IsWhole) (arg14 : Memref sig .tc .vmem S64x1 .f32) (harg14 : arg14.IsWhole) (arg15 : Memref sig .tc .vmem S64x1 .f32) (harg15 : arg15.IsWhole) (arg16 : Memref sig .tc .vmem S1x128 .f32) (harg16 : arg16.IsWhole) (arg17 : Memref sig .tc .vmem S1x64 .f32) (harg17 : arg17.IsWhole) (arg18 : Memref sig .tc .vmem S1x64 .f32) (harg18 : arg18.IsWhole) (arg19 : Memref sig .tc .vmem S1x64 .f32) (harg19 : arg19.IsWhole) (arg20 : Memref sig .tc .vmem S64x1 .f32) (harg20 : arg20.IsWhole) (arg21 : Memref sig .tc .vmem S1x8x192x512 .bf16) (harg21 : arg21.IsWhole) (arg22 : Memref sig .tc .vmem S1x8x512x192 .bf16) (harg22 : arg22.IsWhole) (arg23 : Memref sig .tc .vmem S1x8x1x144x512 .bf16) (harg23 : arg23.IsWhole)
    (x0 : Vec Ideal S1x512x256 .f32) (x1 : Vec Ideal S1x512x256 .f32) (x2 : Vec Ideal S1x512x128 .f32) (x3 : Vec Ideal S1x512x1 .f32) (x4 : Vec Ideal S1x1x512 .f32) (x5 : Vec Ideal S1x256 .f32) (x6 : Vec Ideal S1x256 .f32) (x7 : Vec Ideal S8x192x256 .bf16) (x8 : Vec Ideal S8x64x256 .bf16) (x9 : Vec Ideal S8x256x128 .bf16) (x10 : Vec Ideal S8x128x256 .bf16) (x11 : Vec Ideal S128x1 .f32) (x12 : Vec Ideal S64x1 .f32) (x13 : Vec Ideal S64x1 .f32) (x14 : Vec Ideal S1x128 .f32) (x15 : Vec Ideal S1x64 .f32) (x16 : Vec Ideal S1x64 .f32) (x17 : Vec Ideal S1x64 .f32) (x18 : Vec Ideal S64x1 .f32)
    (h : Fin 8) (j : Fin 144) (p : Fin 512) :
    out0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 (ValueIdx.ix5 (0 : Fin 1) h (0 : Fin 1) j p) = vblk x1 x6 x10 h j p := by
  unfold out0_A_21
  refine (read_of_pieces VO0_21 VO0_21.junk (fun y : S1x8x1x144x512.Idx => vblk x1 x6 x10 (y 1) (y 3) (y 4)) _ ?_ ((ValueIdx.ix5 (0 : Fin 1) h (0 : Fin 1) j p)) (cover0_A_21 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 _)).trans rfl
  unfold kernelRun0_A
  dsimp only
  refine List.forall_mem_cons.2 ⟨fun x => vo_piece arg3 harg3 arg8 harg8 arg12 harg12 x1 x6 x10 7 (by decide) trivial inb_S1x8x1x144x512_S1x1x1x16x512_0_7_0_128_0 x, ?_⟩
  refine List.forall_mem_cons.2 ⟨fun x => vn_piece arg3 harg3 arg8 harg8 arg12 harg12 x1 x6 x10 7 (by decide) inb_S8x128x256_S1x128x256_7_0_0 inb_S1x8x1x144x512_S1x1x1x128x512_0_7_0_0_0 x, ?_⟩
  refine List.forall_mem_cons.2 ⟨fun x => vo_piece arg3 harg3 arg8 harg8 arg12 harg12 x1 x6 x10 6 (by decide) trivial inb_S1x8x1x144x512_S1x1x1x16x512_0_6_0_128_0 x, ?_⟩
  refine List.forall_mem_cons.2 ⟨fun x => vn_piece arg3 harg3 arg8 harg8 arg12 harg12 x1 x6 x10 6 (by decide) inb_S8x128x256_S1x128x256_6_0_0 inb_S1x8x1x144x512_S1x1x1x128x512_0_6_0_0_0 x, ?_⟩
  refine List.forall_mem_cons.2 ⟨fun x => vo_piece arg3 harg3 arg8 harg8 arg12 harg12 x1 x6 x10 5 (by decide) trivial inb_S1x8x1x144x512_S1x1x1x16x512_0_5_0_128_0 x, ?_⟩
  refine List.forall_mem_cons.2 ⟨fun x => vn_piece arg3 harg3 arg8 harg8 arg12 harg12 x1 x6 x10 5 (by decide) inb_S8x128x256_S1x128x256_5_0_0 inb_S1x8x1x144x512_S1x1x1x128x512_0_5_0_0_0 x, ?_⟩
  refine List.forall_mem_cons.2 ⟨fun x => vo_piece arg3 harg3 arg8 harg8 arg12 harg12 x1 x6 x10 4 (by decide) trivial inb_S1x8x1x144x512_S1x1x1x16x512_0_4_0_128_0 x, ?_⟩
  refine List.forall_mem_cons.2 ⟨fun x => vn_piece arg3 harg3 arg8 harg8 arg12 harg12 x1 x6 x10 4 (by decide) inb_S8x128x256_S1x128x256_4_0_0 inb_S1x8x1x144x512_S1x1x1x128x512_0_4_0_0_0 x, ?_⟩
  refine List.forall_mem_cons.2 ⟨fun x => vo_piece arg3 harg3 arg8 harg8 arg12 harg12 x1 x6 x10 3 (by decide) trivial inb_S1x8x1x144x512_S1x1x1x16x512_0_3_0_128_0 x, ?_⟩
  refine List.forall_mem_cons.2 ⟨fun x => vn_piece arg3 harg3 arg8 harg8 arg12 harg12 x1 x6 x10 3 (by decide) inb_S8x128x256_S1x128x256_3_0_0 inb_S1x8x1x144x512_S1x1x1x128x512_0_3_0_0_0 x, ?_⟩
  refine List.forall_mem_cons.2 ⟨fun x => vo_piece arg3 harg3 arg8 harg8 arg12 harg12 x1 x6 x10 2 (by decide) trivial inb_S1x8x1x144x512_S1x1x1x16x512_0_2_0_128_0 x, ?_⟩
  refine List.forall_mem_cons.2 ⟨fun x => vn_piece arg3 harg3 arg8 harg8 arg12 harg12 x1 x6 x10 2 (by decide) inb_S8x128x256_S1x128x256_2_0_0 inb_S1x8x1x144x512_S1x1x1x128x512_0_2_0_0_0 x, ?_⟩
  refine List.forall_mem_cons.2 ⟨fun x => vo_piece arg3 harg3 arg8 harg8 arg12 harg12 x1 x6 x10 1 (by decide) trivial inb_S1x8x1x144x512_S1x1x1x16x512_0_1_0_128_0 x, ?_⟩
  refine List.forall_mem_cons.2 ⟨fun x => vn_piece arg3 harg3 arg8 harg8 arg12 harg12 x1 x6 x10 1 (by decide) inb_S8x128x256_S1x128x256_1_0_0 inb_S1x8x1x144x512_S1x1x1x128x512_0_1_0_0_0 x, ?_⟩
  refine List.forall_mem_cons.2 ⟨fun x => vo_piece arg3 harg3 arg8 harg8 arg12 harg12 x1 x6 x10 0 (by decide) trivial inb_S1x8x1x144x512_S1x1x1x16x512_0_0_0_128_0 x, ?_⟩
  refine List.forall_mem_cons.2 ⟨fun x => vn_piece arg3 harg3 arg8 harg8 arg12 harg12 x1 x6 x10 0 (by decide) inb_S8x128x256_S1x128x256_0_0_0 inb_S1x8x1x144x512_S1x1x1x128x512_0_0_0_0_0 x, ?_⟩
  exact fun _ hm => absurd hm List.not_mem_nil

end Cert.Qkv

end
-- ==== Proof.QkvLeft.lean ====
/- The blocks a grid point leaves, as the body's. -/
module

public import proofs.«01_k».proof.Proof.QkvOutQ
public import proofs.«01_k».proof.Proof.QkvOutK
public import proofs.«01_k».proof.Proof.QkvOutV
public import proofs.«01_k».proof.Proof.Gen.Kernel4Ideal.Value

@[expose] public section

set_option maxRecDepth 16384
set_option maxHeartbeats 200000

noncomputable section

open scoped BigOperators

namespace Cert.Qkv

open Idealize.ShloMosaic Idealize.ShloMosaic.TcCoe
open Cert.Kernel4Ideal Cert.Kernel4Ideal.Gen

variable (m : (ℓ : Loc nD τ sig) → Buf (Elt Ideal) ℓ) (c : Dev nD)

theorem left19 (t : Fin cfg0.N) (h : Fin 8) (j : Fin 192) (p : Fin 512) : (outsAt0 m c t).1 (ValueIdx.ix4 (0 : Fin 1) h j p) = qblk (iblk m c 0 t) (iblk m c 4 t) (iblk m c 5 t) (iblk m c 7 t) (iblk m c 8 t) (iblk m c 11 t) (iblk m c 12 t) (iblk m c 13 t) (iblk m c 18 t) h j p := by
  unfold outsAt0
  dsimp only
  exact outQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) h j p

theorem left20 (t : Fin cfg0.N) (h : Fin 8) (p : Fin 512) (j : Fin 192) : (outsAt0 m c t).2.1 (ValueIdx.ix4 (0 : Fin 1) h p j) = kblk (iblk m c 1 t) (iblk m c 2 t) (iblk m c 3 t) (iblk m c 6 t) (iblk m c 9 t) (iblk m c 14 t) (iblk m c 15 t) (iblk m c 16 t) (iblk m c 17 t) h p j := by
  unfold outsAt0
  dsimp only
  exact outK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) h p j

theorem left21 (t : Fin cfg0.N) (h : Fin 8) (j : Fin 144) (p : Fin 512) : (outsAt0 m c t).2.2 (ValueIdx.ix5 (0 : Fin 1) h (0 : Fin 1) j p) = vblk (iblk m c 1 t) (iblk m c 6 t) (iblk m c 10 t) h j p := by
  unfold outsAt0
  dsimp only
  exact outV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) h j p

end Cert.Qkv

end
-- ==== Proof.QkvFinal.lean ====
/- The latent projections' three results: the blocks put together. -/
module

public import proofs.«01_k».proof.Proof.QkvEntry
public import proofs.«01_k».proof.Proof.QkvLeft

@[expose] public section

set_option maxRecDepth 16384
set_option maxHeartbeats 200000

noncomputable section

open scoped BigOperators

namespace Cert.Qkv

open Idealize.ShloMosaic Idealize.ShloMosaic.TcCoe
open Cert.Kernel4Ideal Cert.Kernel4Ideal.Gen

variable (m : (ℓ : Loc nD τ sig) → Buf (Elt Ideal) ℓ) (c : Dev nD)

/-- The first result: the queries. -/
theorem final19 : (dats m 0 c).arrAt 19 cfg0.N = resQ (A0 m c) (A3 m c) (A4 m c) (A5 m c) (A8 m c) := by
  refine (dats m 0 c).arrAt_eq_of_covers 19 _ (by decide +kernel) fun t hf y => ?_
  have e := idx19 t
  obtain ⟨u, h, j, p, rfl⟩ : ∃ (u : Fin 1) (h : Fin 8) (j : Fin 192) (p : Fin 512), y = ValueIdx.ix4 u h j p := ⟨y 0, y 1, y 2, y 3, ValueIdx.eq_ix4 y⟩
  obtain rfl : u = 0 := Fin.ext (Nat.lt_one_iff.1 u.isLt)
  have key : (dats m 0 c).after 19 t (ValueIdx.ix4 (0 : Fin 1) h j p) = resQ (A0 m c) (A3 m c) (A4 m c) (A5 m c) (A8 m c) (ValueIdx.ix4 (bat t) h j (at' t p)) := by
    rw [after0_19]
    refine (left19 m c t h j p).trans ?_
    exact qblk_eq m c t h j p
  blk_simp
  refine key.trans (congrArg (resQ (A0 m c) (A3 m c) (A4 m c) (A5 m c) (A8 m c)) ?_)
  blk_ext [e, bat, blk, at']

/-- The second: the keys. -/
theorem final20 : (dats m 0 c).arrAt 20 cfg0.N = resK (A1 m c) (A2 m c) (A3 m c) (A6 m c) (A7 m c) (A9 m c) := by
  refine (dats m 0 c).arrAt_eq_of_covers 20 _ (by decide +kernel) fun t hf y => ?_
  have e := idx20 t
  obtain ⟨u, h, p, j, rfl⟩ : ∃ (u : Fin 1) (h : Fin 8) (p : Fin 512) (j : Fin 192), y = ValueIdx.ix4 u h p j := ⟨y 0, y 1, y 2, y 3, ValueIdx.eq_ix4 y⟩
  obtain rfl : u = 0 := Fin.ext (Nat.lt_one_iff.1 u.isLt)
  have key : (dats m 0 c).after 20 t (ValueIdx.ix4 (0 : Fin 1) h p j) = resK (A1 m c) (A2 m c) (A3 m c) (A6 m c) (A7 m c) (A9 m c) (ValueIdx.ix4 (bat t) h (at' t p) j) := by
    rw [after0_20]
    refine (left20 m c t h p j).trans ?_
    exact kblk_eq m c t h p j
  blk_simp
  refine key.trans (congrArg (resK (A1 m c) (A2 m c) (A3 m c) (A6 m c) (A7 m c) (A9 m c)) ?_)
  blk_ext [e, bat, blk, at']

/-- The third: the values. -/
theorem final21 : (dats m 0 c).arrAt 21 cfg0.N = resV (A1 m c) (A6 m c) (A7 m c) := by
  refine (dats m 0 c).arrAt_eq_of_covers 21 _ (by decide +kernel) fun t hf y => ?_
  have e := idx21 t
  obtain ⟨u, h, w, j, p, rfl⟩ : ∃ (u : Fin 1) (h : Fin 8) (w : Fin 1) (j : Fin 144) (p : Fin 512), y = ValueIdx.ix5 u h w j p := ⟨y 0, y 1, y 2, y 3, y 4, ValueIdx.eq_ix5 y⟩
  obtain rfl : u = 0 := Fin.ext (Nat.lt_one_iff.1 u.isLt)
  obtain rfl : w = 0 := Fin.ext (Nat.lt_one_iff.1 w.isLt)
  have key : (dats m 0 c).after 21 t (ValueIdx.ix5 (0 : Fin 1) h (0 : Fin 1) j p) = resV (A1 m c) (A6 m c) (A7 m c) (ValueIdx.ix5 (bat t) h (blk t) j p) := by
    rw [after0_21]
    refine (left21 m c t h j p).trans ?_
    exact congrArg (fun f => vval f j) (funext fun i => v_eq m c t h i p)
  blk_simp
  refine key.trans (congrArg (resV (A1 m c) (A6 m c) (A7 m c)) ?_)
  blk_ext [e, bat, blk, at']

end Cert.Qkv

end
-- ==== Proof.Trip.lean ====
/- One trip of the loop over key blocks: on each chain of columns it is four steps. -/
module

public import proofs.«01_k».proof.Proof.Step

@[expose] public section

set_option maxRecDepth 8192
set_option maxHeartbeats 4000000

noncomputable section

namespace Cert.Att

open Idealize.ShloMosaic Idealize.ShloMosaic.TcCoe
open Cert.KernelIdeal Cert.KernelIdeal.Gen

variable {F : FTy → Type} [FloatOps F]

/-- The block of keys that step `u` of trip `k` loads. -/
abbrev kblk (i : grid0.Coords) (arg4 : Memref sig .tc .vmem S1x1x8192x192 .bf16) (X_arg4 : BufTy.Contents (Elt F) arg4.view.ty) (k : Fin (k0_t1_loop i).trips) (u : Fin 4) : Vec F S1x1x512x192 .bf16 :=
  View.readAt (Elt F) arg4.view (Rect.unit (s := S1x1x8192x192) (k0_off1 i k (BitVec.ofNat 32 u.val)) S1x1x512x192.size (k0_off1_inb i k u)).toLoadRect X_arg4

/-- The block of values that step `u` of trip `k` loads. -/
abbrev vblk (i : grid0.Coords) (arg5 : Memref sig .tc .vmem S1x1x16x144x512 .bf16) (X_arg5 : BufTy.Contents (Elt F) arg5.view.ty) (k : Fin (k0_t1_loop i).trips) (u : Fin 4) : Vec F S1x1x1x144x512 .bf16 :=
  View.readAt (Elt F) arg5.view (Rect.unit (s := S1x1x16x144x512) (k0_off2 i k (BitVec.ofNat 32 u.val)) S1x1x1x144x512.size (k0_off2_inb i k u)).toLoadRect X_arg5

/-- The queries of chain 0. -/
abbrev qch0 (arg3 : Memref sig .tc .vmem S1x1x192x2048 .bf16) (X_arg3 : BufTy.Contents (Elt F) arg3.view.ty) : Vec F S1x1x192x512 .bf16 :=
  View.readAt (Elt F) arg3.view (Rect.unit (s := S1x1x192x2048) ![0, 0, 0, 0] S1x1x192x512.size inb_S1x1x192x2048_S1x1x192x512_0_0_0_0).toLoadRect X_arg3

/-- The carried maxima of chain 0. -/
abbrev rdM0 (arg7 : Memref sig .tc .vmem S1x2048 .f32) (f : BufTy.Contents (Elt F) arg7.view.ty) : MRow F :=
  View.readAt (Elt F) arg7.view (Rect.unit (s := S1x2048) ![0, 0] S1x512.size inb_S1x2048_S1x512_0_0).toLoadRect f

/-- The carried rows of chain 0. -/
abbrev rdA0 (arg8 : Memref sig .tc .vmem S144x2048 .f32) (f : BufTy.Contents (Elt F) arg8.view.ty) : ARows F :=
  View.readAt (Elt F) arg8.view (Rect.unit (s := S144x2048) ![0, 0] S144x512.size inb_S144x2048_S144x512_0_0).toLoadRect f

/-- The queries of chain 1. -/
abbrev qch1 (arg3 : Memref sig .tc .vmem S1x1x192x2048 .bf16) (X_arg3 : BufTy.Contents (Elt F) arg3.view.ty) : Vec F S1x1x192x512 .bf16 :=
  View.readAt (Elt F) arg3.view (Rect.unit (s := S1x1x192x2048) ![0, 0, 0, 512] S1x1x192x512.size inb_S1x1x192x2048_S1x1x192x512_0_0_0_512).toLoadRect X_arg3

/-- The carried maxima of chain 1. -/
abbrev rdM1 (arg7 : Memref sig .tc .vmem S1x2048 .f32) (f : BufTy.Contents (Elt F) arg7.view.ty) : MRow F :=
  View.readAt (Elt F) arg7.view (Rect.unit (s := S1x2048) ![0, 512] S1x512.size inb_S1x2048_S1x512_0_512).toLoadRect f

/-- The carried rows of chain 1. -/
abbrev rdA1 (arg8 : Memref sig .tc .vmem S144x2048 .f32) (f : BufTy.Contents (Elt F) arg8.view.ty) : ARows F :=
  View.readAt (Elt F) arg8.view (Rect.unit (s := S144x2048) ![0, 512] S144x512.size inb_S144x2048_S144x512_0_512).toLoadRect f

/-- The queries of chain 2. -/
abbrev qch2 (arg3 : Memref sig .tc .vmem S1x1x192x2048 .bf16) (X_arg3 : BufTy.Contents (Elt F) arg3.view.ty) : Vec F S1x1x192x512 .bf16 :=
  View.readAt (Elt F) arg3.view (Rect.unit (s := S1x1x192x2048) ![0, 0, 0, 1024] S1x1x192x512.size inb_S1x1x192x2048_S1x1x192x512_0_0_0_1024).toLoadRect X_arg3

/-- The carried maxima of chain 2. -/
abbrev rdM2 (arg7 : Memref sig .tc .vmem S1x2048 .f32) (f : BufTy.Contents (Elt F) arg7.view.ty) : MRow F :=
  View.readAt (Elt F) arg7.view (Rect.unit (s := S1x2048) ![0, 1024] S1x512.size inb_S1x2048_S1x512_0_1024).toLoadRect f

/-- The carried rows of chain 2. -/
abbrev rdA2 (arg8 : Memref sig .tc .vmem S144x2048 .f32) (f : BufTy.Contents (Elt F) arg8.view.ty) : ARows F :=
  View.readAt (Elt F) arg8.view (Rect.unit (s := S144x2048) ![0, 1024] S144x512.size inb_S144x2048_S144x512_0_1024).toLoadRect f

/-- The queries of chain 3. -/
abbrev qch3 (arg3 : Memref sig .tc .vmem S1x1x192x2048 .bf16) (X_arg3 : BufTy.Contents (Elt F) arg3.view.ty) : Vec F S1x1x192x512 .bf16 :=
  View.readAt (Elt F) arg3.view (Rect.unit (s := S1x1x192x2048) ![0, 0, 0, 1536] S1x1x192x512.size inb_S1x1x192x2048_S1x1x192x512_0_0_0_1536).toLoadRect X_arg3

/-- The carried maxima of chain 3. -/
abbrev rdM3 (arg7 : Memref sig .tc .vmem S1x2048 .f32) (f : BufTy.Contents (Elt F) arg7.view.ty) : MRow F :=
  View.readAt (Elt F) arg7.view (Rect.unit (s := S1x2048) ![0, 1536] S1x512.size inb_S1x2048_S1x512_0_1536).toLoadRect f

/-- The carried rows of chain 3. -/
abbrev rdA3 (arg8 : Memref sig .tc .vmem S144x2048 .f32) (f : BufTy.Contents (Elt F) arg8.view.ty) : ARows F :=
  View.readAt (Elt F) arg8.view (Rect.unit (s := S144x2048) ![0, 1536] S144x512.size inb_S144x2048_S144x512_0_1536).toLoadRect f

variable (𝒱 : Variants) (dv : Dev nD) (bd : Option 𝒱.V) (i : grid0.Coords) (arg3 : Memref sig .tc .vmem S1x1x192x2048 .bf16) (harg3 : arg3.IsWhole) (arg4 : Memref sig .tc .vmem S1x1x8192x192 .bf16) (harg4 : arg4.IsWhole) (arg5 : Memref sig .tc .vmem S1x1x16x144x512 .bf16) (harg5 : arg5.IsWhole) (arg6 : Memref sig .tc .vmem S1x2048x128 .bf16) (harg6 : arg6.IsWhole) (arg7 : Memref sig .tc .vmem S1x2048 .f32) (harg7 : arg7.IsWhole) (arg8 : Memref sig .tc .vmem S144x2048 .f32) (harg8 : arg8.IsWhole) (X_arg3 : BufTy.Contents (Elt F) arg3.view.ty) (X_arg4 : BufTy.Contents (Elt F) arg4.view.ty) (X_arg5 : BufTy.Contents (Elt F) arg5.view.ty) (k : Fin (k0_t1_loop i).trips) (f_arg7 : BufTy.Contents (Elt F) arg7.view.ty) (f_arg8 : BufTy.Contents (Elt F) arg8.view.ty)

theorem sc_00 : (trip_k0_t1.sl.r (F := F) i arg3 arg4 X_arg3 X_arg4 k) = score (kblk i arg4 X_arg4 k 0) (qch0 arg3 X_arg3) := rfl

theorem sc_01 : (trip_k0_t1.sl.r_1 (F := F) i arg3 arg4 X_arg3 X_arg4 k) = score (kblk i arg4 X_arg4 k 0) (qch1 arg3 X_arg3) := rfl

theorem sc_02 : (trip_k0_t1.sl.r_2 (F := F) i arg3 arg4 X_arg3 X_arg4 k) = score (kblk i arg4 X_arg4 k 0) (qch2 arg3 X_arg3) := rfl

theorem sc_03 : (trip_k0_t1.sl.r_3 (F := F) i arg3 arg4 X_arg3 X_arg4 k) = score (kblk i arg4 X_arg4 k 0) (qch3 arg3 X_arg3) := rfl

theorem sc_10 : (trip_k0_t1.sl.r_6 (F := F) i arg3 arg4 X_arg3 X_arg4 k) = score (kblk i arg4 X_arg4 k 1) (qch0 arg3 X_arg3) := rfl

theorem sc_11 : (trip_k0_t1.sl.r_10 (F := F) i arg3 arg4 X_arg3 X_arg4 k) = score (kblk i arg4 X_arg4 k 1) (qch1 arg3 X_arg3) := rfl

theorem sc_12 : (trip_k0_t1.sl.r_13 (F := F) i arg3 arg4 X_arg3 X_arg4 k) = score (kblk i arg4 X_arg4 k 1) (qch2 arg3 X_arg3) := rfl

theorem sc_13 : (trip_k0_t1.sl.r_16 (F := F) i arg3 arg4 X_arg3 X_arg4 k) = score (kblk i arg4 X_arg4 k 1) (qch3 arg3 X_arg3) := rfl

theorem sc_20 : (trip_k0_t1.sl.r_19 (F := F) i arg3 arg4 X_arg3 X_arg4 k) = score (kblk i arg4 X_arg4 k 2) (qch0 arg3 X_arg3) := rfl

theorem sc_21 : (trip_k0_t1.sl.r_23 (F := F) i arg3 arg4 X_arg3 X_arg4 k) = score (kblk i arg4 X_arg4 k 2) (qch1 arg3 X_arg3) := rfl

theorem sc_22 : (trip_k0_t1.sl.r_26 (F := F) i arg3 arg4 X_arg3 X_arg4 k) = score (kblk i arg4 X_arg4 k 2) (qch2 arg3 X_arg3) := rfl

theorem sc_23 : (trip_k0_t1.sl.r_29 (F := F) i arg3 arg4 X_arg3 X_arg4 k) = score (kblk i arg4 X_arg4 k 2) (qch3 arg3 X_arg3) := rfl

theorem sc_30 : (trip_k0_t1.sl.r_32 (F := F) i arg3 arg4 X_arg3 X_arg4 k) = score (kblk i arg4 X_arg4 k 3) (qch0 arg3 X_arg3) := rfl

theorem sc_31 : (trip_k0_t1.sl.r_36 (F := F) i arg3 arg4 X_arg3 X_arg4 k) = score (kblk i arg4 X_arg4 k 3) (qch1 arg3 X_arg3) := rfl

theorem sc_32 : (trip_k0_t1.sl.r_39 (F := F) i arg3 arg4 X_arg3 X_arg4 k) = score (kblk i arg4 X_arg4 k 3) (qch2 arg3 X_arg3) := rfl

theorem sc_33 : (trip_k0_t1.sl.r_42 (F := F) i arg3 arg4 X_arg3 X_arg4 k) = score (kblk i arg4 X_arg4 k 3) (qch3 arg3 X_arg3) := rfl

theorem eq_v860 : (trip_k0_t1.sl.v860 (F := F) i arg3 arg4 arg7 X_arg3 X_arg4 k f_arg7)
    = stepM (trip_k0_t1.sl.r (F := F) i arg3 arg4 X_arg3 X_arg4 k) (rdM0 arg7 f_arg7) := by
  unfold trip_k0_t1.sl.v860 View.readCov
  unfold trip_k0_t1.sl.HW_arg7_4
  rw [miss _ _ _ _ _ _ _ _ _ _ 1 (by decide), miss _ _ _ _ _ _ _ _ _ _ 1 (by decide), miss _ _ _ _ _ _ _ _ _ _ 1 (by decide), hit]
  rfl

theorem eq_v873 : (trip_k0_t1.sl.v873 (F := F) i arg3 arg4 arg5 arg7 arg8 X_arg3 X_arg4 X_arg5 k f_arg7 f_arg8)
    = stepA (trip_k0_t1.sl.r (F := F) i arg3 arg4 X_arg3 X_arg4 k) (rdM0 arg7 f_arg7) (rdA0 arg8 f_arg8) (vblk i arg5 X_arg5 k 0) := by
  unfold trip_k0_t1.sl.v873 View.readCov
  unfold trip_k0_t1.sl.HW_arg8_4
  rw [miss _ _ _ _ _ _ _ _ _ _ 1 (by decide), miss _ _ _ _ _ _ _ _ _ _ 1 (by decide), miss _ _ _ _ _ _ _ _ _ _ 1 (by decide), hit]
  rfl

theorem eq_v910 : (trip_k0_t1.sl.v910 (F := F) i arg3 arg4 arg7 X_arg3 X_arg4 k f_arg7)
    = stepM (trip_k0_t1.sl.r_1 (F := F) i arg3 arg4 X_arg3 X_arg4 k) (trip_k0_t1.sl.v710 (F := F) arg7 f_arg7) := by
  unfold trip_k0_t1.sl.v910 View.readCov
  unfold trip_k0_t1.sl.HW_arg7_5 trip_k0_t1.sl.HW_arg7_4
  rw [miss _ _ _ _ _ _ _ _ _ _ 1 (by decide), miss _ _ _ _ _ _ _ _ _ _ 1 (by decide), miss _ _ _ _ _ _ _ _ _ _ 1 (by decide), hit]
  rfl

theorem eq_v923 : (trip_k0_t1.sl.v923 (F := F) i arg3 arg4 arg5 arg7 arg8 X_arg3 X_arg4 X_arg5 k f_arg7 f_arg8)
    = stepA (trip_k0_t1.sl.r_1 (F := F) i arg3 arg4 X_arg3 X_arg4 k) (trip_k0_t1.sl.v710 (F := F) arg7 f_arg7) (trip_k0_t1.sl.v723 (F := F) arg8 f_arg8) (vblk i arg5 X_arg5 k 0) := by
  unfold trip_k0_t1.sl.v923 View.readCov
  unfold trip_k0_t1.sl.HW_arg8_5 trip_k0_t1.sl.HW_arg8_4
  rw [miss _ _ _ _ _ _ _ _ _ _ 1 (by decide), miss _ _ _ _ _ _ _ _ _ _ 1 (by decide), miss _ _ _ _ _ _ _ _ _ _ 1 (by decide), hit]
  rfl

theorem eq_v960 : (trip_k0_t1.sl.v960 (F := F) i arg3 arg4 arg7 X_arg3 X_arg4 k f_arg7)
    = stepM (trip_k0_t1.sl.r_2 (F := F) i arg3 arg4 X_arg3 X_arg4 k) (trip_k0_t1.sl.v760 (F := F) arg7 f_arg7) := by
  unfold trip_k0_t1.sl.v960 View.readCov
  unfold trip_k0_t1.sl.HW_arg7_6 trip_k0_t1.sl.HW_arg7_5 trip_k0_t1.sl.HW_arg7_4
  rw [miss _ _ _ _ _ _ _ _ _ _ 1 (by decide), miss _ _ _ _ _ _ _ _ _ _ 1 (by decide), miss _ _ _ _ _ _ _ _ _ _ 1 (by decide), hit]
  rfl

theorem eq_v973 : (trip_k0_t1.sl.v973 (F := F) i arg3 arg4 arg5 arg7 arg8 X_arg3 X_arg4 X_arg5 k f_arg7 f_arg8)
    = stepA (trip_k0_t1.sl.r_2 (F := F) i arg3 arg4 X_arg3 X_arg4 k) (trip_k0_t1.sl.v760 (F := F) arg7 f_arg7) (trip_k0_t1.sl.v773 (F := F) arg8 f_arg8) (vblk i arg5 X_arg5 k 0) := by
  unfold trip_k0_t1.sl.v973 View.readCov
  unfold trip_k0_t1.sl.HW_arg8_6 trip_k0_t1.sl.HW_arg8_5 trip_k0_t1.sl.HW_arg8_4
  rw [miss _ _ _ _ _ _ _ _ _ _ 1 (by decide), miss _ _ _ _ _ _ _ _ _ _ 1 (by decide), miss _ _ _ _ _ _ _ _ _ _ 1 (by decide), hit]
  rfl

theorem eq_v1010 : (trip_k0_t1.sl.v1010 (F := F) i arg3 arg4 arg7 X_arg3 X_arg4 k f_arg7)
    = stepM (trip_k0_t1.sl.r_3 (F := F) i arg3 arg4 X_arg3 X_arg4 k) (trip_k0_t1.sl.v810 (F := F) arg7 f_arg7) := by
  unfold trip_k0_t1.sl.v1010 View.readCov
  unfold trip_k0_t1.sl.HW_arg7_7 trip_k0_t1.sl.HW_arg7_6 trip_k0_t1.sl.HW_arg7_5 trip_k0_t1.sl.HW_arg7_4
  rw [miss _ _ _ _ _ _ _ _ _ _ 1 (by decide), miss _ _ _ _ _ _ _ _ _ _ 1 (by decide), miss _ _ _ _ _ _ _ _ _ _ 1 (by decide), hit]
  rfl

theorem eq_v1023 : (trip_k0_t1.sl.v1023 (F := F) i arg3 arg4 arg5 arg7 arg8 X_arg3 X_arg4 X_arg5 k f_arg7 f_arg8)
    = stepA (trip_k0_t1.sl.r_3 (F := F) i arg3 arg4 X_arg3 X_arg4 k) (trip_k0_t1.sl.v810 (F := F) arg7 f_arg7) (trip_k0_t1.sl.v823 (F := F) arg8 f_arg8) (vblk i arg5 X_arg5 k 0) := by
  unfold trip_k0_t1.sl.v1023 View.readCov
  unfold trip_k0_t1.sl.HW_arg8_7 trip_k0_t1.sl.HW_arg8_6 trip_k0_t1.sl.HW_arg8_5 trip_k0_t1.sl.HW_arg8_4
  rw [miss _ _ _ _ _ _ _ _ _ _ 1 (by decide), miss _ _ _ _ _ _ _ _ _ _ 1 (by decide), miss _ _ _ _ _ _ _ _ _ _ 1 (by decide), hit]
  rfl

theorem eq_v1060 : (trip_k0_t1.sl.v1060 (F := F) i arg3 arg4 arg7 X_arg3 X_arg4 k f_arg7)
    = stepM (trip_k0_t1.sl.r_6 (F := F) i arg3 arg4 X_arg3 X_arg4 k) (trip_k0_t1.sl.v860 (F := F) i arg3 arg4 arg7 X_arg3 X_arg4 k f_arg7) := by
  unfold trip_k0_t1.sl.v1060 View.readCov
  unfold trip_k0_t1.sl.HW_arg7_8 trip_k0_t1.sl.HW_arg7_7 trip_k0_t1.sl.HW_arg7_6 trip_k0_t1.sl.HW_arg7_5
  rw [miss _ _ _ _ _ _ _ _ _ _ 1 (by decide), miss _ _ _ _ _ _ _ _ _ _ 1 (by decide), miss _ _ _ _ _ _ _ _ _ _ 1 (by decide), hit]
  generalize (trip_k0_t1.sl.v860 (F := F) i arg3 arg4 arg7 X_arg3 X_arg4 k f_arg7) = m
  generalize (trip_k0_t1.sl.r_6 (F := F) i arg3 arg4 X_arg3 X_arg4 k) = s
  rfl

theorem eq_v1073 : (trip_k0_t1.sl.v1073 (F := F) i arg3 arg4 arg5 arg7 arg8 X_arg3 X_arg4 X_arg5 k f_arg7 f_arg8)
    = stepA (trip_k0_t1.sl.r_6 (F := F) i arg3 arg4 X_arg3 X_arg4 k) (trip_k0_t1.sl.v860 (F := F) i arg3 arg4 arg7 X_arg3 X_arg4 k f_arg7) (trip_k0_t1.sl.v873 (F := F) i arg3 arg4 arg5 arg7 arg8 X_arg3 X_arg4 X_arg5 k f_arg7 f_arg8) (vblk i arg5 X_arg5 k 1) := by
  unfold trip_k0_t1.sl.v1073 View.readCov
  unfold trip_k0_t1.sl.HW_arg8_8 trip_k0_t1.sl.HW_arg8_7 trip_k0_t1.sl.HW_arg8_6 trip_k0_t1.sl.HW_arg8_5
  rw [miss _ _ _ _ _ _ _ _ _ _ 1 (by decide), miss _ _ _ _ _ _ _ _ _ _ 1 (by decide), miss _ _ _ _ _ _ _ _ _ _ 1 (by decide), hit]
  unfold trip_k0_t1.sl.r_18 trip_k0_t1.sl.r_17
  generalize (trip_k0_t1.sl.v860 (F := F) i arg3 arg4 arg7 X_arg3 X_arg4 k f_arg7) = m
  generalize (trip_k0_t1.sl.v873 (F := F) i arg3 arg4 arg5 arg7 arg8 X_arg3 X_arg4 X_arg5 k f_arg7 f_arg8) = a
  generalize (trip_k0_t1.sl.r_6 (F := F) i arg3 arg4 X_arg3 X_arg4 k) = s
  change _ = stepA s m a (View.readAt (Elt F) arg5.view (Rect.unit (s := S1x1x16x144x512) (k0_off2 i k 1#32) S1x1x1x144x512.size (k0_off2_inb i k 1)).toLoadRect X_arg5)
  generalize (View.readAt (Elt F) arg5.view (Rect.unit (s := S1x1x16x144x512) (k0_off2 i k 1#32) S1x1x1x144x512.size (k0_off2_inb i k 1)).toLoadRect X_arg5) = w
  rfl

theorem eq_v1110 : (trip_k0_t1.sl.v1110 (F := F) i arg3 arg4 arg7 X_arg3 X_arg4 k f_arg7)
    = stepM (trip_k0_t1.sl.r_10 (F := F) i arg3 arg4 X_arg3 X_arg4 k) (trip_k0_t1.sl.v910 (F := F) i arg3 arg4 arg7 X_arg3 X_arg4 k f_arg7) := by
  unfold trip_k0_t1.sl.v1110 View.readCov
  unfold trip_k0_t1.sl.HW_arg7_9 trip_k0_t1.sl.HW_arg7_8 trip_k0_t1.sl.HW_arg7_7 trip_k0_t1.sl.HW_arg7_6
  rw [miss _ _ _ _ _ _ _ _ _ _ 1 (by decide), miss _ _ _ _ _ _ _ _ _ _ 1 (by decide), miss _ _ _ _ _ _ _ _ _ _ 1 (by decide), hit]
  unfold trip_k0_t1.sl.r_20
  generalize (trip_k0_t1.sl.v910 (F := F) i arg3 arg4 arg7 X_arg3 X_arg4 k f_arg7) = m
  generalize (trip_k0_t1.sl.r_10 (F := F) i arg3 arg4 X_arg3 X_arg4 k) = s
  rfl

theorem eq_v1123 : (trip_k0_t1.sl.v1123 (F := F) i arg3 arg4 arg5 arg7 arg8 X_arg3 X_arg4 X_arg5 k f_arg7 f_arg8)
    = stepA (trip_k0_t1.sl.r_10 (F := F) i arg3 arg4 X_arg3 X_arg4 k) (trip_k0_t1.sl.v910 (F := F) i arg3 arg4 arg7 X_arg3 X_arg4 k f_arg7) (trip_k0_t1.sl.v923 (F := F) i arg3 arg4 arg5 arg7 arg8 X_arg3 X_arg4 X_arg5 k f_arg7 f_arg8) (vblk i arg5 X_arg5 k 1) := by
  unfold trip_k0_t1.sl.v1123 View.readCov
  unfold trip_k0_t1.sl.HW_arg8_9 trip_k0_t1.sl.HW_arg8_8 trip_k0_t1.sl.HW_arg8_7 trip_k0_t1.sl.HW_arg8_6
  rw [miss _ _ _ _ _ _ _ _ _ _ 1 (by decide), miss _ _ _ _ _ _ _ _ _ _ 1 (by decide), miss _ _ _ _ _ _ _ _ _ _ 1 (by decide), hit]
  unfold trip_k0_t1.sl.r_22 trip_k0_t1.sl.r_21
  generalize (trip_k0_t1.sl.v910 (F := F) i arg3 arg4 arg7 X_arg3 X_arg4 k f_arg7) = m
  generalize (trip_k0_t1.sl.v923 (F := F) i arg3 arg4 arg5 arg7 arg8 X_arg3 X_arg4 X_arg5 k f_arg7 f_arg8) = a
  generalize (trip_k0_t1.sl.r_10 (F := F) i arg3 arg4 X_arg3 X_arg4 k) = s
  change _ = stepA s m a (View.readAt (Elt F) arg5.view (Rect.unit (s := S1x1x16x144x512) (k0_off2 i k 1#32) S1x1x1x144x512.size (k0_off2_inb i k 1)).toLoadRect X_arg5)
  generalize (View.readAt (Elt F) arg5.view (Rect.unit (s := S1x1x16x144x512) (k0_off2 i k 1#32) S1x1x1x144x512.size (k0_off2_inb i k 1)).toLoadRect X_arg5) = w
  rfl

theorem eq_v1160 : (trip_k0_t1.sl.v1160 (F := F) i arg3 arg4 arg7 X_arg3 X_arg4 k f_arg7)
    = stepM (trip_k0_t1.sl.r_13 (F := F) i arg3 arg4 X_arg3 X_arg4 k) (trip_k0_t1.sl.v960 (F := F) i arg3 arg4 arg7 X_arg3 X_arg4 k f_arg7) := by
  unfold trip_k0_t1.sl.v1160 View.readCov
  unfold trip_k0_t1.sl.HW_arg7_10 trip_k0_t1.sl.HW_arg7_9 trip_k0_t1.sl.HW_arg7_8 trip_k0_t1.sl.HW_arg7_7
  rw [miss _ _ _ _ _ _ _ _ _ _ 1 (by decide), miss _ _ _ _ _ _ _ _ _ _ 1 (by decide), miss _ _ _ _ _ _ _ _ _ _ 1 (by decide), hit]
  unfold trip_k0_t1.sl.r_25 trip_k0_t1.sl.r_24
  generalize (trip_k0_t1.sl.v960 (F := F) i arg3 arg4 arg7 X_arg3 X_arg4 k f_arg7) = m
  generalize (trip_k0_t1.sl.r_13 (F := F) i arg3 arg4 X_arg3 X_arg4 k) = s
  rfl

theorem eq_v1173 : (trip_k0_t1.sl.v1173 (F := F) i arg3 arg4 arg5 arg7 arg8 X_arg3 X_arg4 X_arg5 k f_arg7 f_arg8)
    = stepA (trip_k0_t1.sl.r_13 (F := F) i arg3 arg4 X_arg3 X_arg4 k) (trip_k0_t1.sl.v960 (F := F) i arg3 arg4 arg7 X_arg3 X_arg4 k f_arg7) (trip_k0_t1.sl.v973 (F := F) i arg3 arg4 arg5 arg7 arg8 X_arg3 X_arg4 X_arg5 k f_arg7 f_arg8) (vblk i arg5 X_arg5 k 1) := by
  unfold trip_k0_t1.sl.v1173 View.readCov
  unfold trip_k0_t1.sl.HW_arg8_10 trip_k0_t1.sl.HW_arg8_9 trip_k0_t1.sl.HW_arg8_8 trip_k0_t1.sl.HW_arg8_7
  rw [miss _ _ _ _ _ _ _ _ _ _ 1 (by decide), miss _ _ _ _ _ _ _ _ _ _ 1 (by decide), miss _ _ _ _ _ _ _ _ _ _ 1 (by decide), hit]
  unfold trip_k0_t1.sl.r_25 trip_k0_t1.sl.r_24
  generalize (trip_k0_t1.sl.v960 (F := F) i arg3 arg4 arg7 X_arg3 X_arg4 k f_arg7) = m
  generalize (trip_k0_t1.sl.v973 (F := F) i arg3 arg4 arg5 arg7 arg8 X_arg3 X_arg4 X_arg5 k f_arg7 f_arg8) = a
  generalize (trip_k0_t1.sl.r_13 (F := F) i arg3 arg4 X_arg3 X_arg4 k) = s
  change _ = stepA s m a (View.readAt (Elt F) arg5.view (Rect.unit (s := S1x1x16x144x512) (k0_off2 i k 1#32) S1x1x1x144x512.size (k0_off2_inb i k 1)).toLoadRect X_arg5)
  generalize (View.readAt (Elt F) arg5.view (Rect.unit (s := S1x1x16x144x512) (k0_off2 i k 1#32) S1x1x1x144x512.size (k0_off2_inb i k 1)).toLoadRect X_arg5) = w
  rfl

theorem eq_v1210 : (trip_k0_t1.sl.v1210 (F := F) i arg3 arg4 arg7 X_arg3 X_arg4 k f_arg7)
    = stepM (trip_k0_t1.sl.r_16 (F := F) i arg3 arg4 X_arg3 X_arg4 k) (trip_k0_t1.sl.v1010 (F := F) i arg3 arg4 arg7 X_arg3 X_arg4 k f_arg7) := by
  unfold trip_k0_t1.sl.v1210 View.readCov
  unfold trip_k0_t1.sl.HW_arg7_11 trip_k0_t1.sl.HW_arg7_10 trip_k0_t1.sl.HW_arg7_9 trip_k0_t1.sl.HW_arg7_8
  rw [miss _ _ _ _ _ _ _ _ _ _ 1 (by decide), miss _ _ _ _ _ _ _ _ _ _ 1 (by decide), miss _ _ _ _ _ _ _ _ _ _ 1 (by decide), hit]
  unfold trip_k0_t1.sl.r_28 trip_k0_t1.sl.r_27
  generalize (trip_k0_t1.sl.v1010 (F := F) i arg3 arg4 arg7 X_arg3 X_arg4 k f_arg7) = m
  generalize (trip_k0_t1.sl.r_16 (F := F) i arg3 arg4 X_arg3 X_arg4 k) = s
  rfl

theorem eq_v1223 : (trip_k0_t1.sl.v1223 (F := F) i arg3 arg4 arg5 arg7 arg8 X_arg3 X_arg4 X_arg5 k f_arg7 f_arg8)
    = stepA (trip_k0_t1.sl.r_16 (F := F) i arg3 arg4 X_arg3 X_arg4 k) (trip_k0_t1.sl.v1010 (F := F) i arg3 arg4 arg7 X_arg3 X_arg4 k f_arg7) (trip_k0_t1.sl.v1023 (F := F) i arg3 arg4 arg5 arg7 arg8 X_arg3 X_arg4 X_arg5 k f_arg7 f_arg8) (vblk i arg5 X_arg5 k 1) := by
  unfold trip_k0_t1.sl.v1223 View.readCov
  unfold trip_k0_t1.sl.HW_arg8_11 trip_k0_t1.sl.HW_arg8_10 trip_k0_t1.sl.HW_arg8_9 trip_k0_t1.sl.HW_arg8_8
  rw [miss _ _ _ _ _ _ _ _ _ _ 1 (by decide), miss _ _ _ _ _ _ _ _ _ _ 1 (by decide), miss _ _ _ _ _ _ _ _ _ _ 1 (by decide), hit]
  unfold trip_k0_t1.sl.r_28 trip_k0_t1.sl.r_27
  generalize (trip_k0_t1.sl.v1010 (F := F) i arg3 arg4 arg7 X_arg3 X_arg4 k f_arg7) = m
  generalize (trip_k0_t1.sl.v1023 (F := F) i arg3 arg4 arg5 arg7 arg8 X_arg3 X_arg4 X_arg5 k f_arg7 f_arg8) = a
  generalize (trip_k0_t1.sl.r_16 (F := F) i arg3 arg4 X_arg3 X_arg4 k) = s
  change _ = stepA s m a (View.readAt (Elt F) arg5.view (Rect.unit (s := S1x1x16x144x512) (k0_off2 i k 1#32) S1x1x1x144x512.size (k0_off2_inb i k 1)).toLoadRect X_arg5)
  generalize (View.readAt (Elt F) arg5.view (Rect.unit (s := S1x1x16x144x512) (k0_off2 i k 1#32) S1x1x1x144x512.size (k0_off2_inb i k 1)).toLoadRect X_arg5) = w
  rfl

theorem eq_v1260 : (trip_k0_t1.sl.v1260 (F := F) i arg3 arg4 arg7 X_arg3 X_arg4 k f_arg7)
    = stepM (trip_k0_t1.sl.r_19 (F := F) i arg3 arg4 X_arg3 X_arg4 k) (trip_k0_t1.sl.v1060 (F := F) i arg3 arg4 arg7 X_arg3 X_arg4 k f_arg7) := by
  unfold trip_k0_t1.sl.v1260 View.readCov
  unfold trip_k0_t1.sl.HW_arg7_12 trip_k0_t1.sl.HW_arg7_11 trip_k0_t1.sl.HW_arg7_10 trip_k0_t1.sl.HW_arg7_9
  rw [miss _ _ _ _ _ _ _ _ _ _ 1 (by decide), miss _ _ _ _ _ _ _ _ _ _ 1 (by decide), miss _ _ _ _ _ _ _ _ _ _ 1 (by decide), hit]
  generalize (trip_k0_t1.sl.v1060 (F := F) i arg3 arg4 arg7 X_arg3 X_arg4 k f_arg7) = m
  generalize (trip_k0_t1.sl.r_19 (F := F) i arg3 arg4 X_arg3 X_arg4 k) = s
  rfl

theorem eq_v1273 : (trip_k0_t1.sl.v1273 (F := F) i arg3 arg4 arg5 arg7 arg8 X_arg3 X_arg4 X_arg5 k f_arg7 f_arg8)
    = stepA (trip_k0_t1.sl.r_19 (F := F) i arg3 arg4 X_arg3 X_arg4 k) (trip_k0_t1.sl.v1060 (F := F) i arg3 arg4 arg7 X_arg3 X_arg4 k f_arg7) (trip_k0_t1.sl.v1073 (F := F) i arg3 arg4 arg5 arg7 arg8 X_arg3 X_arg4 X_arg5 k f_arg7 f_arg8) (vblk i arg5 X_arg5 k 2) := by
  unfold trip_k0_t1.sl.v1273 View.readCov
  unfold trip_k0_t1.sl.HW_arg8_12 trip_k0_t1.sl.HW_arg8_11 trip_k0_t1.sl.HW_arg8_10 trip_k0_t1.sl.HW_arg8_9
  rw [miss _ _ _ _ _ _ _ _ _ _ 1 (by decide), miss _ _ _ _ _ _ _ _ _ _ 1 (by decide), miss _ _ _ _ _ _ _ _ _ _ 1 (by decide), hit]
  unfold trip_k0_t1.sl.r_31 trip_k0_t1.sl.r_30
  generalize (trip_k0_t1.sl.v1060 (F := F) i arg3 arg4 arg7 X_arg3 X_arg4 k f_arg7) = m
  generalize (trip_k0_t1.sl.v1073 (F := F) i arg3 arg4 arg5 arg7 arg8 X_arg3 X_arg4 X_arg5 k f_arg7 f_arg8) = a
  generalize (trip_k0_t1.sl.r_19 (F := F) i arg3 arg4 X_arg3 X_arg4 k) = s
  change _ = stepA s m a (View.readAt (Elt F) arg5.view (Rect.unit (s := S1x1x16x144x512) (k0_off2 i k 2#32) S1x1x1x144x512.size (k0_off2_inb i k 2)).toLoadRect X_arg5)
  generalize (View.readAt (Elt F) arg5.view (Rect.unit (s := S1x1x16x144x512) (k0_off2 i k 2#32) S1x1x1x144x512.size (k0_off2_inb i k 2)).toLoadRect X_arg5) = w
  rfl

theorem eq_v1302 : (trip_k0_t1.sl.v1302 (F := F) i arg3 arg4 arg7 X_arg3 X_arg4 k f_arg7)
    = stepM (trip_k0_t1.sl.r_23 (F := F) i arg3 arg4 X_arg3 X_arg4 k) (trip_k0_t1.sl.v1110 (F := F) i arg3 arg4 arg7 X_arg3 X_arg4 k f_arg7) := by
  unfold trip_k0_t1.sl.v1302 View.readCov
  unfold trip_k0_t1.sl.HW_arg7_13 trip_k0_t1.sl.HW_arg7_12 trip_k0_t1.sl.HW_arg7_11 trip_k0_t1.sl.HW_arg7_10
  rw [miss _ _ _ _ _ _ _ _ _ _ 1 (by decide), miss _ _ _ _ _ _ _ _ _ _ 1 (by decide), miss _ _ _ _ _ _ _ _ _ _ 1 (by decide), hit]
  unfold trip_k0_t1.sl.r_33
  generalize (trip_k0_t1.sl.v1110 (F := F) i arg3 arg4 arg7 X_arg3 X_arg4 k f_arg7) = m
  generalize (trip_k0_t1.sl.r_23 (F := F) i arg3 arg4 X_arg3 X_arg4 k) = s
  rfl

theorem eq_v1315 : (trip_k0_t1.sl.v1315 (F := F) i arg3 arg4 arg5 arg7 arg8 X_arg3 X_arg4 X_arg5 k f_arg7 f_arg8)
    = stepA (trip_k0_t1.sl.r_23 (F := F) i arg3 arg4 X_arg3 X_arg4 k) (trip_k0_t1.sl.v1110 (F := F) i arg3 arg4 arg7 X_arg3 X_arg4 k f_arg7) (trip_k0_t1.sl.v1123 (F := F) i arg3 arg4 arg5 arg7 arg8 X_arg3 X_arg4 X_arg5 k f_arg7 f_arg8) (vblk i arg5 X_arg5 k 2) := by
  unfold trip_k0_t1.sl.v1315 View.readCov
  unfold trip_k0_t1.sl.HW_arg8_13 trip_k0_t1.sl.HW_arg8_12 trip_k0_t1.sl.HW_arg8_11 trip_k0_t1.sl.HW_arg8_10
  rw [miss _ _ _ _ _ _ _ _ _ _ 1 (by decide), miss _ _ _ _ _ _ _ _ _ _ 1 (by decide), miss _ _ _ _ _ _ _ _ _ _ 1 (by decide), hit]
  unfold trip_k0_t1.sl.r_35 trip_k0_t1.sl.r_34
  generalize (trip_k0_t1.sl.v1110 (F := F) i arg3 arg4 arg7 X_arg3 X_arg4 k f_arg7) = m
  generalize (trip_k0_t1.sl.v1123 (F := F) i arg3 arg4 arg5 arg7 arg8 X_arg3 X_arg4 X_arg5 k f_arg7 f_arg8) = a
  generalize (trip_k0_t1.sl.r_23 (F := F) i arg3 arg4 X_arg3 X_arg4 k) = s
  change _ = stepA s m a (View.readAt (Elt F) arg5.view (Rect.unit (s := S1x1x16x144x512) (k0_off2 i k 2#32) S1x1x1x144x512.size (k0_off2_inb i k 2)).toLoadRect X_arg5)
  generalize (View.readAt (Elt F) arg5.view (Rect.unit (s := S1x1x16x144x512) (k0_off2 i k 2#32) S1x1x1x144x512.size (k0_off2_inb i k 2)).toLoadRect X_arg5) = w
  rfl

theorem eq_v1344 : (trip_k0_t1.sl.v1344 (F := F) i arg3 arg4 arg7 X_arg3 X_arg4 k f_arg7)
    = stepM (trip_k0_t1.sl.r_26 (F := F) i arg3 arg4 X_arg3 X_arg4 k) (trip_k0_t1.sl.v1160 (F := F) i arg3 arg4 arg7 X_arg3 X_arg4 k f_arg7) := by
  unfold trip_k0_t1.sl.v1344 View.readCov
  unfold trip_k0_t1.sl.HW_arg7_14 trip_k0_t1.sl.HW_arg7_13 trip_k0_t1.sl.HW_arg7_12 trip_k0_t1.sl.HW_arg7_11
  rw [miss _ _ _ _ _ _ _ _ _ _ 1 (by decide), miss _ _ _ _ _ _ _ _ _ _ 1 (by decide), miss _ _ _ _ _ _ _ _ _ _ 1 (by decide), hit]
  unfold trip_k0_t1.sl.r_38 trip_k0_t1.sl.r_37
  generalize (trip_k0_t1.sl.v1160 (F := F) i arg3 arg4 arg7 X_arg3 X_arg4 k f_arg7) = m
  generalize (trip_k0_t1.sl.r_26 (F := F) i arg3 arg4 X_arg3 X_arg4 k) = s
  rfl

theorem eq_v1357 : (trip_k0_t1.sl.v1357 (F := F) i arg3 arg4 arg5 arg7 arg8 X_arg3 X_arg4 X_arg5 k f_arg7 f_arg8)
    = stepA (trip_k0_t1.sl.r_26 (F := F) i arg3 arg4 X_arg3 X_arg4 k) (trip_k0_t1.sl.v1160 (F := F) i arg3 arg4 arg7 X_arg3 X_arg4 k f_arg7) (trip_k0_t1.sl.v1173 (F := F) i arg3 arg4 arg5 arg7 arg8 X_arg3 X_arg4 X_arg5 k f_arg7 f_arg8) (vblk i arg5 X_arg5 k 2) := by
  unfold trip_k0_t1.sl.v1357 View.readCov
  unfold trip_k0_t1.sl.HW_arg8_14 trip_k0_t1.sl.HW_arg8_13 trip_k0_t1.sl.HW_arg8_12 trip_k0_t1.sl.HW_arg8_11
  rw [miss _ _ _ _ _ _ _ _ _ _ 1 (by decide), miss _ _ _ _ _ _ _ _ _ _ 1 (by decide), miss _ _ _ _ _ _ _ _ _ _ 1 (by decide), hit]
  unfold trip_k0_t1.sl.r_38 trip_k0_t1.sl.r_37
  generalize (trip_k0_t1.sl.v1160 (F := F) i arg3 arg4 arg7 X_arg3 X_arg4 k f_arg7) = m
  generalize (trip_k0_t1.sl.v1173 (F := F) i arg3 arg4 arg5 arg7 arg8 X_arg3 X_arg4 X_arg5 k f_arg7 f_arg8) = a
  generalize (trip_k0_t1.sl.r_26 (F := F) i arg3 arg4 X_arg3 X_arg4 k) = s
  change _ = stepA s m a (View.readAt (Elt F) arg5.view (Rect.unit (s := S1x1x16x144x512) (k0_off2 i k 2#32) S1x1x1x144x512.size (k0_off2_inb i k 2)).toLoadRect X_arg5)
  generalize (View.readAt (Elt F) arg5.view (Rect.unit (s := S1x1x16x144x512) (k0_off2 i k 2#32) S1x1x1x144x512.size (k0_off2_inb i k 2)).toLoadRect X_arg5) = w
  rfl

theorem eq_v1386 : (trip_k0_t1.sl.v1386 (F := F) i arg3 arg4 arg7 X_arg3 X_arg4 k f_arg7)
    = stepM (trip_k0_t1.sl.r_29 (F := F) i arg3 arg4 X_arg3 X_arg4 k) (trip_k0_t1.sl.v1210 (F := F) i arg3 arg4 arg7 X_arg3 X_arg4 k f_arg7) := by
  unfold trip_k0_t1.sl.v1386 View.readCov
  unfold trip_k0_t1.sl.HW_arg7_15 trip_k0_t1.sl.HW_arg7_14 trip_k0_t1.sl.HW_arg7_13 trip_k0_t1.sl.HW_arg7_12
  rw [miss _ _ _ _ _ _ _ _ _ _ 1 (by decide), miss _ _ _ _ _ _ _ _ _ _ 1 (by decide), miss _ _ _ _ _ _ _ _ _ _ 1 (by decide), hit]
  unfold trip_k0_t1.sl.r_41 trip_k0_t1.sl.r_40
  generalize (trip_k0_t1.sl.v1210 (F := F) i arg3 arg4 arg7 X_arg3 X_arg4 k f_arg7) = m
  generalize (trip_k0_t1.sl.r_29 (F := F) i arg3 arg4 X_arg3 X_arg4 k) = s
  rfl

theorem eq_v1399 : (trip_k0_t1.sl.v1399 (F := F) i arg3 arg4 arg5 arg7 arg8 X_arg3 X_arg4 X_arg5 k f_arg7 f_arg8)
    = stepA (trip_k0_t1.sl.r_29 (F := F) i arg3 arg4 X_arg3 X_arg4 k) (trip_k0_t1.sl.v1210 (F := F) i arg3 arg4 arg7 X_arg3 X_arg4 k f_arg7) (trip_k0_t1.sl.v1223 (F := F) i arg3 arg4 arg5 arg7 arg8 X_arg3 X_arg4 X_arg5 k f_arg7 f_arg8) (vblk i arg5 X_arg5 k 2) := by
  unfold trip_k0_t1.sl.v1399 View.readCov
  unfold trip_k0_t1.sl.HW_arg8_15 trip_k0_t1.sl.HW_arg8_14 trip_k0_t1.sl.HW_arg8_13 trip_k0_t1.sl.HW_arg8_12
  rw [miss _ _ _ _ _ _ _ _ _ _ 1 (by decide), miss _ _ _ _ _ _ _ _ _ _ 1 (by decide), miss _ _ _ _ _ _ _ _ _ _ 1 (by decide), hit]
  unfold trip_k0_t1.sl.r_41 trip_k0_t1.sl.r_40
  generalize (trip_k0_t1.sl.v1210 (F := F) i arg3 arg4 arg7 X_arg3 X_arg4 k f_arg7) = m
  generalize (trip_k0_t1.sl.v1223 (F := F) i arg3 arg4 arg5 arg7 arg8 X_arg3 X_arg4 X_arg5 k f_arg7 f_arg8) = a
  generalize (trip_k0_t1.sl.r_29 (F := F) i arg3 arg4 X_arg3 X_arg4 k) = s
  change _ = stepA s m a (View.readAt (Elt F) arg5.view (Rect.unit (s := S1x1x16x144x512) (k0_off2 i k 2#32) S1x1x1x144x512.size (k0_off2_inb i k 2)).toLoadRect X_arg5)
  generalize (View.readAt (Elt F) arg5.view (Rect.unit (s := S1x1x16x144x512) (k0_off2 i k 2#32) S1x1x1x144x512.size (k0_off2_inb i k 2)).toLoadRect X_arg5) = w
  rfl

theorem last_M0 : rdM0 arg7 (View.writes arg7.view (Elt F) f_arg7 ((trip_k0_t1 (F := F) 𝒱 dv bd i arg3 harg3 arg4 harg4 arg5 harg5 arg6 harg6 arg7 harg7 arg8 harg8 X_arg3 X_arg4 X_arg5 k).1 f_arg7 f_arg8))
    = stepM (trip_k0_t1.sl.r_32 (F := F) i arg3 arg4 X_arg3 X_arg4 k) (trip_k0_t1.sl.v1260 (F := F) i arg3 arg4 arg7 X_arg3 X_arg4 k f_arg7) := by
  unfold trip_k0_t1 rdM0
  dsimp only
  unfold trip_k0_t1.sl.HW_arg7_15 trip_k0_t1.sl.HW_arg7_14 trip_k0_t1.sl.HW_arg7_13
  rw [miss _ _ _ _ _ _ _ _ _ _ 1 (by decide), miss _ _ _ _ _ _ _ _ _ _ 1 (by decide), miss _ _ _ _ _ _ _ _ _ _ 1 (by decide), hit]
  generalize (trip_k0_t1.sl.v1260 (F := F) i arg3 arg4 arg7 X_arg3 X_arg4 k f_arg7) = m
  generalize (trip_k0_t1.sl.r_32 (F := F) i arg3 arg4 X_arg3 X_arg4 k) = s
  rfl

theorem last_A0 : rdA0 arg8 (View.writes arg8.view (Elt F) f_arg8 ((trip_k0_t1 (F := F) 𝒱 dv bd i arg3 harg3 arg4 harg4 arg5 harg5 arg6 harg6 arg7 harg7 arg8 harg8 X_arg3 X_arg4 X_arg5 k).2.1 f_arg7 f_arg8))
    = stepA (trip_k0_t1.sl.r_32 (F := F) i arg3 arg4 X_arg3 X_arg4 k) (trip_k0_t1.sl.v1260 (F := F) i arg3 arg4 arg7 X_arg3 X_arg4 k f_arg7) (trip_k0_t1.sl.v1273 (F := F) i arg3 arg4 arg5 arg7 arg8 X_arg3 X_arg4 X_arg5 k f_arg7 f_arg8) (vblk i arg5 X_arg5 k 3) := by
  unfold trip_k0_t1 rdA0
  dsimp only
  unfold trip_k0_t1.sl.HW_arg8_15 trip_k0_t1.sl.HW_arg8_14 trip_k0_t1.sl.HW_arg8_13
  rw [miss _ _ _ _ _ _ _ _ _ _ 1 (by decide), miss _ _ _ _ _ _ _ _ _ _ 1 (by decide), miss _ _ _ _ _ _ _ _ _ _ 1 (by decide), hit]
  unfold trip_k0_t1.sl.r_44 trip_k0_t1.sl.r_43
  generalize (trip_k0_t1.sl.v1260 (F := F) i arg3 arg4 arg7 X_arg3 X_arg4 k f_arg7) = m
  generalize (trip_k0_t1.sl.v1273 (F := F) i arg3 arg4 arg5 arg7 arg8 X_arg3 X_arg4 X_arg5 k f_arg7 f_arg8) = a
  generalize (trip_k0_t1.sl.r_32 (F := F) i arg3 arg4 X_arg3 X_arg4 k) = s
  change _ = stepA s m a (View.readAt (Elt F) arg5.view (Rect.unit (s := S1x1x16x144x512) (k0_off2 i k 3#32) S1x1x1x144x512.size (k0_off2_inb i k 3)).toLoadRect X_arg5)
  generalize (View.readAt (Elt F) arg5.view (Rect.unit (s := S1x1x16x144x512) (k0_off2 i k 3#32) S1x1x1x144x512.size (k0_off2_inb i k 3)).toLoadRect X_arg5) = w
  rfl

/-- A trip takes chain 0 through four steps. -/
theorem trip_0 : (rdM0 arg7 (View.writes arg7.view (Elt F) f_arg7 ((trip_k0_t1 (F := F) 𝒱 dv bd i arg3 harg3 arg4 harg4 arg5 harg5 arg6 harg6 arg7 harg7 arg8 harg8 X_arg3 X_arg4 X_arg5 k).1 f_arg7 f_arg8)), rdA0 arg8 (View.writes arg8.view (Elt F) f_arg8 ((trip_k0_t1 (F := F) 𝒱 dv bd i arg3 harg3 arg4 harg4 arg5 harg5 arg6 harg6 arg7 harg7 arg8 harg8 X_arg3 X_arg4 X_arg5 k).2.1 f_arg7 f_arg8)))
    = (step (score (kblk i arg4 X_arg4 k 3) (qch0 arg3 X_arg3)) (vblk i arg5 X_arg5 k 3) (step (score (kblk i arg4 X_arg4 k 2) (qch0 arg3 X_arg3)) (vblk i arg5 X_arg5 k 2) (step (score (kblk i arg4 X_arg4 k 1) (qch0 arg3 X_arg3)) (vblk i arg5 X_arg5 k 1) (step (score (kblk i arg4 X_arg4 k 0) (qch0 arg3 X_arg3)) (vblk i arg5 X_arg5 k 0) (rdM0 arg7 f_arg7, rdA0 arg8 f_arg8))))) := by
  rw [last_M0, last_A0, eq_v1260, eq_v1273, eq_v1060, eq_v1073, eq_v860, eq_v873, sc_00, sc_10, sc_20, sc_30]
  simp only [step_mk]

theorem last_M1 : rdM1 arg7 (View.writes arg7.view (Elt F) f_arg7 ((trip_k0_t1 (F := F) 𝒱 dv bd i arg3 harg3 arg4 harg4 arg5 harg5 arg6 harg6 arg7 harg7 arg8 harg8 X_arg3 X_arg4 X_arg5 k).1 f_arg7 f_arg8))
    = stepM (trip_k0_t1.sl.r_36 (F := F) i arg3 arg4 X_arg3 X_arg4 k) (trip_k0_t1.sl.v1302 (F := F) i arg3 arg4 arg7 X_arg3 X_arg4 k f_arg7) := by
  unfold trip_k0_t1 rdM1
  dsimp only
  unfold trip_k0_t1.sl.HW_arg7_15 trip_k0_t1.sl.HW_arg7_14
  rw [miss _ _ _ _ _ _ _ _ _ _ 1 (by decide), miss _ _ _ _ _ _ _ _ _ _ 1 (by decide), hit]
  generalize (trip_k0_t1.sl.v1302 (F := F) i arg3 arg4 arg7 X_arg3 X_arg4 k f_arg7) = m
  generalize (trip_k0_t1.sl.r_36 (F := F) i arg3 arg4 X_arg3 X_arg4 k) = s
  rfl

theorem last_A1 : rdA1 arg8 (View.writes arg8.view (Elt F) f_arg8 ((trip_k0_t1 (F := F) 𝒱 dv bd i arg3 harg3 arg4 harg4 arg5 harg5 arg6 harg6 arg7 harg7 arg8 harg8 X_arg3 X_arg4 X_arg5 k).2.1 f_arg7 f_arg8))
    = stepA (trip_k0_t1.sl.r_36 (F := F) i arg3 arg4 X_arg3 X_arg4 k) (trip_k0_t1.sl.v1302 (F := F) i arg3 arg4 arg7 X_arg3 X_arg4 k f_arg7) (trip_k0_t1.sl.v1315 (F := F) i arg3 arg4 arg5 arg7 arg8 X_arg3 X_arg4 X_arg5 k f_arg7 f_arg8) (vblk i arg5 X_arg5 k 3) := by
  unfold trip_k0_t1 rdA1
  dsimp only
  unfold trip_k0_t1.sl.HW_arg8_15 trip_k0_t1.sl.HW_arg8_14
  rw [miss _ _ _ _ _ _ _ _ _ _ 1 (by decide), miss _ _ _ _ _ _ _ _ _ _ 1 (by decide), hit]
  unfold trip_k0_t1.sl.r_47 trip_k0_t1.sl.r_46 trip_k0_t1.sl.r_45
  generalize (trip_k0_t1.sl.v1302 (F := F) i arg3 arg4 arg7 X_arg3 X_arg4 k f_arg7) = m
  generalize (trip_k0_t1.sl.v1315 (F := F) i arg3 arg4 arg5 arg7 arg8 X_arg3 X_arg4 X_arg5 k f_arg7 f_arg8) = a
  generalize (trip_k0_t1.sl.r_36 (F := F) i arg3 arg4 X_arg3 X_arg4 k) = s
  change _ = stepA s m a (View.readAt (Elt F) arg5.view (Rect.unit (s := S1x1x16x144x512) (k0_off2 i k 3#32) S1x1x1x144x512.size (k0_off2_inb i k 3)).toLoadRect X_arg5)
  generalize (View.readAt (Elt F) arg5.view (Rect.unit (s := S1x1x16x144x512) (k0_off2 i k 3#32) S1x1x1x144x512.size (k0_off2_inb i k 3)).toLoadRect X_arg5) = w
  rfl

/-- A trip takes chain 1 through four steps. -/
theorem trip_1 : (rdM1 arg7 (View.writes arg7.view (Elt F) f_arg7 ((trip_k0_t1 (F := F) 𝒱 dv bd i arg3 harg3 arg4 harg4 arg5 harg5 arg6 harg6 arg7 harg7 arg8 harg8 X_arg3 X_arg4 X_arg5 k).1 f_arg7 f_arg8)), rdA1 arg8 (View.writes arg8.view (Elt F) f_arg8 ((trip_k0_t1 (F := F) 𝒱 dv bd i arg3 harg3 arg4 harg4 arg5 harg5 arg6 harg6 arg7 harg7 arg8 harg8 X_arg3 X_arg4 X_arg5 k).2.1 f_arg7 f_arg8)))
    = (step (score (kblk i arg4 X_arg4 k 3) (qch1 arg3 X_arg3)) (vblk i arg5 X_arg5 k 3) (step (score (kblk i arg4 X_arg4 k 2) (qch1 arg3 X_arg3)) (vblk i arg5 X_arg5 k 2) (step (score (kblk i arg4 X_arg4 k 1) (qch1 arg3 X_arg3)) (vblk i arg5 X_arg5 k 1) (step (score (kblk i arg4 X_arg4 k 0) (qch1 arg3 X_arg3)) (vblk i arg5 X_arg5 k 0) (rdM1 arg7 f_arg7, rdA1 arg8 f_arg8))))) := by
  rw [last_M1, last_A1, eq_v1302, eq_v1315, eq_v1110, eq_v1123, eq_v910, eq_v923, sc_01, sc_11, sc_21, sc_31]
  rw [show (rdM1 arg7 f_arg7, rdA1 arg8 f_arg8) = ((trip_k0_t1.sl.v710 (F := F) arg7 f_arg7), (trip_k0_t1.sl.v723 (F := F) arg8 f_arg8)) from rfl]
  generalize (trip_k0_t1.sl.v710 (F := F) arg7 f_arg7) = m
  generalize (trip_k0_t1.sl.v723 (F := F) arg8 f_arg8) = a
  rfl

theorem last_M2 : rdM2 arg7 (View.writes arg7.view (Elt F) f_arg7 ((trip_k0_t1 (F := F) 𝒱 dv bd i arg3 harg3 arg4 harg4 arg5 harg5 arg6 harg6 arg7 harg7 arg8 harg8 X_arg3 X_arg4 X_arg5 k).1 f_arg7 f_arg8))
    = stepM (trip_k0_t1.sl.r_39 (F := F) i arg3 arg4 X_arg3 X_arg4 k) (trip_k0_t1.sl.v1344 (F := F) i arg3 arg4 arg7 X_arg3 X_arg4 k f_arg7) := by
  unfold trip_k0_t1 rdM2
  dsimp only
  unfold trip_k0_t1.sl.HW_arg7_15
  rw [miss _ _ _ _ _ _ _ _ _ _ 1 (by decide), hit]
  generalize (trip_k0_t1.sl.v1344 (F := F) i arg3 arg4 arg7 X_arg3 X_arg4 k f_arg7) = m
  generalize (trip_k0_t1.sl.r_39 (F := F) i arg3 arg4 X_arg3 X_arg4 k) = s
  rfl

theorem last_A2 : rdA2 arg8 (View.writes arg8.view (Elt F) f_arg8 ((trip_k0_t1 (F := F) 𝒱 dv bd i arg3 harg3 arg4 harg4 arg5 harg5 arg6 harg6 arg7 harg7 arg8 harg8 X_arg3 X_arg4 X_arg5 k).2.1 f_arg7 f_arg8))
    = stepA (trip_k0_t1.sl.r_39 (F := F) i arg3 arg4 X_arg3 X_arg4 k) (trip_k0_t1.sl.v1344 (F := F) i arg3 arg4 arg7 X_arg3 X_arg4 k f_arg7) (trip_k0_t1.sl.v1357 (F := F) i arg3 arg4 arg5 arg7 arg8 X_arg3 X_arg4 X_arg5 k f_arg7 f_arg8) (vblk i arg5 X_arg5 k 3) := by
  unfold trip_k0_t1 rdA2
  dsimp only
  unfold trip_k0_t1.sl.HW_arg8_15
  rw [miss _ _ _ _ _ _ _ _ _ _ 1 (by decide), hit]
  unfold trip_k0_t1.sl.r_49 trip_k0_t1.sl.r_48
  generalize (trip_k0_t1.sl.v1344 (F := F) i arg3 arg4 arg7 X_arg3 X_arg4 k f_arg7) = m
  generalize (trip_k0_t1.sl.v1357 (F := F) i arg3 arg4 arg5 arg7 arg8 X_arg3 X_arg4 X_arg5 k f_arg7 f_arg8) = a
  generalize (trip_k0_t1.sl.r_39 (F := F) i arg3 arg4 X_arg3 X_arg4 k) = s
  change _ = stepA s m a (View.readAt (Elt F) arg5.view (Rect.unit (s := S1x1x16x144x512) (k0_off2 i k 3#32) S1x1x1x144x512.size (k0_off2_inb i k 3)).toLoadRect X_arg5)
  generalize (View.readAt (Elt F) arg5.view (Rect.unit (s := S1x1x16x144x512) (k0_off2 i k 3#32) S1x1x1x144x512.size (k0_off2_inb i k 3)).toLoadRect X_arg5) = w
  rfl

/-- A trip takes chain 2 through four steps. -/
theorem trip_2 : (rdM2 arg7 (View.writes arg7.view (Elt F) f_arg7 ((trip_k0_t1 (F := F) 𝒱 dv bd i arg3 harg3 arg4 harg4 arg5 harg5 arg6 harg6 arg7 harg7 arg8 harg8 X_arg3 X_arg4 X_arg5 k).1 f_arg7 f_arg8)), rdA2 arg8 (View.writes arg8.view (Elt F) f_arg8 ((trip_k0_t1 (F := F) 𝒱 dv bd i arg3 harg3 arg4 harg4 arg5 harg5 arg6 harg6 arg7 harg7 arg8 harg8 X_arg3 X_arg4 X_arg5 k).2.1 f_arg7 f_arg8)))
    = (step (score (kblk i arg4 X_arg4 k 3) (qch2 arg3 X_arg3)) (vblk i arg5 X_arg5 k 3) (step (score (kblk i arg4 X_arg4 k 2) (qch2 arg3 X_arg3)) (vblk i arg5 X_arg5 k 2) (step (score (kblk i arg4 X_arg4 k 1) (qch2 arg3 X_arg3)) (vblk i arg5 X_arg5 k 1) (step (score (kblk i arg4 X_arg4 k 0) (qch2 arg3 X_arg3)) (vblk i arg5 X_arg5 k 0) (rdM2 arg7 f_arg7, rdA2 arg8 f_arg8))))) := by
  rw [last_M2, last_A2, eq_v1344, eq_v1357, eq_v1160, eq_v1173, eq_v960, eq_v973, sc_02, sc_12, sc_22, sc_32]
  rw [show (rdM2 arg7 f_arg7, rdA2 arg8 f_arg8) = ((trip_k0_t1.sl.v760 (F := F) arg7 f_arg7), (trip_k0_t1.sl.v773 (F := F) arg8 f_arg8)) from rfl]
  generalize (trip_k0_t1.sl.v760 (F := F) arg7 f_arg7) = m
  generalize (trip_k0_t1.sl.v773 (F := F) arg8 f_arg8) = a
  rfl

theorem last_M3 : rdM3 arg7 (View.writes arg7.view (Elt F) f_arg7 ((trip_k0_t1 (F := F) 𝒱 dv bd i arg3 harg3 arg4 harg4 arg5 harg5 arg6 harg6 arg7 harg7 arg8 harg8 X_arg3 X_arg4 X_arg5 k).1 f_arg7 f_arg8))
    = stepM (trip_k0_t1.sl.r_42 (F := F) i arg3 arg4 X_arg3 X_arg4 k) (trip_k0_t1.sl.v1386 (F := F) i arg3 arg4 arg7 X_arg3 X_arg4 k f_arg7) := by
  unfold trip_k0_t1 rdM3
  dsimp only
  refine (hit _ _ _ _ _ _ _ _).trans ?_
  generalize (trip_k0_t1.sl.v1386 (F := F) i arg3 arg4 arg7 X_arg3 X_arg4 k f_arg7) = m
  generalize (trip_k0_t1.sl.r_42 (F := F) i arg3 arg4 X_arg3 X_arg4 k) = s
  rfl

theorem last_A3 : rdA3 arg8 (View.writes arg8.view (Elt F) f_arg8 ((trip_k0_t1 (F := F) 𝒱 dv bd i arg3 harg3 arg4 harg4 arg5 harg5 arg6 harg6 arg7 harg7 arg8 harg8 X_arg3 X_arg4 X_arg5 k).2.1 f_arg7 f_arg8))
    = stepA (trip_k0_t1.sl.r_42 (F := F) i arg3 arg4 X_arg3 X_arg4 k) (trip_k0_t1.sl.v1386 (F := F) i arg3 arg4 arg7 X_arg3 X_arg4 k f_arg7) (trip_k0_t1.sl.v1399 (F := F) i arg3 arg4 arg5 arg7 arg8 X_arg3 X_arg4 X_arg5 k f_arg7 f_arg8) (vblk i arg5 X_arg5 k 3) := by
  unfold trip_k0_t1 rdA3
  dsimp only
  refine (hit _ _ _ _ _ _ _ _).trans ?_
  unfold trip_k0_t1.sl.r_50
  generalize (trip_k0_t1.sl.v1386 (F := F) i arg3 arg4 arg7 X_arg3 X_arg4 k f_arg7) = m
  generalize (trip_k0_t1.sl.v1399 (F := F) i arg3 arg4 arg5 arg7 arg8 X_arg3 X_arg4 X_arg5 k f_arg7 f_arg8) = a
  generalize (trip_k0_t1.sl.r_42 (F := F) i arg3 arg4 X_arg3 X_arg4 k) = s
  change _ = stepA s m a (View.readAt (Elt F) arg5.view (Rect.unit (s := S1x1x16x144x512) (k0_off2 i k 3#32) S1x1x1x144x512.size (k0_off2_inb i k 3)).toLoadRect X_arg5)
  generalize (View.readAt (Elt F) arg5.view (Rect.unit (s := S1x1x16x144x512) (k0_off2 i k 3#32) S1x1x1x144x512.size (k0_off2_inb i k 3)).toLoadRect X_arg5) = w
  rfl

/-- A trip takes chain 3 through four steps. -/
theorem trip_3 : (rdM3 arg7 (View.writes arg7.view (Elt F) f_arg7 ((trip_k0_t1 (F := F) 𝒱 dv bd i arg3 harg3 arg4 harg4 arg5 harg5 arg6 harg6 arg7 harg7 arg8 harg8 X_arg3 X_arg4 X_arg5 k).1 f_arg7 f_arg8)), rdA3 arg8 (View.writes arg8.view (Elt F) f_arg8 ((trip_k0_t1 (F := F) 𝒱 dv bd i arg3 harg3 arg4 harg4 arg5 harg5 arg6 harg6 arg7 harg7 arg8 harg8 X_arg3 X_arg4 X_arg5 k).2.1 f_arg7 f_arg8)))
    = (step (score (kblk i arg4 X_arg4 k 3) (qch3 arg3 X_arg3)) (vblk i arg5 X_arg5 k 3) (step (score (kblk i arg4 X_arg4 k 2) (qch3 arg3 X_arg3)) (vblk i arg5 X_arg5 k 2) (step (score (kblk i arg4 X_arg4 k 1) (qch3 arg3 X_arg3)) (vblk i arg5 X_arg5 k 1) (step (score (kblk i arg4 X_arg4 k 0) (qch3 arg3 X_arg3)) (vblk i arg5 X_arg5 k 0) (rdM3 arg7 f_arg7, rdA3 arg8 f_arg8))))) := by
  rw [last_M3, last_A3, eq_v1386, eq_v1399, eq_v1210, eq_v1223, eq_v1010, eq_v1023, sc_03, sc_13, sc_23, sc_33]
  rw [show (rdM3 arg7 f_arg7, rdA3 arg8 f_arg8) = ((trip_k0_t1.sl.v810 (F := F) arg7 f_arg7), (trip_k0_t1.sl.v823 (F := F) arg8 f_arg8)) from rfl]
  generalize (trip_k0_t1.sl.v810 (F := F) arg7 f_arg7) = m
  generalize (trip_k0_t1.sl.v823 (F := F) arg8 f_arg8) = a
  rfl

end Cert.Att
-- ==== Proof.Body.lean ====
/- The whole body: the loop over full key blocks, the diagonal blocks, and the element each chain
   hands to the output. -/
module

public import Idealize.ShloMosaic.Lib.VecWindow
public import proofs.«01_k».proof.Proof.Trip

@[expose] public section

set_option maxRecDepth 8192
set_option maxHeartbeats 200000

noncomputable section

namespace Cert.Att

open Idealize.ShloMosaic Idealize.ShloMosaic.TcCoe
open Cert.KernelIdeal Cert.KernelIdeal.Gen

variable {F : FTy → Type} [FloatOps F]

theorem kb_inb (j : Nat) : ∀ a : Fin 4, (![0, 0, 512 * (j % 16), 0] : Fin 4 → Nat) a + S1x1x512x192.size a ≤ S1x1x8192x192.size a := by
  have := Nat.mod_lt j (show 0 < 16 by decide)
  intro a
  match a with
  | 0 => exact Nat.le_refl _
  | 1 => exact Nat.le_refl _
  | 2 => show 512 * (j % 16) + 512 ≤ 8192; omega
  | 3 => exact Nat.le_refl _

theorem vb_inb (j : Nat) : ∀ a : Fin 5, (![0, 0, j % 16, 0, 0] : Fin 5 → Nat) a + S1x1x1x144x512.size a ≤ S1x1x16x144x512.size a := by
  have := Nat.mod_lt j (show 0 < 16 by decide)
  intro a
  match a with
  | 0 => exact Nat.le_refl _
  | 1 => exact Nat.le_refl _
  | 2 => show j % 16 + 1 ≤ 16; omega
  | 3 => exact Nat.le_refl _
  | 4 => exact Nat.le_refl _

theorem qc_inb (c : Fin 4) : ∀ a : Fin 4, (![0, 0, 0, 512 * c.val] : Fin 4 → Nat) a + S1x1x192x512.size a ≤ S1x1x192x2048.size a := by
  have := c.isLt
  intro a
  match a with
  | 0 => exact Nat.le_refl _
  | 1 => exact Nat.le_refl _
  | 2 => exact Nat.le_refl _
  | 3 => show 512 * c.val + 512 ≤ 2048; omega

/-- Block `j` of the keys. -/
def kb (x1 : Vec F S1x1x8192x192 .bf16) (j : Nat) : Vec F S1x1x512x192 .bf16 :=
  VecWindow.window x1 ![0, 0, 512 * (j % 16), 0] S1x1x512x192.size (kb_inb j)

/-- Block `j` of the values. -/
def vb (x2 : Vec F S1x1x16x144x512 .bf16) (j : Nat) : Vec F S1x1x1x144x512 .bf16 :=
  VecWindow.window x2 ![0, 0, j % 16, 0, 0] S1x1x1x144x512.size (vb_inb j)

/-- The queries of chain `c`. -/
def qc (x0 : Vec F S1x1x192x2048 .bf16) (c : Fin 4) : Vec F S1x1x192x512 .bf16 :=
  VecWindow.window x0 ![0, 0, 0, 512 * c.val] S1x1x192x512.size (qc_inb c)

/-- Chain `c` after the first `n` key blocks. -/
def st (x0 : Vec F S1x1x192x2048 .bf16) (x1 : Vec F S1x1x8192x192 .bf16) (x2 : Vec F S1x1x16x144x512 .bf16) (c : Fin 4) :
    Nat → MRow F × ARows F
  | 0 => (fun _ => Scalar.ofBits .f32 0xFF800000#32, fun _ => Scalar.ofBits .f32 0x00000000#32)
  | n + 1 => step (score (kb x1 n) (qc x0 c)) (vb x2 n) (st x0 x1 x2 c n)

/-- Chain `c` of query tile `t` after its last, masked, key block. -/
def fin (x0 : Vec F S1x1x192x2048 .bf16) (x1 : Vec F S1x1x8192x192 .bf16) (x2 : Vec F S1x1x16x144x512 .bf16) (t : Nat) (c : Fin 4) :
    MRow F × ARows F :=
  step (dscore (kb x1 (4 * t + c.val)) (qc x0 c)) (vb x2 (4 * t + c.val)) (st x0 x1 x2 c (4 * t + c.val))

/-- The loop over full blocks runs once per earlier query tile. -/
theorem trips_t1 (i : grid0.Coords) : (k0_t1_loop i).trips = (i 2).val := by
  have h : ∀ j : Fin 4, ∀ i : grid0.Coords, i 2 = j → (k0_t1_loop i).trips = j.val := by
    intro j i hj
    unfold k0_t1_loop
    rw [hj]
    clear hj i
    revert j
    decide
  exact h (i 2) i rfl

variable (c : Dev nD) (i : grid0.Coords) (arg3 : Memref sig .tc .vmem S1x1x192x2048 .bf16) (harg3 : arg3.IsWhole) (arg4 : Memref sig .tc .vmem S1x1x8192x192 .bf16) (harg4 : arg4.IsWhole) (arg5 : Memref sig .tc .vmem S1x1x16x144x512 .bf16) (harg5 : arg5.IsWhole) (arg6 : Memref sig .tc .vmem S1x2048x128 .bf16) (harg6 : arg6.IsWhole) (arg7 : Memref sig .tc .vmem S1x2048 .f32) (harg7 : arg7.IsWhole) (arg8 : Memref sig .tc .vmem S144x2048 .f32) (harg8 : arg8.IsWhole)
  (x0 : Vec F S1x1x192x2048 .bf16) (x1 : Vec F S1x1x8192x192 .bf16) (x2 : Vec F S1x1x16x144x512 .bf16)

theorem kblk_eq (k : Fin (k0_t1_loop i).trips) (u : Fin 4) : kblk i arg4 (harg4.unread x1) k u = kb x1 (4 * k.val + u.val) := by
  have hk : k.val < 4 := Nat.lt_of_lt_of_le k.isLt (le_trans (k0_t1_abs i).2.1 (by decide))
  have hu := u.isLt
  have e : 512 * ((4 * k.val + u.val) % 16) = 2048 * k.val + 512 * u.val := by omega
  have h : k0_off1 i k (BitVec.ofNat 32 u.val) = ![0, 0, 512 * ((4 * k.val + u.val) % 16), 0] := by
    rw [e]; exact k0_off1_eq i k u
  unfold kblk kb
  rw [View.readAt_unit (h := h) (inb' := kb_inb _), harg4.read_unread]

theorem vblk_eq (k : Fin (k0_t1_loop i).trips) (u : Fin 4) : vblk i arg5 (harg5.unread x2) k u = vb x2 (4 * k.val + u.val) := by
  have hk : k.val < 4 := Nat.lt_of_lt_of_le k.isLt (le_trans (k0_t1_abs i).2.1 (by decide))
  have hu := u.isLt
  have e : (4 * k.val + u.val) % 16 = 4 * k.val + u.val := by omega
  have h : k0_off2 i k (BitVec.ofNat 32 u.val) = ![0, 0, (4 * k.val + u.val) % 16, 0, 0] := by
    rw [e]; exact k0_off2_eq i k u
  unfold vblk vb
  rw [View.readAt_unit (h := h) (inb' := vb_inb _), harg5.read_unread]

/-- The block of keys that diagonal step `u` loads. -/
abbrev kdg (arg4 : Memref sig .tc .vmem S1x1x8192x192 .bf16) (X_arg4 : BufTy.Contents (Elt F) arg4.view.ty) (u : Fin 4) : Vec F S1x1x512x192 .bf16 :=
  View.readAt (Elt F) arg4.view (Rect.unit (s := S1x1x8192x192) (k0_off5 i (BitVec.ofNat 32 u.val)) S1x1x512x192.size (k0_off5_inb i u)).toLoadRect X_arg4

/-- The block of values that diagonal step `u` loads. -/
abbrev vdg (arg5 : Memref sig .tc .vmem S1x1x16x144x512 .bf16) (X_arg5 : BufTy.Contents (Elt F) arg5.view.ty) (u : Fin 4) : Vec F S1x1x1x144x512 .bf16 :=
  View.readAt (Elt F) arg5.view (Rect.unit (s := S1x1x16x144x512) (k0_off6 i (BitVec.ofNat 32 u.val)) S1x1x1x144x512.size (k0_off6_inb i u)).toLoadRect X_arg5

theorem kdg_eq (u : Fin 4) : kdg i arg4 (harg4.unread x1) u = kb x1 (4 * (i 2).val + u.val) := by
  have hk : (i 2).val < 4 := (i 2).isLt
  have hu := u.isLt
  have e : 512 * ((4 * (i 2).val + u.val) % 16) = 2048 * (i 2).val + 512 * u.val := by omega
  have h : k0_off5 i (BitVec.ofNat 32 u.val) = ![0, 0, 512 * ((4 * (i 2).val + u.val) % 16), 0] := by
    rw [e]; exact k0_off5_eq i u
  unfold kdg kb
  rw [View.readAt_unit (h := h) (inb' := kb_inb _), harg4.read_unread]

theorem vdg_eq (u : Fin 4) : vdg i arg5 (harg5.unread x2) u = vb x2 (4 * (i 2).val + u.val) := by
  have hk : (i 2).val < 4 := (i 2).isLt
  have hu := u.isLt
  have e : (4 * (i 2).val + u.val) % 16 = 4 * (i 2).val + u.val := by omega
  have h : k0_off6 i (BitVec.ofNat 32 u.val) = ![0, 0, (4 * (i 2).val + u.val) % 16, 0, 0] := by
    rw [e]; exact k0_off6_eq i u
  unfold vdg vb
  rw [View.readAt_unit (h := h) (inb' := vb_inb _), harg5.read_unread]

theorem qch_eq0 : qch0 arg3 (harg3.unread x0) = qc x0 0 := by
  unfold qch0 qc
  rw [View.readAt_unit (h := show (![0, 0, 0, 0] : Fin 4 → Nat) = ![0, 0, 0, 512 * (0 : Fin 4).val] from rfl) (inb' := qc_inb 0), harg3.read_unread]

theorem qch_eq1 : qch1 arg3 (harg3.unread x0) = qc x0 1 := by
  unfold qch1 qc
  rw [View.readAt_unit (h := show (![0, 0, 0, 512] : Fin 4 → Nat) = ![0, 0, 0, 512 * (1 : Fin 4).val] from rfl) (inb' := qc_inb 1), harg3.read_unread]

theorem qch_eq2 : qch2 arg3 (harg3.unread x0) = qc x0 2 := by
  unfold qch2 qc
  rw [View.readAt_unit (h := show (![0, 0, 0, 1024] : Fin 4 → Nat) = ![0, 0, 0, 512 * (2 : Fin 4).val] from rfl) (inb' := qc_inb 2), harg3.read_unread]

theorem qch_eq3 : qch3 arg3 (harg3.unread x0) = qc x0 3 := by
  unfold qch3 qc
  rw [View.readAt_unit (h := show (![0, 0, 0, 1536] : Fin 4 → Nat) = ![0, 0, 0, 512 * (3 : Fin 4).val] from rfl) (inb' := qc_inb 3), harg3.read_unread]

/-- The carried maxima as the body sets them up. -/
abbrev G7 (arg7 : Memref sig .tc .vmem S1x2048 .f32) : BufTy.Contents (Elt F) arg7.view.ty := arg7.view.writes (Elt F) arg7.view.junk kernelRun0_A.sl.HS0_1

/-- The carried rows as the body sets them up. -/
abbrev G8 (arg8 : Memref sig .tc .vmem S144x2048 .f32) : BufTy.Contents (Elt F) arg8.view.ty := arg8.view.writes (Elt F) arg8.view.junk kernelRun0_A.sl.HS1_1

/-- What the loop over full blocks has written after `n` trips. -/
abbrev PB (n : Nat) : List (View.Piece (Elt F) S1x2048 .f32) × List (View.Piece (Elt F) S144x2048 .f32) :=
  pb_k0_t1 Variants.none c none i arg3 harg3 arg4 harg4 arg5 harg5 arg6 harg6 arg7 harg7 arg8 harg8 (harg3.unread x0) (harg4.unread x1) (harg5.unread x2) (G7 arg7) (G8 arg8) n

theorem full_emb {s : Shape} (off : Fin s.rank → Nat) (h0 : ∀ a, off a = 0) (inb) (y : s.Idx) : (Rect.unit (s := s) off s.size inb).emb y = y := by
  funext a
  apply Fin.ext
  show off a + 1 * (y a).val = _
  rw [h0 a]; omega

theorem read_G7 (j : S1x2048.Idx) : arg7.view.read (Elt F) (G7 arg7) j = Scalar.ofBits .f32 0xFF800000#32 := by
  have h := View.read_writes_cons_emb (Val := Elt F) arg7.view arg7.view.junk (Rect.unit (s := S1x2048) ![0, 0] S1x2048.size inb_S1x2048_S1x2048_0_0) k0_pay200 [] j
  have e := full_emb (s := S1x2048) ![0, 0] (by decide) inb_S1x2048_S1x2048_0_0 j
  rw [e] at h
  exact h

theorem read_G8 (j : S144x2048.Idx) : arg8.view.read (Elt F) (G8 arg8) j = Scalar.ofBits .f32 0x00000000#32 := by
  have h := View.read_writes_cons_emb (Val := Elt F) arg8.view arg8.view.junk (Rect.unit (s := S144x2048) ![0, 0] S144x2048.size inb_S144x2048_S144x2048_0_0) k0_pay201 [] j
  have e := full_emb (s := S144x2048) ![0, 0] (by decide) inb_S144x2048_S144x2048_0_0 j
  rw [e] at h
  exact h

theorem init_0 : (rdM0 arg7 (G7 arg7), rdA0 arg8 (G8 arg8)) = st (F := F) x0 x1 x2 0 0 :=
  Prod.ext (funext fun j => read_G7 arg7 _) (funext fun j => read_G8 arg8 _)

/-- The loop over full blocks takes chain 0 through four steps a trip. -/
theorem loop_0 (n : Nat) (hn : n ≤ (k0_t1_loop i).trips) :
    (rdM0 arg7 (arg7.view.writes (Elt F) (G7 arg7) (PB c i arg3 harg3 arg4 harg4 arg5 harg5 arg6 harg6 arg7 harg7 arg8 harg8 x0 x1 x2 n).1), rdA0 arg8 (arg8.view.writes (Elt F) (G8 arg8) (PB c i arg3 harg3 arg4 harg4 arg5 harg5 arg6 harg6 arg7 harg7 arg8 harg8 x0 x1 x2 n).2))
      = st (F := F) x0 x1 x2 0 (4 * n) := by
  induction n with
  | zero =>
    have e : PB c i arg3 harg3 arg4 harg4 arg5 harg5 arg6 harg6 arg7 harg7 arg8 harg8 x0 x1 x2 0 = ([], []) := pb_k0_t1.eq_1 ..
    rw [e, View.writes_nil, View.writes_nil, Nat.mul_zero]
    exact init_0 arg7 arg8 x0 x1 x2
  | succ n ih =>
    have ih := ih (by omega)
    have e : PB c i arg3 harg3 arg4 harg4 arg5 harg5 arg6 harg6 arg7 harg7 arg8 harg8 x0 x1 x2 (n + 1) = _ := pb_k0_t1_succ (F := F) Variants.none c none i arg3 harg3 arg4 harg4 arg5 harg5 arg6 harg6 arg7 harg7 arg8 harg8 (harg3.unread x0) (harg4.unread x1) (harg5.unread x2) (G7 arg7) (G8 arg8) ⟨n, hn⟩
    rw [e]
    simp only [View.writes_append]
    rw [trip_0, ih, kblk_eq, kblk_eq, kblk_eq, kblk_eq, vblk_eq, vblk_eq, vblk_eq, vblk_eq, qch_eq0]
    rfl

theorem init_1 : (rdM1 arg7 (G7 arg7), rdA1 arg8 (G8 arg8)) = st (F := F) x0 x1 x2 1 0 :=
  Prod.ext (funext fun j => read_G7 arg7 _) (funext fun j => read_G8 arg8 _)

/-- The loop over full blocks takes chain 1 through four steps a trip. -/
theorem loop_1 (n : Nat) (hn : n ≤ (k0_t1_loop i).trips) :
    (rdM1 arg7 (arg7.view.writes (Elt F) (G7 arg7) (PB c i arg3 harg3 arg4 harg4 arg5 harg5 arg6 harg6 arg7 harg7 arg8 harg8 x0 x1 x2 n).1), rdA1 arg8 (arg8.view.writes (Elt F) (G8 arg8) (PB c i arg3 harg3 arg4 harg4 arg5 harg5 arg6 harg6 arg7 harg7 arg8 harg8 x0 x1 x2 n).2))
      = st (F := F) x0 x1 x2 1 (4 * n) := by
  induction n with
  | zero =>
    have e : PB c i arg3 harg3 arg4 harg4 arg5 harg5 arg6 harg6 arg7 harg7 arg8 harg8 x0 x1 x2 0 = ([], []) := pb_k0_t1.eq_1 ..
    rw [e, View.writes_nil, View.writes_nil, Nat.mul_zero]
    exact init_1 arg7 arg8 x0 x1 x2
  | succ n ih =>
    have ih := ih (by omega)
    have e : PB c i arg3 harg3 arg4 harg4 arg5 harg5 arg6 harg6 arg7 harg7 arg8 harg8 x0 x1 x2 (n + 1) = _ := pb_k0_t1_succ (F := F) Variants.none c none i arg3 harg3 arg4 harg4 arg5 harg5 arg6 harg6 arg7 harg7 arg8 harg8 (harg3.unread x0) (harg4.unread x1) (harg5.unread x2) (G7 arg7) (G8 arg8) ⟨n, hn⟩
    rw [e]
    simp only [View.writes_append]
    rw [trip_1, ih, kblk_eq, kblk_eq, kblk_eq, kblk_eq, vblk_eq, vblk_eq, vblk_eq, vblk_eq, qch_eq1]
    rfl

theorem init_2 : (rdM2 arg7 (G7 arg7), rdA2 arg8 (G8 arg8)) = st (F := F) x0 x1 x2 2 0 :=
  Prod.ext (funext fun j => read_G7 arg7 _) (funext fun j => read_G8 arg8 _)

/-- The loop over full blocks takes chain 2 through four steps a trip. -/
theorem loop_2 (n : Nat) (hn : n ≤ (k0_t1_loop i).trips) :
    (rdM2 arg7 (arg7.view.writes (Elt F) (G7 arg7) (PB c i arg3 harg3 arg4 harg4 arg5 harg5 arg6 harg6 arg7 harg7 arg8 harg8 x0 x1 x2 n).1), rdA2 arg8 (arg8.view.writes (Elt F) (G8 arg8) (PB c i arg3 harg3 arg4 harg4 arg5 harg5 arg6 harg6 arg7 harg7 arg8 harg8 x0 x1 x2 n).2))
      = st (F := F) x0 x1 x2 2 (4 * n) := by
  induction n with
  | zero =>
    have e : PB c i arg3 harg3 arg4 harg4 arg5 harg5 arg6 harg6 arg7 harg7 arg8 harg8 x0 x1 x2 0 = ([], []) := pb_k0_t1.eq_1 ..
    rw [e, View.writes_nil, View.writes_nil, Nat.mul_zero]
    exact init_2 arg7 arg8 x0 x1 x2
  | succ n ih =>
    have ih := ih (by omega)
    have e : PB c i arg3 harg3 arg4 harg4 arg5 harg5 arg6 harg6 arg7 harg7 arg8 harg8 x0 x1 x2 (n + 1) = _ := pb_k0_t1_succ (F := F) Variants.none c none i arg3 harg3 arg4 harg4 arg5 harg5 arg6 harg6 arg7 harg7 arg8 harg8 (harg3.unread x0) (harg4.unread x1) (harg5.unread x2) (G7 arg7) (G8 arg8) ⟨n, hn⟩
    rw [e]
    simp only [View.writes_append]
    rw [trip_2, ih, kblk_eq, kblk_eq, kblk_eq, kblk_eq, vblk_eq, vblk_eq, vblk_eq, vblk_eq, qch_eq2]
    rfl

theorem init_3 : (rdM3 arg7 (G7 arg7), rdA3 arg8 (G8 arg8)) = st (F := F) x0 x1 x2 3 0 :=
  Prod.ext (funext fun j => read_G7 arg7 _) (funext fun j => read_G8 arg8 _)

/-- The loop over full blocks takes chain 3 through four steps a trip. -/
theorem loop_3 (n : Nat) (hn : n ≤ (k0_t1_loop i).trips) :
    (rdM3 arg7 (arg7.view.writes (Elt F) (G7 arg7) (PB c i arg3 harg3 arg4 harg4 arg5 harg5 arg6 harg6 arg7 harg7 arg8 harg8 x0 x1 x2 n).1), rdA3 arg8 (arg8.view.writes (Elt F) (G8 arg8) (PB c i arg3 harg3 arg4 harg4 arg5 harg5 arg6 harg6 arg7 harg7 arg8 harg8 x0 x1 x2 n).2))
      = st (F := F) x0 x1 x2 3 (4 * n) := by
  induction n with
  | zero =>
    have e : PB c i arg3 harg3 arg4 harg4 arg5 harg5 arg6 harg6 arg7 harg7 arg8 harg8 x0 x1 x2 0 = ([], []) := pb_k0_t1.eq_1 ..
    rw [e, View.writes_nil, View.writes_nil, Nat.mul_zero]
    exact init_3 arg7 arg8 x0 x1 x2
  | succ n ih =>
    have ih := ih (by omega)
    have e : PB c i arg3 harg3 arg4 harg4 arg5 harg5 arg6 harg6 arg7 harg7 arg8 harg8 x0 x1 x2 (n + 1) = _ := pb_k0_t1_succ (F := F) Variants.none c none i arg3 harg3 arg4 harg4 arg5 harg5 arg6 harg6 arg7 harg7 arg8 harg8 (harg3.unread x0) (harg4.unread x1) (harg5.unread x2) (G7 arg7) (G8 arg8) ⟨n, hn⟩
    rw [e]
    simp only [View.writes_append]
    rw [trip_3, ih, kblk_eq, kblk_eq, kblk_eq, kblk_eq, vblk_eq, vblk_eq, vblk_eq, vblk_eq, qch_eq3]
    rfl

theorem no_trips : Scf.trips (k0_t2_loop i).lb (k0_t2_loop i).ub (k0_t2_loop i).st = 0 := Nat.le_zero.mp (k0_t2_abs i).2.1

theorem some_trips : Scf.trips (k0_t1_loop i).lb (k0_t1_loop i).ub (k0_t1_loop i).st = (i 2).val := trips_t1 i

theorem pb_t2_zero (v30 : BitVec 32) (X3 : BufTy.Contents (Elt F) arg3.view.ty) (X4 : BufTy.Contents (Elt F) arg4.view.ty) (X5 : BufTy.Contents (Elt F) arg5.view.ty) (g7 : BufTy.Contents (Elt F) arg7.view.ty) (g8 : BufTy.Contents (Elt F) arg8.view.ty) :
    pb_k0_t2 Variants.none c none i arg3 harg3 arg4 harg4 arg5 harg5 arg6 harg6 arg7 harg7 arg8 harg8 v30 X3 X4 X5 g7 g8 (Scf.trips (k0_t2_loop i).lb (k0_t2_loop i).ub (k0_t2_loop i).st) = ([], []) := by
  rw [no_trips]; exact pb_k0_t2.eq_1 ..

theorem base_0 : (rdM0 arg7 (arg7.view.writes (Elt F) arg7.view.junk (((pb_k0_t2 Variants.none c none i arg3 harg3 arg4 harg4 arg5 harg5 arg6 harg6 arg7 harg7 arg8 harg8 (kernelRun0_A.sl.v30 i) (harg3.unread x0) (harg4.unread x1) (harg5.unread x2) (arg7.view.writes (Elt F) arg7.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).1 ++ kernelRun0_A.sl.HS0_1)) (arg8.view.writes (Elt F) arg8.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).2 ++ kernelRun0_A.sl.HS1_1)) (Scf.trips (k0_t2_loop i).lb (k0_t2_loop i).ub (k0_t2_loop i).st)).1 ++ ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).1 ++ kernelRun0_A.sl.HS0_1)))), rdA0 arg8 (arg8.view.writes (Elt F) arg8.view.junk (((pb_k0_t2 Variants.none c none i arg3 harg3 arg4 harg4 arg5 harg5 arg6 harg6 arg7 harg7 arg8 harg8 (kernelRun0_A.sl.v30 i) (harg3.unread x0) (harg4.unread x1) (harg5.unread x2) (arg7.view.writes (Elt F) arg7.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).1 ++ kernelRun0_A.sl.HS0_1)) (arg8.view.writes (Elt F) arg8.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).2 ++ kernelRun0_A.sl.HS1_1)) (Scf.trips (k0_t2_loop i).lb (k0_t2_loop i).ub (k0_t2_loop i).st)).2 ++ ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).2 ++ kernelRun0_A.sl.HS1_1)))))
    = st (F := F) x0 x1 x2 0 (4 * (i 2).val) := by
  rw [pb_t2_zero, List.nil_append, List.nil_append, View.writes_append, View.writes_append, some_trips]
  exact loop_0 c i arg3 harg3 arg4 harg4 arg5 harg5 arg6 harg6 arg7 harg7 arg8 harg8 x0 x1 x2 (i 2).val (le_of_eq (trips_t1 i).symm)

theorem base_1 : (rdM1 arg7 (arg7.view.writes (Elt F) arg7.view.junk (((pb_k0_t2 Variants.none c none i arg3 harg3 arg4 harg4 arg5 harg5 arg6 harg6 arg7 harg7 arg8 harg8 (kernelRun0_A.sl.v30 i) (harg3.unread x0) (harg4.unread x1) (harg5.unread x2) (arg7.view.writes (Elt F) arg7.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).1 ++ kernelRun0_A.sl.HS0_1)) (arg8.view.writes (Elt F) arg8.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).2 ++ kernelRun0_A.sl.HS1_1)) (Scf.trips (k0_t2_loop i).lb (k0_t2_loop i).ub (k0_t2_loop i).st)).1 ++ ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).1 ++ kernelRun0_A.sl.HS0_1)))), rdA1 arg8 (arg8.view.writes (Elt F) arg8.view.junk (((pb_k0_t2 Variants.none c none i arg3 harg3 arg4 harg4 arg5 harg5 arg6 harg6 arg7 harg7 arg8 harg8 (kernelRun0_A.sl.v30 i) (harg3.unread x0) (harg4.unread x1) (harg5.unread x2) (arg7.view.writes (Elt F) arg7.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).1 ++ kernelRun0_A.sl.HS0_1)) (arg8.view.writes (Elt F) arg8.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).2 ++ kernelRun0_A.sl.HS1_1)) (Scf.trips (k0_t2_loop i).lb (k0_t2_loop i).ub (k0_t2_loop i).st)).2 ++ ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).2 ++ kernelRun0_A.sl.HS1_1)))))
    = st (F := F) x0 x1 x2 1 (4 * (i 2).val) := by
  rw [pb_t2_zero, List.nil_append, List.nil_append, View.writes_append, View.writes_append, some_trips]
  exact loop_1 c i arg3 harg3 arg4 harg4 arg5 harg5 arg6 harg6 arg7 harg7 arg8 harg8 x0 x1 x2 (i 2).val (le_of_eq (trips_t1 i).symm)

theorem base_2 : (rdM2 arg7 (arg7.view.writes (Elt F) arg7.view.junk (((pb_k0_t2 Variants.none c none i arg3 harg3 arg4 harg4 arg5 harg5 arg6 harg6 arg7 harg7 arg8 harg8 (kernelRun0_A.sl.v30 i) (harg3.unread x0) (harg4.unread x1) (harg5.unread x2) (arg7.view.writes (Elt F) arg7.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).1 ++ kernelRun0_A.sl.HS0_1)) (arg8.view.writes (Elt F) arg8.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).2 ++ kernelRun0_A.sl.HS1_1)) (Scf.trips (k0_t2_loop i).lb (k0_t2_loop i).ub (k0_t2_loop i).st)).1 ++ ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).1 ++ kernelRun0_A.sl.HS0_1)))), rdA2 arg8 (arg8.view.writes (Elt F) arg8.view.junk (((pb_k0_t2 Variants.none c none i arg3 harg3 arg4 harg4 arg5 harg5 arg6 harg6 arg7 harg7 arg8 harg8 (kernelRun0_A.sl.v30 i) (harg3.unread x0) (harg4.unread x1) (harg5.unread x2) (arg7.view.writes (Elt F) arg7.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).1 ++ kernelRun0_A.sl.HS0_1)) (arg8.view.writes (Elt F) arg8.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).2 ++ kernelRun0_A.sl.HS1_1)) (Scf.trips (k0_t2_loop i).lb (k0_t2_loop i).ub (k0_t2_loop i).st)).2 ++ ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).2 ++ kernelRun0_A.sl.HS1_1)))))
    = st (F := F) x0 x1 x2 2 (4 * (i 2).val) := by
  rw [pb_t2_zero, List.nil_append, List.nil_append, View.writes_append, View.writes_append, some_trips]
  exact loop_2 c i arg3 harg3 arg4 harg4 arg5 harg5 arg6 harg6 arg7 harg7 arg8 harg8 x0 x1 x2 (i 2).val (le_of_eq (trips_t1 i).symm)

theorem base_3 : (rdM3 arg7 (arg7.view.writes (Elt F) arg7.view.junk (((pb_k0_t2 Variants.none c none i arg3 harg3 arg4 harg4 arg5 harg5 arg6 harg6 arg7 harg7 arg8 harg8 (kernelRun0_A.sl.v30 i) (harg3.unread x0) (harg4.unread x1) (harg5.unread x2) (arg7.view.writes (Elt F) arg7.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).1 ++ kernelRun0_A.sl.HS0_1)) (arg8.view.writes (Elt F) arg8.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).2 ++ kernelRun0_A.sl.HS1_1)) (Scf.trips (k0_t2_loop i).lb (k0_t2_loop i).ub (k0_t2_loop i).st)).1 ++ ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).1 ++ kernelRun0_A.sl.HS0_1)))), rdA3 arg8 (arg8.view.writes (Elt F) arg8.view.junk (((pb_k0_t2 Variants.none c none i arg3 harg3 arg4 harg4 arg5 harg5 arg6 harg6 arg7 harg7 arg8 harg8 (kernelRun0_A.sl.v30 i) (harg3.unread x0) (harg4.unread x1) (harg5.unread x2) (arg7.view.writes (Elt F) arg7.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).1 ++ kernelRun0_A.sl.HS0_1)) (arg8.view.writes (Elt F) arg8.view.junk ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).2 ++ kernelRun0_A.sl.HS1_1)) (Scf.trips (k0_t2_loop i).lb (k0_t2_loop i).ub (k0_t2_loop i).st)).2 ++ ((pb_k0_t1 Variants.none c none i arg3 harg3 arg4 harg4 arg5 harg5 arg6 harg6 arg7 harg7 arg8 harg8 (harg3.unread x0) (harg4.unread x1) (harg5.unread x2) (arg7.view.writes (Elt F) arg7.view.junk kernelRun0_A.sl.HS0_1) (arg8.view.writes (Elt F) arg8.view.junk kernelRun0_A.sl.HS1_1) (Scf.trips (k0_t1_loop i).lb (k0_t1_loop i).ub (k0_t1_loop i).st)).2 ++ kernelRun0_A.sl.HS1_1)))))
    = st (F := F) x0 x1 x2 3 (4 * (i 2).val) := by
  rw [pb_t2_zero, List.nil_append, List.nil_append, View.writes_append, View.writes_append, some_trips]
  exact loop_3 c i arg3 harg3 arg4 harg4 arg5 harg5 arg6 harg6 arg7 harg7 arg8 harg8 x0 x1 x2 (i 2).val (le_of_eq (trips_t1 i).symm)

end Cert.Att
-- ==== Proof.Diag.lean ====
/- The diagonal key blocks: the rows each chain of queries ends with. -/
module

public import proofs.«01_k».proof.Proof.Body

@[expose] public section

set_option maxRecDepth 8192
set_option maxHeartbeats 200000

noncomputable section

namespace Cert.Att

open Idealize.ShloMosaic Idealize.ShloMosaic.TcCoe
open Cert.KernelIdeal Cert.KernelIdeal.Gen

variable {F : FTy → Type} [FloatOps F]

variable (c : Dev nD) (i : grid0.Coords) (arg3 : Memref sig .tc .vmem S1x1x192x2048 .bf16) (harg3 : arg3.IsWhole) (arg4 : Memref sig .tc .vmem S1x1x8192x192 .bf16) (harg4 : arg4.IsWhole) (arg5 : Memref sig .tc .vmem S1x1x16x144x512 .bf16) (harg5 : arg5.IsWhole) (arg6 : Memref sig .tc .vmem S1x2048x128 .bf16) (harg6 : arg6.IsWhole) (arg7 : Memref sig .tc .vmem S1x2048 .f32) (harg7 : arg7.IsWhole) (arg8 : Memref sig .tc .vmem S144x2048 .f32) (harg8 : arg8.IsWhole)
  (x0 : Vec F S1x1x192x2048 .bf16) (x1 : Vec F S1x1x8192x192 .bf16) (x2 : Vec F S1x1x16x144x512 .bf16)

theorem dsc_00 : (kernelRun0_A.sl.r (F := F) i arg3 harg3 arg4 harg4 x0 x1) = dscore (kdg i arg4 (harg4.unread x1) 0) (qch0 arg3 (harg3.unread x0)) := rfl

theorem dsc_01 : (kernelRun0_A.sl.r_1 (F := F) i arg3 harg3 arg4 harg4 x0 x1) = score (kdg i arg4 (harg4.unread x1) 0) (qch1 arg3 (harg3.unread x0)) := rfl

theorem dsc_02 : (kernelRun0_A.sl.r_2 (F := F) i arg3 harg3 arg4 harg4 x0 x1) = score (kdg i arg4 (harg4.unread x1) 0) (qch2 arg3 (harg3.unread x0)) := rfl

theorem dsc_03 : (kernelRun0_A.sl.r_3 (F := F) i arg3 harg3 arg4 harg4 x0 x1) = score (kdg i arg4 (harg4.unread x1) 0) (qch3 arg3 (harg3.unread x0)) := rfl

theorem dsc_11 : (kernelRun0_A.sl.r_6 (F := F) i arg3 harg3 arg4 harg4 x0 x1) = dscore (kdg i arg4 (harg4.unread x1) 1) (qch1 arg3 (harg3.unread x0)) := rfl

theorem dsc_12 : (kernelRun0_A.sl.r_9 (F := F) i arg3 harg3 arg4 harg4 x0 x1) = score (kdg i arg4 (harg4.unread x1) 1) (qch2 arg3 (harg3.unread x0)) := rfl

theorem dsc_13 : (kernelRun0_A.sl.r_12 (F := F) i arg3 harg3 arg4 harg4 x0 x1) = score (kdg i arg4 (harg4.unread x1) 1) (qch3 arg3 (harg3.unread x0)) := rfl

theorem dsc_22 : (kernelRun0_A.sl.r_16 (F := F) i arg3 harg3 arg4 harg4 x0 x1) = dscore (kdg i arg4 (harg4.unread x1) 2) (qch2 arg3 (harg3.unread x0)) := rfl

theorem dsc_23 : (kernelRun0_A.sl.r_20 (F := F) i arg3 harg3 arg4 harg4 x0 x1) = score (kdg i arg4 (harg4.unread x1) 2) (qch3 arg3 (harg3.unread x0)) := rfl

theorem dsc_33 : (kernelRun0_A.sl.r_22 (F := F) i arg3 harg3 arg4 harg4 x0 x1) = dscore (kdg i arg4 (harg4.unread x1) 3) (qch3 arg3 (harg3.unread x0)) := rfl

theorem deq_v98 : (kernelRun0_A.sl.v98 (F := F) c i arg3 harg3 arg4 harg4 arg5 harg5 arg6 harg6 arg7 harg7 arg8 harg8 x0 x1 x2) = (st (F := F) x0 x1 x2 0 (4 * (i 2).val)).1 := by
  unfold kernelRun0_A.sl.v98 View.readCov
  exact congrArg Prod.fst (base_0 c i arg3 harg3 arg4 harg4 arg5 harg5 arg6 harg6 arg7 harg7 arg8 harg8 x0 x1 x2)

theorem deq_v111 : (kernelRun0_A.sl.v111 (F := F) c i arg3 harg3 arg4 harg4 arg5 harg5 arg6 harg6 arg7 harg7 arg8 harg8 x0 x1 x2) = (st (F := F) x0 x1 x2 0 (4 * (i 2).val)).2 := by
  unfold kernelRun0_A.sl.v111 View.readCov
  exact congrArg Prod.snd (base_0 c i arg3 harg3 arg4 harg4 arg5 harg5 arg6 harg6 arg7 harg7 arg8 harg8 x0 x1 x2)

theorem deq_v155 : (kernelRun0_A.sl.v155 (F := F) c i arg3 harg3 arg4 harg4 arg5 harg5 arg6 harg6 arg7 harg7 arg8 harg8 x0 x1 x2) = (st (F := F) x0 x1 x2 1 (4 * (i 2).val)).1 := by
  unfold kernelRun0_A.sl.v155 View.readCov
  unfold kernelRun0_A.sl.HS0_1_1
  rw [miss _ _ _ _ _ _ _ _ _ _ 1 (by decide)]
  exact congrArg Prod.fst (base_1 c i arg3 harg3 arg4 harg4 arg5 harg5 arg6 harg6 arg7 harg7 arg8 harg8 x0 x1 x2)

theorem deq_v168 : (kernelRun0_A.sl.v168 (F := F) c i arg3 harg3 arg4 harg4 arg5 harg5 arg6 harg6 arg7 harg7 arg8 harg8 x0 x1 x2) = (st (F := F) x0 x1 x2 1 (4 * (i 2).val)).2 := by
  unfold kernelRun0_A.sl.v168 View.readCov
  unfold kernelRun0_A.sl.HS1_1_1
  rw [miss _ _ _ _ _ _ _ _ _ _ 1 (by decide)]
  exact congrArg Prod.snd (base_1 c i arg3 harg3 arg4 harg4 arg5 harg5 arg6 harg6 arg7 harg7 arg8 harg8 x0 x1 x2)

theorem deq_v205 : (kernelRun0_A.sl.v205 (F := F) c i arg3 harg3 arg4 harg4 arg5 harg5 arg6 harg6 arg7 harg7 arg8 harg8 x0 x1 x2) = (st (F := F) x0 x1 x2 2 (4 * (i 2).val)).1 := by
  unfold kernelRun0_A.sl.v205 View.readCov
  unfold kernelRun0_A.sl.HS0_2 kernelRun0_A.sl.HS0_1_1
  rw [miss _ _ _ _ _ _ _ _ _ _ 1 (by decide), miss _ _ _ _ _ _ _ _ _ _ 1 (by decide)]
  exact congrArg Prod.fst (base_2 c i arg3 harg3 arg4 harg4 arg5 harg5 arg6 harg6 arg7 harg7 arg8 harg8 x0 x1 x2)

theorem deq_v218 : (kernelRun0_A.sl.v218 (F := F) c i arg3 harg3 arg4 harg4 arg5 harg5 arg6 harg6 arg7 harg7 arg8 harg8 x0 x1 x2) = (st (F := F) x0 x1 x2 2 (4 * (i 2).val)).2 := by
  unfold kernelRun0_A.sl.v218 View.readCov
  unfold kernelRun0_A.sl.HS1_2 kernelRun0_A.sl.HS1_1_1
  rw [miss _ _ _ _ _ _ _ _ _ _ 1 (by decide), miss _ _ _ _ _ _ _ _ _ _ 1 (by decide)]
  exact congrArg Prod.snd (base_2 c i arg3 harg3 arg4 harg4 arg5 harg5 arg6 harg6 arg7 harg7 arg8 harg8 x0 x1 x2)

theorem deq_v255 : (kernelRun0_A.sl.v255 (F := F) c i arg3 harg3 arg4 harg4 arg5 harg5 arg6 harg6 arg7 harg7 arg8 harg8 x0 x1 x2) = (st (F := F) x0 x1 x2 3 (4 * (i 2).val)).1 := by
  unfold kernelRun0_A.sl.v255 View.readCov
  unfold kernelRun0_A.sl.HS0_3 kernelRun0_A.sl.HS0_2 kernelRun0_A.sl.HS0_1_1
  rw [miss _ _ _ _ _ _ _ _ _ _ 1 (by decide), miss _ _ _ _ _ _ _ _ _ _ 1 (by decide), miss _ _ _ _ _ _ _ _ _ _ 1 (by decide)]
  exact congrArg Prod.fst (base_3 c i arg3 harg3 arg4 harg4 arg5 harg5 arg6 harg6 arg7 harg7 arg8 harg8 x0 x1 x2)

theorem deq_v268 : (kernelRun0_A.sl.v268 (F := F) c i arg3 harg3 arg4 harg4 arg5 harg5 arg6 harg6 arg7 harg7 arg8 harg8 x0 x1 x2) = (st (F := F) x0 x1 x2 3 (4 * (i 2).val)).2 := by
  unfold kernelRun0_A.sl.v268 View.readCov
  unfold kernelRun0_A.sl.HS1_3 kernelRun0_A.sl.HS1_2 kernelRun0_A.sl.HS1_1_1
  rw [miss _ _ _ _ _ _ _ _ _ _ 1 (by decide), miss _ _ _ _ _ _ _ _ _ _ 1 (by decide), miss _ _ _ _ _ _ _ _ _ _ 1 (by decide)]
  exact congrArg Prod.snd (base_3 c i arg3 harg3 arg4 harg4 arg5 harg5 arg6 harg6 arg7 harg7 arg8 harg8 x0 x1 x2)

theorem deq_v312 : (kernelRun0_A.sl.v312 (F := F) c i arg3 harg3 arg4 harg4 arg5 harg5 arg6 harg6 arg7 harg7 arg8 harg8 x0 x1 x2) = stepM (kernelRun0_A.sl.r_1 (F := F) i arg3 harg3 arg4 harg4 x0 x1) (kernelRun0_A.sl.v155 (F := F) c i arg3 harg3 arg4 harg4 arg5 harg5 arg6 harg6 arg7 harg7 arg8 harg8 x0 x1 x2) := by
  unfold kernelRun0_A.sl.v312 View.readCov
  unfold kernelRun0_A.sl.HS0_4 kernelRun0_A.sl.HS0_3 kernelRun0_A.sl.HS0_2
  rw [miss _ _ _ _ _ _ _ _ _ _ 1 (by decide), miss _ _ _ _ _ _ _ _ _ _ 1 (by decide)]
  refine (hit _ _ _ _ _ _ _ _).trans ?_
  unfold kernelRun0_A.sl.r_8 kernelRun0_A.sl.r_7
  generalize (kernelRun0_A.sl.v155 (F := F) c i arg3 harg3 arg4 harg4 arg5 harg5 arg6 harg6 arg7 harg7 arg8 harg8 x0 x1 x2) = m
  generalize (kernelRun0_A.sl.r_1 (F := F) i arg3 harg3 arg4 harg4 x0 x1) = s
  rfl

theorem deq_v325 : (kernelRun0_A.sl.v325 (F := F) c i arg3 harg3 arg4 harg4 arg5 harg5 arg6 harg6 arg7 harg7 arg8 harg8 x0 x1 x2) = stepA (kernelRun0_A.sl.r_1 (F := F) i arg3 harg3 arg4 harg4 x0 x1) (kernelRun0_A.sl.v155 (F := F) c i arg3 harg3 arg4 harg4 arg5 harg5 arg6 harg6 arg7 harg7 arg8 harg8 x0 x1 x2) (kernelRun0_A.sl.v168 (F := F) c i arg3 harg3 arg4 harg4 arg5 harg5 arg6 harg6 arg7 harg7 arg8 harg8 x0 x1 x2) (vdg i arg5 (harg5.unread x2) 0) := by
  unfold kernelRun0_A.sl.v325 View.readCov
  unfold kernelRun0_A.sl.HS1_4 kernelRun0_A.sl.HS1_3 kernelRun0_A.sl.HS1_2
  rw [miss _ _ _ _ _ _ _ _ _ _ 1 (by decide), miss _ _ _ _ _ _ _ _ _ _ 1 (by decide)]
  refine (hit _ _ _ _ _ _ _ _).trans ?_
  unfold kernelRun0_A.sl.r_8 kernelRun0_A.sl.r_7
  generalize (kernelRun0_A.sl.v155 (F := F) c i arg3 harg3 arg4 harg4 arg5 harg5 arg6 harg6 arg7 harg7 arg8 harg8 x0 x1 x2) = m
  generalize (kernelRun0_A.sl.v168 (F := F) c i arg3 harg3 arg4 harg4 arg5 harg5 arg6 harg6 arg7 harg7 arg8 harg8 x0 x1 x2) = a
  generalize (kernelRun0_A.sl.r_1 (F := F) i arg3 harg3 arg4 harg4 x0 x1) = s
  change _ = stepA s m a (View.readAt (Elt F) arg5.view (Rect.unit (s := S1x1x16x144x512) (k0_off6 i 0#32) S1x1x1x144x512.size (k0_off6_inb i 0)).toLoadRect (harg5.unread x2))
  generalize (View.readAt (Elt F) arg5.view (Rect.unit (s := S1x1x16x144x512) (k0_off6 i 0#32) S1x1x1x144x512.size (k0_off6_inb i 0)).toLoadRect (harg5.unread x2)) = w
  rfl

theorem deq_v362 : (kernelRun0_A.sl.v362 (F := F) c i arg3 harg3 arg4 harg4 arg5 harg5 arg6 harg6 arg7 harg7 arg8 harg8 x0 x1 x2) = stepM (kernelRun0_A.sl.r_2 (F := F) i arg3 harg3 arg4 harg4 x0 x1) (kernelRun0_A.sl.v205 (F := F) c i arg3 harg3 arg4 harg4 arg5 harg5 arg6 harg6 arg7 harg7 arg8 harg8 x0 x1 x2) := by
  unfold kernelRun0_A.sl.v362 View.readCov
  unfold kernelRun0_A.sl.HS0_5 kernelRun0_A.sl.HS0_4 kernelRun0_A.sl.HS0_3
  rw [miss _ _ _ _ _ _ _ _ _ _ 1 (by decide), miss _ _ _ _ _ _ _ _ _ _ 1 (by decide)]
  refine (hit _ _ _ _ _ _ _ _).trans ?_
  generalize (kernelRun0_A.sl.v205 (F := F) c i arg3 harg3 arg4 harg4 arg5 harg5 arg6 harg6 arg7 harg7 arg8 harg8 x0 x1 x2) = m
  generalize (kernelRun0_A.sl.r_2 (F := F) i arg3 harg3 arg4 harg4 x0 x1) = s
  rfl

theorem deq_v375 : (kernelRun0_A.sl.v375 (F := F) c i arg3 harg3 arg4 harg4 arg5 harg5 arg6 harg6 arg7 harg7 arg8 harg8 x0 x1 x2) = stepA (kernelRun0_A.sl.r_2 (F := F) i arg3 harg3 arg4 harg4 x0 x1) (kernelRun0_A.sl.v205 (F := F) c i arg3 harg3 arg4 harg4 arg5 harg5 arg6 harg6 arg7 harg7 arg8 harg8 x0 x1 x2) (kernelRun0_A.sl.v218 (F := F) c i arg3 harg3 arg4 harg4 arg5 harg5 arg6 harg6 arg7 harg7 arg8 harg8 x0 x1 x2) (vdg i arg5 (harg5.unread x2) 0) := by
  unfold kernelRun0_A.sl.v375 View.readCov
  unfold kernelRun0_A.sl.HS1_5 kernelRun0_A.sl.HS1_4 kernelRun0_A.sl.HS1_3
  rw [miss _ _ _ _ _ _ _ _ _ _ 1 (by decide), miss _ _ _ _ _ _ _ _ _ _ 1 (by decide)]
  refine (hit _ _ _ _ _ _ _ _).trans ?_
  unfold kernelRun0_A.sl.r_11 kernelRun0_A.sl.r_10
  generalize (kernelRun0_A.sl.v205 (F := F) c i arg3 harg3 arg4 harg4 arg5 harg5 arg6 harg6 arg7 harg7 arg8 harg8 x0 x1 x2) = m
  generalize (kernelRun0_A.sl.v218 (F := F) c i arg3 harg3 arg4 harg4 arg5 harg5 arg6 harg6 arg7 harg7 arg8 harg8 x0 x1 x2) = a
  generalize (kernelRun0_A.sl.r_2 (F := F) i arg3 harg3 arg4 harg4 x0 x1) = s
  change _ = stepA s m a (View.readAt (Elt F) arg5.view (Rect.unit (s := S1x1x16x144x512) (k0_off6 i 0#32) S1x1x1x144x512.size (k0_off6_inb i 0)).toLoadRect (harg5.unread x2))
  generalize (View.readAt (Elt F) arg5.view (Rect.unit (s := S1x1x16x144x512) (k0_off6 i 0#32) S1x1x1x144x512.size (k0_off6_inb i 0)).toLoadRect (harg5.unread x2)) = w
  rfl

theorem deq_v419 : (kernelRun0_A.sl.v419 (F := F) c i arg3 harg3 arg4 harg4 arg5 harg5 arg6 harg6 arg7 harg7 arg8 harg8 x0 x1 x2) = stepM (kernelRun0_A.sl.r_3 (F := F) i arg3 harg3 arg4 harg4 x0 x1) (kernelRun0_A.sl.v255 (F := F) c i arg3 harg3 arg4 harg4 arg5 harg5 arg6 harg6 arg7 harg7 arg8 harg8 x0 x1 x2) := by
  unfold kernelRun0_A.sl.v419 View.readCov
  unfold kernelRun0_A.sl.HS0_6 kernelRun0_A.sl.HS0_5 kernelRun0_A.sl.HS0_4
  rw [miss _ _ _ _ _ _ _ _ _ _ 1 (by decide), miss _ _ _ _ _ _ _ _ _ _ 1 (by decide)]
  refine (hit _ _ _ _ _ _ _ _).trans ?_
  unfold kernelRun0_A.sl.r_13
  generalize (kernelRun0_A.sl.v255 (F := F) c i arg3 harg3 arg4 harg4 arg5 harg5 arg6 harg6 arg7 harg7 arg8 harg8 x0 x1 x2) = m
  generalize (kernelRun0_A.sl.r_3 (F := F) i arg3 harg3 arg4 harg4 x0 x1) = s
  rfl

theorem deq_v432 : (kernelRun0_A.sl.v432 (F := F) c i arg3 harg3 arg4 harg4 arg5 harg5 arg6 harg6 arg7 harg7 arg8 harg8 x0 x1 x2) = stepA (kernelRun0_A.sl.r_3 (F := F) i arg3 harg3 arg4 harg4 x0 x1) (kernelRun0_A.sl.v255 (F := F) c i arg3 harg3 arg4 harg4 arg5 harg5 arg6 harg6 arg7 harg7 arg8 harg8 x0 x1 x2) (kernelRun0_A.sl.v268 (F := F) c i arg3 harg3 arg4 harg4 arg5 harg5 arg6 harg6 arg7 harg7 arg8 harg8 x0 x1 x2) (vdg i arg5 (harg5.unread x2) 0) := by
  unfold kernelRun0_A.sl.v432 View.readCov
  unfold kernelRun0_A.sl.HS1_6 kernelRun0_A.sl.HS1_5 kernelRun0_A.sl.HS1_4
  rw [miss _ _ _ _ _ _ _ _ _ _ 1 (by decide), miss _ _ _ _ _ _ _ _ _ _ 1 (by decide)]
  refine (hit _ _ _ _ _ _ _ _).trans ?_
  unfold kernelRun0_A.sl.r_15 kernelRun0_A.sl.r_14
  generalize (kernelRun0_A.sl.v255 (F := F) c i arg3 harg3 arg4 harg4 arg5 harg5 arg6 harg6 arg7 harg7 arg8 harg8 x0 x1 x2) = m
  generalize (kernelRun0_A.sl.v268 (F := F) c i arg3 harg3 arg4 harg4 arg5 harg5 arg6 harg6 arg7 harg7 arg8 harg8 x0 x1 x2) = a
  generalize (kernelRun0_A.sl.r_3 (F := F) i arg3 harg3 arg4 harg4 x0 x1) = s
  change _ = stepA s m a (View.readAt (Elt F) arg5.view (Rect.unit (s := S1x1x16x144x512) (k0_off6 i 0#32) S1x1x1x144x512.size (k0_off6_inb i 0)).toLoadRect (harg5.unread x2))
  generalize (View.readAt (Elt F) arg5.view (Rect.unit (s := S1x1x16x144x512) (k0_off6 i 0#32) S1x1x1x144x512.size (k0_off6_inb i 0)).toLoadRect (harg5.unread x2)) = w
  rfl

theorem deq_v461 : (kernelRun0_A.sl.v461 (F := F) c i arg3 harg3 arg4 harg4 arg5 harg5 arg6 harg6 arg7 harg7 arg8 harg8 x0 x1 x2) = stepM (kernelRun0_A.sl.r_9 (F := F) i arg3 harg3 arg4 harg4 x0 x1) (kernelRun0_A.sl.v362 (F := F) c i arg3 harg3 arg4 harg4 arg5 harg5 arg6 harg6 arg7 harg7 arg8 harg8 x0 x1 x2) := by
  unfold kernelRun0_A.sl.v461 View.readCov
  unfold kernelRun0_A.sl.HS0_7 kernelRun0_A.sl.HS0_6
  rw [miss _ _ _ _ _ _ _ _ _ _ 1 (by decide)]
  refine (hit _ _ _ _ _ _ _ _).trans ?_
  generalize (kernelRun0_A.sl.v362 (F := F) c i arg3 harg3 arg4 harg4 arg5 harg5 arg6 harg6 arg7 harg7 arg8 harg8 x0 x1 x2) = m
  generalize (kernelRun0_A.sl.r_9 (F := F) i arg3 harg3 arg4 harg4 x0 x1) = s
  rfl

theorem deq_v474 : (kernelRun0_A.sl.v474 (F := F) c i arg3 harg3 arg4 harg4 arg5 harg5 arg6 harg6 arg7 harg7 arg8 harg8 x0 x1 x2) = stepA (kernelRun0_A.sl.r_9 (F := F) i arg3 harg3 arg4 harg4 x0 x1) (kernelRun0_A.sl.v362 (F := F) c i arg3 harg3 arg4 harg4 arg5 harg5 arg6 harg6 arg7 harg7 arg8 harg8 x0 x1 x2) (kernelRun0_A.sl.v375 (F := F) c i arg3 harg3 arg4 harg4 arg5 harg5 arg6 harg6 arg7 harg7 arg8 harg8 x0 x1 x2) (vdg i arg5 (harg5.unread x2) 1) := by
  unfold kernelRun0_A.sl.v474 View.readCov
  unfold kernelRun0_A.sl.HS1_7 kernelRun0_A.sl.HS1_6
  rw [miss _ _ _ _ _ _ _ _ _ _ 1 (by decide)]
  refine (hit _ _ _ _ _ _ _ _).trans ?_
  unfold kernelRun0_A.sl.r_21
  generalize (kernelRun0_A.sl.v362 (F := F) c i arg3 harg3 arg4 harg4 arg5 harg5 arg6 harg6 arg7 harg7 arg8 harg8 x0 x1 x2) = m
  generalize (kernelRun0_A.sl.v375 (F := F) c i arg3 harg3 arg4 harg4 arg5 harg5 arg6 harg6 arg7 harg7 arg8 harg8 x0 x1 x2) = a
  generalize (kernelRun0_A.sl.r_9 (F := F) i arg3 harg3 arg4 harg4 x0 x1) = s
  change _ = stepA s m a (View.readAt (Elt F) arg5.view (Rect.unit (s := S1x1x16x144x512) (k0_off6 i 1#32) S1x1x1x144x512.size (k0_off6_inb i 1)).toLoadRect (harg5.unread x2))
  generalize (View.readAt (Elt F) arg5.view (Rect.unit (s := S1x1x16x144x512) (k0_off6 i 1#32) S1x1x1x144x512.size (k0_off6_inb i 1)).toLoadRect (harg5.unread x2)) = w
  rfl

theorem deq_v503 : (kernelRun0_A.sl.v503 (F := F) c i arg3 harg3 arg4 harg4 arg5 harg5 arg6 harg6 arg7 harg7 arg8 harg8 x0 x1 x2) = stepM (kernelRun0_A.sl.r_12 (F := F) i arg3 harg3 arg4 harg4 x0 x1) (kernelRun0_A.sl.v419 (F := F) c i arg3 harg3 arg4 harg4 arg5 harg5 arg6 harg6 arg7 harg7 arg8 harg8 x0 x1 x2) := by
  unfold kernelRun0_A.sl.v503 View.readCov
  unfold kernelRun0_A.sl.HS0_8 kernelRun0_A.sl.HS0_7
  rw [miss _ _ _ _ _ _ _ _ _ _ 1 (by decide)]
  refine (hit _ _ _ _ _ _ _ _).trans ?_
  unfold kernelRun0_A.sl.r_23
  generalize (kernelRun0_A.sl.v419 (F := F) c i arg3 harg3 arg4 harg4 arg5 harg5 arg6 harg6 arg7 harg7 arg8 harg8 x0 x1 x2) = m
  generalize (kernelRun0_A.sl.r_12 (F := F) i arg3 harg3 arg4 harg4 x0 x1) = s
  rfl

theorem deq_v516 : (kernelRun0_A.sl.v516 (F := F) c i arg3 harg3 arg4 harg4 arg5 harg5 arg6 harg6 arg7 harg7 arg8 harg8 x0 x1 x2) = stepA (kernelRun0_A.sl.r_12 (F := F) i arg3 harg3 arg4 harg4 x0 x1) (kernelRun0_A.sl.v419 (F := F) c i arg3 harg3 arg4 harg4 arg5 harg5 arg6 harg6 arg7 harg7 arg8 harg8 x0 x1 x2) (kernelRun0_A.sl.v432 (F := F) c i arg3 harg3 arg4 harg4 arg5 harg5 arg6 harg6 arg7 harg7 arg8 harg8 x0 x1 x2) (vdg i arg5 (harg5.unread x2) 1) := by
  unfold kernelRun0_A.sl.v516 View.readCov
  unfold kernelRun0_A.sl.HS1_8 kernelRun0_A.sl.HS1_7
  rw [miss _ _ _ _ _ _ _ _ _ _ 1 (by decide)]
  refine (hit _ _ _ _ _ _ _ _).trans ?_
  unfold kernelRun0_A.sl.r_25 kernelRun0_A.sl.r_24
  generalize (kernelRun0_A.sl.v419 (F := F) c i arg3 harg3 arg4 harg4 arg5 harg5 arg6 harg6 arg7 harg7 arg8 harg8 x0 x1 x2) = m
  generalize (kernelRun0_A.sl.v432 (F := F) c i arg3 harg3 arg4 harg4 arg5 harg5 arg6 harg6 arg7 harg7 arg8 harg8 x0 x1 x2) = a
  generalize (kernelRun0_A.sl.r_12 (F := F) i arg3 harg3 arg4 harg4 x0 x1) = s
  change _ = stepA s m a (View.readAt (Elt F) arg5.view (Rect.unit (s := S1x1x16x144x512) (k0_off6 i 1#32) S1x1x1x144x512.size (k0_off6_inb i 1)).toLoadRect (harg5.unread x2))
  generalize (View.readAt (Elt F) arg5.view (Rect.unit (s := S1x1x16x144x512) (k0_off6 i 1#32) S1x1x1x144x512.size (k0_off6_inb i 1)).toLoadRect (harg5.unread x2)) = w
  rfl

theorem deq_v545 : (kernelRun0_A.sl.v545 (F := F) c i arg3 harg3 arg4 harg4 arg5 harg5 arg6 harg6 arg7 harg7 arg8 harg8 x0 x1 x2) = stepM (kernelRun0_A.sl.r_20 (F := F) i arg3 harg3 arg4 harg4 x0 x1) (kernelRun0_A.sl.v503 (F := F) c i arg3 harg3 arg4 harg4 arg5 harg5 arg6 harg6 arg7 harg7 arg8 harg8 x0 x1 x2) := by
  unfold kernelRun0_A.sl.v545 View.readCov
  unfold kernelRun0_A.sl.HS0_9
  refine (hit _ _ _ _ _ _ _ _).trans ?_
  unfold kernelRun0_A.sl.r_29
  generalize (kernelRun0_A.sl.v503 (F := F) c i arg3 harg3 arg4 harg4 arg5 harg5 arg6 harg6 arg7 harg7 arg8 harg8 x0 x1 x2) = m
  generalize (kernelRun0_A.sl.r_20 (F := F) i arg3 harg3 arg4 harg4 x0 x1) = s
  rfl

theorem deq_v558 : (kernelRun0_A.sl.v558 (F := F) c i arg3 harg3 arg4 harg4 arg5 harg5 arg6 harg6 arg7 harg7 arg8 harg8 x0 x1 x2) = stepA (kernelRun0_A.sl.r_20 (F := F) i arg3 harg3 arg4 harg4 x0 x1) (kernelRun0_A.sl.v503 (F := F) c i arg3 harg3 arg4 harg4 arg5 harg5 arg6 harg6 arg7 harg7 arg8 harg8 x0 x1 x2) (kernelRun0_A.sl.v516 (F := F) c i arg3 harg3 arg4 harg4 arg5 harg5 arg6 harg6 arg7 harg7 arg8 harg8 x0 x1 x2) (vdg i arg5 (harg5.unread x2) 2) := by
  unfold kernelRun0_A.sl.v558 View.readCov
  unfold kernelRun0_A.sl.HS1_9
  refine (hit _ _ _ _ _ _ _ _).trans ?_
  unfold kernelRun0_A.sl.r_31 kernelRun0_A.sl.r_30
  generalize (kernelRun0_A.sl.v503 (F := F) c i arg3 harg3 arg4 harg4 arg5 harg5 arg6 harg6 arg7 harg7 arg8 harg8 x0 x1 x2) = m
  generalize (kernelRun0_A.sl.v516 (F := F) c i arg3 harg3 arg4 harg4 arg5 harg5 arg6 harg6 arg7 harg7 arg8 harg8 x0 x1 x2) = a
  generalize (kernelRun0_A.sl.r_20 (F := F) i arg3 harg3 arg4 harg4 x0 x1) = s
  change _ = stepA s m a (View.readAt (Elt F) arg5.view (Rect.unit (s := S1x1x16x144x512) (k0_off6 i 2#32) S1x1x1x144x512.size (k0_off6_inb i 2)).toLoadRect (harg5.unread x2))
  generalize (View.readAt (Elt F) arg5.view (Rect.unit (s := S1x1x16x144x512) (k0_off6 i 2#32) S1x1x1x144x512.size (k0_off6_inb i 2)).toLoadRect (harg5.unread x2)) = w
  rfl

theorem dlast_0 : rdA0 arg8 (arg8.view.writes (Elt F) arg8.view.junk (kernelRun0_A.sl.HS1_10 (F := F) c i arg3 harg3 arg4 harg4 arg5 harg5 arg6 harg6 arg7 harg7 arg8 harg8 x0 x1 x2)) = stepA (kernelRun0_A.sl.r (F := F) i arg3 harg3 arg4 harg4 x0 x1) (kernelRun0_A.sl.v98 (F := F) c i arg3 harg3 arg4 harg4 arg5 harg5 arg6 harg6 arg7 harg7 arg8 harg8 x0 x1 x2) (kernelRun0_A.sl.v111 (F := F) c i arg3 harg3 arg4 harg4 arg5 harg5 arg6 harg6 arg7 harg7 arg8 harg8 x0 x1 x2) (vdg i arg5 (harg5.unread x2) 0) := by
  unfold rdA0
  unfold kernelRun0_A.sl.HS1_10 kernelRun0_A.sl.HS1_9 kernelRun0_A.sl.HS1_8 kernelRun0_A.sl.HS1_7 kernelRun0_A.sl.HS1_6 kernelRun0_A.sl.HS1_5 kernelRun0_A.sl.HS1_4 kernelRun0_A.sl.HS1_3 kernelRun0_A.sl.HS1_2 kernelRun0_A.sl.HS1_1_1
  rw [miss _ _ _ _ _ _ _ _ _ _ 1 (by decide), miss _ _ _ _ _ _ _ _ _ _ 1 (by decide), miss _ _ _ _ _ _ _ _ _ _ 1 (by decide), miss _ _ _ _ _ _ _ _ _ _ 1 (by decide), miss _ _ _ _ _ _ _ _ _ _ 1 (by decide), miss _ _ _ _ _ _ _ _ _ _ 1 (by decide), miss _ _ _ _ _ _ _ _ _ _ 1 (by decide), miss _ _ _ _ _ _ _ _ _ _ 1 (by decide), miss _ _ _ _ _ _ _ _ _ _ 1 (by decide)]
  refine (hit _ _ _ _ _ _ _ _).trans ?_
  unfold kernelRun0_A.sl.r_5 kernelRun0_A.sl.r_4
  generalize (kernelRun0_A.sl.v98 (F := F) c i arg3 harg3 arg4 harg4 arg5 harg5 arg6 harg6 arg7 harg7 arg8 harg8 x0 x1 x2) = m
  generalize (kernelRun0_A.sl.v111 (F := F) c i arg3 harg3 arg4 harg4 arg5 harg5 arg6 harg6 arg7 harg7 arg8 harg8 x0 x1 x2) = a
  generalize (kernelRun0_A.sl.r (F := F) i arg3 harg3 arg4 harg4 x0 x1) = s
  change _ = stepA s m a (View.readAt (Elt F) arg5.view (Rect.unit (s := S1x1x16x144x512) (k0_off6 i 0#32) S1x1x1x144x512.size (k0_off6_inb i 0)).toLoadRect (harg5.unread x2))
  generalize (View.readAt (Elt F) arg5.view (Rect.unit (s := S1x1x16x144x512) (k0_off6 i 0#32) S1x1x1x144x512.size (k0_off6_inb i 0)).toLoadRect (harg5.unread x2)) = w
  rfl

/-- The rows chain 0 ends with. -/
theorem chain_0 : rdA0 arg8 (arg8.view.writes (Elt F) arg8.view.junk (kernelRun0_A.sl.HS1_10 (F := F) c i arg3 harg3 arg4 harg4 arg5 harg5 arg6 harg6 arg7 harg7 arg8 harg8 x0 x1 x2)) = (fin (F := F) x0 x1 x2 (i 2).val 0).2 := by
  rw [dlast_0, deq_v98, deq_v111, dsc_00, kdg_eq, vdg_eq, qch_eq0]
  rfl

theorem dlast_1 : rdA1 arg8 (arg8.view.writes (Elt F) arg8.view.junk (kernelRun0_A.sl.HS1_10 (F := F) c i arg3 harg3 arg4 harg4 arg5 harg5 arg6 harg6 arg7 harg7 arg8 harg8 x0 x1 x2)) = stepA (kernelRun0_A.sl.r_6 (F := F) i arg3 harg3 arg4 harg4 x0 x1) (kernelRun0_A.sl.v312 (F := F) c i arg3 harg3 arg4 harg4 arg5 harg5 arg6 harg6 arg7 harg7 arg8 harg8 x0 x1 x2) (kernelRun0_A.sl.v325 (F := F) c i arg3 harg3 arg4 harg4 arg5 harg5 arg6 harg6 arg7 harg7 arg8 harg8 x0 x1 x2) (vdg i arg5 (harg5.unread x2) 1) := by
  unfold rdA1
  unfold kernelRun0_A.sl.HS1_10 kernelRun0_A.sl.HS1_9 kernelRun0_A.sl.HS1_8 kernelRun0_A.sl.HS1_7 kernelRun0_A.sl.HS1_6 kernelRun0_A.sl.HS1_5
  rw [miss _ _ _ _ _ _ _ _ _ _ 1 (by decide), miss _ _ _ _ _ _ _ _ _ _ 1 (by decide), miss _ _ _ _ _ _ _ _ _ _ 1 (by decide), miss _ _ _ _ _ _ _ _ _ _ 1 (by decide), miss _ _ _ _ _ _ _ _ _ _ 1 (by decide)]
  refine (hit _ _ _ _ _ _ _ _).trans ?_
  unfold kernelRun0_A.sl.r_18 kernelRun0_A.sl.r_17
  generalize (kernelRun0_A.sl.v312 (F := F) c i arg3 harg3 arg4 harg4 arg5 harg5 arg6 harg6 arg7 harg7 arg8 harg8 x0 x1 x2) = m
  generalize (kernelRun0_A.sl.v325 (F := F) c i arg3 harg3 arg4 harg4 arg5 harg5 arg6 harg6 arg7 harg7 arg8 harg8 x0 x1 x2) = a
  generalize (kernelRun0_A.sl.r_6 (F := F) i arg3 harg3 arg4 harg4 x0 x1) = s
  change _ = stepA s m a (View.readAt (Elt F) arg5.view (Rect.unit (s := S1x1x16x144x512) (k0_off6 i 1#32) S1x1x1x144x512.size (k0_off6_inb i 1)).toLoadRect (harg5.unread x2))
  generalize (View.readAt (Elt F) arg5.view (Rect.unit (s := S1x1x16x144x512) (k0_off6 i 1#32) S1x1x1x144x512.size (k0_off6_inb i 1)).toLoadRect (harg5.unread x2)) = w
  rfl

/-- The rows chain 1 ends with. -/
theorem chain_1 : rdA1 arg8 (arg8.view.writes (Elt F) arg8.view.junk (kernelRun0_A.sl.HS1_10 (F := F) c i arg3 harg3 arg4 harg4 arg5 harg5 arg6 harg6 arg7 harg7 arg8 harg8 x0 x1 x2)) = (fin (F := F) x0 x1 x2 (i 2).val 1).2 := by
  rw [dlast_1, deq_v312, deq_v325, deq_v155, deq_v168, dsc_01, dsc_11, kdg_eq, kdg_eq, vdg_eq, vdg_eq, qch_eq1]
  rfl

theorem dlast_2 : rdA2 arg8 (arg8.view.writes (Elt F) arg8.view.junk (kernelRun0_A.sl.HS1_10 (F := F) c i arg3 harg3 arg4 harg4 arg5 harg5 arg6 harg6 arg7 harg7 arg8 harg8 x0 x1 x2)) = stepA (kernelRun0_A.sl.r_16 (F := F) i arg3 harg3 arg4 harg4 x0 x1) (kernelRun0_A.sl.v461 (F := F) c i arg3 harg3 arg4 harg4 arg5 harg5 arg6 harg6 arg7 harg7 arg8 harg8 x0 x1 x2) (kernelRun0_A.sl.v474 (F := F) c i arg3 harg3 arg4 harg4 arg5 harg5 arg6 harg6 arg7 harg7 arg8 harg8 x0 x1 x2) (vdg i arg5 (harg5.unread x2) 2) := by
  unfold rdA2
  unfold kernelRun0_A.sl.HS1_10 kernelRun0_A.sl.HS1_9 kernelRun0_A.sl.HS1_8
  rw [miss _ _ _ _ _ _ _ _ _ _ 1 (by decide), miss _ _ _ _ _ _ _ _ _ _ 1 (by decide)]
  refine (hit _ _ _ _ _ _ _ _).trans ?_
  unfold kernelRun0_A.sl.r_28 kernelRun0_A.sl.r_27
  generalize (kernelRun0_A.sl.v461 (F := F) c i arg3 harg3 arg4 harg4 arg5 harg5 arg6 harg6 arg7 harg7 arg8 harg8 x0 x1 x2) = m
  generalize (kernelRun0_A.sl.v474 (F := F) c i arg3 harg3 arg4 harg4 arg5 harg5 arg6 harg6 arg7 harg7 arg8 harg8 x0 x1 x2) = a
  generalize (kernelRun0_A.sl.r_16 (F := F) i arg3 harg3 arg4 harg4 x0 x1) = s
  change _ = stepA s m a (View.readAt (Elt F) arg5.view (Rect.unit (s := S1x1x16x144x512) (k0_off6 i 2#32) S1x1x1x144x512.size (k0_off6_inb i 2)).toLoadRect (harg5.unread x2))
  generalize (View.readAt (Elt F) arg5.view (Rect.unit (s := S1x1x16x144x512) (k0_off6 i 2#32) S1x1x1x144x512.size (k0_off6_inb i 2)).toLoadRect (harg5.unread x2)) = w
  rfl

/-- The rows chain 2 ends with. -/
theorem chain_2 : rdA2 arg8 (arg8.view.writes (Elt F) arg8.view.junk (kernelRun0_A.sl.HS1_10 (F := F) c i arg3 harg3 arg4 harg4 arg5 harg5 arg6 harg6 arg7 harg7 arg8 harg8 x0 x1 x2)) = (fin (F := F) x0 x1 x2 (i 2).val 2).2 := by
  rw [dlast_2, deq_v461, deq_v474, deq_v362, deq_v375, deq_v205, deq_v218, dsc_02, dsc_12, dsc_22, kdg_eq, kdg_eq, kdg_eq, vdg_eq, vdg_eq, vdg_eq, qch_eq2]
  rfl

theorem dlast_3 : rdA3 arg8 (arg8.view.writes (Elt F) arg8.view.junk (kernelRun0_A.sl.HS1_10 (F := F) c i arg3 harg3 arg4 harg4 arg5 harg5 arg6 harg6 arg7 harg7 arg8 harg8 x0 x1 x2)) = stepA (kernelRun0_A.sl.r_22 (F := F) i arg3 harg3 arg4 harg4 x0 x1) (kernelRun0_A.sl.v545 (F := F) c i arg3 harg3 arg4 harg4 arg5 harg5 arg6 harg6 arg7 harg7 arg8 harg8 x0 x1 x2) (kernelRun0_A.sl.v558 (F := F) c i arg3 harg3 arg4 harg4 arg5 harg5 arg6 harg6 arg7 harg7 arg8 harg8 x0 x1 x2) (vdg i arg5 (harg5.unread x2) 3) := by
  unfold rdA3
  unfold kernelRun0_A.sl.HS1_10
  refine (hit _ _ _ _ _ _ _ _).trans ?_
  unfold kernelRun0_A.sl.r_34 kernelRun0_A.sl.r_33
  generalize (kernelRun0_A.sl.v545 (F := F) c i arg3 harg3 arg4 harg4 arg5 harg5 arg6 harg6 arg7 harg7 arg8 harg8 x0 x1 x2) = m
  generalize (kernelRun0_A.sl.v558 (F := F) c i arg3 harg3 arg4 harg4 arg5 harg5 arg6 harg6 arg7 harg7 arg8 harg8 x0 x1 x2) = a
  generalize (kernelRun0_A.sl.r_22 (F := F) i arg3 harg3 arg4 harg4 x0 x1) = s
  change _ = stepA s m a (View.readAt (Elt F) arg5.view (Rect.unit (s := S1x1x16x144x512) (k0_off6 i 3#32) S1x1x1x144x512.size (k0_off6_inb i 3)).toLoadRect (harg5.unread x2))
  generalize (View.readAt (Elt F) arg5.view (Rect.unit (s := S1x1x16x144x512) (k0_off6 i 3#32) S1x1x1x144x512.size (k0_off6_inb i 3)).toLoadRect (harg5.unread x2)) = w
  rfl

/-- The rows chain 3 ends with. -/
theorem chain_3 : rdA3 arg8 (arg8.view.writes (Elt F) arg8.view.junk (kernelRun0_A.sl.HS1_10 (F := F) c i arg3 harg3 arg4 harg4 arg5 harg5 arg6 harg6 arg7 harg7 arg8 harg8 x0 x1 x2)) = (fin (F := F) x0 x1 x2 (i 2).val 3).2 := by
  rw [dlast_3, deq_v545, deq_v558, deq_v503, deq_v516, deq_v419, deq_v432, deq_v255, deq_v268, dsc_03, dsc_13, dsc_23, dsc_33, kdg_eq, kdg_eq, kdg_eq, kdg_eq, vdg_eq, vdg_eq, vdg_eq, vdg_eq, qch_eq3]
  rfl

end Cert.Att
-- ==== Proof.Column.lean ====
/- A whole chain, column by column: after its last key block it holds the maximum and the weighted
   sums over the keys that come no later than the column's query. -/
module

public import proofs.«01_k».proof.Proof.Body
public import proofs.«01_k».proof.Proof.Mean

@[expose] public section

set_option maxRecDepth 8192
set_option maxHeartbeats 200000

noncomputable section

open scoped BigOperators

namespace Cert.Att

open Idealize.ShloMosaic Idealize.ShloMosaic.TcCoe Idealize.ShloMosaic.ValueIdx
open Cert.KernelIdeal Cert.KernelIdeal.Gen

/-- A number as a key's position. -/
def key (k : ℕ) : Fin 8192 := ⟨k % 8192, Nat.mod_lt _ (by norm_num)⟩

/-- The column of a query tile that chain `c` holds at its column `x`. -/
def qcol (c : Fin 4) (x : Fin 512) : Fin 2048 := ⟨512 * c.val + x.val, by have := c.isLt; have := x.isLt; omega⟩

/-- A key's score with a column's query. -/
def SK (x0 : Vec Ideal S1x1x192x2048 .bf16) (x1 : Vec Ideal S1x1x8192x192 .bf16) (y : Fin 2048) (k : ℕ) : EReal :=
  ∑ d : Fin 192, x1 (ix4 (0 : Fin 1) (0 : Fin 1) (key k) d) * x0 (ix4 (0 : Fin 1) (0 : Fin 1) d y)

/-- Row `d` of a key's values. -/
def VK (x2 : Vec Ideal S1x1x16x144x512 .bf16) (d : Fin 144) (k : ℕ) : EReal :=
  x2 (ix5 (0 : Fin 1) (0 : Fin 1) (⟨k / 512 % 16, Nat.mod_lt _ (by norm_num)⟩ : Fin 16) d (⟨k % 512, Nat.mod_lt _ (by norm_num)⟩ : Fin 512))

/-- The scores with the keys after the query at −∞. -/
def SM (x0 : Vec Ideal S1x1x192x2048 .bf16) (x1 : Vec Ideal S1x1x8192x192 .bf16) (t : ℕ) (y : Fin 2048) (k : ℕ) : EReal :=
  if k ≤ 2048 * t + y.val then SK x0 x1 y k else ⊥

theorem kb_apply (x1 : Vec Ideal S1x1x8192x192 .bf16) (j : ℕ) (r : Fin 512) (d : Fin 192) :
    kb x1 j (ix4 (0 : Fin 1) (0 : Fin 1) r d) = x1 (ix4 (0 : Fin 1) (0 : Fin 1) (key (512 * j + r.val)) d) := by
  unfold kb VecWindow.window
  refine congrArg x1 (funext fun a => Fin.ext ?_)
  have := r.isLt
  match a with
  | ⟨0, _⟩ => rfl
  | ⟨1, _⟩ => rfl
  | ⟨2, _⟩ => show 512 * (j % 16) + 1 * r.val = (512 * j + r.val) % 8192; omega
  | ⟨3, _⟩ => show 0 + 1 * d.val = d.val; omega

theorem vb_apply (x2 : Vec Ideal S1x1x16x144x512 .bf16) (j : ℕ) (r : Fin 512) (d : Fin 144) :
    vb x2 j (ix5 (0 : Fin 1) (0 : Fin 1) (0 : Fin 1) d r) = VK x2 d (512 * j + r.val) := by
  unfold vb VecWindow.window VK
  refine congrArg x2 (funext fun a => Fin.ext ?_)
  have := r.isLt
  match a with
  | ⟨0, _⟩ => rfl
  | ⟨1, _⟩ => rfl
  | ⟨2, _⟩ => show j % 16 + 1 * 0 = (512 * j + r.val) / 512 % 16; omega
  | ⟨3, _⟩ => show 0 + 1 * d.val = d.val; omega
  | ⟨4, _⟩ => show 0 + 1 * r.val = (512 * j + r.val) % 512; omega

theorem qc_apply (x0 : Vec Ideal S1x1x192x2048 .bf16) (c : Fin 4) (x : Fin 512) (d : Fin 192) :
    qc x0 c (ix4 (0 : Fin 1) (0 : Fin 1) d x) = x0 (ix4 (0 : Fin 1) (0 : Fin 1) d (qcol c x)) := by
  unfold qc VecWindow.window
  refine congrArg x0 (funext fun a => Fin.ext ?_)
  match a with
  | ⟨0, _⟩ => rfl
  | ⟨1, _⟩ => rfl
  | ⟨2, _⟩ => show 0 + 1 * d.val = d.val; omega
  | ⟨3, _⟩ => show 512 * c.val + 1 * x.val = 512 * c.val + x.val; omega

theorem score_block (x0 : Vec Ideal S1x1x192x2048 .bf16) (x1 : Vec Ideal S1x1x8192x192 .bf16) (c : Fin 4) (x r : Fin 512) (j : ℕ) :
    score (F := Ideal) (kb x1 j) (qc x0 c) (ix2 r x) = SK x0 x1 (qcol c x) (512 * j + r.val) := by
  rw [score_apply]
  unfold SK
  exact Finset.sum_congr rfl fun d _ => by rw [kb_apply, qc_apply]

/-- A chain before its last block. -/
theorem st_inv (x0 : Vec Ideal S1x1x192x2048 .bf16) (x1 : Vec Ideal S1x1x8192x192 .bf16) (x2 : Vec Ideal S1x1x16x144x512 .bf16)
    (t : ℕ) (c : Fin 4) (x : Fin 512) (hS : ∀ k, SM x0 x1 t (qcol c x) k < ⊤) :
    ∀ n, n ≤ 4 * t + c.val → Inv (SM x0 x1 t (qcol c x)) (VK x2) x (512 * n) (st x0 x1 x2 c n)
  | 0, _ => by
    refine ⟨?_, fun d => ?_⟩
    · show FloatOps.ofBits (F := Ideal) .f32 0xFF800000#32 = _
      rw [bits_bot]; rfl
    · show FloatOps.ofBits (F := Ideal) .f32 0x00000000#32 = _
      rw [bits_zero]; rfl
  | n + 1, h => by
    have hrec := st_inv x0 x1 x2 t c x hS n (by omega)
    show Inv _ _ x (512 * n + 512) (step (score (kb x1 n) (qc x0 c)) (vb x2 n) (st x0 x1 x2 c n))
    refine inv_step _ _ hS x _ _ _ _ (fun r => ?_) (fun d r => vb_apply x2 n r d) hrec
    rw [score_block]
    have hr := r.isLt
    unfold SM
    rw [if_pos]
    show 512 * n + r.val ≤ 2048 * t + (512 * c.val + x.val)
    omega

/-- A chain at its end. -/
theorem fin_inv (x0 : Vec Ideal S1x1x192x2048 .bf16) (x1 : Vec Ideal S1x1x8192x192 .bf16) (x2 : Vec Ideal S1x1x16x144x512 .bf16)
    (t : ℕ) (c : Fin 4) (x : Fin 512) (hS : ∀ k, SM x0 x1 t (qcol c x) k < ⊤) :
    Inv (SM x0 x1 t (qcol c x)) (VK x2) x (512 * (4 * t + c.val) + 512) (fin x0 x1 x2 t c) := by
  refine inv_step _ _ hS x _ _ _ _ (fun r => ?_) (fun d r => vb_apply x2 _ r d) (st_inv x0 x1 x2 t c x hS _ le_rfl)
  rw [dscore_apply, score_block]
  unfold SM
  have e : r.val ≤ x.val ↔ 512 * (4 * t + c.val) + r.val ≤ 2048 * t + (qcol c x).val := by
    show _ ↔ _ ≤ 2048 * t + (512 * c.val + x.val)
    omega
  by_cases h : r.val ≤ x.val
  · rw [if_pos h, if_pos (e.mp h)]
  · rw [if_neg h, if_neg fun h' => h (e.mpr h')]

end Cert.Att
-- ==== Proof.Out.lean ====
/- The block a grid point leaves: each element is a quotient of two rows of a chain. -/
module

public import proofs.«01_k».proof.Proof.Diag
public import proofs.«01_k».proof.Proof.Mean
public import proofs.«01_k».proof.Proof.Column

@[expose] public section

set_option maxRecDepth 8192
set_option maxHeartbeats 200000

noncomputable section

namespace Cert.Att

open Idealize.ShloMosaic Idealize.ShloMosaic.TcCoe Idealize.ShloMosaic.ValueIdx
open Cert.KernelIdeal Cert.KernelIdeal.Gen

variable {F : FTy → Type} [FloatOps F]

variable (c : Dev nD) (i : grid0.Coords) (arg3 : Memref sig .tc .vmem S1x1x192x2048 .bf16) (harg3 : arg3.IsWhole) (arg4 : Memref sig .tc .vmem S1x1x8192x192 .bf16) (harg4 : arg4.IsWhole) (arg5 : Memref sig .tc .vmem S1x1x16x144x512 .bf16) (harg5 : arg5.IsWhole) (arg6 : Memref sig .tc .vmem S1x2048x128 .bf16) (harg6 : arg6.IsWhole) (arg7 : Memref sig .tc .vmem S1x2048 .f32) (harg7 : arg7.IsWhole) (arg8 : Memref sig .tc .vmem S144x2048 .f32) (harg8 : arg8.IsWhole)
  (x0 : Vec F S1x1x192x2048 .bf16) (x1 : Vec F S1x1x8192x192 .bf16) (x2 : Vec F S1x1x16x144x512 .bf16)

/-- A column of a query tile lies in one of the four chains. -/
theorem qcol_cases (y : Fin 2048) : ∃ (u : Fin 4) (x : Fin 512), y = qcol u x :=
  ⟨⟨y.val / 512, by have := y.isLt; omega⟩, ⟨y.val % 512, Nat.mod_lt _ (by norm_num)⟩, Fin.ext (by
    show y.val = 512 * (y.val / 512) + y.val % 512
    omega)⟩

/-- The accumulated rows, read where a chain keeps its column. -/
theorem rows_read (u : Fin 4) (x : Fin 512) (d : Fin 144) :
    arg8.view.read (Elt F) (arg8.view.writes (Elt F) arg8.view.junk (kernelRun0_A.sl.HS1_10 (F := F) c i arg3 harg3 arg4 harg4 arg5 harg5 arg6 harg6 arg7 harg7 arg8 harg8 x0 x1 x2)) (ix2 d (qcol u x))
      = (fin (F := F) x0 x1 x2 (i 2).val u).2 (ix2 d x) := by
  match u with
  | 0 =>
    have h := congrFun (chain_0 c i arg3 harg3 arg4 harg4 arg5 harg5 arg6 harg6 arg7 harg7 arg8 harg8 x0 x1 x2) (ix2 d x)
    generalize (arg8.view.writes (Elt F) arg8.view.junk (kernelRun0_A.sl.HS1_10 (F := F) c i arg3 harg3 arg4 harg4 arg5 harg5 arg6 harg6 arg7 harg7 arg8 harg8 x0 x1 x2)) = f at h ⊢
    refine Eq.trans ?_ h
    refine congrArg (arg8.view.read (Elt F) f) (funext fun a => Fin.ext ?_)
    match a with
    | ⟨0, _⟩ => show d.val = 0 + 1 * d.val; omega
    | ⟨1, _⟩ => show 512 * 0 + x.val = 0 + 1 * x.val; omega
  | 1 =>
    have h := congrFun (chain_1 c i arg3 harg3 arg4 harg4 arg5 harg5 arg6 harg6 arg7 harg7 arg8 harg8 x0 x1 x2) (ix2 d x)
    generalize (arg8.view.writes (Elt F) arg8.view.junk (kernelRun0_A.sl.HS1_10 (F := F) c i arg3 harg3 arg4 harg4 arg5 harg5 arg6 harg6 arg7 harg7 arg8 harg8 x0 x1 x2)) = f at h ⊢
    refine Eq.trans ?_ h
    refine congrArg (arg8.view.read (Elt F) f) (funext fun a => Fin.ext ?_)
    match a with
    | ⟨0, _⟩ => show d.val = 0 + 1 * d.val; omega
    | ⟨1, _⟩ => show 512 * 1 + x.val = 512 + 1 * x.val; omega
  | 2 =>
    have h := congrFun (chain_2 c i arg3 harg3 arg4 harg4 arg5 harg5 arg6 harg6 arg7 harg7 arg8 harg8 x0 x1 x2) (ix2 d x)
    generalize (arg8.view.writes (Elt F) arg8.view.junk (kernelRun0_A.sl.HS1_10 (F := F) c i arg3 harg3 arg4 harg4 arg5 harg5 arg6 harg6 arg7 harg7 arg8 harg8 x0 x1 x2)) = f at h ⊢
    refine Eq.trans ?_ h
    refine congrArg (arg8.view.read (Elt F) f) (funext fun a => Fin.ext ?_)
    match a with
    | ⟨0, _⟩ => show d.val = 0 + 1 * d.val; omega
    | ⟨1, _⟩ => show 512 * 2 + x.val = 1024 + 1 * x.val; omega
  | 3 =>
    have h := congrFun (chain_3 c i arg3 harg3 arg4 harg4 arg5 harg5 arg6 harg6 arg7 harg7 arg8 harg8 x0 x1 x2) (ix2 d x)
    generalize (arg8.view.writes (Elt F) arg8.view.junk (kernelRun0_A.sl.HS1_10 (F := F) c i arg3 harg3 arg4 harg4 arg5 harg5 arg6 harg6 arg7 harg7 arg8 harg8 x0 x1 x2)) = f at h ⊢
    refine Eq.trans ?_ h
    refine congrArg (arg8.view.read (Elt F) f) (funext fun a => Fin.ext ?_)
    match a with
    | ⟨0, _⟩ => show d.val = 0 + 1 * d.val; omega
    | ⟨1, _⟩ => show 512 * 3 + x.val = 1536 + 1 * x.val; omega

/-- The value rows, read at a chain's column. -/
theorem v569_apply (u : Fin 4) (x : Fin 512) (d : Fin 128) :
    kernelRun0_A.sl.v569 (F := F) c i arg3 harg3 arg4 harg4 arg5 harg5 arg6 harg6 arg7 harg7 arg8 harg8 x0 x1 x2 (ix2 d (qcol u x))
      = (fin (F := F) x0 x1 x2 (i 2).val u).2 (ix2 (⟨d.val, by have := d.isLt; omega⟩ : Fin 144) x) := by
  refine Eq.trans ?_ (rows_read c i arg3 harg3 arg4 harg4 arg5 harg5 arg6 harg6 arg7 harg7 arg8 harg8 x0 x1 x2 u x _)
  unfold kernelRun0_A.sl.v569
  generalize kernelRun0_A.sl.HS1_10 (F := F) c i arg3 harg3 arg4 harg4 arg5 harg5 arg6 harg6 arg7 harg7 arg8 harg8 x0 x1 x2 = L
  unfold View.readCov
  generalize (arg8.view.writes (Elt F) arg8.view.junk L) = f
  refine congrArg (arg8.view.read (Elt F) f) (funext fun a => Fin.ext ?_)
  match a with
  | ⟨0, _⟩ => show 0 + 1 * d.val = d.val; omega
  | ⟨1, _⟩ => show 0 + 1 * (qcol u x).val = (qcol u x).val; omega

/-- The row of total weights, read at a chain's column. -/
theorem v570_apply (u : Fin 4) (x : Fin 512) :
    kernelRun0_A.sl.v570 (F := F) c i arg3 harg3 arg4 harg4 arg5 harg5 arg6 harg6 arg7 harg7 arg8 harg8 x0 x1 x2 (ix2 (0 : Fin 1) (qcol u x))
      = (fin (F := F) x0 x1 x2 (i 2).val u).2 (ix2 (128 : Fin 144) x) := by
  refine Eq.trans ?_ (rows_read c i arg3 harg3 arg4 harg4 arg5 harg5 arg6 harg6 arg7 harg7 arg8 harg8 x0 x1 x2 u x _)
  unfold kernelRun0_A.sl.v570
  generalize kernelRun0_A.sl.HS1_10 (F := F) c i arg3 harg3 arg4 harg4 arg5 harg5 arg6 harg6 arg7 harg7 arg8 harg8 x0 x1 x2 = L
  unfold View.readCov
  generalize (arg8.view.writes (Elt F) arg8.view.junk L) = f
  refine congrArg (arg8.view.read (Elt F) f) (funext fun a => Fin.ext ?_)
  match a with
  | ⟨0, _⟩ => rfl
  | ⟨1, _⟩ => show 0 + 1 * (qcol u x).val = (qcol u x).val; omega

/-- An element of the block the body hands out. -/
theorem pay3_apply (a : Vec F S128x2048 .f32) (w : Vec F S1x2048 .f32) (y : Fin 2048) (d : Fin 128) :
    k0_pay3 (F := F) a w (ix3 (0 : Fin 1) y d) = FloatOps.truncf .bf16 bitsLt_bf16_f32 (FloatOps.divf (a (ix2 d y)) (w (ix2 (0 : Fin 1) y))) := by
  unfold k0_pay3
  rw [shapeCast_ab_1ab_apply]
  show FloatOps.truncf .bf16 bitsLt_bf16_f32 (transpose ⟨2, ![2048, 128]⟩ [1, 0] (divf a (broadcastTo S128x2048 w broadcasts_S1x2048_S128x2048)) transposes_S128x2048_p1_0_S2048x128 (ix2 y d)) = _
  rw [transpose_ix2_apply]
  show FloatOps.truncf .bf16 bitsLt_bf16_f32 (FloatOps.divf (a (ix2 d y)) (broadcastTo ⟨2, ![128, 2048]⟩ w broadcasts_S1x2048_S128x2048 (ix2 d y))) = _
  rw [broadcastTo_1b_ab_apply]

/-- An element of the block a grid point leaves. -/
theorem out_apply (u : Fin 4) (x : Fin 512) (d : Fin 128) :
    out0_A_3 (F := F) c i arg3 harg3 arg4 harg4 arg5 harg5 arg6 harg6 arg7 harg7 arg8 harg8 x0 x1 x2 (ix3 (0 : Fin 1) (qcol u x) d)
      = FloatOps.truncf .bf16 bitsLt_bf16_f32 (FloatOps.divf ((fin (F := F) x0 x1 x2 (i 2).val u).2 (ix2 (⟨d.val, by have := d.isLt; omega⟩ : Fin 144) x))
          ((fin (F := F) x0 x1 x2 (i 2).val u).2 (ix2 (128 : Fin 144) x))) := by
  rw [← v569_apply c i arg3 harg3 arg4 harg4 arg5 harg5 arg6 harg6 arg7 harg7 arg8 harg8 x0 x1 x2 u x d,
    ← v570_apply c i arg3 harg3 arg4 harg4 arg5 harg5 arg6 harg6 arg7 harg7 arg8 harg8 x0 x1 x2 u x, ← pay3_apply]
  unfold out0_A_3
  show VO0_3.read (Elt F) (VO0_3.writes (Elt F) VO0_3.junk [⟨Rect.unit (s := S1x2048x128) ![0, 0, 0] S1x2048x128.size inb_S1x2048x128_S1x2048x128_0_0_0,
    k0_pay3 (kernelRun0_A.sl.v569 (F := F) c i arg3 harg3 arg4 harg4 arg5 harg5 arg6 harg6 arg7 harg7 arg8 harg8 x0 x1 x2) (kernelRun0_A.sl.v570 (F := F) c i arg3 harg3 arg4 harg4 arg5 harg5 arg6 harg6 arg7 harg7 arg8 harg8 x0 x1 x2)⟩]) _ = _
  generalize k0_pay3 (kernelRun0_A.sl.v569 (F := F) c i arg3 harg3 arg4 harg4 arg5 harg5 arg6 harg6 arg7 harg7 arg8 harg8 x0 x1 x2) (kernelRun0_A.sl.v570 (F := F) c i arg3 harg3 arg4 harg4 arg5 harg5 arg6 harg6 arg7 harg7 arg8 harg8 x0 x1 x2) = w
  have h := View.read_writes_cons_emb (v := VO0_3) (Val := Elt F) (f := VO0_3.junk) (Rect.unit (s := S1x2048x128) ![0, 0, 0] S1x2048x128.size inb_S1x2048x128_S1x2048x128_0_0_0) w [] (ix3 (0 : Fin 1) (qcol u x) d)
  refine Eq.trans (congrArg _ (funext fun a => Fin.ext ?_)) h
  match a with
  | ⟨0, _⟩ => rfl
  | ⟨1, _⟩ => show (qcol u x).val = 0 + 1 * (qcol u x).val; omega
  | ⟨2, _⟩ => show d.val = 0 + 1 * d.val; omega

end Cert.Att
-- ==== Proof.Host.lean ====
/- The three arrays the call reads, element by element, as functions of the arguments. -/
module

public import proofs.«01_k».proof.Proof.Mean
public import proofs.«01_k».proof.Proof.Gen.KernelIdeal.Frame
public import Idealize.ShloMosaic.Lib.ValueLayout
public import Idealize.ShloMosaic.Lib.ValueIdx
public import Idealize.ShloMosaic.Lib.IdealHost
public import Idealize.ShloMosaic.Lib.StableHlo.Run

@[expose] public section

set_option maxRecDepth 8192
set_option maxHeartbeats 200000

noncomputable section

namespace Cert.Att

open Idealize.ShloMosaic Idealize.ShloMosaic.TcCoe Idealize.ShloMosaic.ValueIdx
open Cert.KernelIdeal Cert.KernelIdeal.Gen

/-- The factor the queries carry: one over the root of 192 times the logarithm of 2. -/
def scale : ℝ := 1 / (Real.sqrt 192 * Real.log 2)

theorem bits_192 : (FloatOps.ofBits (F := Ideal) .f32 0x43400000#32 : Ideal .f32) = ((192 : ℝ) : EReal) := by
  show Ideal.ofBits .f32 0x43400000#32 = _
  simp [Ideal.ofBits, Ideal.ieee]
  rw [← EReal.coe_mul]
  norm_num

theorem bits_two : (FloatOps.ofBits (F := Ideal) .f32 0x40000000#32 : Ideal .f32) = ((2 : ℝ) : EReal) := by
  show Ideal.ofBits .f32 0x40000000#32 = _
  simp [Ideal.ofBits, Ideal.ieee]
  rw [← EReal.coe_mul]
  norm_num

theorem bits_one : (FloatOps.ofBits (F := Ideal) .f32 0x3F800000#32 : Ideal .f32) = ((1 : ℝ) : EReal) := by
  show Ideal.ofBits .f32 0x3F800000#32 = _
  simp [Ideal.ofBits, Ideal.ieee]
  rw [← EReal.coe_one, ← EReal.coe_mul]
  norm_num

theorem bits_one16 : (FloatOps.ofBits (F := Ideal) .bf16 0x3F80#16 : Ideal .bf16) = (1 : EReal) := by
  show Ideal.ofBits .bf16 0x3F80#16 = _
  simp [Ideal.ofBits, Ideal.ieee]
  rw [← EReal.coe_one, ← EReal.coe_mul]
  norm_num

/-- The host's root of 192. -/
theorem root_192 : FloatOps.hostUnary (F := Ideal) (φ := .f32) .sqrt (FloatOps.ofBits .f32 0x43400000#32) = ((Real.sqrt 192 : ℝ) : EReal) := by
  rw [bits_192]
  show Ideal.sqrt ((192 : ℝ) : EReal) = _
  rw [Ideal.sqrt_coe, if_neg (by norm_num)]

/-- The host's logarithm of 2. -/
theorem log_two : FloatOps.hostUnary (F := Ideal) (φ := .f32) .log (FloatOps.ofBits .f32 0x40000000#32) = ((Real.log 2 : ℝ) : EReal) := by
  rw [bits_two]
  show Ideal.log ((2 : ℝ) : EReal) = _
  exact if_neg (by norm_num)

/-- The factor the host computes. -/
theorem host_scale : FloatOps.hostDivf (F := Ideal) (φ := .f32) (FloatOps.ofBits .f32 0x3F800000#32)
    (FloatOps.mulf (FloatOps.hostUnary .sqrt (FloatOps.ofBits .f32 0x43400000#32)) (FloatOps.hostUnary .log (FloatOps.ofBits .f32 0x40000000#32))) = (scale : EReal) := by
  rw [root_192, log_two, bits_one]
  show Ideal.div ((1 : ℝ) : EReal) (((Real.sqrt 192 : ℝ) : EReal) * ((Real.log 2 : ℝ) : EReal)) = _
  rw [← EReal.coe_mul, Ideal.div_coe (mul_ne_zero (Real.sqrt_ne_zero'.2 (by norm_num)) (Real.log_pos (by norm_num)).ne'), ← EReal.coe_mul, one_mul]
  rfl

variable (m : (ℓ : Loc nD τ sig) → Buf (Elt Ideal) ℓ) (c : Dev nD)

/-- The queries. -/
abbrev A0 : S4x8192x8x192.Idx → EReal := m ((c : Thread nD τ).loc main_arg0)
/-- The keys. -/
abbrev A1 : S4x8192x8x192.Idx → EReal := m ((c : Thread nD τ).loc main_arg1)
/-- The values. -/
abbrev A2 : S4x8192x8x128.Idx → EReal := m ((c : Thread nD τ).loc main_arg2)
/-- The queries as the call reads them. -/
abbrev B0 : S4x8x192x8192.Idx → EReal := V m c main_v7
/-- The keys as the call reads them. -/
abbrev B1 : S4x8x8192x192.Idx → EReal := V m c main_v9
/-- The values as the call reads them. -/
abbrev B2 : S4x8x16x144x512.Idx → EReal := V m c main_v15

/-- The queries the call reads: scaled, with the features before the positions. -/
theorem qt_apply (b : Fin 4) (h : Fin 8) (d : Fin 192) (q : Fin 8192) :
    B0 m c (ix4 b h d q) = A0 m c (ix4 b q h d) * (scale : EReal) := by
  have e : B0 m c = (transpose S4x8x192x8192 [0, 2, 3, 1] (mulf (F := Ideal) (φ := .f32) (A0 m c)
      (broadcastInDim S4x8192x8x192 ![] bcast_S_S4x8192x8x192 (Host.divf (constant S_ .f32 0x3F800000#32) (mulf (Host.sqrt (constant S_ .f32 0x43400000#32)) (Host.log (constant S_ .f32 0x40000000#32)))))) transposes_S4x8192x8x192_S4x8x192x8192_0_2_3_1 : Vec Ideal S4x8x192x8192 .f32) := by
    show StableHlo.after hostOps0 _ _ = _
    after_results_simp <;> rfl
  rw [e]
  refine (transpose_apply [0, 2, 3, 1] _ transposes_S4x8192x8x192_S4x8x192x8192_0_2_3_1 (ix4 b h d q) (ix4 b q h d) (fun b => match b with | 0 => rfl | 1 => rfl | 2 => rfl | 3 => rfl)).trans ?_
  exact congrArg (fun z : EReal => A0 m c (ix4 b q h d) * z) ((broadcastInDim_scalar_apply bcast_S_S4x8192x8x192 _ _).trans host_scale)

/-- The keys the call reads: a key's features along the last axis. -/
theorem kk_apply (b : Fin 4) (h : Fin 8) (k : Fin 8192) (d : Fin 192) :
    B1 m c (ix4 b h k d) = A1 m c (ix4 b k h d) := by
  have e : B1 m c = (truncf (F := Ideal) (φ := .f32) .bf16 (transpose S4x8x8192x192 [0, 2, 1, 3] (A1 m c) transposes_S4x8192x8x192_S4x8x8192x192_0_2_1_3) bitsLt_bf16_f32 : Vec Ideal S4x8x8192x192 .bf16) := by
    show StableHlo.after hostOps0 _ _ = _
    after_results_simp <;> rfl
  rw [e]
  exact transpose_apply _ _ _ (ix4 b h k d) (ix4 b k h d) (fun b => match b with | 0 => rfl | 1 => rfl | 2 => rfl | 3 => rfl)

/-- The pieces joined along the rows of a block of values. -/
theorem three_rows (x1 : S4x8x16x128x512.Idx → Ideal .bf16) (x2 : S4x8x16x1x512.Idx → Ideal .bf16) (x3 : S4x8x16x15x512.Idx → Ideal .bf16)
    (hc : Shape.Concatenates [S4x8x16x128x512, S4x8x16x1x512, S4x8x16x15x512] S4x8x16x144x512 3)
    (b : Fin 4) (h : Fin 8) (j : Fin 16) (d : Fin 144) (r : Fin 512) :
    (∀ hd : d.val < 128, concatenate S4x8x16x144x512 3 [⟨S4x8x16x128x512, x1⟩, ⟨S4x8x16x1x512, x2⟩, ⟨S4x8x16x15x512, x3⟩] hc (ix5 b h j d r) = x1 (ix5 b h j ⟨d.val, hd⟩ r))
    ∧ (d.val = 128 → concatenate S4x8x16x144x512 3 [⟨S4x8x16x128x512, x1⟩, ⟨S4x8x16x1x512, x2⟩, ⟨S4x8x16x15x512, x3⟩] hc (ix5 b h j d r) = x2 (ix5 b h j 0 r)) := by
  have PF : d.val < [128, 1, 15].sum := d.isLt
  let xs : List ((s : Shape) × (s.Idx → Ideal .bf16)) := [⟨S4x8x16x128x512, x1⟩, ⟨S4x8x16x1x512, x2⟩, ⟨S4x8x16x15x512, x3⟩]
  have HR : ∀ kr : (k : Fin 3) × Fin ([128, 1, 15][k]), (xs[kr.1.val]'(kr.1.isLt)).1.rank = S4x8x16x144x512.rank := fun kr => by
    match kr with
    | ⟨⟨0, _⟩, _⟩ => rfl
    | ⟨⟨1, _⟩, _⟩ => rfl
    | ⟨⟨2, _⟩, _⟩ => rfl
  have HK : ∀ kr : (k : Fin 3) × Fin ([128, 1, 15][k]), ∀ b : Fin (xs[kr.1.val]'(kr.1.isLt)).1.rank, b.cast (HR kr) = (3 : Fin 5) →
      [128, 1, 15][kr.1] = (xs[kr.1.val]'(kr.1.isLt)).1.size b := fun kr b hb => by
    match kr with
    | ⟨⟨0, _⟩, _⟩ => obtain rfl : b = (3 : Fin 5) := hb; rfl
    | ⟨⟨1, _⟩, _⟩ => obtain rfl : b = (3 : Fin 5) := hb; rfl
    | ⟨⟨2, _⟩, _⟩ => obtain rfl : b = (3 : Fin 5) := hb; rfl
  have HB : ∀ kr : (k : Fin 3) × Fin ([128, 1, 15][k]), ∀ b : Fin (xs[kr.1.val]'(kr.1.isLt)).1.rank, b.cast (HR kr) ≠ (3 : Fin 5) →
      S4x8x16x144x512.size (b.cast (HR kr)) = (xs[kr.1.val]'(kr.1.isLt)).1.size b := fun kr b hb => by
    have hm : (xs[kr.1.val]'(kr.1.isLt)).1 ∈ [S4x8x16x128x512, S4x8x16x1x512, S4x8x16x15x512] := by
      match kr with
      | ⟨⟨0, _⟩, _⟩ => simp [xs]
      | ⟨⟨1, _⟩, _⟩ => simp [xs]
      | ⟨⟨2, _⟩, _⟩ => simp [xs]
    exact ((hc.2.1 _ hm).2 (b.cast (HR kr)) hb).symm
  have key : concatenate S4x8x16x144x512 3 xs hc (ix5 b h j d r) = (fun kr : (k : Fin 3) × Fin ([128, 1, 15][k]) =>
      (xs[kr.1.val]'(kr.1.isLt)).2 (fun e => if he : e.cast (HR kr) = (3 : Fin 5) then kr.2.cast (HK kr e he) else ((ix5 b h j d r : S4x8x16x144x512.Idx) (e.cast (HR kr))).cast (HB kr e he)))
      (locate [128, 1, 15] d.val PF) := rfl
  refine ⟨fun hd => ?_, fun hd => ?_⟩
  · have HL : locate [128, 1, 15] d.val PF = ⟨(0 : Fin 3), ⟨d.val, hd⟩⟩ := by rw [locate, dif_pos hd]; rfl
    refine key.trans ?_
    rw [HL]
    show x1 _ = x1 _
    congr 1
    funext e
    match e with
    | ⟨0, _⟩ => rfl
    | ⟨1, _⟩ => rfl
    | ⟨2, _⟩ => rfl
    | ⟨3, _⟩ => rfl
    | ⟨4, _⟩ => rfl
  · have HL : locate [128, 1, 15] d.val PF = ⟨(1 : Fin 3), ⟨0, Nat.zero_lt_one⟩⟩ := by
      obtain ⟨d, hd'⟩ := d
      obtain rfl : d = 128 := hd
      rfl
    refine key.trans ?_
    rw [HL]
    show x2 _ = x2 _
    congr 1
    funext e
    match e with
    | ⟨0, _⟩ => rfl
    | ⟨1, _⟩ => rfl
    | ⟨2, _⟩ => rfl
    | ⟨3, _⟩ => rfl
    | ⟨4, _⟩ => rfl

/-- The values the call reads: a block of 512 keys to a tile, its features along the rows, and below them a row of ones. -/
theorem vt_apply (b : Fin 4) (h : Fin 8) (j : Fin 16) (d : Fin 144) (r : Fin 512) :
    (∀ hd : d.val < 128, B2 m c (ix5 b h j d r)
      = A2 m c (ix4 b ⟨512 * j.val + r.val, by have := j.isLt; have := r.isLt; omega⟩ h ⟨d.val, hd⟩))
    ∧ (d.val = 128 → B2 m c (ix5 b h j d r) = (1 : EReal)) := by
  have e : B2 m c = (concatenate S4x8x16x144x512 3 [⟨S4x8x16x128x512, (transpose S4x8x16x128x512 [0, 3, 1, 4, 2]
      (shapeCast S4x16x512x8x128 (A2 m c) shapeCasts_S4x8192x8x128_S4x16x512x8x128 : Vec Ideal S4x16x512x8x128 .f32)
      transposes_S4x16x512x8x128_S4x8x16x128x512_0_3_1_4_2 : Vec Ideal S4x8x16x128x512 .f32)⟩,
      ⟨S4x8x16x1x512, (broadcastInDim S4x8x16x1x512 ![] bcast_S_S4x8x16x1x512 (constant (F := Ideal) S_ .bf16 0x3F80#16) : Vec Ideal S4x8x16x1x512 .bf16)⟩,
      ⟨S4x8x16x15x512, (broadcastInDim S4x8x16x15x512 ![] bcast_S_S4x8x16x15x512 (constant (F := Ideal) S_ .bf16 0x0000#16) : Vec Ideal S4x8x16x15x512 .bf16)⟩]
      concatenates_S4x8x16x128x512_S4x8x16x1x512_S4x8x16x15x512_S4x8x16x144x512_d3 : Vec Ideal S4x8x16x144x512 .bf16) := by
    show StableHlo.after hostOps0 _ _ = _
    after_results <;> rfl
  rw [e]
  refine ⟨fun hd => ?_, fun hd => ?_⟩
  · refine ((three_rows _ _ _ _ b h j d r).1 hd).trans ?_
    refine (transpose_apply [0, 3, 1, 4, 2] _ transposes_S4x16x512x8x128_S4x8x16x128x512_0_3_1_4_2 (ix5 b h j (⟨d.val, hd⟩ : Fin 128) r) (ix5 b j r h (⟨d.val, hd⟩ : Fin 128)) (fun b => match b with | 0 => rfl | 1 => rfl | 2 => rfl | 3 => rfl | 4 => rfl)).trans ?_
    refine shapeCast_apply _ _ _ _ ?_
    rw [Shape.rowMajor_val_four, Shape.rowMajor_val_five]
    show ((b.val * 8192 + (512 * j.val + r.val)) * 8 + h.val) * 128 + d.val = (((b.val * 16 + j.val) * 512 + r.val) * 8 + h.val) * 128 + d.val
    ring
  · refine ((three_rows _ _ _ _ b h j d r).2 hd).trans ?_
    rw [broadcastInDim_scalar_apply]
    exact bits_one16

end Cert.Att

end
-- ==== Proof.RefTerm.lean ====
/- The reference's result, element by element: a softmax-weighted sum of values. -/
module

public import proofs.«01_k».proof.Proof.Column
public import proofs.«01_k».proof.Proof.Host
public import proofs.«01_k».proof.Proof.Gen.ReferenceIdeal.Read
public import Idealize.ShloMosaic.Lib.KernelVsHost

@[expose] public section

set_option maxRecDepth 8192
set_option maxHeartbeats 200000

noncomputable section

namespace Cert.Att

open Idealize.ShloMosaic Idealize.ShloMosaic.TcCoe Idealize.ShloMosaic.ValueIdx
open Cert.ReferenceIdeal Cert.ReferenceIdeal.Gen Cert.ReferenceIdeal.Read

variable (x0 x1 : S4x8192x8x192.Idx → EReal) (x2 : S4x8192x8x128.Idx → EReal) (b : Fin 4) (h : Fin 8) (q : Fin 8192) (d : Fin 128)

/-- The score of query `q` with key `k`: their product over the root of 192, or −∞ if the key comes later. -/
def X (k : ℕ) : EReal :=
  if k ≤ q.val then Ideal.div (∑ d : Fin 192, x0 (ix4 b q h d) * x1 (ix4 b (key k) h d)) ((Real.sqrt 192 : ℝ) : EReal) else ⊥

/-- The greatest score of query `q`. -/
def top : EReal := (Finset.range 8192).sup (X x0 x1 b h q)

/-- Attention: the values weighted by the softmax of the scores. -/
def att : EReal :=
  ∑ k ∈ Finset.range 8192, x2 (ix4 b (key k) h d) * Ideal.div (Ideal.exp (X x0 x1 b h q k - top x0 x1 b h q))
    (∑ j ∈ Finset.range 8192, Ideal.exp (X x0 x1 b h q j - top x0 x1 b h q))

theorem key_val (k : Fin 8192) : key k.val = k := Fin.ext (Nat.mod_eq_of_lt k.isLt)

/-- The reference's masked scores. -/
theorem ref_score (k : Fin 8192) : val_main_v11 (F := Ideal) x0 x1 (ix4 b h q k) = X x0 x1 b h q k.val := by
  have hd : val_main_v3 (F := Ideal) x0 x1 (ix4 b h q k)
      = Ideal.div (∑ d : Fin 192, x0 (ix4 b q h d) * x1 (ix4 b k h d)) ((Real.sqrt 192 : ℝ) : EReal) := by
    rw [val_main_v3_apply, val_main_v2_apply, val_main_v1_apply, val_main_cst_apply, root_192, val_main_v0_apply]
    have e1 : ∀ d : Fin 192, lidx_main_v0 (ix4 b h q k) d = ix4 b q h d := fun d => by
      funext a
      match a with
      | ⟨0, _⟩ => rfl
      | ⟨1, _⟩ => rfl
      | ⟨2, _⟩ => rfl
      | ⟨3, _⟩ => rfl
    have e2 : ∀ d : Fin 192, ridx_main_v0 (ix4 b h q k) d = ix4 b k h d := fun d => by
      funext a
      match a with
      | ⟨0, _⟩ => rfl
      | ⟨1, _⟩ => rfl
      | ⟨2, _⟩ => rfl
      | ⟨3, _⟩ => rfl
    simp only [e1, e2]
    rfl
  have hm : val_main_call0_v1 (F := Ideal) (ix4 b h q k) = if k.val ≤ q.val then 1#1 else 0#1 := by
    rw [val_main_call0_v1_apply, val_main_v10_apply, val_main_v8_apply, val_main_v9_apply, val_main_v5_apply, val_main_v7_apply,
      val_main_v4_apply, val_main_v6_apply]
    exact sle_small _ _ k.isLt q.isLt
  have hb : val_main_call0_v2 (F := Ideal) (ix4 b h q k) = ⊥ := by
    rw [val_main_call0_v2_apply, val_main_call0_v0_apply, val_main_cst_0_apply, bits_bot]
  rw [val_main_v11_apply, hd, hm, hb, X, key_val]
  by_cases hk : k.val ≤ q.val
  · rw [if_pos hk, if_pos hk]; rfl
  · rw [if_neg hk, if_neg hk]; rfl

theorem red_score : S4x8x8192x8192.Reduces [3] S4x8x8192 := by decide

/-- The reference's greatest score. -/
theorem ref_top : val_main_v14 (F := Ideal) x0 x1 (ix3 b h q) = top x0 x1 b h q := by
  have hs := ref_score x0 x1 b h q
  rw [val_main_v14_apply, val_main_v13_apply, val_main_cst_2_apply, bits_bot]
  unfold val_main_v12 val_main_cst_1
  rw [hostReduce_maximumf_eq_multiReduction _ _ _ _ red_score (by decide) (by decide)]
  generalize val_main_v11 (F := Ideal) x0 x1 = y at hs
  refine eq_of_forall_ge_iff fun c => ?_
  refine Iff.trans (show max _ _ ≤ c ↔ _ from max_le_iff) ?_
  rw [Ideal.multiReduction_maximumf_single, Finset.fold_max_le, bits_bot, top, Finset.sup_le_iff]
  have e : ∀ r : Fin 8192, red_score.lift (ix3 b h q) r = ix4 b h q r := fun r => by
    funext a; apply Fin.ext
    match a with
    | ⟨0, _⟩ => rfl
    | ⟨1, _⟩ => rfl
    | ⟨2, _⟩ => rfl
    | ⟨3, _⟩ => rfl
  constructor
  · rintro ⟨_, _, H⟩ k hk
    have hk := Finset.mem_range.1 hk
    have := H ⟨k, hk⟩ (Finset.mem_univ _)
    rw [← hs ⟨k, hk⟩, ← e ⟨k, hk⟩]
    exact this
  · intro H
    refine ⟨bot_le, bot_le, fun r _ => ?_⟩
    show y (red_score.lift (ix3 b h q) r) ≤ c
    rw [e r, hs r]
    exact H _ (Finset.mem_range.2 r.isLt)

/-- The reference's exponentials. -/
theorem ref_exp (k : Fin 8192) : val_main_v18 (F := Ideal) x0 x1 (ix4 b h q k) = Ideal.exp (X x0 x1 b h q k.val - top x0 x1 b h q) := by
  rw [val_main_v18_apply, val_main_v17_apply, val_main_v16_apply, val_main_v15_apply, ref_score]
  have e : idx_main_v15 (idx_main_v16 (ix4 b h q k)) = ix3 b h q := by
    funext a
    match a with
    | ⟨0, _⟩ => rfl
    | ⟨1, _⟩ => rfl
    | ⟨2, _⟩ => rfl
  rw [e, ref_top]
  rfl

/-- The reference's normalizer. -/
theorem ref_norm : val_main_v19 (F := Ideal) x0 x1 (ix3 b h q) = ∑ j ∈ Finset.range 8192, Ideal.exp (X x0 x1 b h q j - top x0 x1 b h q) := by
  rw [val_main_v19_apply, val_main_cst_3_apply, bits_zero, zero_add, Finset.sum_range]
  refine Finset.sum_congr rfl fun k _ => ?_
  have e : idx_main_v19 (ix3 b h q) k = ix4 b h q k := by
    funext a
    match a with
    | ⟨0, _⟩ => rfl
    | ⟨1, _⟩ => rfl
    | ⟨2, _⟩ => rfl
    | ⟨3, _⟩ => rfl
  rw [e, ref_exp]

/-- The reference's element for query `q`, head `h`, feature `d`. -/
theorem ref_apply (hp : 128 * h.val + d.val < 1024) :
    val_main_v26 (F := Ideal) x0 x1 x2 (ix3 b q (⟨128 * h.val + d.val, hp⟩ : Fin 1024)) = att x0 x1 x2 b h q d := by
  rw [val_main_v26_apply, val_main_v25_apply, val_main_v24_apply]
  have e : idx_main_v24 (idx_main_v25 (ix3 b q (⟨128 * h.val + d.val, hp⟩ : Fin 1024))) = ix4 b h d q := by
    have hb := b.isLt; have hh := h.isLt; have hq := q.isLt; have hd := d.isLt
    funext a; apply Fin.ext
    match a with
    | ⟨0, _⟩ => show ((b.val * 8192 + q.val) * 1024 + (128 * h.val + d.val)) / 8388608 = b.val; omega
    | ⟨1, _⟩ => show ((b.val * 8192 + q.val) * 1024 + (128 * h.val + d.val)) / 128 % 8 = h.val; omega
    | ⟨2, _⟩ => show ((b.val * 8192 + q.val) * 1024 + (128 * h.val + d.val)) % 128 = d.val; omega
    | ⟨3, _⟩ => show ((b.val * 8192 + q.val) * 1024 + (128 * h.val + d.val)) / 1024 % 8192 = q.val; omega
  rw [e]
  refine (val_main_v23_apply x0 x1 x2 (ix4 b h d q)).trans ?_
  rw [att, Finset.sum_range]
  refine Finset.sum_congr rfl fun k _ => ?_
  have e1 : lidx_main_v23 (ix4 b h d q) k = ix4 b k h d := by
    funext a
    match a with
    | ⟨0, _⟩ => rfl
    | ⟨1, _⟩ => rfl
    | ⟨2, _⟩ => rfl
    | ⟨3, _⟩ => rfl
  have e2 : ridx_main_v23 (ix4 b h d q) k = ix4 b h q k := by
    funext a
    match a with
    | ⟨0, _⟩ => rfl
    | ⟨1, _⟩ => rfl
    | ⟨2, _⟩ => rfl
    | ⟨3, _⟩ => rfl
  have e3 : idx_main_v20 (idx_main_v21 (ix4 b h q k)) = ix3 b h q := by
    funext a
    match a with
    | ⟨0, _⟩ => rfl
    | ⟨1, _⟩ => rfl
    | ⟨2, _⟩ => rfl
  rw [e1, e2, val_main_v22_apply, ref_exp, val_main_v21_apply, val_main_v20_apply, e3, ref_norm, key_val]
  rfl

end Cert.Att

end
-- ==== Proof.Point.lean ====
/- A grid point's block is attention, once what it read are the arguments' blocks. -/
module

public import proofs.«01_k».proof.Proof.Out
public import proofs.«01_k».proof.Proof.RefTerm

@[expose] public section

set_option maxRecDepth 8192
set_option maxHeartbeats 200000

noncomputable section

namespace Cert.Att

open Idealize.ShloMosaic Idealize.ShloMosaic.TcCoe Idealize.ShloMosaic.ValueIdx
open Cert.KernelIdeal Cert.KernelIdeal.Gen

/-- Query `y` of tile `t`. -/
def qpos (t : Fin 4) (y : Fin 2048) : Fin 8192 := ⟨2048 * t.val + y.val, by have := t.isLt; have := y.isLt; omega⟩

/-- What a grid point reads: the blocks of batch `b`, head `h` and query tile `t`. -/
structure Reads (x0 : Vec Ideal S1x1x192x2048 .bf16) (x1 : Vec Ideal S1x1x8192x192 .bf16) (x2 : Vec Ideal S1x1x16x144x512 .bf16)
    (a0 a1 : S4x8192x8x192.Idx → EReal) (a2 : S4x8192x8x128.Idx → EReal) (b : Fin 4) (h : Fin 8) (t : Fin 4) : Prop where
  q : ∀ d y, x0 (ix4 (0 : Fin 1) (0 : Fin 1) d y) = a0 (ix4 b (qpos t y) h d) * (scale : EReal)
  k : ∀ k d, x1 (ix4 (0 : Fin 1) (0 : Fin 1) k d) = a1 (ix4 b k h d)
  v : ∀ (j : Fin 16) (d : Fin 144) (r : Fin 512) (hd : d.val < 128), x2 (ix5 (0 : Fin 1) (0 : Fin 1) j d r)
    = a2 (ix4 b (⟨512 * j.val + r.val, by have := j.isLt; have := r.isLt; omega⟩ : Fin 8192) h (⟨d.val, hd⟩ : Fin 128))
  o : ∀ (j : Fin 16) (d : Fin 144) (r : Fin 512), d.val = 128 → x2 (ix5 (0 : Fin 1) (0 : Fin 1) j d r) = (1 : EReal)

section Block

variable {x0 : Vec Ideal S1x1x192x2048 .bf16} {x1 : Vec Ideal S1x1x8192x192 .bf16} {x2 : Vec Ideal S1x1x16x144x512 .bf16}
  {a0 a1 : S4x8192x8x192.Idx → EReal} {a2 : S4x8192x8x128.Idx → EReal} {b : Fin 4} {h : Fin 8} {t : Fin 4}

/-- Over finite queries and keys, the reference's score is real and the kernel's is it over the logarithm of 2; or both are −∞. -/
theorem score_cases (R : Reads x0 x1 x2 a0 a1 a2 b h t) (h0 : ∀ i, ∃ r : ℝ, a0 i = r) (h1 : ∀ i, ∃ r : ℝ, a1 i = r) (y : Fin 2048) (k : ℕ) :
    (k ≤ (qpos t y).val → ∃ x : ℝ, X a0 a1 b h (qpos t y) k = x ∧ SM x0 x1 t.val y k = ((x / Real.log 2 : ℝ) : EReal))
    ∧ (¬ k ≤ (qpos t y).val → X a0 a1 b h (qpos t y) k = ⊥ ∧ SM x0 x1 t.val y k = ⊥) := by
  refine ⟨fun hk => ?_, fun hk => ⟨if_neg hk, if_neg hk⟩⟩
  choose f0 hf0 using h0
  choose f1 hf1 using h1
  refine ⟨(∑ d : Fin 192, f0 (ix4 b (qpos t y) h d) * f1 (ix4 b (key k) h d)) / Real.sqrt 192, ?_, ?_⟩
  · rw [X, if_pos hk]
    simp only [hf0, hf1, ← EReal.coe_mul, ← coe_sum]
    rw [Ideal.div_coe (Real.sqrt_ne_zero'.2 (by norm_num)), ← EReal.coe_mul, mul_one_div]
  · rw [SM, if_pos (show k ≤ 2048 * t.val + y.val from hk), SK]
    simp only [R.q, R.k, hf0, hf1, ← EReal.coe_mul, ← coe_sum]
    congr 1
    rw [div_div, Finset.sum_div]
    refine Finset.sum_congr rfl fun d _ => ?_
    rw [scale]; ring

/-- A key's values, as the block keeps them. -/
theorem VK_val (R : Reads x0 x1 x2 a0 a1 a2 b h t) (d : Fin 128) (k : ℕ) :
    VK x2 (⟨d.val, lt_trans d.isLt (by norm_num)⟩ : Fin 144) k = a2 (ix4 b (key k) h d) := by
  rw [VK, R.v _ _ _ d.isLt]
  congr 2
  apply Fin.ext
  show 512 * (k / 512 % 16) + k % 512 = k % 8192
  omega

theorem VK_one (R : Reads x0 x1 x2 a0 a1 a2 b h t) (k : ℕ) : VK x2 (128 : Fin 144) k = 1 := R.o _ _ _ rfl

/-- A chain's quotient is attention. -/
theorem chain_att (R : Reads x0 x1 x2 a0 a1 a2 b h t) (h0 : ∀ i, ∃ r : ℝ, a0 i = r) (h1 : ∀ i, ∃ r : ℝ, a1 i = r)
    (u : Fin 4) (x : Fin 512) (d : Fin 128) :
    Ideal.div ((fin (F := Ideal) x0 x1 x2 t.val u).2 (ix2 (⟨d.val, lt_trans d.isLt (by norm_num)⟩ : Fin 144) x))
      ((fin (F := Ideal) x0 x1 x2 t.val u).2 (ix2 (128 : Fin 144) x)) = att a0 a1 a2 b h (qpos t (qcol u x)) d := by
  have hc := score_cases R h0 h1 (qcol u x)
  have hX : ∀ k, (X a0 a1 b h (qpos t (qcol u x)) k = ⊥ ∧ SM x0 x1 t.val (qcol u x) k = ⊥)
      ∨ ∃ r : ℝ, X a0 a1 b h (qpos t (qcol u x)) k = r ∧ SM x0 x1 t.val (qcol u x) k = ((r / Real.log 2 : ℝ) : EReal) := fun k => by
    by_cases hk : k ≤ (qpos t (qcol u x)).val
    · exact Or.inr ((hc k).1 hk)
    · exact Or.inl ((hc k).2 hk)
  have hXt : ∀ k, X a0 a1 b h (qpos t (qcol u x)) k < ⊤ := fun k => by
    rcases hX k with ⟨e, _⟩ | ⟨r, e, _⟩
    · rw [e]; exact bot_lt_top
    · rw [e]; exact EReal.coe_lt_top r
  have hSt : ∀ k, SM x0 x1 t.val (qcol u x) k < ⊤ := fun k => by
    rcases hX k with ⟨_, e⟩ | ⟨r, _, e⟩
    · rw [e]; exact bot_lt_top
    · rw [e]; exact EReal.coe_lt_top _
  obtain ⟨r0, hr0, hs0⟩ := (hc 0).1 (Nat.zero_le _)
  have hI := fin_inv x0 x1 x2 t.val u x hSt
  generalize fin (F := Ideal) x0 x1 x2 t.val u = p at hI
  have hN : 512 * (4 * t.val + u.val) + 512 ≤ 8192 := by have := t.isLt; have := u.isLt; omega
  have hNp : 0 < 512 * (4 * t.val + u.val) + 512 := Nat.succ_pos _
  have hNk : ∀ k, 512 * (4 * t.val + u.val) + 512 ≤ k → X a0 a1 b h (qpos t (qcol u x)) k = ⊥ := fun k hk =>
    ((hc k).2 (by
      show ¬ k ≤ 2048 * t.val + (512 * u.val + x.val)
      have := x.isLt; omega)).1
  generalize 512 * (4 * t.val + u.val) + 512 = N at hI hN hNp hNk
  obtain ⟨m, hm⟩ := sup_real (Finset.range N) (SM x0 x1 t.val (qcol u x)) hSt 0 (Finset.mem_range.2 hNp) _ hs0
  obtain ⟨M, hM⟩ := sup_real (Finset.range 8192) (X a0 a1 b h (qpos t (qcol u x))) hXt 0 (Finset.mem_range.2 (by norm_num)) _ hr0
  rw [hI.2, hI.2, hm, att, top, hM]
  simp only [VK_val R, VK_one R, one_mul]
  exact soft N 8192 _ _ _ hX hNk hN m M r0 hr0 hNp

end Block

end Cert.Att

end
-- ==== Proof.Final.lean ====
/- The array the call leaves: attention, element by element. -/
module

public import proofs.«01_k».proof.Proof.Point
public import proofs.«01_k».proof.Proof.Gen.KernelIdeal.Value
public import Idealize.ShloMosaic.Lib.Pipeline.ValueKit

@[expose] public section

set_option maxRecDepth 8192
set_option maxHeartbeats 200000

noncomputable section

namespace Cert.Att

open Idealize.ShloMosaic Idealize.ShloMosaic.TcCoe Idealize.ShloMosaic.ValueIdx
open Cert.KernelIdeal Cert.KernelIdeal.Gen

theorem idx0 : ∀ t : Fin cfg0.N, win0_0.index t = ![(grid0.coords t 0).val, (grid0.coords t 1).val, 0, (grid0.coords t 2).val] :=
  (by decide +kernel : ∀ t : Fin grid0.N, _)
theorem idx1 : ∀ t : Fin cfg0.N, win0_1.index t = ![(grid0.coords t 0).val, (grid0.coords t 1).val, 0, 0] :=
  (by decide +kernel : ∀ t : Fin grid0.N, _)
theorem idx2 : ∀ t : Fin cfg0.N, win0_2.index t = ![(grid0.coords t 0).val, (grid0.coords t 1).val, 0, 0, 0] :=
  (by decide +kernel : ∀ t : Fin grid0.N, _)
theorem idx3 : ∀ t : Fin cfg0.N, win0_3.index t = ![(grid0.coords t 0).val, (grid0.coords t 2).val, (grid0.coords t 1).val] :=
  (by decide +kernel : ∀ t : Fin grid0.N, _)

variable (m : (ℓ : Loc nD τ sig) → Buf (Elt Ideal) ℓ) (c : Dev nD)

/-- The batch of a grid point. -/
abbrev gb (t : Fin cfg0.N) : Fin 4 := grid0.coords t 0
/-- The head of a grid point. -/
abbrev gh (t : Fin cfg0.N) : Fin 8 := grid0.coords t 1
/-- The query tile of a grid point. -/
abbrev gt (t : Fin cfg0.N) : Fin 4 := grid0.coords t 2

/-- A grid point reads its batch's, head's and tile's queries, keys and values. -/
theorem reads (t : Fin cfg0.N) : Reads (iblk m c 0 t) (iblk m c 1 t) (iblk m c 2 t) (A0 m c) (A1 m c) (A2 m c) (gb t) (gh t) (gt t) where
  q d y := by
    refine Eq.trans ?_ (qt_apply m c (gb t) (gh t) d (qpos (gt t) y))
    have e := idx0 t
    blk_simp [iblk]
    refine congrArg (V m c main_v7) ?_
    blk_ext [e]
    show (gt t).val * 2048 + y.val = 2048 * (gt t).val + y.val
    omega
  k k d := by
    refine Eq.trans ?_ (kk_apply m c (gb t) (gh t) k d)
    have e := idx1 t
    blk_simp [iblk]
    refine congrArg (V m c main_v9) ?_
    blk_ext [e]
  v j d r hd := by
    refine Eq.trans ?_ ((vt_apply m c (gb t) (gh t) j d r).1 hd)
    have e := idx2 t
    blk_simp [iblk]
    refine congrArg (V m c main_v15) ?_
    blk_ext [e]
  o j d r hd := by
    refine Eq.trans ?_ ((vt_apply m c (gb t) (gh t) j d r).2 hd)
    have e := idx2 t
    blk_simp [iblk]
    refine congrArg (V m c main_v15) ?_
    blk_ext [e]

/-- Attention as the array the call leaves: a row per query, the heads' features side by side. -/
def G (i : S4x8192x1024.Idx) : EReal :=
  att (A0 m c) (A1 m c) (A2 m c) (i 0) (⟨(i 2).val / 128, by have h : (i 2).val < 1024 := (i 2).isLt; omega⟩ : Fin 8) (i 1)
    (⟨(i 2).val % 128, Nat.mod_lt _ (by norm_num)⟩ : Fin 128)

/-- The array at a query, a head and a feature. -/
theorem G_apply (b : Fin 4) (h : Fin 8) (q : Fin 8192) (d : Fin 128) (hp : 128 * h.val + d.val < 1024) :
    G m c (ValueIdx.ix3 b q (⟨128 * h.val + d.val, hp⟩ : Fin 1024)) = att (A0 m c) (A1 m c) (A2 m c) b h q d := by
  have e1 : (⟨(128 * h.val + d.val) / 128, by have := h.isLt; have := d.isLt; omega⟩ : Fin 8) = h := Fin.ext (by
    show (128 * h.val + d.val) / 128 = h.val
    have := d.isLt; omega)
  have e2 : (⟨(128 * h.val + d.val) % 128, Nat.mod_lt _ (by norm_num)⟩ : Fin 128) = d := Fin.ext (by
    show (128 * h.val + d.val) % 128 = d.val
    have := d.isLt; omega)
  exact congrArg₂ (fun h d => att (A0 m c) (A1 m c) (A2 m c) b h q d) e1 e2

/-- The reference's result is attention. -/
theorem ref_G : Cert.ReferenceIdeal.Read.val_main_v26 (F := Ideal) (A0 m c) (A1 m c) (A2 m c) = G m c := by
  funext i
  obtain ⟨b, q, n, rfl⟩ : ∃ (b : Fin 4) (q : Fin 8192) (n : Fin 1024), i = ValueIdx.ix3 b q n := ⟨i 0, i 1, i 2, ValueIdx.eq_ix3 i⟩
  obtain ⟨h, d, hp, rfl⟩ : ∃ (h : Fin 8) (d : Fin 128) (hp : 128 * h.val + d.val < 1024), n = ⟨128 * h.val + d.val, hp⟩ :=
    ⟨⟨n.val / 128, by have := n.isLt; omega⟩, ⟨n.val % 128, Nat.mod_lt _ (by norm_num)⟩, by show 128 * (n.val / 128) + n.val % 128 < 1024; have := n.isLt; omega,
      Fin.ext (by show n.val = 128 * (n.val / 128) + n.val % 128; omega)⟩
  rw [ref_apply]
  exact (G_apply m c b h q d hp).symm

/-- The call's result is attention, over finite queries and keys. -/
theorem final_o (h0 : ∀ i, ∃ r : ℝ, A0 m c i = r) (h1 : ∀ i, ∃ r : ℝ, A1 m c i = r) :
    (dats m 0 c).arrAt 3 cfg0.N = G m c := by
  refine (dats m 0 c).arrAt_eq_of_covers 3 _ (by decide +kernel) fun t hf y => ?_
  have e := idx3 t
  obtain ⟨z, s, d, rfl⟩ : ∃ (z : Fin 1) (s : Fin 2048) (d : Fin 128), y = ValueIdx.ix3 z s d := ⟨y 0, y 1, y 2, ValueIdx.eq_ix3 y⟩
  obtain ⟨u, x, rfl⟩ := qcol_cases s
  obtain rfl : z = 0 := Subsingleton.elim _ _
  have key : (dats m 0 c).after 3 t (ValueIdx.ix3 (0 : Fin 1) (qcol u x) d) = att (A0 m c) (A1 m c) (A2 m c) (gb t) (gh t) (qpos (gt t) (qcol u x)) d := by
    rw [after0_3]
    refine (out_apply c (grid0.coords t) _ _ _ _ _ _ _ _ _ _ _ _ (iblk m c 0 t) (iblk m c 1 t) (iblk m c 2 t) u x d).trans ?_
    exact chain_att (reads m c t) h0 h1 u x d
  blk_simp
  refine key.trans ?_
  have hi : (win0_3.blk t).view.emb (ValueIdx.ix3 (0 : Fin 1) (qcol u x) d) = ValueIdx.ix3 (gb t) (qpos (gt t) (qcol u x)) (⟨128 * (gh t).val + d.val, by have := (gh t).isLt; have := d.isLt; omega⟩ : Fin 1024) := by
    blk_ext [e]
    · show (gt t).val * 2048 + (qcol u x).val = 2048 * (gt t).val + (qcol u x).val
      omega
    · show (gh t).val * 128 + d.val = 128 * (gh t).val + d.val
      omega
  rw [hi]
  exact (G_apply m c _ _ _ _ _).symm

end Cert.Att

end
-- ==== Proof.ProjHost.lean ====
/- The three arrays the input projection reads, element by element, as functions of the arguments. -/
module

public import proofs.«01_k».proof.Proof.ProjRef
public import Idealize.ShloMosaic.Lib.IdealHost
public import Idealize.ShloMosaic.Lib.StableHlo.Run

@[expose] public section

set_option maxRecDepth 8192
set_option maxHeartbeats 200000

noncomputable section

open scoped BigOperators

namespace Cert.Proj

open Idealize.ShloMosaic Idealize.ShloMosaic.TcCoe
open Cert.Kernel2Ideal Cert.Kernel2Ideal.Gen

variable (m : (ℓ : Loc nD τ sig) → Buf (Elt Ideal) ℓ) (c : Dev nD)

/-- The tokens. -/
abbrev A0 : S4x8192x1024.Idx → EReal := m ((c : Thread nD τ).loc main_arg0)
/-- The norm's gains. -/
abbrev A1 : S1024.Idx → EReal := m ((c : Thread nD τ).loc main_arg1)
/-- The weights. -/
abbrev A2 : S1024x4672.Idx → EReal := m ((c : Thread nD τ).loc main_arg2)
/-- The tokens as the call reads them. -/
abbrev B0 : S32768x1024.Idx → EReal := V m c main_v9
/-- The gains as the call reads them. -/
abbrev B1 : S1x1024.Idx → EReal := V m c main_v10
/-- The weights as the call reads them. -/
abbrev B2 : S1024x4736.Idx → EReal := V m c main_v8

/-- The tokens the call reads: batch after batch. -/
theorem tok_apply (r : Fin 32768) (d : Fin 1024) : B0 m c (ValueIdx.ix2 r d) = A0 m c (ValueIdx.ix3 (rb r) (rs r) d) := by
  have e : B0 m c = (shapeCast S32768x1024 (A0 m c) shapeCasts_S4x8192x1024_S32768x1024 : Vec Ideal S32768x1024 .f32) := by
    show StableHlo.after hostOps0 _ _ = _
    after_results_simp <;> rfl
  rw [e]
  refine shapeCast_apply _ _ _ _ ?_
  rw [Shape.rowMajor_val_three, Shape.rowMajor_val_two]
  show (r.val / 8192 * 8192 + r.val % 8192) * 1024 + d.val = r.val * 1024 + d.val
  omega

/-- The gains the call reads. -/
theorem gain_apply (d : Fin 1024) : B1 m c (ValueIdx.ix2 (0 : Fin 1) d) = A1 m c (ValueIdx.ix1 d) := by
  have e : B1 m c = (shapeCast S1x1024 (A1 m c) shapeCasts_S1024_S1x1024 : Vec Ideal S1x1024 .f32) := by
    show StableHlo.after hostOps0 _ _ = _
    after_results_simp <;> rfl
  rw [e]
  exact ValueIdx.shapeCast_a_1a_apply _ _ _ _

/-- The weights' 64 rotary columns. -/
def kpe : S1024x64.Idx → EReal := extractStridedSlice S1024x64 ![0, 2560] (A2 m c) slices_S1024x4672_S1024x64_0_2560

/-- The same turned by a quarter. -/
def turned : S1024x64.Idx → EReal :=
  concatenate S1024x64 1 [⟨S1024x32, (Host.negf (F := Ideal) (φ := .f32) (extractStridedSlice S1024x32 ![0, 32] (kpe m c) slices_S1024x64_S1024x32_0_32) : S1024x32.Idx → EReal)⟩,
    ⟨S1024x32, (extractStridedSlice S1024x32 ![0, 0] (kpe m c) slices_S1024x64_S1024x32_0_0 : S1024x32.Idx → EReal)⟩] concatenates_S1024x32_S1024x32_S1024x64_d1

theorem kpe_apply (d : Fin 1024) (j : Fin 64) : kpe m c (ValueIdx.ix2 d j) = A2 m c (ValueIdx.ix2 d (⟨2560 + j.val, by have := j.isLt; omega⟩ : Fin 4672)) :=
  extractStridedSlice_apply ![0, 2560] (A2 m c) slices_S1024x4672_S1024x64_0_2560 (ValueIdx.ix2 d j) (ValueIdx.ix2 d (⟨2560 + j.val, by have := j.isLt; omega⟩ : Fin 4672)) fun a => match a with
    | ⟨0, _⟩ => (Nat.zero_add _).symm
    | ⟨1, _⟩ => rfl

theorem turned_lo (d : Fin 1024) (j : Fin 64) (h : j.val < 32) :
    turned m c (ValueIdx.ix2 d j) = -A2 m c (ValueIdx.ix2 d (⟨2592 + j.val, by omega⟩ : Fin 4672)) := by
  refine (concatenate_apply_piece (1 : Fin 2) _ _ (ValueIdx.ix2 d j) 0 (by simp) S1024x32 _ rfl rfl 0 rfl
    (ValueIdx.ix2 d (⟨j.val, h⟩ : Fin 32)) (fun b hb => match b, hb with | ⟨0, _⟩, _ => rfl | ⟨1, _⟩, hb => absurd rfl hb) (Nat.zero_add _)).trans ?_
  refine congrArg (fun z : EReal => -z) ?_
  refine (extractStridedSlice_apply ![0, 32] (kpe m c) slices_S1024x64_S1024x32_0_32 _ (ValueIdx.ix2 d (⟨32 + j.val, by omega⟩ : Fin 64)) fun a => match a with
    | ⟨0, _⟩ => (Nat.zero_add _).symm
    | ⟨1, _⟩ => rfl).trans ?_
  rw [kpe_apply]
  exact congrArg (fun n => A2 m c (ValueIdx.ix2 d n)) (Fin.ext (by show 2560 + (32 + j.val) = 2592 + j.val; omega))

theorem turned_hi (d : Fin 1024) (j : Fin 64) (h : ¬ j.val < 32) :
    turned m c (ValueIdx.ix2 d j) = A2 m c (ValueIdx.ix2 d (⟨2528 + j.val, by have := j.isLt; omega⟩ : Fin 4672)) := by
  have hj := j.isLt
  refine (concatenate_apply_piece (1 : Fin 2) _ _ (ValueIdx.ix2 d j) 1 (by simp) S1024x32 _ rfl rfl 32 rfl
    (ValueIdx.ix2 d (⟨j.val - 32, by omega⟩ : Fin 32)) (fun b hb => match b, hb with | ⟨0, _⟩, _ => rfl | ⟨1, _⟩, hb => absurd rfl hb) (by show 32 + (j.val - 32) = j.val; omega)).trans ?_
  refine (extractStridedSlice_apply ![0, 0] (kpe m c) slices_S1024x64_S1024x32_0_0 _ (ValueIdx.ix2 d (⟨j.val - 32, by omega⟩ : Fin 64)) fun a => match a with
    | ⟨0, _⟩ => (Nat.zero_add _).symm
    | ⟨1, _⟩ => (Nat.zero_add _).symm).trans ?_
  rw [kpe_apply]
  exact congrArg (fun n => A2 m c (ValueIdx.ix2 d n)) (Fin.ext (by show 2560 + (j.val - 32) = 2528 + j.val; omega))

/-- The weights' columns as the call reads them: the sixteen heads' and the low-rank ones, the gates', the rotary ones, and those turned. -/
theorem w_eq : B2 m c = (concatenate S1024x4736 1 [⟨S1024x2560, (extractStridedSlice S1024x2560 ![0, 0] (A2 m c) slices_S1024x4672_S1024x2560_0_0 : S1024x2560.Idx → EReal)⟩,
    ⟨S1024x2048, (extractStridedSlice S1024x2048 ![0, 2624] (A2 m c) slices_S1024x4672_S1024x2048_0_2624 : S1024x2048.Idx → EReal)⟩,
    ⟨S1024x64, kpe m c⟩, ⟨S1024x64, turned m c⟩] concatenates_S1024x2560_S1024x2048_S1024x64_S1024x64_S1024x4736_d1 : S1024x4736.Idx → EReal) := by
  show StableHlo.after hostOps0 _ _ = _
  after_results <;> rfl

/-- The first 2560 columns. -/
theorem w_head (d : Fin 1024) (n : Fin 4736) (h : n.val < 2560) : B2 m c (ValueIdx.ix2 d n) = A2 m c (ValueIdx.ix2 d (⟨n.val, by omega⟩ : Fin 4672)) := by
  rw [w_eq]
  refine (concatenate_apply_piece (1 : Fin 2) _ _ (ValueIdx.ix2 d n) 0 (by simp) S1024x2560 _ rfl rfl 0 rfl
    (ValueIdx.ix2 d (⟨n.val, h⟩ : Fin 2560)) (fun b hb => match b, hb with | ⟨0, _⟩, _ => rfl | ⟨1, _⟩, hb => absurd rfl hb) (Nat.zero_add _)).trans ?_
  exact extractStridedSlice_apply ![0, 0] (A2 m c) slices_S1024x4672_S1024x2560_0_0 (ValueIdx.ix2 d (⟨n.val, h⟩ : Fin 2560)) (ValueIdx.ix2 d (⟨n.val, by omega⟩ : Fin 4672)) fun a => match a with
    | ⟨0, _⟩ => (Nat.zero_add _).symm
    | ⟨1, _⟩ => (Nat.zero_add _).symm

/-- The gates' 2048 columns. -/
theorem w_gate (d : Fin 1024) (n : Fin 4736) (h : 2560 ≤ n.val) (h' : n.val < 4608) : B2 m c (ValueIdx.ix2 d n) = A2 m c (ValueIdx.ix2 d (⟨n.val + 64, by omega⟩ : Fin 4672)) := by
  rw [w_eq]
  refine (concatenate_apply_piece (1 : Fin 2) _ _ (ValueIdx.ix2 d n) 1 (by simp) S1024x2048 _ rfl rfl 2560 rfl
    (ValueIdx.ix2 d (⟨n.val - 2560, by omega⟩ : Fin 2048)) (fun b hb => match b, hb with | ⟨0, _⟩, _ => rfl | ⟨1, _⟩, hb => absurd rfl hb) (by show 2560 + (n.val - 2560) = n.val; omega)).trans ?_
  exact extractStridedSlice_apply ![0, 2624] (A2 m c) slices_S1024x4672_S1024x2048_0_2624 (ValueIdx.ix2 d (⟨n.val - 2560, by omega⟩ : Fin 2048)) (ValueIdx.ix2 d (⟨n.val + 64, by omega⟩ : Fin 4672)) fun a => match a with
    | ⟨0, _⟩ => by show d.val = 0 + d.val; omega
    | ⟨1, _⟩ => by show n.val + 64 = 2624 + (n.val - 2560); omega

/-- The 64 rotary columns. -/
theorem w_kpe (d : Fin 1024) (j : Fin 64) : B2 m c (ValueIdx.ix2 d (⟨4608 + j.val, by have := j.isLt; omega⟩ : Fin 4736)) = kpe m c (ValueIdx.ix2 d j) := by
  rw [w_eq]
  exact (concatenate_apply_piece (1 : Fin 2) _ _ (ValueIdx.ix2 d (⟨4608 + j.val, by have := j.isLt; omega⟩ : Fin 4736)) 2 (by simp) S1024x64 _ rfl rfl 4608 rfl
    (ValueIdx.ix2 d j) (fun b hb => match b, hb with | ⟨0, _⟩, _ => rfl | ⟨1, _⟩, hb => absurd rfl hb) rfl).trans rfl

/-- The 64 turned columns. -/
theorem w_turned (d : Fin 1024) (j : Fin 64) : B2 m c (ValueIdx.ix2 d (⟨4672 + j.val, by have := j.isLt; omega⟩ : Fin 4736)) = turned m c (ValueIdx.ix2 d j) := by
  rw [w_eq]
  exact (concatenate_apply_piece (1 : Fin 2) _ _ (ValueIdx.ix2 d (⟨4672 + j.val, by have := j.isLt; omega⟩ : Fin 4736)) 3 (by simp) S1024x64 _ rfl rfl 4672 rfl
    (ValueIdx.ix2 d j) (fun b hb => match b, hb with | ⟨0, _⟩, _ => rfl | ⟨1, _⟩, hb => absurd rfl hb) rfl).trans rfl

end Cert.Proj

end
-- ==== Proof.ProjFinal.lean ====
/- The seven arrays the input projection leaves: the projection's columns, and the rotary ones turned. -/
module

public import proofs.«01_k».proof.Proof.ProjHost
public import proofs.«01_k».proof.Proof.Algebra
public import proofs.«01_k».proof.Proof.Gen.Kernel2Ideal.Value
public import Idealize.ShloMosaic.Lib.Pipeline.ValueKit

@[expose] public section

set_option maxRecDepth 8192
set_option maxHeartbeats 200000

noncomputable section

open scoped BigOperators

namespace Cert.Proj

open Idealize.ShloMosaic Idealize.ShloMosaic.TcCoe
open Cert.Kernel2Ideal Cert.Kernel2Ideal.Gen

theorem bits_rows : Ideal.ofBits .f32 0x44800000#32 = ((1024 : ℝ) : EReal) := by
  simp [Ideal.ofBits, Ideal.ieee]
  rw [← EReal.coe_mul]
  norm_num

/-- The small addend is a positive real. -/
theorem bits_small : ∃ e : ℝ, 0 < e ∧ Ideal.ofBits .f32 0x358637BD#32 = (e : EReal) := by
  simp only [Ideal.ofBits, Ideal.ieee]
  simp
  refine ⟨_, ?_, (EReal.coe_mul _ _).symm⟩
  positivity

/-- A square is not negative. -/
theorem sq_nonneg' (x : EReal) : 0 ≤ x * x := by
  rcases le_total 0 x with h | h
  · exact mul_nonneg h h
  · rw [← neg_mul_neg]
    exact mul_nonneg (EReal.neg_nonneg.2 h) (EReal.neg_nonneg.2 h)

/-- The norm of a row is real when its gains are: a row with an infinite entry is scaled by 0. -/
theorem nrm_real (x g : Fin 1024 → EReal) (hg : ∀ k, ∃ r : ℝ, g k = r) (d : Fin 1024) : ∃ r : ℝ, nrm x g d = r := by
  choose b hb using hg
  obtain ⟨e, he, hE⟩ := bits_small
  by_cases hx : ∀ k, ∃ r : ℝ, x k = r
  · choose a ha using hx
    have hs : (∑ k, x k * x k) = ((∑ k, a k * a k : ℝ) : EReal) := by
      rw [Att.coe_sum]
      exact Finset.sum_congr rfl fun k _ => by rw [ha, EReal.coe_mul]
    have hpos : 0 < (∑ k, a k * a k) * (1 / 1024) + e :=
      add_pos_of_nonneg_of_pos (mul_nonneg (Finset.sum_nonneg fun k _ => mul_self_nonneg _) (by norm_num)) he
    have hr : Ideal.rsqrt (((∑ k, a k * a k) * (1 / 1024) + e : ℝ) : EReal) = (((Real.sqrt ((∑ k, a k * a k) * (1 / 1024) + e))⁻¹ : ℝ) : EReal) := by
      show (if _ < (0 : ℝ) then (⊥ : EReal) else if _ = (0 : ℝ) then ⊤ else _) = _
      rw [if_neg (not_lt.2 hpos.le), if_neg hpos.ne']
    refine ⟨a d * (Real.sqrt ((∑ k, a k * a k) * (1 / 1024) + e))⁻¹ * b d, ?_⟩
    rw [nrm, hs, hE, bits_rows, Ideal.div_coe (by norm_num), ← EReal.coe_mul, ← EReal.coe_add, hr, ha, hb, EReal.coe_mul, EReal.coe_mul]
  · obtain ⟨k, hk⟩ := not_forall.1 hx
    have hsq : x k * x k = ⊤ := by
      match hxk : x k with
      | ⊥ => rfl
      | ⊤ => rfl
      | (r : ℝ) => exact absurd ⟨r, hxk⟩ hk
    have hs : (∑ k, x k * x k) = ⊤ :=
      top_le_iff.1 (hsq.symm.le.trans (Finset.single_le_sum (f := fun k => x k * x k) (fun k _ => sq_nonneg' (x k)) (Finset.mem_univ k)))
    refine ⟨0, ?_⟩
    rw [nrm, hs, hE, bits_rows, Ideal.div_coe (by norm_num), EReal.top_mul_coe_of_pos (by norm_num), EReal.top_add_coe]
    show x d * 0 * g d = 0
    rw [mul_zero, zero_mul]

variable (m : (ℓ : Loc nD τ sig) → Buf (Elt Ideal) ℓ) (c : Dev nD)

/-- The product the call computes: token `r`'s norm times column `n` of the weights as the call reads them. -/
def Q (r : Fin 32768) (n : Fin 4736) : EReal := ∑ d : Fin 1024, U (A0 m c) (A1 m c) r d * B2 m c (ValueIdx.ix2 d n)

theorem Q_head (r : Fin 32768) (n : Fin 4736) (h : n.val < 2560) : Q m c r n = P (A0 m c) (A1 m c) (A2 m c) r ⟨n.val, by omega⟩ :=
  Finset.sum_congr rfl fun d _ => congrArg (fun z : EReal => U (A0 m c) (A1 m c) r d * z) (w_head m c d n h)

theorem Q_gate (r : Fin 32768) (n : Fin 4736) (h : 2560 ≤ n.val) (h' : n.val < 4608) : Q m c r n = P (A0 m c) (A1 m c) (A2 m c) r ⟨n.val + 64, by omega⟩ :=
  Finset.sum_congr rfl fun d _ => congrArg (fun z : EReal => U (A0 m c) (A1 m c) r d * z) (w_gate m c d n h h')

/-- A sum of real products with one factor negated. -/
theorem sum_neg {ι : Type*} [Fintype ι] (u w : ι → EReal) (hu : ∀ d, ∃ r : ℝ, u d = r) (hw : ∀ d, ∃ r : ℝ, w d = r) :
    ∑ d, u d * -w d = -∑ d, u d * w d := by
  choose a ha using hu
  choose b hb using hw
  have h1 : ∑ d, u d * -w d = ((∑ d, a d * -b d : ℝ) : EReal) := by
    rw [Att.coe_sum]
    exact Finset.sum_congr rfl fun d _ => by rw [ha, hb, EReal.coe_mul, EReal.coe_neg]
  have h2 : ∑ d, u d * w d = ((∑ d, a d * b d : ℝ) : EReal) := by
    rw [Att.coe_sum]
    exact Finset.sum_congr rfl fun d _ => by rw [ha, hb, EReal.coe_mul]
  rw [h1, h2, ← EReal.coe_neg, ← Finset.sum_neg_distrib]
  simp only [mul_neg]

/-- The last 128 columns, over real gains and real weights where they are negated. -/
theorem Q_rot (h1 : ∀ i, ∃ r : ℝ, A1 m c i = r)
    (h2 : ∀ (d : Fin 1024) (j : Fin 32), ∃ r : ℝ, A2 m c (ValueIdx.ix2 d (⟨2592 + j.val, by have := j.isLt; omega⟩ : Fin 4672)) = r)
    (r : Fin 32768) (n : Fin 128) :
    Q m c r ⟨4608 + n.val, by have := n.isLt; omega⟩ = rot (A0 m c) (A1 m c) (A2 m c) (ValueIdx.ix2 r n) := by
  have hn := n.isLt
  by_cases h : n.val < 64
  · refine Eq.trans ?_ (dif_pos (c := n.val < 64) h).symm
    refine Finset.sum_congr rfl fun d _ => congrArg (fun z : EReal => U (A0 m c) (A1 m c) r d * z) ?_
    exact (w_kpe m c d ⟨n.val, h⟩).trans (kpe_apply m c d ⟨n.val, h⟩)
  · refine Eq.trans ?_ (dif_neg (c := n.val < 64) h).symm
    have hc : ∀ d, B2 m c (ValueIdx.ix2 d (⟨4608 + n.val, by omega⟩ : Fin 4736)) = turned m c (ValueIdx.ix2 d (⟨n.val - 64, by omega⟩ : Fin 64)) := fun d => by
      have e : (⟨4608 + n.val, by omega⟩ : Fin 4736) = ⟨4672 + (n.val - 64), by omega⟩ := Fin.ext (by show 4608 + n.val = 4672 + (n.val - 64); omega)
      rw [e]
      exact w_turned m c d ⟨n.val - 64, by omega⟩
    by_cases h' : n.val < 96
    · refine Eq.trans ?_ (dif_pos (c := n.val < 96) h').symm
      refine Eq.trans ?_ (sum_neg (U (A0 m c) (A1 m c) r) (fun d => A2 m c (ValueIdx.ix2 d (⟨2528 + n.val, by omega⟩ : Fin 4672)))
        (nrm_real _ _ fun k => h1 _) fun d => by
          have e : (⟨2528 + n.val, by omega⟩ : Fin 4672) = ⟨2592 + (n.val - 64), by omega⟩ := Fin.ext (by show 2528 + n.val = 2592 + (n.val - 64); omega)
          rw [e]
          exact h2 d ⟨n.val - 64, by omega⟩)
      refine Finset.sum_congr rfl fun d _ => congrArg (fun z : EReal => U (A0 m c) (A1 m c) r d * z) ?_
      rw [hc d, turned_lo m c d _ (by show n.val - 64 < 32; omega)]
      exact congrArg (fun k => -A2 m c (ValueIdx.ix2 d k)) (Fin.ext (by show 2592 + (n.val - 64) = 2528 + n.val; omega))
    · refine Eq.trans ?_ (dif_neg (c := n.val < 96) h').symm
      refine Finset.sum_congr rfl fun d _ => congrArg (fun z : EReal => U (A0 m c) (A1 m c) r d * z) ?_
      rw [hc d, turned_hi m c d _ (by show ¬ n.val - 64 < 32; omega)]
      exact congrArg (fun k => A2 m c (ValueIdx.ix2 d k)) (Fin.ext (by show 2528 + (n.val - 64) = 2464 + n.val; omega))

theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![(grid0.coords t 0).val, 0] := (by decide +kernel : ∀ t : Fin grid0.N, _)
theorem idx6 : ∀ t : Fin cfg0.N, win0_6.index t = ![(grid0.coords t 0).val, 0] := (by decide +kernel : ∀ t : Fin grid0.N, _)
theorem idx7 : ∀ t : Fin cfg0.N, win0_7.index t = ![(grid0.coords t 0).val, 0] := (by decide +kernel : ∀ t : Fin grid0.N, _)
theorem idx8 : ∀ t : Fin cfg0.N, win0_8.index t = ![(grid0.coords t 0).val, 0] := (by decide +kernel : ∀ t : Fin grid0.N, _)
theorem idx9 : ∀ t : Fin cfg0.N, win0_9.index t = ![(grid0.coords t 0).val, 0] := (by decide +kernel : ∀ t : Fin grid0.N, _)

/-- The token in row `p` of a grid point's block. -/
def tok (t : Fin cfg0.N) (p : Fin 256) : Fin 32768 :=
  ⟨(grid0.coords t 0).val * 256 + p.val, by have h : (grid0.coords t 0).val < 128 := (grid0.coords t 0).isLt; have := p.isLt; omega⟩

/-- A grid point's products are the call's. -/
theorem dot_Q (t : Fin cfg0.N) (p : Fin 256) (n : Fin 4736) : dotAt (iblk m c 0 t) (iblk m c 1 t) (iblk m c 2 t) p n = Q m c (tok t p) n := by
  have e0 : ∀ k : Fin 1024, iblk m c 0 t (ValueIdx.ix2 p k) = A0 m c (ValueIdx.ix3 (rb (tok t p)) (rs (tok t p)) k) := fun k => by
    refine Eq.trans ?_ (tok_apply m c (tok t p) k)
    have e := idx0 t
    blk_simp [iblk]
    refine congrArg (V m c main_v9) ?_
    blk_ext [e, tok]
  have e1 : ∀ k : Fin 1024, iblk m c 1 t (ValueIdx.ix2 (0 : Fin 1) k) = A1 m c (ValueIdx.ix1 k) := fun k => by
    refine Eq.trans ?_ (gain_apply m c k)
    have e := idx1 t
    blk_simp [iblk]
    refine congrArg (V m c main_v10) ?_
    blk_ext [e]
  have e2 : ∀ d : Fin 1024, iblk m c 2 t (ValueIdx.ix2 d n) = B2 m c (ValueIdx.ix2 d n) := fun d => by
    have e := idx2 t
    blk_simp [iblk]
    refine congrArg (V m c main_v8) ?_
    blk_ext [e]
  refine Finset.sum_congr rfl fun d _ => ?_
  exact congrArg₂ (fun a b : EReal => a * b) (congrArg₂ (fun x g => nrm x g d) (funext e0) (funext e1)) (e2 d)

theorem final3 : (dats m 0 c).arrAt 3 cfg0.N = cols (A0 m c) (A1 m c) (A2 m c) (N := 1024) 0 (by norm_num) := by
  refine (dats m 0 c).arrAt_eq_of_covers 3 _ (by decide +kernel) fun t hf y => ?_
  have e := idx3 t
  obtain ⟨p, q, rfl⟩ : ∃ (p : Fin 256) (q : Fin 1024), y = ValueIdx.ix2 p q := ⟨y 0, y 1, ValueIdx.eq_ix2 y⟩
  have hq := q.isLt
  have key : (dats m 0 c).after 3 t (ValueIdx.ix2 p q) = cols (A0 m c) (A1 m c) (A2 m c) (N := 1024) 0 (by norm_num) (ValueIdx.ix2 (tok t p) q) := by
    rw [after0_3]
    refine (out3 _ _ _ p q).trans ((dot_Q m c t p _).trans ?_)
    exact (Q_head m c (tok t p) (⟨0 + q.val, by omega⟩ : Fin 4736) (by show 0 + q.val < 2560; omega))
  blk_simp
  refine key.trans (congrArg (cols (A0 m c) (A1 m c) (A2 m c) (N := 1024) 0 (by norm_num)) ?_)
  blk_ext [e, tok]

theorem final4 : (dats m 0 c).arrAt 4 cfg0.N = cols (A0 m c) (A1 m c) (A2 m c) (N := 1024) 1024 (by norm_num) := by
  refine (dats m 0 c).arrAt_eq_of_covers 4 _ (by decide +kernel) fun t hf y => ?_
  have e := idx4 t
  obtain ⟨p, q, rfl⟩ : ∃ (p : Fin 256) (q : Fin 1024), y = ValueIdx.ix2 p q := ⟨y 0, y 1, ValueIdx.eq_ix2 y⟩
  have hq := q.isLt
  have key : (dats m 0 c).after 4 t (ValueIdx.ix2 p q) = cols (A0 m c) (A1 m c) (A2 m c) (N := 1024) 1024 (by norm_num) (ValueIdx.ix2 (tok t p) q) := by
    rw [after0_4]
    refine (out4 _ _ _ p q).trans ((dot_Q m c t p _).trans ?_)
    exact (Q_head m c (tok t p) (⟨1024 + q.val, by omega⟩ : Fin 4736) (by show 1024 + q.val < 2560; omega))
  blk_simp
  refine key.trans (congrArg (cols (A0 m c) (A1 m c) (A2 m c) (N := 1024) 1024 (by norm_num)) ?_)
  blk_ext [e, tok]

theorem final5 : (dats m 0 c).arrAt 5 cfg0.N = cols (A0 m c) (A1 m c) (A2 m c) (N := 256) 2048 (by norm_num) := by
  refine (dats m 0 c).arrAt_eq_of_covers 5 _ (by decide +kernel) fun t hf y => ?_
  have e := idx5 t
  obtain ⟨p, q, rfl⟩ : ∃ (p : Fin 256) (q : Fin 256), y = ValueIdx.ix2 p q := ⟨y 0, y 1, ValueIdx.eq_ix2 y⟩
  have hq := q.isLt
  have key : (dats m 0 c).after 5 t (ValueIdx.ix2 p q) = cols (A0 m c) (A1 m c) (A2 m c) (N := 256) 2048 (by norm_num) (ValueIdx.ix2 (tok t p) q) := by
    rw [after0_5]
    refine (out5 _ _ _ p q).trans ((dot_Q m c t p _).trans ?_)
    exact (Q_head m c (tok t p) (⟨2048 + q.val, by omega⟩ : Fin 4736) (by show 2048 + q.val < 2560; omega))
  blk_simp
  refine key.trans (congrArg (cols (A0 m c) (A1 m c) (A2 m c) (N := 256) 2048 (by norm_num)) ?_)
  blk_ext [e, tok]

theorem final6 : (dats m 0 c).arrAt 6 cfg0.N = cols (A0 m c) (A1 m c) (A2 m c) (N := 256) 2304 (by norm_num) := by
  refine (dats m 0 c).arrAt_eq_of_covers 6 _ (by decide +kernel) fun t hf y => ?_
  have e := idx6 t
  obtain ⟨p, q, rfl⟩ : ∃ (p : Fin 256) (q : Fin 256), y = ValueIdx.ix2 p q := ⟨y 0, y 1, ValueIdx.eq_ix2 y⟩
  have hq := q.isLt
  have key : (dats m 0 c).after 6 t (ValueIdx.ix2 p q) = cols (A0 m c) (A1 m c) (A2 m c) (N := 256) 2304 (by norm_num) (ValueIdx.ix2 (tok t p) q) := by
    rw [after0_6]
    refine (out6 _ _ _ p q).trans ((dot_Q m c t p _).trans ?_)
    exact (Q_head m c (tok t p) (⟨2304 + q.val, by omega⟩ : Fin 4736) (by show 2304 + q.val < 2560; omega))
  blk_simp
  refine key.trans (congrArg (cols (A0 m c) (A1 m c) (A2 m c) (N := 256) 2304 (by norm_num)) ?_)
  blk_ext [e, tok]

theorem final7 : (dats m 0 c).arrAt 7 cfg0.N = cols (A0 m c) (A1 m c) (A2 m c) (N := 1024) 2624 (by norm_num) := by
  refine (dats m 0 c).arrAt_eq_of_covers 7 _ (by decide +kernel) fun t hf y => ?_
  have e := idx7 t
  obtain ⟨p, q, rfl⟩ : ∃ (p : Fin 256) (q : Fin 1024), y = ValueIdx.ix2 p q := ⟨y 0, y 1, ValueIdx.eq_ix2 y⟩
  have hq := q.isLt
  have key : (dats m 0 c).after 7 t (ValueIdx.ix2 p q) = cols (A0 m c) (A1 m c) (A2 m c) (N := 1024) 2624 (by norm_num) (ValueIdx.ix2 (tok t p) q) := by
    rw [after0_7]
    refine (out7 _ _ _ p q).trans ((dot_Q m c t p _).trans ?_)
    exact (Q_gate m c (tok t p) (⟨2560 + q.val, by omega⟩ : Fin 4736) (by show 2560 ≤ 2560 + q.val; omega) (by show 2560 + q.val < 4608; omega)).trans (congrArg (P (A0 m c) (A1 m c) (A2 m c) (tok t p)) (Fin.ext (by show 2560 + q.val + 64 = 2624 + q.val; omega)))
  blk_simp
  refine key.trans (congrArg (cols (A0 m c) (A1 m c) (A2 m c) (N := 1024) 2624 (by norm_num)) ?_)
  blk_ext [e, tok]

theorem final8 : (dats m 0 c).arrAt 8 cfg0.N = cols (A0 m c) (A1 m c) (A2 m c) (N := 1024) 3648 (by norm_num) := by
  refine (dats m 0 c).arrAt_eq_of_covers 8 _ (by decide +kernel) fun t hf y => ?_
  have e := idx8 t
  obtain ⟨p, q, rfl⟩ : ∃ (p : Fin 256) (q : Fin 1024), y = ValueIdx.ix2 p q := ⟨y 0, y 1, ValueIdx.eq_ix2 y⟩
  have hq := q.isLt
  have key : (dats m 0 c).after 8 t (ValueIdx.ix2 p q) = cols (A0 m c) (A1 m c) (A2 m c) (N := 1024) 3648 (by norm_num) (ValueIdx.ix2 (tok t p) q) := by
    rw [after0_8]
    refine (out8 _ _ _ p q).trans ((dot_Q m c t p _).trans ?_)
    exact (Q_gate m c (tok t p) (⟨3584 + q.val, by omega⟩ : Fin 4736) (by show 2560 ≤ 3584 + q.val; omega) (by show 3584 + q.val < 4608; omega)).trans (congrArg (P (A0 m c) (A1 m c) (A2 m c) (tok t p)) (Fin.ext (by show 3584 + q.val + 64 = 3648 + q.val; omega)))
  blk_simp
  refine key.trans (congrArg (cols (A0 m c) (A1 m c) (A2 m c) (N := 1024) 3648 (by norm_num)) ?_)
  blk_ext [e, tok]

/-- The rotary columns, over real gains and real weights where they are negated. -/
theorem final9 (h1 : ∀ i, ∃ r : ℝ, A1 m c i = r)
    (h2 : ∀ (d : Fin 1024) (j : Fin 32), ∃ r : ℝ, A2 m c (ValueIdx.ix2 d (⟨2592 + j.val, by have := j.isLt; omega⟩ : Fin 4672)) = r) :
    (dats m 0 c).arrAt 9 cfg0.N = rot (A0 m c) (A1 m c) (A2 m c) := by
  refine (dats m 0 c).arrAt_eq_of_covers 9 _ (by decide +kernel) fun t hf y => ?_
  have e := idx9 t
  obtain ⟨p, q, rfl⟩ : ∃ (p : Fin 256) (q : Fin 128), y = ValueIdx.ix2 p q := ⟨y 0, y 1, ValueIdx.eq_ix2 y⟩
  have key : (dats m 0 c).after 9 t (ValueIdx.ix2 p q) = rot (A0 m c) (A1 m c) (A2 m c) (ValueIdx.ix2 (tok t p) q) := by
    rw [after0_9]
    exact (out9 _ _ _ p q).trans ((dot_Q m c t p _).trans (Q_rot m c h1 h2 (tok t p) q))
  blk_simp
  refine key.trans (congrArg (rot (A0 m c) (A1 m c) (A2 m c)) ?_)
  blk_ext [e, tok]

end Cert.Proj

end
-- ==== Proof.lean ====
/- The certificate: the frames of the programs; the attention equal to the reference's over finite queries and keys; the input
   projection equal to the reference's over finite gains and finite weights where they are negated; the merge's residual and the
   latent projections' queries, keys and values equal to the references' from any arguments. -/
module

public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.MergeRef
public import proofs.«01_k».proof.Proof.MergeFrameBits
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.QkvFinal
public import proofs.«01_k».proof.Proof.QkvRef
public import proofs.«01_k».proof.Proof.Final
public import proofs.«01_k».proof.Proof.ProjFinal
public import Idealize.ShloMosaic.Lib.KernelVsHost
public import Idealize.ShloMosaic.Adequacy
public import Idealize.ShloMosaic.Init

@[expose] public section

noncomputable section

namespace Cert.Proof

open Idealize.ShloMosaic Idealize.SL.Sem Cert.Kernel

/-- The reference terminates with its arguments unchanged; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem facts_finite : Cert.Pre_finite.Facts := ⟨by decide⟩

/-- An extended real of magnitude below +∞ is a real. -/
theorem real_of_lt (x : EReal) (h : FloatOps.cmpf (F := Ideal) (φ := .f32) .olt (FloatOps.hostAbsf x) (FloatOps.ofBits .f32 0x7F800000#32) = 1#1) :
    ∃ r : ℝ, x = r := by
  have ht : (FloatOps.ofBits (F := Ideal) .f32 0x7F800000#32 : EReal) = ⊤ := by
    show Ideal.ofBits .f32 0x7F800000#32 = _
    simp [Ideal.ofBits, Ideal.ieee]
  rw [ht] at h
  change Ideal.cmp .olt (max x (-x)) ⊤ = 1#1 at h
  match x, h with
  | ⊥, h => exact absurd h (by simp [Ideal.cmp])
  | ⊤, h => exact absurd h (by simp [Ideal.cmp])
  | (r : ℝ), _ => exact ⟨r, rfl⟩

/-- The precondition says every query's and every key's entry is a real. -/
theorem finite_args [Cert.Pre_finite.Facts] (x0 x1 : Cert.KernelIdeal.S4x8192x8x192.Idx → EReal) (x2 : Cert.KernelIdeal.S4x8192x8x128.Idx → EReal)
    (h : Cert.Pre_finite.fn (F := Ideal) x0 x1 x2 = fun _ => 1#1) : (∀ i, ∃ r : ℝ, x0 i = r) ∧ (∀ i, ∃ r : ℝ, x1 i = r) := by
  have hand : ∀ a b : BitVec 1, a &&& b = 1#1 → a = 1#1 ∧ b = 1#1 := by decide
  have hi : ∀ i, _ := fun i => hand _ _ (congrFun h i)
  exact ⟨fun i => real_of_lt _ (hi i).1, fun i => real_of_lt _ (hi i).2⟩

/-- The kernel's result is the reference's: attention, from finite queries and keys and any values. -/
theorem algebraic [Cert.Pre_finite.Facts] : Cert.algebraic_KernelIdeal_ReferenceIdeal_pre_finite := fun m g m' g' hpre hargs => by
  refine ⟨fun c => Cert.Att.G m c, ?_, ?_⟩
  · refine (θ_run _ _ _).mono (fun r h c => ⟨(h c).1.trans ?_, (h c).2⟩) (Cert.KernelIdeal.Value.run_blocks (F := Ideal) m g)
    have hf := finite_args _ _ _ (hpre c)
    exact Cert.Att.final_o m c hf.1 hf.2
  · refine (θ_run _ _ _).mono (fun r h c => ⟨(h c).1.trans ?_, (h c).2⟩) (Cert.ReferenceIdeal.Value.run (F := Ideal) m' g')
    rw [Cert.ReferenceIdeal.Read.val_main_v26_eq, (hargs c).1, (hargs c).2.1, (hargs c).2.2]
    exact Cert.Att.ref_G m c

/-- The projection's reference terminates with its arguments unchanged; it declares no semaphore. -/
theorem frame_reference2 : Cert.quiescent_Reference2Ideal := fun m ρ _ =>
  (θ_run Cert.Reference2Ideal.defs _ _).mono (fun r h => ⟨fun c => (h c).2.2.2.2.2.2.2,
      Idealize.ShloMosaic.sem_eq_zero_of_no_sems (by decide) r.2⟩)
    (Cert.Reference2Ideal.Value.run (F := Ideal) m ρ)

/-- The precondition says every gain is a real, and every weight of columns 2592 to 2623. -/
theorem finite_args2 (x0 : Cert.Kernel2Ideal.S4x8192x1024.Idx → EReal) (x1 : Cert.Kernel2Ideal.S1024.Idx → EReal) (x2 : Cert.Kernel2Ideal.S1024x4672.Idx → EReal)
    (h : (Cert.Pre_finite2.fn (F := Ideal) x0 x1 x2).1 = (fun _ => 1#1) ∧ (Cert.Pre_finite2.fn (F := Ideal) x0 x1 x2).2 = (fun _ => 1#1)) :
    (∀ i, ∃ r : ℝ, x1 i = r)
      ∧ ∀ (d : Fin 1024) (j : Fin 32), ∃ r : ℝ, x2 (ValueIdx.ix2 d (⟨2592 + j.val, by have := j.isLt; omega⟩ : Fin 4672)) = r := by
  refine ⟨fun i => real_of_lt _ (congrFun h.1 i), fun d j => ?_⟩
  obtain ⟨r, hr⟩ := real_of_lt _ (congrFun h.2 (ValueIdx.ix2 d j))
  refine ⟨r, Eq.trans (congrArg x2 ?_) hr⟩
  funext b
  match b with
  | ⟨0, _⟩ => exact Fin.ext (Nat.zero_add d.val).symm
  | ⟨1, _⟩ => exact Fin.ext rfl

/-- The projection's seven results are the reference's, from finite gains and finite weights where they are negated. -/
theorem algebraic2 : Cert.algebraic_Kernel2Ideal_Reference2Ideal_pre_finite2 := fun m g m' g' hpre hargs => by
  refine ⟨fun c => Cert.Proj.cols (Cert.Proj.A0 m c) (Cert.Proj.A1 m c) (Cert.Proj.A2 m c) (N := 1024) 0 (by norm_num),
    fun c => Cert.Proj.cols (Cert.Proj.A0 m c) (Cert.Proj.A1 m c) (Cert.Proj.A2 m c) (N := 1024) 1024 (by norm_num),
    fun c => Cert.Proj.cols (Cert.Proj.A0 m c) (Cert.Proj.A1 m c) (Cert.Proj.A2 m c) (N := 256) 2048 (by norm_num),
    fun c => Cert.Proj.cols (Cert.Proj.A0 m c) (Cert.Proj.A1 m c) (Cert.Proj.A2 m c) (N := 256) 2304 (by norm_num),
    fun c => Cert.Proj.cols (Cert.Proj.A0 m c) (Cert.Proj.A1 m c) (Cert.Proj.A2 m c) (N := 1024) 2624 (by norm_num),
    fun c => Cert.Proj.cols (Cert.Proj.A0 m c) (Cert.Proj.A1 m c) (Cert.Proj.A2 m c) (N := 1024) 3648 (by norm_num),
    fun c => Cert.Proj.rot (Cert.Proj.A0 m c) (Cert.Proj.A1 m c) (Cert.Proj.A2 m c), ?_, ?_⟩
  · refine (θ_run _ _ _).mono (fun r h c => ?_) (Cert.Kernel2Ideal.Value.run_blocks (F := Ideal) m g)
    obtain ⟨h0, h1, h2, h3, h4, h5, h6, ha⟩ := h c
    have hf := finite_args2 _ _ _ (hpre c)
    exact ⟨h0.trans (Cert.Proj.final3 m c), h1.trans (Cert.Proj.final4 m c), h2.trans (Cert.Proj.final5 m c), h3.trans (Cert.Proj.final6 m c),
      h4.trans (Cert.Proj.final7 m c), h5.trans (Cert.Proj.final8 m c), h6.trans (Cert.Proj.final9 m c hf.1 hf.2), ha⟩
  · refine (θ_run _ _ _).mono (fun r h c => ?_) (Cert.Reference2Ideal.Value.run (F := Ideal) m' g')
    obtain ⟨h0, h1, h2, h3, h4, h5, h6, ha⟩ := h c
    rw [Cert.Reference2Ideal.Read.val_main_v26_eq, (hargs c).1, (hargs c).2.1, (hargs c).2.2] at h0
    rw [Cert.Reference2Ideal.Read.val_main_v27_eq, (hargs c).1, (hargs c).2.1, (hargs c).2.2] at h1
    rw [Cert.Reference2Ideal.Read.val_main_v17_eq, (hargs c).1, (hargs c).2.1, (hargs c).2.2] at h2
    rw [Cert.Reference2Ideal.Read.val_main_v18_eq, (hargs c).1, (hargs c).2.1, (hargs c).2.2] at h3
    rw [Cert.Reference2Ideal.Read.val_main_v28_eq, (hargs c).1, (hargs c).2.1, (hargs c).2.2] at h4
    rw [Cert.Reference2Ideal.Read.val_main_v29_eq, (hargs c).1, (hargs c).2.1, (hargs c).2.2] at h5
    rw [Cert.Reference2Ideal.Read.val_main_v25_eq, (hargs c).1, (hargs c).2.1, (hargs c).2.2] at h6
    exact ⟨h0.trans (Cert.Proj.ref_v26 _ _ _), h1.trans (Cert.Proj.ref_v27 _ _ _), h2.trans (Cert.Proj.ref_v17 _ _ _),
      h3.trans (Cert.Proj.ref_v18 _ _ _), h4.trans (Cert.Proj.ref_v28 _ _ _), h5.trans (Cert.Proj.ref_v29 _ _ _),
      h6.trans (Cert.Proj.ref_v25 _ _ _), ha⟩

/-- The merge's reference terminates with its arguments unchanged; it declares no semaphore. -/
theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The merge's residual is the reference's, from any arguments. -/
theorem algebraic3 : Cert.algebraic_Kernel3Ideal_Reference3Ideal := fun m g m' g' _ hargs => by
  refine ⟨fun c => Cert.Merge.res (Cert.Merge.A0 m c) (Cert.Merge.A1 m c) (Cert.Merge.A2 m c) (Cert.Merge.A3 m c) (Cert.Merge.A4 m c) (Cert.Merge.A5 m c), ?_, ?_⟩
  · refine (θ_run _ _ _).mono (fun r h c => ?_) (Cert.Kernel3Ideal.Own.run_main_quiescent (F := Ideal) m g)
    refine ⟨((h.1 c).2 Cert.Kernel3Ideal.main_v23 (Pipeline.mem_restRefs_of Cert.Kernel3Ideal.main_v23 (by decide) (by decide))).trans (Cert.Merge.tail_res m c), ?_⟩
    exact ⟨Cert.Kernel3Ideal.Own.arg_end m h.1 c Cert.Kernel3Ideal.main_arg0 (by decide) (Pipeline.mem_restRefs_of Cert.Kernel3Ideal.main_arg0 (by decide) (by decide)),
      Cert.Kernel3Ideal.Own.arg_end m h.1 c Cert.Kernel3Ideal.main_arg1 (by decide) (Pipeline.mem_restRefs_of Cert.Kernel3Ideal.main_arg1 (by decide) (by decide)),
      Cert.Kernel3Ideal.Own.arg_end m h.1 c Cert.Kernel3Ideal.main_arg2 (by decide) (Pipeline.mem_restRefs_of Cert.Kernel3Ideal.main_arg2 (by decide) (by decide)),
      Cert.Kernel3Ideal.Own.arg_end m h.1 c Cert.Kernel3Ideal.main_arg3 (by decide) (Pipeline.mem_restRefs_of Cert.Kernel3Ideal.main_arg3 (by decide) (by decide)),
      Cert.Kernel3Ideal.Own.arg_end m h.1 c Cert.Kernel3Ideal.main_arg4 (by decide) (Pipeline.mem_restRefs_of Cert.Kernel3Ideal.main_arg4 (by decide) (by decide)),
      Cert.Kernel3Ideal.Own.arg_end m h.1 c Cert.Kernel3Ideal.main_arg5 (by decide) (Pipeline.mem_restRefs_of Cert.Kernel3Ideal.main_arg5 (by decide) (by decide)),
      Cert.Kernel3Ideal.Own.arg_end m h.1 c Cert.Kernel3Ideal.main_arg6 (by decide) (Pipeline.mem_restRefs_of Cert.Kernel3Ideal.main_arg6 (by decide) (by decide)),
      Cert.Kernel3Ideal.Own.arg_end m h.1 c Cert.Kernel3Ideal.main_arg7 (by decide) (Pipeline.mem_restRefs_of Cert.Kernel3Ideal.main_arg7 (by decide) (by decide)),
      Cert.Kernel3Ideal.Own.arg_end m h.1 c Cert.Kernel3Ideal.main_arg8 (by decide) (Pipeline.mem_restRefs_of Cert.Kernel3Ideal.main_arg8 (by decide) (by decide)),
      Cert.Kernel3Ideal.Own.arg_end m h.1 c Cert.Kernel3Ideal.main_arg9 (by decide) (Pipeline.mem_restRefs_of Cert.Kernel3Ideal.main_arg9 (by decide) (by decide)),
      Cert.Kernel3Ideal.Own.arg_end m h.1 c Cert.Kernel3Ideal.main_arg10 (by decide) (Pipeline.mem_restRefs_of Cert.Kernel3Ideal.main_arg10 (by decide) (by decide))⟩
  · refine (θ_run _ _ _).mono (fun r h c => ⟨(h c).1.trans ?_, (h c).2⟩) (Cert.Reference3Ideal.Value.run (F := Ideal) m' g')
    obtain ⟨e0, e1, e2, e3, e4, e5, _⟩ := hargs c
    rw [Cert.Reference3Ideal.Read.val_main_v10_eq, e0, e1, e2, e3, e4, e5]
    exact Cert.Merge.ref_res _ _ _ _ _ _

/-- The latent projections' reference terminates with its arguments unchanged; it declares no semaphore. -/
theorem frame_reference4 : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

/-- The queries, keys and values the latent projections give are the reference's, from any arguments. -/
theorem algebraic4 : Cert.algebraic_Kernel4Ideal_Reference4Ideal := fun m g m' g' _ hargs => by
  refine ⟨fun c => Cert.Qkv.resQ (Cert.Qkv.A0 m c) (Cert.Qkv.A3 m c) (Cert.Qkv.A4 m c) (Cert.Qkv.A5 m c) (Cert.Qkv.A8 m c),
    fun c => Cert.Qkv.resK (Cert.Qkv.A1 m c) (Cert.Qkv.A2 m c) (Cert.Qkv.A3 m c) (Cert.Qkv.A6 m c) (Cert.Qkv.A7 m c) (Cert.Qkv.A9 m c),
    fun c => Cert.Qkv.resV (Cert.Qkv.A1 m c) (Cert.Qkv.A6 m c) (Cert.Qkv.A7 m c), ?_, ?_⟩
  · refine (θ_run _ _ _).mono (fun r h c => ?_) (Cert.Kernel4Ideal.Value.run_blocks (F := Ideal) m g)
    obtain ⟨h0, h1, h2, ha⟩ := h c
    exact ⟨h0.trans (Cert.Qkv.final19 m c), h1.trans (Cert.Qkv.final20 m c), h2.trans (Cert.Qkv.final21 m c), ha⟩
  · refine (θ_run _ _ _).mono (fun r h c => ?_) (Cert.Reference4Ideal.Value.run (F := Ideal) m' g')
    obtain ⟨h0, h1, h2, ha⟩ := h c
    obtain ⟨e0, e1, e2, e3, e4, e5, e6, e7, e8, e9⟩ := hargs c
    rw [Cert.Reference4Ideal.Read.val_main_v119_eq, e0, e3, e4, e5, e8] at h0
    rw [Cert.Reference4Ideal.Read.val_main_v121_eq, e1, e2, e3, e6, e7, e9] at h1
    rw [Cert.Reference4Ideal.Read.val_main_v122_eq, e1, e6, e7] at h2
    exact ⟨h0.trans (Cert.Qkv.ref_resQ _ _ _ _ _), h1.trans (Cert.Qkv.ref_resK _ _ _ _ _ _), h2.trans (Cert.Qkv.ref_resV _ _ _), ha⟩

/-- The constant replaced in the latent projections is named for its exact value. -/
theorem preserves4 : Cert.preserves_Kernel4_Kernel4Ideal :=
  IdealRules.named_const.statement Cert.Kernel4Ideal.κ "inv_qk_dim" .f32 0x3BAAAAAB#32 ((1 / 192 : ℝ) : EReal) rfl

/-- The certificate's claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, facts_finite, Cert.Pre_finite2.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, fun m ρ _ => Cert.Kernel2Ideal.Gen.frame m ρ,
  frame_reference2, fun m ρ _ => frame_reference2 m ρ trivial,
  fun m ρ _ => Cert.Kernel3.Own.frame m ρ, fun m ρ _ => Cert.Kernel3Ideal.Own.frame m ρ, frame_reference3,
  fun m ρ _ => Cert.Kernel4.Gen.frame m ρ, fun m ρ _ => Cert.Kernel4Ideal.Gen.frame m ρ, frame_reference4,
  trivial, @algebraic facts_finite, trivial, algebraic2, trivial, algebraic3, preserves4, algebraic4⟩

end Cert.Proof

end
